-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite3 [hPre_finite3 : Cert.Pre_finite3.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite3 [hPre_finite3 : Cert.Pre_finite3.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite8 [hPre_finite8 : Cert.Pre_finite8.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite8.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite8.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.1 = (fun _ => 1#1)
    ∧ (Cert.Pre_finite8.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite8 [hPre_finite8 : Cert.Pre_finite8.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite8.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite8.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.1 = (fun _ => 1#1)
    ∧ (Cert.Pre_finite8.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite3 [hKernel4Ideal : Cert.Kernel4Ideal.Facts] [hPre_finite3 : Cert.Pre_finite3.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite3 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite3 [hReference4Ideal : Cert.Reference4Ideal.Facts] [hPre_finite3 : Cert.Pre_finite3.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite3 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite8 [hKernel10Ideal : Cert.Kernel10Ideal.Facts] [hPre_finite8 : Cert.Pre_finite8.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite8 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite8 [hReference10Ideal : Cert.Reference10Ideal.Facts] [hPre_finite8 : Cert.Pre_finite8.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite8 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def preserves_Kernel2_Kernel2Ideal : Prop :=
  IdealRules.named_const.Statement Cert.Kernel2Ideal.κ "scale" .f32 0x3E38AA3B#32 (((1 / 8) * (Real.log 2)⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite3 [hKernel4Ideal : Cert.Kernel4Ideal.Facts] [hReference4Ideal : Cert.Reference4Ideal.Facts] [hPre_finite3 : Cert.Pre_finite3.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite3 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v116) = v0 c
          ∧ r.2.mem ((c.tc : Thread Cert.Reference5Ideal.nD Cert.Reference5Ideal.τ).loc Cert.Reference5Ideal.main_v117) = v1 c
          ∧ r.2.mem ((c.tc : Thread Cert.Reference5Ideal.nD Cert.Reference5Ideal.τ).loc Cert.Reference5Ideal.main_v118) = v2 c
          ∧ r.2.mem ((c.tc : Thread Cert.Reference5Ideal.nD Cert.Reference5Ideal.τ).loc Cert.Reference5Ideal.main_v119) = v3 c
          ∧ r.2.mem ((c.tc : Thread Cert.Reference5Ideal.nD Cert.Reference5Ideal.τ).loc Cert.Reference5Ideal.main_v120) = v4 c
          ∧ r.2.mem ((c.tc : Thread Cert.Reference5Ideal.nD Cert.Reference5Ideal.τ).loc Cert.Reference5Ideal.main_v121) = v5 c
          ∧ r.2.mem ((c.tc : Thread Cert.Reference5Ideal.nD Cert.Reference5Ideal.τ).loc Cert.Reference5Ideal.main_v122) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  IdealRules.named_const.Statement Cert.Kernel7Ideal.κ "mask" .f32 0xF149F2CA#32 ⊥
  ∧ IdealRules.named_const.Statement Cert.Kernel7Ideal.κ "scale" .f32 0x3E38AA3B#32 (((1 / 8) * (Real.log 2)⁻¹ : ℝ) : EReal)
  ∧ IdealRules.named_const.Statement Cert.Kernel7Ideal.κ "log2e" .f32 0x3FB8AA3B#32 (((Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  IdealRules.named_const.Statement Cert.Kernel9Ideal.κ "mask" .f32 0xF149F2CA#32 ⊥

def preserves_Kernel10_Kernel10Ideal : Prop :=
  True

def algebraic_Kernel10Ideal_Reference10Ideal_pre_finite8 [hKernel10Ideal : Cert.Kernel10Ideal.Facts] [hReference10Ideal : Cert.Reference10Ideal.Facts] [hPre_finite8 : Cert.Pre_finite8.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite8 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v66) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite2 : Cert.Pre_finite2.Facts) (hPre_finite3 : Cert.Pre_finite3.Facts) (hPre_finite5 : Cert.Pre_finite5.Facts) (hPre_finite6 : Cert.Pre_finite6.Facts) (hPre_finite7 : Cert.Pre_finite7.Facts) (hPre_finite8 : Cert.Pre_finite8.Facts) (hPre_finite11 : Cert.Pre_finite11.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite3 (hKernel4Ideal := hKernel4Ideal) (hPre_finite3 := hPre_finite3)
    ∧ quiescent_Reference4Ideal (hReference4Ideal := hReference4Ideal)
    ∧ quiescent_Reference4Ideal_pre_finite3 (hReference4Ideal := hReference4Ideal) (hPre_finite3 := hPre_finite3)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite8 (hKernel10Ideal := hKernel10Ideal) (hPre_finite8 := hPre_finite8)
    ∧ quiescent_Reference10Ideal (hReference10Ideal := hReference10Ideal)
    ∧ quiescent_Reference10Ideal_pre_finite8 (hReference10Ideal := hReference10Ideal) (hPre_finite8 := hPre_finite8)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite3 (hKernel4Ideal := hKernel4Ideal) (hReference4Ideal := hReference4Ideal) (hPre_finite3 := hPre_finite3)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ preserves_Kernel10_Kernel10Ideal
    ∧ algebraic_Kernel10Ideal_Reference10Ideal_pre_finite8 (hKernel10Ideal := hKernel10Ideal) (hReference10Ideal := hReference10Ideal) (hPre_finite8 := hPre_finite8)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite11.lean ====
abbrev S8192x1024 : Shape := ⟨2, ![8192, 1024]⟩
abbrev S8192x512 : Shape := ⟨2, ![8192, 512]⟩
abbrev S16x9x1x1024 : Shape := ⟨4, ![16, 9, 1, 1024]⟩
abbrev S1x1024 : Shape := ⟨2, ![1, 1024]⟩
abbrev S1x128 : Shape := ⟨2, ![1, 128]⟩
abbrev S1024x2560 : Shape := ⟨2, ![1024, 2560]⟩
abbrev S512x1024 : Shape := ⟨2, ![512, 1024]⟩
abbrev S1024x1024 : Shape := ⟨2, ![1024, 1024]⟩
abbrev S_ : Shape := ⟨0, ![]⟩

class Facts : Prop where
  bcast_S_S16x9x1x1024 : S_.BroadcastsInDim S16x9x1x1024 (![] : Fin 0 → Fin S16x9x1x1024.rank)
  bcast_S_S1x1024 : S_.BroadcastsInDim S1x1024 (![] : Fin 0 → Fin S1x1024.rank)
  bitsLt_bf16_f32 : FTy.bits .bf16 < FTy.bits .f32
  bcast_S_S1024x2560 : S_.BroadcastsInDim S1024x2560 (![] : Fin 0 → Fin S1024x2560.rank)

variable [Facts]

def fn {F : FTy → Type} [FloatOps F] (main_arg0 : FVec F S8192x1024 .f32) (main_arg1 : FVec F S8192x512 .f32) (main_arg2 : FVec F S8192x512 .f32) (main_arg3 : FVec F S8192x512 .f32) (main_arg4 : FVec F S16x9x1x1024 .f32) (main_arg5 : FVec F S1x1024 .f32) (main_arg6 : FVec F S1x128 .f32) (main_arg7 : FVec F S1024x2560 .bf16) (main_arg8 : FVec F S512x1024 .bf16) (main_arg9 : FVec F S512x1024 .bf16) (main_arg10 : FVec F S1024x1024 .bf16) : IVec S16x9x1x1024 1 × IVec S1x1024 1 × IVec S1024x2560 1 :=
  let main_v0 : FVec F S16x9x1x1024 .f32 := Host.absf main_arg4
  let main_cst : FVec F S_ .f32 := constant S_ .f32 0x7F800000#32
  let main_v1 : FVec F S16x9x1x1024 .f32 := broadcastInDim S16x9x1x1024 ![] bcast_S_S16x9x1x1024 main_cst
  let main_v2 : IVec S16x9x1x1024 1 := cmpf .olt main_v0 main_v1
  let main_v3 : FVec F S1x1024 .f32 := Host.absf main_arg5
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2560 .f32 := (extf .f32 · bitsLt_bf16_f32) main_arg7
  let main_v7 : FVec F S1024x2560 .f32 := Host.absf main_v6
  let main_cst_1 : FVec F S_ .f32 := constant S_ .f32 0x7F800000#32
  let main_v8 : FVec F S1024x2560 .f32 := broadcastInDim S1024x2560 ![] bcast_S_S1024x2560 main_cst_1
  let main_v9 : IVec S1024x2560 1 := cmpf .olt main_v7 main_v8
  (main_v2, main_v5, main_v9)
-- ==== Pre_finite2.lean ====
abbrev S8 : Shape := ⟨1, ![8]⟩
abbrev S8192x512 : Shape := ⟨2, ![8192, 512]⟩
abbrev S8192x128 : Shape := ⟨2, ![8192, 128]⟩
abbrev S_ : Shape := ⟨0, ![]⟩

class Facts : Prop where
  bcast_S_S8 : S_.BroadcastsInDim S8 (![] : Fin 0 → Fin S8.rank)
  bcast_S_S8192x512 : S_.BroadcastsInDim S8192x512 (![] : Fin 0 → Fin S8192x512.rank)
  bcast_S_S8192x128 : S_.BroadcastsInDim S8192x128 (![] : Fin 0 → Fin S8192x128.rank)

variable [Facts]

def fn {F : FTy → Type} [FloatOps F] (main_arg0 : FVec F S8 .f32) (main_arg1 : FVec F S8192x512 .f32) (main_arg2 : FVec F S8192x128 .f32) (main_arg3 : FVec F S8192x128 .f32) : IVec S8 1 × IVec S8192x512 1 × IVec S8192x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  (main_v2, main_v5, main_v8)
-- ==== Pre_finite3.lean ====
abbrev S32768x1024 : Shape := ⟨2, ![32768, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S16x9x1x1024 : S_.BroadcastsInDim S16x9x1x1024 (![] : Fin 0 → Fin S16x9x1x1024.rank)
  bcast_S_S1x1024 : S_.BroadcastsInDim S1x1024 (![] : Fin 0 → Fin S1x1024.rank)
  bitsLt_bf16_f32 : FTy.bits .bf16 < FTy.bits .f32
  bcast_S_S1024x5632 : S_.BroadcastsInDim S1024x5632 (![] : Fin 0 → Fin S1024x5632.rank)

variable [Facts]

def fn {F : FTy → Type} [FloatOps F] (main_arg0 : FVec F S32768x1024 .f32) (main_arg1 : FVec F S16x9x1x1024 .f32) (main_arg2 : FVec F S1x1024 .f32) (main_arg3 : FVec F S1024x5632 .bf16) (main_arg4 : FVec F S2816x1024 .bf16) (main_arg5 : FVec F S1x1024 .f32) : IVec S16x9x1x1024 1 × IVec S1x1024 1 × IVec S1024x5632 1 :=
  let main_v0 : FVec F S16x9x1x1024 .f32 := Host.absf main_arg1
  let main_cst : FVec F S_ .f32 := constant S_ .f32 0x7F800000#32
  let main_v1 : FVec F S16x9x1x1024 .f32 := broadcastInDim S16x9x1x1024 ![] bcast_S_S16x9x1x1024 main_cst
  let main_v2 : IVec S16x9x1x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := (extf .f32 · bitsLt_bf16_f32) main_arg3
  let main_v7 : FVec F S1024x5632 .f32 := Host.absf main_v6
  let main_cst_1 : FVec F S_ .f32 := constant S_ .f32 0x7F800000#32
  let main_v8 : FVec F S1024x5632 .f32 := broadcastInDim S1024x5632 ![] bcast_S_S1024x5632 main_cst_1
  let main_v9 : IVec S1024x5632 1 := cmpf .olt main_v7 main_v8
  (main_v2, main_v5, main_v9)
-- ==== Pre_finite5.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x2432 : Shape := ⟨2, ![1024, 2432]⟩
abbrev S4096x128 : Shape := ⟨2, ![4096, 128]⟩
abbrev S5x1536 : Shape := ⟨2, ![5, 1536]⟩
abbrev S1x128 : Shape := ⟨2, ![1, 128]⟩
abbrev S_ : Shape := ⟨0, ![]⟩

class Facts : Prop where
  bcast_S_S16x9x1x1024 : S_.BroadcastsInDim S16x9x1x1024 (![] : Fin 0 → Fin S16x9x1x1024.rank)
  bcast_S_S1x1024 : S_.BroadcastsInDim S1x1024 (![] : Fin 0 → Fin S1x1024.rank)
  bitsLt_bf16_f32 : FTy.bits .bf16 < FTy.bits .f32
  bcast_S_S1024x2432 : S_.BroadcastsInDim S1024x2432 (![] : Fin 0 → Fin S1024x2432.rank)
  bcast_S_S5x1536 : S_.BroadcastsInDim S5x1536 (![] : Fin 0 → Fin S5x1536.rank)

variable [Facts]

def fn {F : FTy → Type} [FloatOps F] (main_arg0 : FVec F S8192x1024 .f32) (main_arg1 : FVec F S16x9x1x1024 .f32) (main_arg2 : FVec F S1x1024 .f32) (main_arg3 : FVec F S1024x2432 .bf16) (main_arg4 : FVec F S4096x128 .f32) (main_arg5 : FVec F S4096x128 .f32) (main_arg6 : FVec F S5x1536 .f32) (main_arg7 : FVec F S1x128 .f32) (main_arg8 : FVec F S1x128 .f32) : IVec S16x9x1x1024 1 × IVec S1x1024 1 × IVec S1024x2432 1 × IVec S5x1536 1 :=
  let main_v0 : FVec F S16x9x1x1024 .f32 := Host.absf main_arg1
  let main_cst : FVec F S_ .f32 := constant S_ .f32 0x7F800000#32
  let main_v1 : FVec F S16x9x1x1024 .f32 := broadcastInDim S16x9x1x1024 ![] bcast_S_S16x9x1x1024 main_cst
  let main_v2 : IVec S16x9x1x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2432 .f32 := (extf .f32 · bitsLt_bf16_f32) main_arg3
  let main_v7 : FVec F S1024x2432 .f32 := Host.absf main_v6
  let main_cst_1 : FVec F S_ .f32 := constant S_ .f32 0x7F800000#32
  let main_v8 : FVec F S1024x2432 .f32 := broadcastInDim S1024x2432 ![] bcast_S_S1024x2432 main_cst_1
  let main_v9 : IVec S1024x2432 1 := cmpf .olt main_v7 main_v8
  let main_v10 : FVec F S5x1536 .f32 := Host.absf main_arg6
  let main_cst_2 : FVec F S_ .f32 := constant S_ .f32 0x7F800000#32
  let main_v11 : FVec F S5x1536 .f32 := broadcastInDim S5x1536 ![] bcast_S_S5x1536 main_cst_2
  let main_v12 : IVec S5x1536 1 := cmpf .olt main_v10 main_v11
  (main_v2, main_v5, main_v9, main_v12)
-- ==== Pre_finite6.lean ====
abbrev S32768x1024 : Shape := ⟨2, ![32768, 1024]⟩
abbrev S32768x512 : Shape := ⟨2, ![32768, 512]⟩
abbrev S16x9x1x1024 : Shape := ⟨4, ![16, 9, 1, 1024]⟩
abbrev S1x1024 : Shape := ⟨2, ![1, 1024]⟩
abbrev S1x128 : Shape := ⟨2, ![1, 128]⟩
abbrev S1024x2560 : Shape := ⟨2, ![1024, 2560]⟩
abbrev S512x1024 : Shape := ⟨2, ![512, 1024]⟩
abbrev S1024x1024 : Shape := ⟨2, ![1024, 1024]⟩
abbrev S_ : Shape := ⟨0, ![]⟩

class Facts : Prop where
  bcast_S_S16x9x1x1024 : S_.BroadcastsInDim S16x9x1x1024 (![] : Fin 0 → Fin S16x9x1x1024.rank)
  bcast_S_S1x1024 : S_.BroadcastsInDim S1x1024 (![] : Fin 0 → Fin S1x1024.rank)
  bitsLt_bf16_f32 : FTy.bits .bf16 < FTy.bits .f32
  bcast_S_S1024x2560 : S_.BroadcastsInDim S1024x2560 (![] : Fin 0 → Fin S1024x2560.rank)

variable [Facts]

def fn {F : FTy → Type} [FloatOps F] (main_arg0 : FVec F S32768x1024 .f32) (main_arg1 : FVec F S32768x512 .f32) (main_arg2 : FVec F S32768x512 .f32) (main_arg3 : FVec F S32768x512 .f32) (main_arg4 : FVec F S16x9x1x1024 .f32) (main_arg5 : FVec F S1x1024 .f32) (main_arg6 : FVec F S1x128 .f32) (main_arg7 : FVec F S1024x2560 .bf16) (main_arg8 : FVec F S512x1024 .bf16) (main_arg9 : FVec F S512x1024 .bf16) (main_arg10 : FVec F S1024x1024 .bf16) : IVec S16x9x1x1024 1 × IVec S1x1024 1 × IVec S1024x2560 1 :=
  let main_v0 : FVec F S16x9x1x1024 .f32 := Host.absf main_arg4
  let main_cst : FVec F S_ .f32 := constant S_ .f32 0x7F800000#32
  let main_v1 : FVec F S16x9x1x1024 .f32 := broadcastInDim S16x9x1x1024 ![] bcast_S_S16x9x1x1024 main_cst
  let main_v2 : IVec S16x9x1x1024 1 := cmpf .olt main_v0 main_v1
  let main_v3 : FVec F S1x1024 .f32 := Host.absf main_arg5
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2560 .f32 := (extf .f32 · bitsLt_bf16_f32) main_arg7
  let main_v7 : FVec F S1024x2560 .f32 := Host.absf main_v6
  let main_cst_1 : FVec F S_ .f32 := constant S_ .f32 0x7F800000#32
  let main_v8 : FVec F S1024x2560 .f32 := broadcastInDim S1024x2560 ![] bcast_S_S1024x2560 main_cst_1
  let main_v9 : IVec S1024x2560 1 := cmpf .olt main_v7 main_v8
  (main_v2, main_v5, main_v9)
-- ==== Pre_finite7.lean ====
abbrev S8 : Shape := ⟨1, ![8]⟩
abbrev S32768x512 : Shape := ⟨2, ![32768, 512]⟩
abbrev S32768x128 : Shape := ⟨2, ![32768, 128]⟩
abbrev S8x256x128 : Shape := ⟨3, ![8, 256, 128]⟩
abbrev S_ : Shape := ⟨0, ![]⟩

class Facts : Prop where
  bcast_S_S8 : S_.BroadcastsInDim S8 (![] : Fin 0 → Fin S8.rank)
  bcast_S_S32768x512 : S_.BroadcastsInDim S32768x512 (![] : Fin 0 → Fin S32768x512.rank)
  bcast_S_S32768x128 : S_.BroadcastsInDim S32768x128 (![] : Fin 0 → Fin S32768x128.rank)
  bcast_S_S8x256x128 : S_.BroadcastsInDim S8x256x128 (![] : Fin 0 → Fin S8x256x128.rank)

variable [Facts]

def fn {F : FTy → Type} [FloatOps F] (main_arg0 : FVec F S8 .f32) (main_arg1 : FVec F S32768x512 .f32) (main_arg2 : FVec F S32768x128 .f32) (main_arg3 : FVec F S32768x128 .f32) (main_arg4 : FVec F S8x256x128 .f32) (main_arg5 : FVec F S8x256x128 .f32) : IVec S8 1 × IVec S32768x512 1 × IVec S32768x128 1 × IVec S8x256x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S32768x128 .f32 := Host.absf main_arg2
  let main_cst_1 : FVec F S_ .f32 := constant S_ .f32 0x7F800000#32
  let main_v7 : FVec F S32768x128 .f32 := broadcastInDim S32768x128 ![] bcast_S_S32768x128 main_cst_1
  let main_v8 : IVec S32768x128 1 := cmpf .olt main_v6 main_v7
  let main_v9 : FVec F S8x256x128 .f32 := Host.absf main_arg4
  let main_cst_2 : FVec F S_ .f32 := constant S_ .f32 0x7F800000#32
  let main_v10 : FVec F S8x256x128 .f32 := broadcastInDim S8x256x128 ![] bcast_S_S8x256x128 main_cst_2
  let main_v11 : IVec S8x256x128 1 := cmpf .olt main_v9 main_v10
  (main_v2, main_v5, main_v8, main_v11)
-- ==== Pre_finite8.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S16x9x1x1024 : S_.BroadcastsInDim S16x9x1x1024 (![] : Fin 0 → Fin S16x9x1x1024.rank)
  bcast_S_S1x1024 : S_.BroadcastsInDim S1x1024 (![] : Fin 0 → Fin S1x1024.rank)
  bitsLt_bf16_f32 : FTy.bits .bf16 < FTy.bits .f32
  bcast_S_S1024x5632 : S_.BroadcastsInDim S1024x5632 (![] : Fin 0 → Fin S1024x5632.rank)

variable [Facts]

def fn {F : FTy → Type} [FloatOps F] (main_arg0 : FVec F S8192x1024 .f32) (main_arg1 : FVec F S16x9x1x1024 .f32) (main_arg2 : FVec F S1x1024 .f32) (main_arg3 : FVec F S1024x5632 .bf16) (main_arg4 : FVec F S2816x1024 .bf16) (main_arg5 : FVec F S1x1024 .f32) : IVec S16x9x1x1024 1 × IVec S1x1024 1 × IVec S1024x5632 1 :=
  let main_v0 : FVec F S16x9x1x1024 .f32 := Host.absf main_arg1
  let main_cst : FVec F S_ .f32 := constant S_ .f32 0x7F800000#32
  let main_v1 : FVec F S16x9x1x1024 .f32 := broadcastInDim S16x9x1x1024 ![] bcast_S_S16x9x1x1024 main_cst
  let main_v2 : IVec S16x9x1x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := (extf .f32 · bitsLt_bf16_f32) main_arg3
  let main_v7 : FVec F S1024x5632 .f32 := Host.absf main_v6
  let main_cst_1 : FVec F S_ .f32 := constant S_ .f32 0x7F800000#32
  let main_v8 : FVec F S1024x5632 .f32 := broadcastInDim S1024x5632 ![] bcast_S_S1024x5632 main_cst_1
  let main_v9 : IVec S1024x5632 1 := cmpf .olt main_v7 main_v8
  (main_v2, main_v5, main_v9)
-- ==== Kernel2.lean ====
abbrev S8 : Shape := ⟨1, ![8]⟩
abbrev S8192x512 : Shape := ⟨2, ![8192, 512]⟩
abbrev S8192x128 : Shape := ⟨2, ![8192, 128]⟩
abbrev S256x512 : Shape := ⟨2, ![256, 512]⟩
abbrev S256x128 : Shape := ⟨2, ![256, 128]⟩
abbrev S256x256 : Shape := ⟨2, ![256, 256]⟩
abbrev S1 : Shape := ⟨1, ![1]⟩
abbrev S256 : Shape := ⟨1, ![256]⟩
abbrev S256x1 : Shape := ⟨2, ![256, 1]⟩
abbrev S1024x256 : Shape := ⟨2, ![1024, 256]⟩
abbrev S1024x128 : Shape := ⟨2, ![1024, 128]⟩

abbrev nBuf : Space → Nat
  | .hbm => 5
  | .vmem => 8
  | .smem => 1
  | _ => 0

abbrev bufTy : (tb : Table) → Fin (tcTables nBuf tb) → BufTy
  | .hbm, ⟨0, _⟩ => ⟨S8, .f32⟩
  | .hbm, ⟨1, _⟩ => ⟨S8192x512, .f32⟩
  | .hbm, ⟨2, _⟩ => ⟨S8192x128, .f32⟩
  | .hbm, ⟨3, _⟩ => ⟨S8192x128, .f32⟩
  | .hbm, ⟨4, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== Reference2Ideal.lean ====
abbrev S8 : Shape := ⟨1, ![8]⟩
abbrev S8192x512 : Shape := ⟨2, ![8192, 512]⟩
abbrev S8192x128 : Shape := ⟨2, ![8192, 128]⟩
abbrev S32x256x2x4x64 : Shape := ⟨5, ![32, 256, 2, 4, 64]⟩
abbrev S32x256x2x64 : Shape := ⟨4, ![32, 256, 2, 64]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S2x4x1x1 : Shape := ⟨4, ![2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩
abbrev S32x2x64x4x256 : Shape := ⟨5, ![32, 2, 64, 4, 256]⟩

abbrev nBuf : Space → Nat
  | .hbm => 33
  | .vmem => 0
  | .smem => 0
  | _ => 0

abbrev bufTy : (tb : Table) → Fin (tcTables nBuf tb) → BufTy
  | .hbm, ⟨0, _⟩ => ⟨S8, .f32⟩
  | .hbm, ⟨1, _⟩ => ⟨S8192x512, .f32⟩
  | .hbm, ⟨2, _⟩ => ⟨S8192x128, .f32⟩
  | .hbm, ⟨3, _⟩ => ⟨S8192x128, .f32⟩
  | .hbm, ⟨4, _⟩ => ⟨S32x256x2x4x64, .f32⟩
  | .hbm, ⟨5, _⟩ => ⟨S32x256x2x64, .f32⟩
  | .hbm, ⟨6, _⟩ => ⟨S32x256x2x64, .f32⟩
  | .hbm, ⟨7, _⟩ => ⟨S32x2x256x256x4, .f32⟩
  | .hbm, ⟨8, _⟩ => ⟨S32x2x4x256x256, .f32⟩
  | .hbm, ⟨9, _⟩ => ⟨S_, .f32⟩
  | .hbm, ⟨10, _⟩ => ⟨S32x2x4x256x256, .f32⟩
  | .hbm, ⟨11, _⟩ => ⟨S32x2x4x256x256, .f32⟩
  | .hbm, ⟨12, _⟩ => ⟨S2x4x1x1, .f32⟩
  | .hbm, ⟨13, _⟩ => ⟨S32x2x4x256x1, .f32⟩
  | .hbm, ⟨14, _⟩ => ⟨S32x2x4x256x257, .f32⟩
  | .hbm, ⟨15, _⟩ => ⟨S_, .f32⟩
  | .hbm, ⟨16, _⟩ => ⟨S32x2x4x256, .f32⟩
  | .hbm, ⟨17, _⟩ => ⟨S_, .f32⟩
  | .hbm, ⟨18, _⟩ => ⟨S32x2x4x256, .f32⟩
  | .hbm, ⟨19, _⟩ => ⟨S32x2x4x256, .f32⟩
  | .hbm, ⟨20, _⟩ => ⟨S32x2x4x256x1, .f32⟩
  | .hbm, ⟨21, _⟩ => ⟨S32x2x4x256x257, .f32⟩
  | .hbm, ⟨22, _⟩ => ⟨S32x2x4x256x257, .f32⟩
  | .hbm, ⟨23, _⟩ => ⟨S32x2x4x256x257, .f32⟩
  | .hbm, ⟨24, _⟩ => ⟨S_, .f32⟩
  | .hbm, ⟨25, _⟩ => ⟨S32x2x4x256, .f32⟩
  | .hbm, ⟨26, _⟩ => ⟨S32x2x4x256x1, .f32⟩
  | .hbm, ⟨27, _⟩ => ⟨S32x2x4x256x257, .f32⟩
  | .hbm, ⟨28, _⟩ => ⟨S32x2x4x256x257, .f32⟩
  | .hbm, ⟨29, _⟩ => ⟨S32x2x4x256x256, .f32⟩
  | .hbm, ⟨30, _⟩ => ⟨S32x2x64x4x256, .f32⟩
  | .hbm, ⟨31, _⟩ => ⟨S32x256x2x4x64, .f32⟩
  | .hbm, ⟨32, _⟩ => ⟨S8192x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel3.lean ====
abbrev S32768x1024 : Shape := ⟨2, ![32768, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1x1x1x1024 : Shape := ⟨4, ![1, 1, 1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let c0_i32_5 : BitVec 32 := 0#32
  let c0_i32_6 : BitVec 32 := 0#32
  let c0_i32_7 : BitVec 32 := 0#32
  ![v18.toNat, c6_i32.toNat, c0_i32_5.toNat, c0_i32_6.toNat]

def cc0_transform_2 (i : grid0.Coords) : Fin 4 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c7_i32 : BitVec 32 := 7#32
  let c0_i32_5 : BitVec 32 := 0#32
  let c0_i32_6 : BitVec 32 := 0#32
  let c0_i32_7 : BitVec 32 := 0#32
  ![v18.toNat, c7_i32.toNat, c0_i32_5.toNat, c0_i32_6.toNat]

def cc0_transform_3 (i : grid0.Coords) : Fin 4 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c8_i32 : BitVec 32 := 8#32
  let c0_i32_5 : BitVec 32 := 0#32
  let c0_i32_6 : BitVec 32 := 0#32
  let c0_i32_7 : BitVec 32 := 0#32
  ![v18.toNat, c8_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x1024 : Shape := ⟨2, ![32768, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S8x4096x1024 : Shape := ⟨3, ![8, 4096, 1024]⟩
abbrev S8x9x1x1024 : Shape := ⟨4, ![8, 9, 1, 1024]⟩
abbrev S8x9x1024 : Shape := ⟨3, ![8, 9, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8x4096x1024, .f32⟩
  | .hbm, ⟨7, _⟩ => ⟨S8x9x1x1024, .f32⟩
  | .hbm, ⟨8, _⟩ => ⟨S8x9x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S1024x5632, .f32⟩
  | .hbm, ⟨36, _⟩ => ⟨S8x4096x5632, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S2816x1024, .f32⟩
  | .hbm, ⟨50, _⟩ => ⟨S8x4096x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel4.lean ====
abbrev S32768x1024 : Shape := ⟨2, ![32768, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1x1x1x1024 : Shape := ⟨4, ![1, 1, 1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  let c0_i32_8 : BitVec 32 := 0#32
  ![v18.toNat, c0_i32_5.toNat, c0_i32_6.toNat, c0_i32_7.toNat]

def cc0_transform_2 (i : grid0.Coords) : Fin 4 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c0_i32_6 : BitVec 32 := 0#32
  let c0_i32_7 : BitVec 32 := 0#32
  let c0_i32_8 : BitVec 32 := 0#32
  ![v18.toNat, c1_i32_5.toNat, c0_i32_6.toNat, c0_i32_7.toNat]

def cc0_transform_3 (i : grid0.Coords) : Fin 4 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c2_i32 : BitVec 32 := 2#32
  let c0_i32_5 : BitVec 32 := 0#32
  let c0_i32_6 : BitVec 32 := 0#32
  let c0_i32_7 : BitVec 32 := 0#32
  ![v18.toNat, c2_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x1024 : Shape := ⟨2, ![32768, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S8x4096x1024 : Shape := ⟨3, ![8, 4096, 1024]⟩
abbrev S8x9x1x1024 : Shape := ⟨4, ![8, 9, 1, 1024]⟩
abbrev S8x9x1024 : Shape := ⟨3, ![8, 9, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8x4096x1024, .f32⟩
  | .hbm, ⟨7, _⟩ => ⟨S8x9x1x1024, .f32⟩
  | .hbm, ⟨8, _⟩ => ⟨S8x9x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S1024x5632, .f32⟩
  | .hbm, ⟨36, _⟩ => ⟨S8x4096x5632, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S2816x1024, .f32⟩
  | .hbm, ⟨50, _⟩ => ⟨S8x4096x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel5.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x2432 : Shape := ⟨2, ![1024, 2432]⟩
abbrev S4096x128 : Shape := ⟨2, ![4096, 128]⟩
abbrev S5x1536 : Shape := ⟨2, ![5, 1536]⟩
abbrev S1x128 : Shape := ⟨2, ![1, 128]⟩
abbrev S8192x1536 : Shape := ⟨2, ![8192, 1536]⟩
abbrev S8192x512 : Shape := ⟨2, ![8192, 512]⟩
abbrev S8192x128 : Shape := ⟨2, ![8192, 128]⟩
abbrev S32x128x256 : Shape := ⟨3, ![32, 128, 256]⟩
abbrev S256x1024 : Shape := ⟨2, ![256, 1024]⟩
abbrev S8x1024 : Shape := ⟨2, ![8, 1024]⟩
abbrev S1x1x1x1024 : Shape := ⟨4, ![1, 1, 1, 1024]⟩
abbrev S256x128 : Shape := ⟨2, ![256, 128]⟩
abbrev S256x1536 : Shape := ⟨2, ![256, 1536]⟩
abbrev S256x512 : Shape := ⟨2, ![256, 512]⟩
abbrev S1x128x256 : Shape := ⟨3, ![1, 128, 256]⟩
abbrev S272x1024 : Shape := ⟨2, ![272, 1024]⟩
abbrev S272 : Shape := ⟨1, ![272]⟩
abbrev S272x1 : Shape := ⟨2, ![272, 1]⟩
abbrev S1024x512 : Shape := ⟨2, ![1024, 512]⟩
abbrev S272x512 : Shape := ⟨2, ![272, 512]⟩
abbrev S34x8x512 : Shape := ⟨3, ![34, 8, 512]⟩
abbrev S1x8x512 : Shape := ⟨3, ![1, 8, 512]⟩
abbrev S32x8x512 : Shape := ⟨3, ![32, 8, 512]⟩
abbrev S1x512 : Shape := ⟨2, ![1, 512]⟩
abbrev S1x1x512 : Shape := ⟨3, ![1, 1, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S128x256 : Shape := ⟨2, ![128, 256]⟩
abbrev S1024x128 : Shape := ⟨2, ![1024, 128]⟩

abbrev nBuf : Space → Nat
  | .hbm => 16
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S16x9x1x1024, .f32⟩
  | .hbm, ⟨2, _⟩ => ⟨S1x1024, .f32⟩
  | .hbm, ⟨3, _⟩ => ⟨S1024x2432, .bf16⟩
  | .hbm, ⟨4, _⟩ => ⟨S4096x128, .f32⟩
  | .hbm, ⟨5, _⟩ => ⟨S4096x128, .f32⟩
  | .hbm, ⟨6, _⟩ => ⟨S5x1536, .f32⟩
  | .hbm, ⟨7, _⟩ => ⟨S1x128, .f32⟩
  | .hbm, ⟨8, _⟩ => ⟨S1x128, .f32⟩
  | .hbm, ⟨9, _⟩ => ⟨S8192x1536, .f32⟩
  | .hbm, ⟨10, _⟩ => ⟨S8192x512, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S32x128x256, .f32⟩
  | .hbm, ⟨15, _⟩ => ⟨S32x128x256, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024, .f32⟩
  | .local _ .vmem, ⟨11, _⟩ => ⟨S1024x2432, .bf16⟩
  | .local _ .vmem, ⟨12, _⟩ => ⟨S256x128, .f32⟩
  | .local _ .vmem, ⟨13, _⟩ => ⟨S256x128, .f32⟩
  | .local _ .vmem, ⟨14, _⟩ => ⟨S5x1536, .f32⟩
  | .local _ .vmem, ⟨15, _⟩ => ⟨S1x128, .f32⟩
  | .local _ .vmem, ⟨16, _⟩ => ⟨S1x128, .f32⟩
  | .local _ .vmem, ⟨17, _⟩ => ⟨S256x1536, .f32⟩
  | .local _ .vmem, ⟨18, _⟩ => ⟨S256x1536, .f32⟩
  | .local _ .vmem, ⟨19, _⟩ => ⟨S256x512, .f32⟩
  | .local _ .vmem, ⟨20, _⟩ => ⟨S256x512, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S1x128x256, .f32⟩
  | .local _ .vmem, ⟨28, _⟩ => ⟨S1x128x256, .f32⟩
  | .local _ .vmem, ⟨29, _⟩ => ⟨S1x128x256, .f32⟩
  | .local _ .vmem, ⟨30, _⟩ => ⟨S1x128x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c3_i32 : BitVec 32 := 3#32
  let c0_i32_5 : BitVec 32 := 0#32
  let c0_i32_6 : BitVec 32 := 0#32
  let c0_i32_7 : BitVec 32 := 0#32
  ![v18.toNat, c3_i32.toNat, c0_i32_5.toNat, c0_i32_6.toNat]

def cc0_transform_4 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c4_i32 : BitVec 32 := 4#32
  let c0_i32_5 : BitVec 32 := 0#32
  let c0_i32_6 : BitVec 32 := 0#32
  let c0_i32_7 : BitVec 32 := 0#32
  ![v18.toNat, c4_i32.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x2432 : Shape := ⟨2, ![1024, 2432]⟩
abbrev S4096x128 : Shape := ⟨2, ![4096, 128]⟩
abbrev S5x1536 : Shape := ⟨2, ![5, 1536]⟩
abbrev S1x128 : Shape := ⟨2, ![1, 128]⟩
abbrev S32x256x1024 : Shape := ⟨3, ![32, 256, 1024]⟩
abbrev S1x1x1x1024 : Shape := ⟨4, ![1, 1, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2432 : Shape := ⟨3, ![32, 256, 2432]⟩
abbrev S32x256x1536 : Shape := ⟨3, ![32, 256, 1536]⟩
abbrev S32x256x512 : Shape := ⟨3, ![32, 256, 512]⟩
abbrev S32x256x128 : Shape := ⟨3, ![32, 256, 128]⟩
abbrev S32x260x1536 : Shape := ⟨3, ![32, 260, 1536]⟩
abbrev S1x1536 : Shape := ⟨2, ![1, 1536]⟩
abbrev S1536 : Shape := ⟨1, ![1536]⟩
abbrev S1x1x1536 : Shape := ⟨3, ![1, 1, 1536]⟩
abbrev S32x256x4x128 : Shape := ⟨4, ![32, 256, 4, 128]⟩
abbrev S32x256x4 : Shape := ⟨3, ![32, 256, 4]⟩
abbrev S32x256x4x1 : Shape := ⟨4, ![32, 256, 4, 1]⟩
abbrev S1x8 : Shape := ⟨2, ![1, 8]⟩
abbrev S32x256x8 : Shape := ⟨3, ![32, 256, 8]⟩
abbrev S1x1x8 : Shape := ⟨3, ![1, 1, 8]⟩
abbrev S32x256x112 : Shape := ⟨3, ![32, 256, 112]⟩
abbrev S8192x1536 : Shape := ⟨2, ![8192, 1536]⟩
abbrev S8192x512 : Shape := ⟨2, ![8192, 512]⟩
abbrev S8192x128 : Shape := ⟨2, ![8192, 128]⟩
abbrev S32x128x256 : Shape := ⟨3, ![32, 128, 256]⟩

abbrev nBuf : Space → Nat
  | .hbm => 167
  | .vmem => 0
  | .smem => 0
  | _ => 0

abbrev hbmTy0_0 (i : Nat) : BufTy := match i % 128 with
  | 0 => ⟨S8192x1024, .f32⟩
  | 1 => ⟨S16x9x1x1024, .f32⟩
  | 2 => ⟨S1x1024, .f32⟩
  | 3 => ⟨S1024x2432, .bf16⟩
  | 4 => ⟨S4096x128, .f32⟩
  | 5 => ⟨S4096x128, .f32⟩
  | 6 => ⟨S5x1536, .f32⟩
  | 7 => ⟨S1x128, .f32⟩
  | 8 => ⟨S1x128, .f32⟩
  | 9 => ⟨S32x256x1024, .f32⟩
  | 10 => ⟨S1x1x1x1024, .f32⟩
  | 11 => ⟨S1x1024, .f32⟩
  | 12 => ⟨S1x1x1x1024, .f32⟩
  | 13 => ⟨S1x1024, .f32⟩
  | 14 => ⟨S32x256x1024, .f32⟩
  | 15 => ⟨S_, .f32⟩
  | 16 => ⟨S32x256, .f32⟩
  | 17 => ⟨S32x256x1, .f32⟩
  | 18 => ⟨S_, .f32⟩
  | 19 => ⟨S32x256x1, .f32⟩
  | 20 => ⟨S32x256x1, .f32⟩
  | 21 => ⟨S_, .f32⟩
  | 22 => ⟨S32x256x1, .f32⟩
  | 23 => ⟨S32x256x1, .f32⟩
  | 24 => ⟨S32x256x1, .f32⟩
  | 25 => ⟨S32x256x1024, .f32⟩
  | 26 => ⟨S32x256x1024, .f32⟩
  | 27 => ⟨S1x1x1024, .f32⟩
  | 28 => ⟨S32x256x1024, .f32⟩
  | 29 => ⟨S32x256x1024, .f32⟩
  | 30 => ⟨S_, .f32⟩
  | 31 => ⟨S1x1024, .f32⟩
  | 32 => ⟨S1x1024, .f32⟩
  | 33 => ⟨S1x1x1024, .f32⟩
  | 34 => ⟨S32x256x1024, .f32⟩
  | 35 => ⟨S32x256x1024, .f32⟩
  | 36 => ⟨S1x1x1024, .f32⟩
  | 37 => ⟨S32x256x1024, .f32⟩
  | 38 => ⟨S32x256x1024, .f32⟩
  | 39 => ⟨S1024x2432, .f32⟩
  | 40 => ⟨S32x256x2432, .f32⟩
  | 41 => ⟨S32x256x1536, .f32⟩
  | 42 => ⟨S32x256x512, .f32⟩
  | 43 => ⟨S32x256x128, .f32⟩
  | 44 => ⟨S32x256x128, .f32⟩
  | 45 => ⟨S32x256x128, .f32⟩
  | 46 => ⟨S_, .i32⟩
  | 47 => ⟨S_, .f32⟩
  | 48 => ⟨S32x260x1536, .f32⟩
  | 49 => ⟨S32x256x1536, .f32⟩
  | 50 => ⟨S1x1536, .f32⟩
  | 51 => ⟨S1536, .f32⟩
  | 52 => ⟨S1x1x1536, .f32⟩
  | 53 => ⟨S32x256x1536, .f32⟩
  | 54 => ⟨S32x256x1536, .f32⟩
  | 55 => ⟨S32x256x1536, .f32⟩
  | 56 => ⟨S1x1536, .f32⟩
  | 57 => ⟨S1536, .f32⟩
  | 58 => ⟨S1x1x1536, .f32⟩
  | 59 => ⟨S32x256x1536, .f32⟩
  | 60 => ⟨S32x256x1536, .f32⟩
  | 61 => ⟨S32x256x1536, .f32⟩
  | 62 => ⟨S32x256x1536, .f32⟩
  | 63 => ⟨S1x1536, .f32⟩
  | 64 => ⟨S1536, .f32⟩
  | 65 => ⟨S1x1x1536, .f32⟩
  | 66 => ⟨S32x256x1536, .f32⟩
  | 67 => ⟨S32x256x1536, .f32⟩
  | 68 => ⟨S32x256x1536, .f32⟩
  | 69 => ⟨S32x256x1536, .f32⟩
  | 70 => ⟨S1x1536, .f32⟩
  | 71 => ⟨S1536, .f32⟩
  | 72 => ⟨S1x1x1536, .f32⟩
  | 73 => ⟨S32x256x1536, .f32⟩
  | 74 => ⟨S32x256x1536, .f32⟩
  | 75 => ⟨S32x256x1536, .f32⟩
  | 76 => ⟨S32x256x1536, .f32⟩
  | 77 => ⟨S1x1536, .f32⟩
  | 78 => ⟨S1536, .f32⟩
  | 79 => ⟨S1x1x1536, .f32⟩
  | 80 => ⟨S32x256x1536, .f32⟩
  | 81 => ⟨S32x256x1536, .f32⟩
  | 82 => ⟨S32x256x1536, .f32⟩
  | 83 => ⟨S32x256x1536, .f32⟩
  | 84 => ⟨S32x256x1536, .f32⟩
  | 85 => ⟨S_, .f32⟩
  | 86 => ⟨S32x256x1536, .f32⟩
  | 87 => ⟨S32x256x1536, .f32⟩
  | 88 => ⟨S_, .f32⟩
  | 89 => ⟨S32x256x1536, .f32⟩
  | 90 => ⟨S32x256x1536, .f32⟩
  | 91 => ⟨S32x256x1536, .f32⟩
  | 92 => ⟨S32x256x512, .f32⟩
  | 93 => ⟨S32x256x4x128, .f32⟩
  | 94 => ⟨S32x256x4x128, .f32⟩
  | 95 => ⟨S_, .f32⟩
  | 96 => ⟨S32x256x4, .f32⟩
  | 97 => ⟨S32x256x4x1, .f32⟩
  | 98 => ⟨S_, .f32⟩
  | 99 => ⟨S32x256x4x1, .f32⟩
  | 100 => ⟨S32x256x4x1, .f32⟩
  | 101 => ⟨S32x256x4x1, .f32⟩
  | 102 => ⟨S32x256x4x128, .f32⟩
  | 103 => ⟨S32x256x4x128, .f32⟩
  | 104 => ⟨S_, .f32⟩
  | 105 => ⟨S32x256x4x128, .f32⟩
  | 106 => ⟨S32x256x4x128, .f32⟩
  | 107 => ⟨S32x256x512, .f32⟩
  | 108 => ⟨S32x256x4x128, .f32⟩
  | 109 => ⟨S32x256x4x128, .f32⟩
  | 110 => ⟨S_, .f32⟩
  | 111 => ⟨S32x256x4, .f32⟩
  | 112 => ⟨S32x256x4x1, .f32⟩
  | 113 => ⟨S_, .f32⟩
  | 114 => ⟨S32x256x4x1, .f32⟩
  | 115 => ⟨S32x256x4x1, .f32⟩
  | 116 => ⟨S32x256x4x1, .f32⟩
  | 117 => ⟨S32x256x4x128, .f32⟩
  | 118 => ⟨S32x256x4x128, .f32⟩
  | 119 => ⟨S32x256x512, .f32⟩
  | 120 => ⟨S32x256x512, .f32⟩
  | 121 => ⟨S32x256x512, .f32⟩
  | 122 => ⟨S32x256x1536, .f32⟩
  | 123 => ⟨S1x8, .f32⟩
  | 124 => ⟨S1x8, .f32⟩
  | 125 => ⟨S1x8, .f32⟩
  | 126 => ⟨S32x256x8, .f32⟩
  | 127 => ⟨S1x8, .f32⟩
  | _ => ⟨S8192x1024, .f32⟩

abbrev hbmTy0_1 (i : Nat) : BufTy := match i % 128 with
  | 0 => ⟨S1x1x8, .f32⟩
  | 1 => ⟨S32x256x8, .f32⟩
  | 2 => ⟨S32x256x8, .f32⟩
  | 3 => ⟨S_, .f32⟩
  | 4 => ⟨S32x256x8, .f32⟩
  | 5 => ⟨S32x256x8, .f32⟩
  | 6 => ⟨S32x256x8, .f32⟩
  | 7 => ⟨S32x256x8, .f32⟩
  | 8 => ⟨S32x256x8, .i1⟩
  | 9 => ⟨S32x256x8, .f32⟩
  | 10 => ⟨S32x256x8, .f32⟩
  | 11 => ⟨S32x256x8, .f32⟩
  | 12 => ⟨S32x256x8, .f32⟩
  | 13 => ⟨S32x256x8, .f32⟩
  | 14 => ⟨S32x256x8, .f32⟩
  | 15 => ⟨S32x256x8, .f32⟩
  | 16 => ⟨S32x256x8, .f32⟩
  | 17 => ⟨S1x1x8, .f32⟩
  | 18 => ⟨S32x256x8, .f32⟩
  | 19 => ⟨S32x256x8, .f32⟩
  | 20 => ⟨S32x256x8, .f32⟩
  | 21 => ⟨S32x256x8, .f32⟩
  | 22 => ⟨S32x256x8, .f32⟩
  | 23 => ⟨S_, .f32⟩
  | 24 => ⟨S32x256x8, .f32⟩
  | 25 => ⟨S32x256x8, .f32⟩
  | 26 => ⟨S_, .f32⟩
  | 27 => ⟨S32x256x8, .f32⟩
  | 28 => ⟨S32x256x8, .f32⟩
  | 29 => ⟨S_, .f32⟩
  | 30 => ⟨S32x256x112, .f32⟩
  | 31 => ⟨S32x256x128, .f32⟩
  | 32 => ⟨S8192x1536, .f32⟩
  | 33 => ⟨S8192x512, .f32⟩
  | 34 => ⟨S8192x128, .f32⟩
  | 35 => ⟨S8192x128, .f32⟩
  | 36 => ⟨S8192x128, .f32⟩
  | 37 => ⟨S32x128x256, .f32⟩
  | 38 => ⟨S32x128x256, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_3 : Ref sig .tc := ⟨.hbm, 95, rfl⟩
abbrev main_v72 : Ref sig .tc := ⟨.hbm, 96, rfl⟩
abbrev main_v73 : Ref sig .tc := ⟨.hbm, 97, rfl⟩
abbrev main_cst_4 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_5 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_6 : Ref sig .tc := ⟨.hbm, 110, rfl⟩
abbrev main_v84 : Ref sig .tc := ⟨.hbm, 111, rfl⟩
abbrev main_v85 : Ref sig .tc := ⟨.hbm, 112, rfl⟩
abbrev main_cst_7 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_8 : Ref sig .tc := ⟨.hbm, 151, rfl⟩
abbrev main_v110 : Ref sig .tc := ⟨.hbm, 152, rfl⟩
abbrev main_v111 : Ref sig .tc := ⟨.hbm, 153, rfl⟩
abbrev main_cst_9 : Ref sig .tc := ⟨.hbm, 154, rfl⟩
abbrev main_v112 : Ref sig .tc := ⟨.hbm, 155, rfl⟩
abbrev main_v113 : Ref sig .tc := ⟨.hbm, 156, rfl⟩
abbrev main_cst_10 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩

abbrev nD : Nat := 1
abbrev τ : Topo := Topo.v7x

variable {F : FTy → Type} [FloatOps F]
-- ==== Kernel6.lean ====
abbrev S32768x1024 : Shape := ⟨2, ![32768, 1024]⟩
abbrev S32768x512 : Shape := ⟨2, ![32768, 512]⟩
abbrev S16x9x1x1024 : Shape := ⟨4, ![16, 9, 1, 1024]⟩
abbrev S1x1024 : Shape := ⟨2, ![1, 1024]⟩
abbrev S1x128 : Shape := ⟨2, ![1, 128]⟩
abbrev S1024x2560 : Shape := ⟨2, ![1024, 2560]⟩
abbrev S512x1024 : Shape := ⟨2, ![512, 1024]⟩
abbrev S1024x1024 : Shape := ⟨2, ![1024, 1024]⟩
abbrev S512x512 : Shape := ⟨2, ![512, 512]⟩
abbrev S1x1x1x1024 : Shape := ⟨4, ![1, 1, 1, 1024]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩

abbrev nBuf : Space → Nat
  | .hbm => 12
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S16x9x1x1024, .f32⟩
  | .hbm, ⟨5, _⟩ => ⟨S1x1024, .f32⟩
  | .hbm, ⟨6, _⟩ => ⟨S1x128, .f32⟩
  | .hbm, ⟨7, _⟩ => ⟨S1024x2560, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1024, .f32⟩
  | .local _ .vmem, ⟨15, _⟩ => ⟨S1x128, .f32⟩
  | .local _ .vmem, ⟨16, _⟩ => ⟨S1024x2560, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c3_i32 : BitVec 32 := 3#32
  let c0_i32_5 : BitVec 32 := 0#32
  let c0_i32_6 : BitVec 32 := 0#32
  let c0_i32_7 : BitVec 32 := 0#32
  ![v18.toNat, c3_i32.toNat, c0_i32_5.toNat, c0_i32_6.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c4_i32 : BitVec 32 := 4#32
  let c0_i32_5 : BitVec 32 := 0#32
  let c0_i32_6 : BitVec 32 := 0#32
  let c0_i32_7 : BitVec 32 := 0#32
  ![v18.toNat, c4_i32.toNat, c0_i32_5.toNat, c0_i32_6.toNat]

def cc0_transform_6 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c5_i32 : BitVec 32 := 5#32
  let c0_i32_5 : BitVec 32 := 0#32
  let c0_i32_6 : BitVec 32 := 0#32
  let c0_i32_7 : BitVec 32 := 0#32
  ![v18.toNat, c5_i32.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S32768x1024 : Shape := ⟨2, ![32768, 1024]⟩
abbrev S32768x512 : Shape := ⟨2, ![32768, 512]⟩
abbrev S16x9x1x1024 : Shape := ⟨4, ![16, 9, 1, 1024]⟩
abbrev S1x1024 : Shape := ⟨2, ![1, 1024]⟩
abbrev S1x128 : Shape := ⟨2, ![1, 128]⟩
abbrev S1024x2560 : Shape := ⟨2, ![1024, 2560]⟩
abbrev S512x1024 : Shape := ⟨2, ![512, 1024]⟩
abbrev S1024x1024 : Shape := ⟨2, ![1024, 1024]⟩
abbrev S8x4096x1024 : Shape := ⟨3, ![8, 4096, 1024]⟩
abbrev S8x9x1x1024 : Shape := ⟨4, ![8, 9, 1, 1024]⟩
abbrev S8x9x1024 : Shape := ⟨3, ![8, 9, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x512 : Shape := ⟨3, ![8, 4096, 512]⟩
abbrev S8x4096x2048 : Shape := ⟨3, ![8, 4096, 2048]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S16x9x1x1024, .f32⟩
  | .hbm, ⟨5, _⟩ => ⟨S1x1024, .f32⟩
  | .hbm, ⟨6, _⟩ => ⟨S1x128, .f32⟩
  | .hbm, ⟨7, _⟩ => ⟨S1024x2560, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S8x4096x1024, .f32⟩
  | .hbm, ⟨12, _⟩ => ⟨S8x9x1x1024, .f32⟩
  | .hbm, ⟨13, _⟩ => ⟨S8x9x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S1024x2560, .f32⟩
  | .hbm, ⟨41, _⟩ => ⟨S8x4096x2560, .f32⟩
  | .hbm, ⟨42, _⟩ => ⟨S8x4096x512, .f32⟩
  | .hbm, ⟨43, _⟩ => ⟨S8x4096x2048, .f32⟩
  | .hbm, ⟨44, _⟩ => ⟨S32768x512, .f32⟩
  | .hbm, ⟨45, _⟩ => ⟨S8x4096x4x128, .f32⟩
  | .hbm, ⟨46, _⟩ => ⟨S8x4096x4x128, .f32⟩
  | .hbm, ⟨47, _⟩ => ⟨S_, .f32⟩
  | .hbm, ⟨48, _⟩ => ⟨S8x4096x4, .f32⟩
  | .hbm, ⟨49, _⟩ => ⟨S8x4096x4x1, .f32⟩
  | .hbm, ⟨50, _⟩ => ⟨S_, .f32⟩
  | .hbm, ⟨51, _⟩ => ⟨S8x4096x4x1, .f32⟩
  | .hbm, ⟨52, _⟩ => ⟨S8x4096x4x1, .f32⟩
  | .hbm, ⟨53, _⟩ => ⟨S_, .f32⟩
  | .hbm, ⟨54, _⟩ => ⟨S8x4096x4x1, .f32⟩
  | .hbm, ⟨55, _⟩ => ⟨S8x4096x4x1, .f32⟩
  | .hbm, ⟨56, _⟩ => ⟨S8x4096x4x1, .f32⟩
  | .hbm, ⟨57, _⟩ => ⟨S8x4096x4x128, .f32⟩
  | .hbm, ⟨58, _⟩ => ⟨S8x4096x4x128, .f32⟩
  | .hbm, ⟨59, _⟩ => ⟨S1x1x1x128, .f32⟩
  | .hbm, ⟨60, _⟩ => ⟨S8x4096x4x128, .f32⟩
  | .hbm, ⟨61, _⟩ => ⟨S8x4096x4x128, .f32⟩
  | .hbm, ⟨62, _⟩ => ⟨S8x4096x4x128, .f32⟩
  | .hbm, ⟨63, _⟩ => ⟨S8x4096x4x128, .f32⟩
  | .hbm, ⟨64, _⟩ => ⟨S8x4096x4x128, .f32⟩
  | .hbm, ⟨65, _⟩ => ⟨S_, .f32⟩
  | .hbm, ⟨66, _⟩ => ⟨S8x4096x4x128, .f32⟩
  | .hbm, ⟨67, _⟩ => ⟨S8x4096x4x128, .f32⟩
  | .hbm, ⟨68, _⟩ => ⟨S_, .f32⟩
  | .hbm, ⟨69, _⟩ => ⟨S8x4096x4x128, .f32⟩
  | .hbm, ⟨70, _⟩ => ⟨S8x4096x4x128, .f32⟩
  | .hbm, ⟨71, _⟩ => ⟨S8x4096x4x128, .f32⟩
  | .hbm, ⟨72, _⟩ => ⟨S8x4096x4x128, .f32⟩
  | .hbm, ⟨73, _⟩ => ⟨S8x4096x512, .f32⟩
  | .hbm, ⟨74, _⟩ => ⟨S8x4096x2048, .f32⟩
  | .hbm, ⟨75, _⟩ => ⟨S8x4096x2048, .f32⟩
  | .hbm, ⟨76, _⟩ => ⟨S_, .f32⟩
  | .hbm, ⟨77, _⟩ => ⟨S8x4096x2048, .f32⟩
  | .hbm, ⟨78, _⟩ => ⟨S8x4096x2048, .f32⟩
  | .hbm, ⟨79, _⟩ => ⟨S_, .f32⟩
  | .hbm, ⟨80, _⟩ => ⟨S8x4096x2048, .f32⟩
  | .hbm, ⟨81, _⟩ => ⟨S8x4096x2048, .f32⟩
  | .hbm, ⟨82, _⟩ => ⟨S8x4096x1024, .f32⟩
  | .hbm, ⟨83, _⟩ => ⟨S8x4096x1024, .f32⟩
  | .hbm, ⟨84, _⟩ => ⟨S512x1024, .f32⟩
  | .hbm, ⟨85, _⟩ => ⟨S8x4096x1024, .f32⟩
  | .hbm, ⟨86, _⟩ => ⟨S8x4096x1024, .f32⟩
  | .hbm, ⟨87, _⟩ => ⟨S8x4096x512, .f32⟩
  | .hbm, ⟨88, _⟩ => ⟨S512x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S1024x1024, .f32⟩
  | .hbm, ⟨93, _⟩ => ⟨S8x4096x1024, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Kernel7.lean ====
abbrev S8 : Shape := ⟨1, ![8]⟩
abbrev S32768x512 : Shape := ⟨2, ![32768, 512]⟩
abbrev S32768x128 : Shape := ⟨2, ![32768, 128]⟩
abbrev S8x256x128 : Shape := ⟨3, ![8, 256, 128]⟩
abbrev S1024x512 : Shape := ⟨2, ![1024, 512]⟩
abbrev S4096x128 : Shape := ⟨2, ![4096, 128]⟩
abbrev S1x256x128 : Shape := ⟨3, ![1, 256, 128]⟩
abbrev S2x4096x128 : Shape := ⟨3, ![2, 4096, 128]⟩
abbrev S2x256x128 : Shape := ⟨3, ![2, 256, 128]⟩
abbrev S256x128 : Shape := ⟨2, ![256, 128]⟩
abbrev S128x640 : Shape := ⟨2, ![128, 640]⟩
abbrev S1x4096x128 : Shape := ⟨3, ![1, 4096, 128]⟩
abbrev S1x384x128 : Shape := ⟨3, ![1, 384, 128]⟩
abbrev S384x128 : Shape := ⟨2, ![384, 128]⟩
abbrev S640x128 : Shape := ⟨2, ![640, 128]⟩
abbrev S128x512 : Shape := ⟨2, ![128, 512]⟩
abbrev S128x128 : Shape := ⟨2, ![128, 128]⟩
abbrev S1 : Shape := ⟨1, ![1]⟩
abbrev S128 : Shape := ⟨1, ![128]⟩
abbrev S128x1 : Shape := ⟨2, ![128, 1]⟩
abbrev S512x640 : Shape := ⟨2, ![512, 640]⟩
abbrev S512x128 : Shape := ⟨2, ![512, 128]⟩

abbrev nBuf : Space → Nat
  | .hbm => 7
  | .vmem => 16
  | .smem => 1
  | _ => 0

abbrev bufTy : (tb : Table) → Fin (tcTables nBuf tb) → BufTy
  | .hbm, ⟨0, _⟩ => ⟨S8, .f32⟩
  | .hbm, ⟨1, _⟩ => ⟨S32768x512, .f32⟩
  | .hbm, ⟨2, _⟩ => ⟨S32768x128, .f32⟩
  | .hbm, ⟨3, _⟩ => ⟨S32768x128, .f32⟩
  | .hbm, ⟨4, _⟩ => ⟨S8x256x128, .f32⟩
  | .hbm, ⟨5, _⟩ => ⟨S8x256x128, .f32⟩
  | .hbm, ⟨6, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1024x512, .f32⟩
  | .local _ .vmem, ⟨11, _⟩ => ⟨S1024x512, .f32⟩
  | .local _ .vmem, ⟨12, _⟩ => ⟨S2x4096x128, .bf16⟩
  | .local _ .vmem, ⟨13, _⟩ => ⟨S4096x128, .bf16⟩
  | .local _ .vmem, ⟨14, _⟩ => ⟨S2x256x128, .bf16⟩
  | .local _ .vmem, ⟨15, _⟩ => ⟨S256x128, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c3712_i32 : BitVec 32 := 3712#32
  let c0_i32_16 : BitVec 32 := 0#32
  let arg1 : BitVec 32 := BitVec.ofNat 32 (i 1).val
  let c8_i32 : BitVec 32 := 8#32
  let v47 : BitVec 32 := Scalar.muli arg1 c8_i32
  let c0_i32_14 : BitVec 32 := 0#32
  let v48 : BitVec 32 := Scalar.addi v47 c0_i32_14
  let c1_i32 : BitVec 32 := 1#32
  let v49 : BitVec 32 := Scalar.subi v48 c1_i32
  let c128_i32_15 : BitVec 32 := 128#32
  let v50 : BitVec 32 := Scalar.muli v49 c128_i32_15
  let v51 : BitVec 32 := Scalar.maxsi c0_i32_16 v50
  let v52 : BitVec 32 := Scalar.minsi c3712_i32 v51
  v52
def k0_off1 (i : grid0.Coords) (c0_i32_14 : BitVec 32) : Fin 3 → Nat :=
  let c0 : Index := 0#32
  let c3712_i32 : BitVec 32 := 3712#32
  let c0_i32_16 : BitVec 32 := 0#32
  let arg1 : BitVec 32 := BitVec.ofNat 32 (i 1).val
  let c8_i32 : BitVec 32 := 8#32
  let v47 : BitVec 32 := Scalar.muli arg1 c8_i32
  let v48 : BitVec 32 := Scalar.addi v47 c0_i32_14
  let c1_i32 : BitVec 32 := 1#32
  let v49 : BitVec 32 := Scalar.subi v48 c1_i32
  let c128_i32_15 : BitVec 32 := 128#32
  let v50 : BitVec 32 := Scalar.muli v49 c128_i32_15
  let v51 : BitVec 32 := Scalar.maxsi c0_i32_16 v50
  let v52 : BitVec 32 := Scalar.minsi c3712_i32 v51
  let v53 : BitVec 32 := v52
  let v54 : Index := Scalar.indexCast v53
  let c0_17 : Index := 0#32
  ![0, v54.toNat, 0]
def k0_off2 (i : grid0.Coords) (c0_i32_14 : BitVec 32) : Fin 3 → Nat :=
  let c1 : Index := 1#32
  let c3712_i32 : BitVec 32 := 3712#32
  let c0_i32_16 : BitVec 32 := 0#32
  let arg1 : BitVec 32 := BitVec.ofNat 32 (i 1).val
  let c8_i32 : BitVec 32 := 8#32
  let v47 : BitVec 32 := Scalar.muli arg1 c8_i32
  let v48 : BitVec 32 := Scalar.addi v47 c0_i32_14
  let c1_i32 : BitVec 32 := 1#32
  let v49 : BitVec 32 := Scalar.subi v48 c1_i32
  let c128_i32_15 : BitVec 32 := 128#32
  let v50 : BitVec 32 := Scalar.muli v49 c128_i32_15
  let v51 : BitVec 32 := Scalar.maxsi c0_i32_16 v50
  let v52 : BitVec 32 := Scalar.minsi c3712_i32 v51
  let v53 : BitVec 32 := v52
  let v60 : Index := Scalar.indexCast v53
  let c0_21 : Index := 0#32
  ![1, v60.toNat, 0]
def k0_off3 (i : grid0.Coords) (c0_i32_14 : BitVec 32) : Fin 2 → Nat :=
  let c3712_i32 : BitVec 32 := 3712#32
  let c0_i32_16 : BitVec 32 := 0#32
  let arg1 : BitVec 32 := BitVec.ofNat 32 (i 1).val
  let c8_i32 : BitVec 32 := 8#32
  let v47 : BitVec 32 := Scalar.muli arg1 c8_i32
  let v48 : BitVec 32 := Scalar.addi v47 c0_i32_14
  let c1_i32 : BitVec 32 := 1#32
  let v49 : BitVec 32 := Scalar.subi v48 c1_i32
  let c128_i32_15 : BitVec 32 := 128#32
  let v50 : BitVec 32 := Scalar.muli v49 c128_i32_15
  let v51 : BitVec 32 := Scalar.maxsi c0_i32_16 v50
  let v52 : BitVec 32 := Scalar.minsi c3712_i32 v51
  let v53 : BitVec 32 := v52
  let v66 : Index := Scalar.indexCast v53
  let c0_25 : Index := 0#32
  ![v66.toNat, 0]
def k0_mult2 : BitVec 32 :=
  let c0_i32_14 : BitVec 32 := 0#32
  let c128_i32_31 : BitVec 32 := 128#32
  let v76 : BitVec 32 := Scalar.muli c0_i32_14 c128_i32_31
  v76
def k0_off4 (c0_i32_14 : BitVec 32) : Fin 2 → Nat :=
  let c128_i32_31 : BitVec 32 := 128#32
  let v76 : BitVec 32 := Scalar.muli c0_i32_14 c128_i32_31
  let v77 : BitVec 32 := v76
  let v78 : Index := Scalar.indexCast v77
  let c0_32 : Index := 0#32
  ![v78.toNat, 0]
def k0_off5 (c0_i32_14 : BitVec 32) : Fin 2 → Nat :=
  let c128_i32_31 : BitVec 32 := 128#32
  let v76 : BitVec 32 := Scalar.muli c0_i32_14 c128_i32_31
  let v77 : BitVec 32 := v76
  let v289 : Index := Scalar.indexCast v77
  let c0_87 : Index := 0#32
  ![v289.toNat, 0]
def k0_off6 (c0_i32_14 : BitVec 32) : Fin 2 → Nat :=
  let c128_i32_31 : BitVec 32 := 128#32
  let v76 : BitVec 32 := Scalar.muli c0_i32_14 c128_i32_31
  let v77 : BitVec 32 := v76
  let v299 : Index := Scalar.indexCast v77
  let c128 : Index := 128#32
  ![v299.toNat, 128]
def k0_off7 (c0_i32_14 : BitVec 32) : Fin 2 → Nat :=
  let c128_i32_31 : BitVec 32 := 128#32
  let v76 : BitVec 32 := Scalar.muli c0_i32_14 c128_i32_31
  let v77 : BitVec 32 := v76
  let v309 : Index := Scalar.indexCast v77
  let c256 : Index := 256#32
  ![v309.toNat, 256]
def k0_off8 (c0_i32_14 : BitVec 32) : Fin 2 → Nat :=
  let c128_i32_31 : BitVec 32 := 128#32
  let v76 : BitVec 32 := Scalar.muli c0_i32_14 c128_i32_31
  let v77 : BitVec 32 := v76
  let v319 : Index := Scalar.indexCast v77
  let c384 : Index := 384#32
  ![v319.toNat, 384]
def k0_mult3 (i : grid0.Coords) : BitVec 32 :=
  let c3712_i32_96 : BitVec 32 := 3712#32
  let c0_i32_95 : BitVec 32 := 0#32
  let arg1 : BitVec 32 := BitVec.ofNat 32 (i 1).val
  let c8_i32_92 : BitVec 32 := 8#32
  let v321 : BitVec 32 := Scalar.muli arg1 c8_i32_92
  let c1_i32_91 : BitVec 32 := 1#32
  let v322 : BitVec 32 := Scalar.addi v321 c1_i32_91
  let c1_i32_93 : BitVec 32 := 1#32
  let v323 : BitVec 32 := Scalar.subi v322 c1_i32_93
  let c128_i32_94 : BitVec 32 := 128#32
  let v324 : BitVec 32 := Scalar.muli v323 c128_i32_94
  let v325 : BitVec 32 := Scalar.maxsi c0_i32_95 v324
  let v326 : BitVec 32 := Scalar.minsi c3712_i32_96 v325
  v326
def k0_mult4 : BitVec 32 :=
  let c1_i32_91 : BitVec 32 := 1#32
  let c128_i32_113 : BitVec 32 := 128#32
  let v350 : BitVec 32 := Scalar.muli c1_i32_91 c128_i32_113
  v350
def k0_mult5 (i : grid0.Coords) : BitVec 32 :=
  let c3712_i32_187 : BitVec 32 := 3712#32
  let c0_i32_186 : BitVec 32 := 0#32
  let arg1 : BitVec 32 := BitVec.ofNat 32 (i 1).val
  let c8_i32_183 : BitVec 32 := 8#32
  let v595 : BitVec 32 := Scalar.muli arg1 c8_i32_183
  let c2_i32 : BitVec 32 := 2#32
  let v596 : BitVec 32 := Scalar.addi v595 c2_i32
  let c1_i32_184 : BitVec 32 := 1#32
  let v597 : BitVec 32 := Scalar.subi v596 c1_i32_184
  let c128_i32_185 : BitVec 32 := 128#32
  let v598 : BitVec 32 := Scalar.muli v597 c128_i32_185
  let v599 : BitVec 32 := Scalar.maxsi c0_i32_186 v598
  let v600 : BitVec 32 := Scalar.minsi c3712_i32_187 v599
  v600
def k0_mult6 : BitVec 32 :=
  let c2_i32 : BitVec 32 := 2#32
  let c128_i32_204 : BitVec 32 := 128#32
  let v624 : BitVec 32 := Scalar.muli c2_i32 c128_i32_204
  v624
def k0_mult7 (i : grid0.Coords) : BitVec 32 :=
  let c3712_i32_278 : BitVec 32 := 3712#32
  let c0_i32_277 : BitVec 32 := 0#32
  let arg1 : BitVec 32 := BitVec.ofNat 32 (i 1).val
  let c8_i32_274 : BitVec 32 := 8#32
  let v869 : BitVec 32 := Scalar.muli arg1 c8_i32_274
  let c3_i32 : BitVec 32 := 3#32
  let v870 : BitVec 32 := Scalar.addi v869 c3_i32
  let c1_i32_275 : BitVec 32 := 1#32
  let v871 : BitVec 32 := Scalar.subi v870 c1_i32_275
  let c128_i32_276 : BitVec 32 := 128#32
  let v872 : BitVec 32 := Scalar.muli v871 c128_i32_276
  let v873 : BitVec 32 := Scalar.maxsi c0_i32_277 v872
  let v874 : BitVec 32 := Scalar.minsi c3712_i32_278 v873
  v874
def k0_mult8 : BitVec 32 :=
  let c3_i32 : BitVec 32 := 3#32
  let c128_i32_295 : BitVec 32 := 128#32
  let v898 : BitVec 32 := Scalar.muli c3_i32 c128_i32_295
  v898
def k0_mult9 (i : grid0.Coords) : BitVec 32 :=
  let c3712_i32_369 : BitVec 32 := 3712#32
  let c0_i32_368 : BitVec 32 := 0#32
  let arg1 : BitVec 32 := BitVec.ofNat 32 (i 1).val
  let c8_i32_365 : BitVec 32 := 8#32
  let v1143 : BitVec 32 := Scalar.muli arg1 c8_i32_365
  let c4_i32 : BitVec 32 := 4#32
  let v1144 : BitVec 32 := Scalar.addi v1143 c4_i32
  let c1_i32_366 : BitVec 32 := 1#32
  let v1145 : BitVec 32 := Scalar.subi v1144 c1_i32_366
  let c128_i32_367 : BitVec 32 := 128#32
  let v1146 : BitVec 32 := Scalar.muli v1145 c128_i32_367
  let v1147 : BitVec 32 := Scalar.maxsi c0_i32_368 v1146
  let v1148 : BitVec 32 := Scalar.minsi c3712_i32_369 v1147
  v1148
def k0_mult10 : BitVec 32 :=
  let c4_i32 : BitVec 32 := 4#32
  let c128_i32_386 : BitVec 32 := 128#32
  let v1172 : BitVec 32 := Scalar.muli c4_i32 c128_i32_386
  v1172
def k0_mult11 (i : grid0.Coords) : BitVec 32 :=
  let c3712_i32_460 : BitVec 32 := 3712#32
  let c0_i32_459 : BitVec 32 := 0#32
  let arg1 : BitVec 32 := BitVec.ofNat 32 (i 1).val
  let c8_i32_456 : BitVec 32 := 8#32
  let v1417 : BitVec 32 := Scalar.muli arg1 c8_i32_456
  let c5_i32 : BitVec 32 := 5#32
  let v1418 : BitVec 32 := Scalar.addi v1417 c5_i32
  let c1_i32_457 : BitVec 32 := 1#32
  let v1419 : BitVec 32 := Scalar.subi v1418 c1_i32_457
  let c128_i32_458 : BitVec 32 := 128#32
  let v1420 : BitVec 32 := Scalar.muli v1419 c128_i32_458
  let v1421 : BitVec 32 := Scalar.maxsi c0_i32_459 v1420
  let v1422 : BitVec 32 := Scalar.minsi c3712_i32_460 v1421
  v1422
def k0_mult12 : BitVec 32 :=
  let c5_i32 : BitVec 32 := 5#32
  let c128_i32_477 : BitVec 32 := 128#32
  let v1446 : BitVec 32 := Scalar.muli c5_i32 c128_i32_477
  v1446
def k0_mult13 (i : grid0.Coords) : BitVec 32 :=
  let c3712_i32_551 : BitVec 32 := 3712#32
  let c0_i32_550 : BitVec 32 := 0#32
  let arg1 : BitVec 32 := BitVec.ofNat 32 (i 1).val
  let c8_i32_547 : BitVec 32 := 8#32
  let v1691 : BitVec 32 := Scalar.muli arg1 c8_i32_547
  let c6_i32 : BitVec 32 := 6#32
  let v1692 : BitVec 32 := Scalar.addi v1691 c6_i32
  let c1_i32_548 : BitVec 32 := 1#32
  let v1693 : BitVec 32 := Scalar.subi v1692 c1_i32_548
  let c128_i32_549 : BitVec 32 := 128#32
  let v1694 : BitVec 32 := Scalar.muli v1693 c128_i32_549
  let v1695 : BitVec 32 := Scalar.maxsi c0_i32_550 v1694
  let v1696 : BitVec 32 := Scalar.minsi c3712_i32_551 v1695
  v1696
def k0_mult14 : BitVec 32 :=
  let c6_i32 : BitVec 32 := 6#32
  let c128_i32_568 : BitVec 32 := 128#32
  let v1720 : BitVec 32 := Scalar.muli c6_i32 c128_i32_568
  v1720
def k0_mult15 (i : grid0.Coords) : BitVec 32 :=
  let c3712_i32_642 : BitVec 32 := 3712#32
  let c0_i32_641 : BitVec 32 := 0#32
  let arg1 : BitVec 32 := BitVec.ofNat 32 (i 1).val
  let c8_i32_638 : BitVec 32 := 8#32
  let v1965 : BitVec 32 := Scalar.muli arg1 c8_i32_638
  let c7_i32 : BitVec 32 := 7#32
  let v1966 : BitVec 32 := Scalar.addi v1965 c7_i32
  let c1_i32_639 : BitVec 32 := 1#32
  let v1967 : BitVec 32 := Scalar.subi v1966 c1_i32_639
  let c128_i32_640 : BitVec 32 := 128#32
  let v1968 : BitVec 32 := Scalar.muli v1967 c128_i32_640
  let v1969 : BitVec 32 := Scalar.maxsi c0_i32_641 v1968
  let v1970 : BitVec 32 := Scalar.minsi c3712_i32_642 v1969
  v1970
def k0_mult16 : BitVec 32 :=
  let c7_i32 : BitVec 32 := 7#32
  let c128_i32_659 : BitVec 32 := 128#32
  let v1994 : BitVec 32 := Scalar.muli c7_i32 c128_i32_659
  v1994
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel7Ideal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== Reference7Ideal.lean ====
abbrev S8 : Shape := ⟨1, ![8]⟩
abbrev S32768x512 : Shape := ⟨2, ![32768, 512]⟩
abbrev S32768x128 : Shape := ⟨2, ![32768, 128]⟩
abbrev S8x256x128 : Shape := ⟨3, ![8, 256, 128]⟩
abbrev S8x4096x2x4x64 : Shape := ⟨5, ![8, 4096, 2, 4, 64]⟩
abbrev S8x4096x2x64 : Shape := ⟨4, ![8, 4096, 2, 64]⟩
abbrev S8x256x2x64 : Shape := ⟨4, ![8, 256, 2, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x2x4096x4096x4 : Shape := ⟨5, ![8, 2, 4096, 4096, 4]⟩
abbrev S8x2x4x4096x4096 : Shape := ⟨5, ![8, 2, 4, 4096, 4096]⟩
abbrev S1x1x1x4096x4096 : Shape := ⟨5, ![1, 1, 1, 4096, 4096]⟩
abbrev S8x2x256x4096x4 : Shape := ⟨5, ![8, 2, 256, 4096, 4]⟩
abbrev S8x2x4x4096x256 : Shape := ⟨5, ![8, 2, 4, 4096, 256]⟩
abbrev S2x4x1x1 : Shape := ⟨4, ![2, 4, 1, 1]⟩
abbrev S8x2x4x4096x1 : Shape := ⟨5, ![8, 2, 4, 4096, 1]⟩
abbrev S8x2x4x4096x4353 : Shape := ⟨5, ![8, 2, 4, 4096, 4353]⟩
abbrev S8x2x4x4096 : Shape := ⟨4, ![8, 2, 4, 4096]⟩
abbrev S8x2x64x4x4096 : Shape := ⟨5, ![8, 2, 64, 4, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8, .f32⟩
  | .hbm, ⟨1, _⟩ => ⟨S32768x512, .f32⟩
  | .hbm, ⟨2, _⟩ => ⟨S32768x128, .f32⟩
  | .hbm, ⟨3, _⟩ => ⟨S32768x128, .f32⟩
  | .hbm, ⟨4, _⟩ => ⟨S8x256x128, .f32⟩
  | .hbm, ⟨5, _⟩ => ⟨S8x256x128, .f32⟩
  | .hbm, ⟨6, _⟩ => ⟨S8x4096x2x4x64, .f32⟩
  | .hbm, ⟨7, _⟩ => ⟨S8x4096x2x64, .f32⟩
  | .hbm, ⟨8, _⟩ => ⟨S8x4096x2x64, .f32⟩
  | .hbm, ⟨9, _⟩ => ⟨S8x256x2x64, .f32⟩
  | .hbm, ⟨10, _⟩ => ⟨S8x256x2x64, .f32⟩
  | .hbm, ⟨11, _⟩ => ⟨S4096, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S8x2x4096x4096x4, .f32⟩
  | .hbm, ⟨22, _⟩ => ⟨S8x2x4x4096x4096, .f32⟩
  | .hbm, ⟨23, _⟩ => ⟨S_, .f32⟩
  | .hbm, ⟨24, _⟩ => ⟨S8x2x4x4096x4096, .f32⟩
  | .hbm, ⟨25, _⟩ => ⟨S8x2x4x4096x4096, .f32⟩
  | .hbm, ⟨26, _⟩ => ⟨S1x1x1x4096x4096, .i1⟩
  | .hbm, ⟨27, _⟩ => ⟨S_, .f32⟩
  | .hbm, ⟨28, _⟩ => ⟨S_, .f32⟩
  | .hbm, ⟨29, _⟩ => ⟨S8x2x4x4096x4096, .i1⟩
  | .hbm, ⟨30, _⟩ => ⟨S8x2x4x4096x4096, .f32⟩
  | .hbm, ⟨31, _⟩ => ⟨S8x2x4x4096x4096, .f32⟩
  | .hbm, ⟨32, _⟩ => ⟨S8x2x256x4096x4, .f32⟩
  | .hbm, ⟨33, _⟩ => ⟨S8x2x4x4096x256, .f32⟩
  | .hbm, ⟨34, _⟩ => ⟨S_, .f32⟩
  | .hbm, ⟨35, _⟩ => ⟨S8x2x4x4096x256, .f32⟩
  | .hbm, ⟨36, _⟩ => ⟨S8x2x4x4096x256, .f32⟩
  | .hbm, ⟨37, _⟩ => ⟨S2x4x1x1, .f32⟩
  | .hbm, ⟨38, _⟩ => ⟨S8x2x4x4096x1, .f32⟩
  | .hbm, ⟨39, _⟩ => ⟨S8x2x4x4096x4353, .f32⟩
  | .hbm, ⟨40, _⟩ => ⟨S_, .f32⟩
  | .hbm, ⟨41, _⟩ => ⟨S8x2x4x4096, .f32⟩
  | .hbm, ⟨42, _⟩ => ⟨S_, .f32⟩
  | .hbm, ⟨43, _⟩ => ⟨S8x2x4x4096, .f32⟩
  | .hbm, ⟨44, _⟩ => ⟨S8x2x4x4096, .f32⟩
  | .hbm, ⟨45, _⟩ => ⟨S8x2x4x4096x1, .f32⟩
  | .hbm, ⟨46, _⟩ => ⟨S8x2x4x4096x4353, .f32⟩
  | .hbm, ⟨47, _⟩ => ⟨S8x2x4x4096x4353, .f32⟩
  | .hbm, ⟨48, _⟩ => ⟨S8x2x4x4096x4353, .f32⟩
  | .hbm, ⟨49, _⟩ => ⟨S_, .f32⟩
  | .hbm, ⟨50, _⟩ => ⟨S8x2x4x4096, .f32⟩
  | .hbm, ⟨51, _⟩ => ⟨S8x2x4x4096x1, .f32⟩
  | .hbm, ⟨52, _⟩ => ⟨S8x2x4x4096x4353, .f32⟩
  | .hbm, ⟨53, _⟩ => ⟨S8x2x4x4096x4353, .f32⟩
  | .hbm, ⟨54, _⟩ => ⟨S8x2x4x4096x4096, .f32⟩
  | .hbm, ⟨55, _⟩ => ⟨S8x2x64x4x4096, .f32⟩
  | .hbm, ⟨56, _⟩ => ⟨S8x4096x2x4x64, .f32⟩
  | .hbm, ⟨57, _⟩ => ⟨S8x2x4x4096x256, .f32⟩
  | .hbm, ⟨58, _⟩ => ⟨S8x2x64x4x4096, .f32⟩
  | .hbm, ⟨59, _⟩ => ⟨S8x4096x2x4x64, .f32⟩
  | .hbm, ⟨60, _⟩ => ⟨S8x4096x2x4x64, .f32⟩
  | .hbm, ⟨61, _⟩ => ⟨S32768x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel8.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1x1x1x1024 : Shape := ⟨4, ![1, 1, 1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c6_i32 : BitVec 32 := 6#32
  let c0_i32_5 : BitVec 32 := 0#32
  let c0_i32_6 : BitVec 32 := 0#32
  let c0_i32_7 : BitVec 32 := 0#32
  ![v18.toNat, c6_i32.toNat, c0_i32_5.toNat, c0_i32_6.toNat]

def cc0_transform_2 (i : grid0.Coords) : Fin 4 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c7_i32 : BitVec 32 := 7#32
  let c0_i32_5 : BitVec 32 := 0#32
  let c0_i32_6 : BitVec 32 := 0#32
  let c0_i32_7 : BitVec 32 := 0#32
  ![v18.toNat, c7_i32.toNat, c0_i32_5.toNat, c0_i32_6.toNat]

def cc0_transform_3 (i : grid0.Coords) : Fin 4 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c8_i32 : BitVec 32 := 8#32
  let c0_i32_5 : BitVec 32 := 0#32
  let c0_i32_6 : BitVec 32 := 0#32
  let c0_i32_7 : BitVec 32 := 0#32
  ![v18.toNat, c8_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S1x1x1x1024 : Shape := ⟨4, ![1, 1, 1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S1x1x1x1024, .f32⟩
  | .hbm, ⟨7, _⟩ => ⟨S1x1024, .f32⟩
  | .hbm, ⟨8, _⟩ => ⟨S1x1x1x1024, .f32⟩
  | .hbm, ⟨9, _⟩ => ⟨S1x1024, .f32⟩
  | .hbm, ⟨10, _⟩ => ⟨S1x1x1x1024, .f32⟩
  | .hbm, ⟨11, _⟩ => ⟨S1x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x5632, .f32⟩
  | .hbm, ⟨35, _⟩ => ⟨S8192x5632, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S2816x1024, .f32⟩
  | .hbm, ⟨49, _⟩ => ⟨S8192x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel9.lean ====
abbrev S8192x1536 : Shape := ⟨2, ![8192, 1536]⟩
abbrev S8192x128 : Shape := ⟨2, ![8192, 128]⟩
abbrev S8192x512 : Shape := ⟨2, ![8192, 512]⟩
abbrev S32x4x128x128 : Shape := ⟨4, ![32, 4, 128, 128]⟩
abbrev S256x1536 : Shape := ⟨2, ![256, 1536]⟩
abbrev S256x128 : Shape := ⟨2, ![256, 128]⟩
abbrev S256x512 : Shape := ⟨2, ![256, 512]⟩
abbrev S1x4x128x128 : Shape := ⟨4, ![1, 4, 128, 128]⟩
abbrev S8x128x128 : Shape := ⟨3, ![8, 128, 128]⟩
abbrev S128x128 : Shape := ⟨2, ![128, 128]⟩
abbrev S128x1 : Shape := ⟨2, ![128, 1]⟩
abbrev S1x128 : Shape := ⟨2, ![1, 128]⟩
abbrev S128x256 : Shape := ⟨2, ![128, 256]⟩
abbrev S1x1 : Shape := ⟨2, ![1, 1]⟩
abbrev S1x128x128 : Shape := ⟨3, ![1, 128, 128]⟩
abbrev S4x128x128 : Shape := ⟨3, ![4, 128, 128]⟩

abbrev nBuf : Space → Nat
  | .hbm => 6
  | .vmem => 17
  | .smem => 0
  | _ => 0

abbrev bufTy : (tb : Table) → Fin (tcTables nBuf tb) → BufTy
  | .hbm, ⟨0, _⟩ => ⟨S8192x1536, .f32⟩
  | .hbm, ⟨1, _⟩ => ⟨S8192x128, .f32⟩
  | .hbm, ⟨2, _⟩ => ⟨S8192x512, .f32⟩
  | .hbm, ⟨3, _⟩ => ⟨S8192x512, .f32⟩
  | .hbm, ⟨4, _⟩ => ⟨S32x4x128x128, .f32⟩
  | .hbm, ⟨5, _⟩ => ⟨S32x4x128x128, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x4x128x128, .f32⟩
  | .local _ .vmem, ⟨13, _⟩ => ⟨S1x4x128x128, .f32⟩
  | .local _ .vmem, ⟨14, _⟩ => ⟨S1x4x128x128, .f32⟩
  | .local _ .vmem, ⟨15, _⟩ => ⟨S1x4x128x128, .f32⟩
  | .local _ .vmem, ⟨16, _⟩ => ⟨S8x128x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def k0_mult1 : BitVec 32 :=
  let c0_i32_4 : BitVec 32 := 0#32
  let c128_i32 : BitVec 32 := 128#32
  let v17 : BitVec 32 := Scalar.muli c0_i32_4 c128_i32
  v17
def k0_mult2 : BitVec 32 :=
  let c1_i32 : BitVec 32 := 1#32
  let c0_i32_4 : BitVec 32 := 0#32
  let v19 : BitVec 32 := Scalar.subi c1_i32 c0_i32_4
  let c128_i32_5 : BitVec 32 := 128#32
  let v20 : BitVec 32 := Scalar.muli v19 c128_i32_5
  v20
def k0_off1 (c0_i32_4 : BitVec 32) : Fin 2 → Nat :=
  let c128_i32 : BitVec 32 := 128#32
  let v17 : BitVec 32 := Scalar.muli c0_i32_4 c128_i32
  let v18 : BitVec 32 := v17
  let v22 : Index := Scalar.indexCast v18
  let c0 : Index := 0#32
  ![v22.toNat, 0]
def k0_off2 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v24 : Index := Scalar.indexCast v21
  let c0_6 : Index := 0#32
  ![v24.toNat, 0]
def k0_off3 (c0_i32_4 : BitVec 32) : Fin 2 → Nat :=
  let c128_i32 : BitVec 32 := 128#32
  let v17 : BitVec 32 := Scalar.muli c0_i32_4 c128_i32
  let v18 : BitVec 32 := v17
  let v56 : Index := Scalar.indexCast v18
  let c0_15 : Index := 0#32
  ![v56.toNat, 0]
def k0_off4 (c0_i32_4 : BitVec 32) : Fin 2 → Nat :=
  let c128_i32 : BitVec 32 := 128#32
  let v17 : BitVec 32 := Scalar.muli c0_i32_4 c128_i32
  let v18 : BitVec 32 := v17
  let v58 : Index := Scalar.indexCast v18
  let c128 : Index := 128#32
  ![v58.toNat, 128]
def k0_off5 (c0_i32_4 : BitVec 32) : Fin 2 → Nat :=
  let c128_i32 : BitVec 32 := 128#32
  let v17 : BitVec 32 := Scalar.muli c0_i32_4 c128_i32
  let v18 : BitVec 32 := v17
  let v60 : Index := Scalar.indexCast v18
  let c256 : Index := 256#32
  ![v60.toNat, 256]
def k0_off6 (c0_i32_4 : BitVec 32) : Fin 2 → Nat :=
  let c128_i32 : BitVec 32 := 128#32
  let v17 : BitVec 32 := Scalar.muli c0_i32_4 c128_i32
  let v18 : BitVec 32 := v17
  let v62 : Index := Scalar.indexCast v18
  let c384 : Index := 384#32
  ![v62.toNat, 384]
def k0_off7 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v64 : Index := Scalar.indexCast v21
  let c0_16 : Index := 0#32
  ![v64.toNat, 0]
def k0_off8 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v66 : Index := Scalar.indexCast v21
  let c128_17 : Index := 128#32
  ![v66.toNat, 128]
def k0_off9 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v68 : Index := Scalar.indexCast v21
  let c256_18 : Index := 256#32
  ![v68.toNat, 256]
def k0_off10 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v70 : Index := Scalar.indexCast v21
  let c384_19 : Index := 384#32
  ![v70.toNat, 384]
def k0_off11 (c0_i32_4 : BitVec 32) : Fin 2 → Nat :=
  let c128_i32 : BitVec 32 := 128#32
  let v17 : BitVec 32 := Scalar.muli c0_i32_4 c128_i32
  let v18 : BitVec 32 := v17
  let v72 : Index := Scalar.indexCast v18
  let c512 : Index := 512#32
  ![v72.toNat, 512]
def k0_off12 (c0_i32_4 : BitVec 32) : Fin 2 → Nat :=
  let c128_i32 : BitVec 32 := 128#32
  let v17 : BitVec 32 := Scalar.muli c0_i32_4 c128_i32
  let v18 : BitVec 32 := v17
  let v74 : Index := Scalar.indexCast v18
  let c640 : Index := 640#32
  ![v74.toNat, 640]
def k0_off13 (c0_i32_4 : BitVec 32) : Fin 2 → Nat :=
  let c128_i32 : BitVec 32 := 128#32
  let v17 : BitVec 32 := Scalar.muli c0_i32_4 c128_i32
  let v18 : BitVec 32 := v17
  let v76 : Index := Scalar.indexCast v18
  let c768 : Index := 768#32
  ![v76.toNat, 768]
def k0_off14 (c0_i32_4 : BitVec 32) : Fin 2 → Nat :=
  let c128_i32 : BitVec 32 := 128#32
  let v17 : BitVec 32 := Scalar.muli c0_i32_4 c128_i32
  let v18 : BitVec 32 := v17
  let v78 : Index := Scalar.indexCast v18
  let c896 : Index := 896#32
  ![v78.toNat, 896]
def k0_off15 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v80 : Index := Scalar.indexCast v21
  let c512_20 : Index := 512#32
  ![v80.toNat, 512]
def k0_off16 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v82 : Index := Scalar.indexCast v21
  let c640_21 : Index := 640#32
  ![v82.toNat, 640]
def k0_off17 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v84 : Index := Scalar.indexCast v21
  let c768_22 : Index := 768#32
  ![v84.toNat, 768]
def k0_off18 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v86 : Index := Scalar.indexCast v21
  let c896_23 : Index := 896#32
  ![v86.toNat, 896]
def k0_off19 (c0_i32_4 : BitVec 32) : Fin 2 → Nat :=
  let c128_i32 : BitVec 32 := 128#32
  let v17 : BitVec 32 := Scalar.muli c0_i32_4 c128_i32
  let v18 : BitVec 32 := v17
  let v88 : Index := Scalar.indexCast v18
  let c1024 : Index := 1024#32
  ![v88.toNat, 1024]
def k0_off20 (c0_i32_4 : BitVec 32) : Fin 2 → Nat :=
  let c128_i32 : BitVec 32 := 128#32
  let v17 : BitVec 32 := Scalar.muli c0_i32_4 c128_i32
  let v18 : BitVec 32 := v17
  let v90 : Index := Scalar.indexCast v18
  let c1152 : Index := 1152#32
  ![v90.toNat, 1152]
def k0_off21 (c0_i32_4 : BitVec 32) : Fin 2 → Nat :=
  let c128_i32 : BitVec 32 := 128#32
  let v17 : BitVec 32 := Scalar.muli c0_i32_4 c128_i32
  let v18 : BitVec 32 := v17
  let v92 : Index := Scalar.indexCast v18
  let c1280 : Index := 1280#32
  ![v92.toNat, 1280]
def k0_off22 (c0_i32_4 : BitVec 32) : Fin 2 → Nat :=
  let c128_i32 : BitVec 32 := 128#32
  let v17 : BitVec 32 := Scalar.muli c0_i32_4 c128_i32
  let v18 : BitVec 32 := v17
  let v94 : Index := Scalar.indexCast v18
  let c1408 : Index := 1408#32
  ![v94.toNat, 1408]
def k0_off23 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v96 : Index := Scalar.indexCast v21
  let c1024_24 : Index := 1024#32
  ![v96.toNat, 1024]
def k0_off24 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v98 : Index := Scalar.indexCast v21
  let c1152_25 : Index := 1152#32
  ![v98.toNat, 1152]
def k0_off25 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v100 : Index := Scalar.indexCast v21
  let c1280_26 : Index := 1280#32
  ![v100.toNat, 1280]
def k0_off26 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v102 : Index := Scalar.indexCast v21
  let c1408_27 : Index := 1408#32
  ![v102.toNat, 1408]
def k0_off27 (c0_i32_4 : BitVec 32) : Fin 2 → Nat :=
  let c128_i32 : BitVec 32 := 128#32
  let v17 : BitVec 32 := Scalar.muli c0_i32_4 c128_i32
  let v18 : BitVec 32 := v17
  let v1355 : Index := Scalar.indexCast v18
  let c0_310 : Index := 0#32
  ![v1355.toNat, 0]
def k0_off28 (c0_i32_4 : BitVec 32) : Fin 2 → Nat :=
  let c128_i32 : BitVec 32 := 128#32
  let v17 : BitVec 32 := Scalar.muli c0_i32_4 c128_i32
  let v18 : BitVec 32 := v17
  let v1360 : Index := Scalar.indexCast v18
  let c128_311 : Index := 128#32
  ![v1360.toNat, 128]
def k0_off29 (c0_i32_4 : BitVec 32) : Fin 2 → Nat :=
  let c128_i32 : BitVec 32 := 128#32
  let v17 : BitVec 32 := Scalar.muli c0_i32_4 c128_i32
  let v18 : BitVec 32 := v17
  let v1365 : Index := Scalar.indexCast v18
  let c256_312 : Index := 256#32
  ![v1365.toNat, 256]
def k0_off30 (c0_i32_4 : BitVec 32) : Fin 2 → Nat :=
  let c128_i32 : BitVec 32 := 128#32
  let v17 : BitVec 32 := Scalar.muli c0_i32_4 c128_i32
  let v18 : BitVec 32 := v17
  let v1370 : Index := Scalar.indexCast v18
  let c384_313 : Index := 384#32
  ![v1370.toNat, 384]
def k0_off31 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v1375 : Index := Scalar.indexCast v21
  let c0_314 : Index := 0#32
  ![v1375.toNat, 0]
def k0_off32 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v1380 : Index := Scalar.indexCast v21
  let c128_315 : Index := 128#32
  ![v1380.toNat, 128]
def k0_off33 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v1385 : Index := Scalar.indexCast v21
  let c256_316 : Index := 256#32
  ![v1385.toNat, 256]
def k0_off34 (c0_i32_4 : BitVec 32) : Fin 2 → Nat :=
  let c1_i32 : BitVec 32 := 1#32
  let v19 : BitVec 32 := Scalar.subi c1_i32 c0_i32_4
  let c128_i32_5 : BitVec 32 := 128#32
  let v20 : BitVec 32 := Scalar.muli v19 c128_i32_5
  let v21 : BitVec 32 := v20
  let v1390 : Index := Scalar.indexCast v21
  let c384_317 : Index := 384#32
  ![v1390.toNat, 384]
def k0_mult3 : BitVec 32 :=
  let c1_i32_342 : BitVec 32 := 1#32
  let c128_i32_343 : BitVec 32 := 128#32
  let v1456 : BitVec 32 := Scalar.muli c1_i32_342 c128_i32_343
  v1456
def k0_mult4 : BitVec 32 :=
  let c1_i32_344 : BitVec 32 := 1#32
  let c1_i32_342 : BitVec 32 := 1#32
  let v1458 : BitVec 32 := Scalar.subi c1_i32_344 c1_i32_342
  let c128_i32_345 : BitVec 32 := 128#32
  let v1459 : BitVec 32 := Scalar.muli v1458 c128_i32_345
  v1459
def k0_cond2 (i : grid0.Coords) : BitVec 1 :=
  let arg1 : BitVec 32 := BitVec.ofNat 32 (i 1).val
  let c0_i32_704 : BitVec 32 := 0#32
  let v2895 : BitVec 1 := Scalar.cmpi .eq arg1 c0_i32_704
  let v2896 : BitVec 32 := Scalar.extui v2895
  let c0_i32_705 : BitVec 32 := 0#32
  let v2897 : BitVec 1 := Scalar.cmpi .ne v2896 c0_i32_705
  v2897

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel9Ideal.lean ====
variable {F : FTy → Type} [FloatOps F] [Named F]
def κ : String → Option EReal := fun
  | "mask" => some ⊥
  | _ => none
-- ==== Reference9Ideal.lean ====
abbrev S8192x1536 : Shape := ⟨2, ![8192, 1536]⟩
abbrev S8192x128 : Shape := ⟨2, ![8192, 128]⟩
abbrev S32x256x3x4x128 : Shape := ⟨5, ![32, 256, 3, 4, 128]⟩
abbrev S32x256x32x4 : Shape := ⟨4, ![32, 256, 32, 4]⟩
abbrev S32x256x1x4x128 : Shape := ⟨5, ![32, 256, 1, 4, 128]⟩
abbrev S32x256x4x128 : Shape := ⟨4, ![32, 256, 4, 128]⟩
abbrev S1x32x256x4x128 : Shape := ⟨5, ![1, 32, 256, 4, 128]⟩
abbrev S2x32x256x4x128 : Shape := ⟨5, ![2, 32, 256, 4, 128]⟩
abbrev S32x256x1x4 : Shape := ⟨4, ![32, 256, 1, 4]⟩
abbrev S32x256x4 : Shape := ⟨3, ![32, 256, 4]⟩
abbrev S1x32x256x4 : Shape := ⟨4, ![1, 32, 256, 4]⟩
abbrev S2x32x256x4 : Shape := ⟨4, ![2, 32, 256, 4]⟩
abbrev S_ : Shape := ⟨0, ![]⟩
abbrev S2x32x4x128x128 : Shape := ⟨5, ![2, 32, 4, 128, 128]⟩
abbrev S256x2x32x4x128 : Shape := ⟨5, ![256, 2, 32, 4, 128]⟩
abbrev S256x2x32x4 : Shape := ⟨4, ![256, 2, 32, 4]⟩
abbrev S1x2x32x4x128 : Shape := ⟨5, ![1, 2, 32, 4, 128]⟩
abbrev S2x32x4x128 : Shape := ⟨4, ![2, 32, 4, 128]⟩
abbrev S1x2x32x4 : Shape := ⟨4, ![1, 2, 32, 4]⟩
abbrev S2x32x4 : Shape := ⟨3, ![2, 32, 4]⟩
abbrev S2x32x4x1x1 : Shape := ⟨5, ![2, 32, 4, 1, 1]⟩
abbrev S2x32x4x128x1 : Shape := ⟨5, ![2, 32, 4, 128, 1]⟩
abbrev S2x32x4x1 : Shape := ⟨4, ![2, 32, 4, 1]⟩
abbrev S2x32x4x1x128 : Shape := ⟨5, ![2, 32, 4, 1, 128]⟩
abbrev S8192x512 : Shape := ⟨2, ![8192, 512]⟩
abbrev S1x32x4x128x128 : Shape := ⟨5, ![1, 32, 4, 128, 128]⟩
abbrev S32x4x128x128 : Shape := ⟨4, ![32, 4, 128, 128]⟩

abbrev nBuf : Space → Nat
  | .hbm => 136
  | .vmem => 0
  | .smem => 0
  | _ => 0

abbrev hbmTy0_0 (i : Nat) : BufTy := match i % 128 with
  | 0 => ⟨S8192x1536, .f32⟩
  | 1 => ⟨S8192x128, .f32⟩
  | 2 => ⟨S32x256x3x4x128, .f32⟩
  | 3 => ⟨S32x256x32x4, .f32⟩
  | 4 => ⟨S32x256x1x4x128, .f32⟩
  | 5 => ⟨S32x256x4x128, .f32⟩
  | 6 => ⟨S32x256x1x4x128, .f32⟩
  | 7 => ⟨S32x256x4x128, .f32⟩
  | 8 => ⟨S32x256x4x128, .f32⟩
  | 9 => ⟨S1x32x256x4x128, .f32⟩
  | 10 => ⟨S1x32x256x4x128, .f32⟩
  | 11 => ⟨S2x32x256x4x128, .f32⟩
  | 12 => ⟨S32x256x1x4x128, .f32⟩
  | 13 => ⟨S32x256x4x128, .f32⟩
  | 14 => ⟨S32x256x1x4x128, .f32⟩
  | 15 => ⟨S32x256x4x128, .f32⟩
  | 16 => ⟨S32x256x4x128, .f32⟩
  | 17 => ⟨S1x32x256x4x128, .f32⟩
  | 18 => ⟨S1x32x256x4x128, .f32⟩
  | 19 => ⟨S2x32x256x4x128, .f32⟩
  | 20 => ⟨S32x256x1x4x128, .f32⟩
  | 21 => ⟨S32x256x4x128, .f32⟩
  | 22 => ⟨S32x256x1x4x128, .f32⟩
  | 23 => ⟨S32x256x4x128, .f32⟩
  | 24 => ⟨S32x256x4x128, .f32⟩
  | 25 => ⟨S1x32x256x4x128, .f32⟩
  | 26 => ⟨S1x32x256x4x128, .f32⟩
  | 27 => ⟨S2x32x256x4x128, .f32⟩
  | 28 => ⟨S32x256x1x4, .f32⟩
  | 29 => ⟨S32x256x4, .f32⟩
  | 30 => ⟨S32x256x1x4, .f32⟩
  | 31 => ⟨S32x256x4, .f32⟩
  | 32 => ⟨S32x256x4, .f32⟩
  | 33 => ⟨S1x32x256x4, .f32⟩
  | 34 => ⟨S1x32x256x4, .f32⟩
  | 35 => ⟨S2x32x256x4, .f32⟩
  | 36 => ⟨S32x256x1x4, .f32⟩
  | 37 => ⟨S32x256x4, .f32⟩
  | 38 => ⟨S32x256x1x4, .f32⟩
  | 39 => ⟨S32x256x4, .f32⟩
  | 40 => ⟨S32x256x4, .f32⟩
  | 41 => ⟨S1x32x256x4, .f32⟩
  | 42 => ⟨S1x32x256x4, .f32⟩
  | 43 => ⟨S2x32x256x4, .f32⟩
  | 44 => ⟨S_, .f32⟩
  | 45 => ⟨S2x32x4x128x128, .f32⟩
  | 46 => ⟨S256x2x32x4x128, .f32⟩
  | 47 => ⟨S256x2x32x4x128, .f32⟩
  | 48 => ⟨S256x2x32x4x128, .f32⟩
  | 49 => ⟨S256x2x32x4, .f32⟩
  | 50 => ⟨S256x2x32x4, .f32⟩
  | 51 => ⟨S_, .f32⟩
  | 52 => ⟨S256x2x32x4x128, .f32⟩
  | 53 => ⟨S_, .i32⟩
  | 54 => ⟨S256x2x32x4x128, .f32⟩
  | 55 => ⟨S256x2x32x4x128, .f32⟩
  | 56 => ⟨S256x2x32x4x128, .f32⟩
  | 57 => ⟨S256x2x32x4, .f32⟩
  | 58 => ⟨S256x2x32x4, .f32⟩
  | 59 => ⟨S_, .i32⟩
  | 60 => ⟨S2x32x4x128x128, .f32⟩
  | 61 => ⟨S256x2x32x4x128, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1x2x32x4x128, .f32⟩
  | 69 => ⟨S2x32x4x128, .f32⟩
  | 70 => ⟨S_, .i32⟩
  | 71 => ⟨S_, .i32⟩
  | 72 => ⟨S_, .i32⟩
  | 73 => ⟨S_, .i32⟩
  | 74 => ⟨S1x2x32x4x128, .f32⟩
  | 75 => ⟨S2x32x4x128, .f32⟩
  | 76 => ⟨S_, .i32⟩
  | 77 => ⟨S_, .i32⟩
  | 78 => ⟨S_, .i32⟩
  | 79 => ⟨S_, .i32⟩
  | 80 => ⟨S1x2x32x4x128, .f32⟩
  | 81 => ⟨S2x32x4x128, .f32⟩
  | 82 => ⟨S_, .i32⟩
  | 83 => ⟨S_, .i32⟩
  | 84 => ⟨S_, .i32⟩
  | 85 => ⟨S1x2x32x4, .f32⟩
  | 86 => ⟨S2x32x4, .f32⟩
  | 87 => ⟨S_, .i32⟩
  | 88 => ⟨S_, .i32⟩
  | 89 => ⟨S_, .i32⟩
  | 90 => ⟨S1x2x32x4, .f32⟩
  | 91 => ⟨S2x32x4, .f32⟩
  | 92 => ⟨S2x32x4, .f32⟩
  | 93 => ⟨S2x32x4x1x1, .f32⟩
  | 94 => ⟨S2x32x4x128x128, .f32⟩
  | 95 => ⟨S2x32x4x128x128, .f32⟩
  | 96 => ⟨S2x32x4x128x1, .f32⟩
  | 97 => ⟨S2x32x4x128x128, .f32⟩
  | 98 => ⟨S2x32x4x128x128, .f32⟩
  | 99 => ⟨S_, .f32⟩
  | 100 => ⟨S2x32x4x128, .f32⟩
  | 101 => ⟨S2x32x4x128, .f32⟩
  | 102 => ⟨S2x32x4x1, .f32⟩
  | 103 => ⟨S2x32x4x128, .f32⟩
  | 104 => ⟨S2x32x4x128, .f32⟩
  | 105 => ⟨S2x32x4x128x1, .f32⟩
  | 106 => ⟨S2x32x4x1x128, .f32⟩
  | 107 => ⟨S2x32x4x128x128, .f32⟩
  | 108 => ⟨S2x32x4x128x128, .f32⟩
  | 109 => ⟨S2x32x4x128x128, .f32⟩
  | 110 => ⟨S2x32x4x128x128, .f32⟩
  | 111 => ⟨S2x32x4x128x1, .f32⟩
  | 112 => ⟨S2x32x4x128x128, .f32⟩
  | 113 => ⟨S2x32x4x128x128, .f32⟩
  | 114 => ⟨S_, .f32⟩
  | 115 => ⟨S2x32x4x128, .f32⟩
  | 116 => ⟨S1x2x32x4x128, .f32⟩
  | 117 => ⟨S_, .i32⟩
  | 118 => ⟨S_, .i32⟩
  | 119 => ⟨S_, .i32⟩
  | 120 => ⟨S_, .i32⟩
  | 121 => ⟨S256x2x32x4x128, .f32⟩
  | 122 => ⟨S_, .i32⟩
  | 123 => ⟨S_, .i32⟩
  | 124 => ⟨S2x32x256x4x128, .f32⟩
  | 125 => ⟨S1x32x256x4x128, .f32⟩
  | 126 => ⟨S32x256x4x128, .f32⟩
  | 127 => ⟨S8192x512, .f32⟩
  | _ => ⟨S8192x1536, .f32⟩

abbrev hbmTy0_1 (i : Nat) : BufTy := match i % 128 with
  | 0 => ⟨S1x32x256x4x128, .f32⟩
  | 1 => ⟨S32x256x4x128, .f32⟩
  | 2 => ⟨S32x256x4x128, .f32⟩
  | 3 => ⟨S8192x512, .f32⟩
  | 4 => ⟨S1x32x4x128x128, .f32⟩
  | 5 => ⟨S32x4x128x128, .f32⟩
  | 6 => ⟨S1x32x4x128x128, .f32⟩
  | 7 => ⟨S32x4x128x128, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_cst : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_cst_0 : Ref sig .tc := ⟨.hbm, 51, rfl⟩
abbrev main_v48 : Ref sig .tc := ⟨.hbm, 52, rfl⟩
abbrev main_c : Ref sig .tc := ⟨.hbm, 53, rfl⟩
abbrev main_v49_0 : Ref sig .tc := ⟨.hbm, 54, rfl⟩
abbrev main_v49_1 : Ref sig .tc := ⟨.hbm, 55, rfl⟩
abbrev main_v49_2 : Ref sig .tc := ⟨.hbm, 56, rfl⟩
abbrev main_v49_3 : Ref sig .tc := ⟨.hbm, 57, rfl⟩
abbrev main_v49_4 : Ref sig .tc := ⟨.hbm, 58, rfl⟩
abbrev main_v49_5 : Ref sig .tc := ⟨.hbm, 59, rfl⟩
abbrev main_v49_6 : Ref sig .tc := ⟨.hbm, 60, rfl⟩
abbrev main_v49_7 : Ref sig .tc := ⟨.hbm, 61, rfl⟩
abbrev main_while0c_c_8 : Ref sig .tc := ⟨.hbm, 62, rfl⟩
abbrev main_while0c_v62 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_c_1 : Ref sig .tc := ⟨.hbm, 66, rfl⟩
abbrev main_while0b_call5_c_2 : Ref sig .tc := ⟨.hbm, 67, rfl⟩
abbrev main_while0b_call5_v0 : Ref sig .tc := ⟨.hbm, 68, rfl⟩
abbrev main_while0b_v62 : Ref sig .tc := ⟨.hbm, 69, rfl⟩
abbrev main_while0b_call6_c : Ref sig .tc := ⟨.hbm, 70, rfl⟩
abbrev main_while0b_call6_c_0 : Ref sig .tc := ⟨.hbm, 71, rfl⟩
abbrev main_while0b_call6_c_1 : Ref sig .tc := ⟨.hbm, 72, rfl⟩
abbrev main_while0b_call6_c_2 : Ref sig .tc := ⟨.hbm, 73, rfl⟩
abbrev main_while0b_call6_v0 : Ref sig .tc := ⟨.hbm, 74, rfl⟩
abbrev main_while0b_v63 : Ref sig .tc := ⟨.hbm, 75, rfl⟩
abbrev main_while0b_call7_c : Ref sig .tc := ⟨.hbm, 76, rfl⟩
abbrev main_while0b_call7_c_0 : Ref sig .tc := ⟨.hbm, 77, rfl⟩
abbrev main_while0b_call7_c_1 : Ref sig .tc := ⟨.hbm, 78, rfl⟩
abbrev main_while0b_call7_c_2 : Ref sig .tc := ⟨.hbm, 79, rfl⟩
abbrev main_while0b_call7_v0 : Ref sig .tc := ⟨.hbm, 80, rfl⟩
abbrev main_while0b_v64 : Ref sig .tc := ⟨.hbm, 81, rfl⟩
abbrev main_while0b_call8_c : Ref sig .tc := ⟨.hbm, 82, rfl⟩
abbrev main_while0b_call8_c_0 : Ref sig .tc := ⟨.hbm, 83, rfl⟩
abbrev main_while0b_call8_c_1 : Ref sig .tc := ⟨.hbm, 84, rfl⟩
abbrev main_while0b_call8_v0 : Ref sig .tc := ⟨.hbm, 85, rfl⟩
abbrev main_while0b_v65 : Ref sig .tc := ⟨.hbm, 86, rfl⟩
abbrev main_while0b_call9_c : Ref sig .tc := ⟨.hbm, 87, rfl⟩
abbrev main_while0b_call9_c_0 : Ref sig .tc := ⟨.hbm, 88, rfl⟩
abbrev main_while0b_call9_c_1 : Ref sig .tc := ⟨.hbm, 89, rfl⟩
abbrev main_while0b_call9_v0 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_v70 : Ref sig .tc := ⟨.hbm, 95, rfl⟩
abbrev main_while0b_v71 : Ref sig .tc := ⟨.hbm, 96, rfl⟩
abbrev main_while0b_v72 : Ref sig .tc := ⟨.hbm, 97, rfl⟩
abbrev main_while0b_v73 : Ref sig .tc := ⟨.hbm, 98, rfl⟩
abbrev main_while0b_cst_8 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_v81 : Ref sig .tc := ⟨.hbm, 107, rfl⟩
abbrev main_while0b_v82 : Ref sig .tc := ⟨.hbm, 108, rfl⟩
abbrev main_while0b_v83 : Ref sig .tc := ⟨.hbm, 109, rfl⟩
abbrev main_while0b_v84 : Ref sig .tc := ⟨.hbm, 110, rfl⟩
abbrev main_while0b_v85 : Ref sig .tc := ⟨.hbm, 111, rfl⟩
abbrev main_while0b_v86 : Ref sig .tc := ⟨.hbm, 112, rfl⟩
abbrev main_while0b_v87 : Ref sig .tc := ⟨.hbm, 113, rfl⟩
abbrev main_while0b_cst_9 : Ref sig .tc := ⟨.hbm, 114, rfl⟩
abbrev main_while0b_v88 : Ref sig .tc := ⟨.hbm, 115, rfl⟩
abbrev main_while0b_call10_v0 : Ref sig .tc := ⟨.hbm, 116, rfl⟩
abbrev main_while0b_call10_c : Ref sig .tc := ⟨.hbm, 117, rfl⟩
abbrev main_while0b_call10_c_0 : Ref sig .tc := ⟨.hbm, 118, rfl⟩
abbrev main_while0b_call10_c_1 : Ref sig .tc := ⟨.hbm, 119, rfl⟩
abbrev main_while0b_call10_c_2 : Ref sig .tc := ⟨.hbm, 120, rfl⟩
abbrev main_while0b_v89 : Ref sig .tc := ⟨.hbm, 121, rfl⟩
abbrev main_while0b_c_10 : Ref sig .tc := ⟨.hbm, 122, rfl⟩
abbrev main_while0b_v90 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩

abbrev nD : Nat := 1
abbrev τ : Topo := Topo.v7x

variable {F : FTy → Type} [FloatOps F]

abbrev main_while0_count : Scf.Loop 32 := ⟨0#32, 256#32, 1#32⟩
-- ==== Kernel10.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1x1x1x1024 : Shape := ⟨4, ![1, 1, 1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  let c0_i32_8 : BitVec 32 := 0#32
  ![v18.toNat, c0_i32_5.toNat, c0_i32_6.toNat, c0_i32_7.toNat]

def cc0_transform_2 (i : grid0.Coords) : Fin 4 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c1_i32_5 : BitVec 32 := 1#32
  let c0_i32_6 : BitVec 32 := 0#32
  let c0_i32_7 : BitVec 32 := 0#32
  let c0_i32_8 : BitVec 32 := 0#32
  ![v18.toNat, c1_i32_5.toNat, c0_i32_6.toNat, c0_i32_7.toNat]

def cc0_transform_3 (i : grid0.Coords) : Fin 4 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c2_i32 : BitVec 32 := 2#32
  let c0_i32_5 : BitVec 32 := 0#32
  let c0_i32_6 : BitVec 32 := 0#32
  let c0_i32_7 : BitVec 32 := 0#32
  ![v18.toNat, c2_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S16x9x1x1024 : Shape := ⟨4, ![16, 9, 1, 1024]⟩
abbrev S1x1024 : Shape := ⟨2, ![1, 1024]⟩
abbrev S1024x5632 : Shape := ⟨2, ![1024, 5632]⟩
abbrev S2816x1024 : Shape := ⟨2, ![2816, 1024]⟩
abbrev S1x1x1x1024 : Shape := ⟨4, ![1, 1, 1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x9x1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S1x1x1x1024, .f32⟩
  | .hbm, ⟨7, _⟩ => ⟨S1x1024, .f32⟩
  | .hbm, ⟨8, _⟩ => ⟨S1x1x1x1024, .f32⟩
  | .hbm, ⟨9, _⟩ => ⟨S1x1024, .f32⟩
  | .hbm, ⟨10, _⟩ => ⟨S1x1x1x1024, .f32⟩
  | .hbm, ⟨11, _⟩ => ⟨S1x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x5632, .f32⟩
  | .hbm, ⟨35, _⟩ => ⟨S8192x5632, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S2816x1024, .f32⟩
  | .hbm, ⟨49, _⟩ => ⟨S8192x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel11.lean ====
abbrev S8192x1024 : Shape := ⟨2, ![8192, 1024]⟩
abbrev S8192x512 : Shape := ⟨2, ![8192, 512]⟩
abbrev S16x9x1x1024 : Shape := ⟨4, ![16, 9, 1, 1024]⟩
abbrev S1x1024 : Shape := ⟨2, ![1, 1024]⟩
abbrev S1x128 : Shape := ⟨2, ![1, 128]⟩
abbrev S1024x2560 : Shape := ⟨2, ![1024, 2560]⟩
abbrev S512x1024 : Shape := ⟨2, ![512, 1024]⟩
abbrev S1024x1024 : Shape := ⟨2, ![1024, 1024]⟩
abbrev S512x512 : Shape := ⟨2, ![512, 512]⟩
abbrev S1x1x1x1024 : Shape := ⟨4, ![1, 1, 1, 1024]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩

abbrev nBuf : Space → Nat
  | .hbm => 12
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S16x9x1x1024, .f32⟩
  | .hbm, ⟨5, _⟩ => ⟨S1x1024, .f32⟩
  | .hbm, ⟨6, _⟩ => ⟨S1x128, .f32⟩
  | .hbm, ⟨7, _⟩ => ⟨S1024x2560, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1024, .f32⟩
  | .local _ .vmem, ⟨15, _⟩ => ⟨S1x128, .f32⟩
  | .local _ .vmem, ⟨16, _⟩ => ⟨S1024x2560, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c3_i32 : BitVec 32 := 3#32
  let c0_i32_5 : BitVec 32 := 0#32
  let c0_i32_6 : BitVec 32 := 0#32
  let c0_i32_7 : BitVec 32 := 0#32
  ![v18.toNat, c3_i32.toNat, c0_i32_5.toNat, c0_i32_6.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c4_i32 : BitVec 32 := 4#32
  let c0_i32_5 : BitVec 32 := 0#32
  let c0_i32_6 : BitVec 32 := 0#32
  let c0_i32_7 : BitVec 32 := 0#32
  ![v18.toNat, c4_i32.toNat, c0_i32_5.toNat, c0_i32_6.toNat]

def cc0_transform_6 (i : grid0.Coords) : Fin 4 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c5_i32 : BitVec 32 := 5#32
  let c0_i32_5 : BitVec 32 := 0#32
  let c0_i32_6 : BitVec 32 := 0#32
  let c0_i32_7 : BitVec 32 := 0#32
  ![v18.toNat, c5_i32.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S8192x1024 : Shape := ⟨2, ![8192, 1024]⟩
abbrev S8192x512 : Shape := ⟨2, ![8192, 512]⟩
abbrev S16x9x1x1024 : Shape := ⟨4, ![16, 9, 1, 1024]⟩
abbrev S1x1024 : Shape := ⟨2, ![1, 1024]⟩
abbrev S1x128 : Shape := ⟨2, ![1, 128]⟩
abbrev S1024x2560 : Shape := ⟨2, ![1024, 2560]⟩
abbrev S512x1024 : Shape := ⟨2, ![512, 1024]⟩
abbrev S1024x1024 : Shape := ⟨2, ![1024, 1024]⟩
abbrev S1x1x1x1024 : Shape := ⟨4, ![1, 1, 1, 1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x2048 : Shape := ⟨2, ![8192, 2048]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S16x9x1x1024, .f32⟩
  | .hbm, ⟨5, _⟩ => ⟨S1x1024, .f32⟩
  | .hbm, ⟨6, _⟩ => ⟨S1x128, .f32⟩
  | .hbm, ⟨7, _⟩ => ⟨S1024x2560, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1x1x1024, .f32⟩
  | .hbm, ⟨12, _⟩ => ⟨S1x1024, .f32⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1024x2560, .f32⟩
  | .hbm, ⟨40, _⟩ => ⟨S8192x2560, .f32⟩
  | .hbm, ⟨41, _⟩ => ⟨S8192x512, .f32⟩
  | .hbm, ⟨42, _⟩ => ⟨S8192x2048, .f32⟩
  | .hbm, ⟨43, _⟩ => ⟨S8192x512, .f32⟩
  | .hbm, ⟨44, _⟩ => ⟨S8192x4x128, .f32⟩
  | .hbm, ⟨45, _⟩ => ⟨S8192x4x128, .f32⟩
  | .hbm, ⟨46, _⟩ => ⟨S_, .f32⟩
  | .hbm, ⟨47, _⟩ => ⟨S8192x4, .f32⟩
  | .hbm, ⟨48, _⟩ => ⟨S8192x4x1, .f32⟩
  | .hbm, ⟨49, _⟩ => ⟨S_, .f32⟩
  | .hbm, ⟨50, _⟩ => ⟨S8192x4x1, .f32⟩
  | .hbm, ⟨51, _⟩ => ⟨S8192x4x1, .f32⟩
  | .hbm, ⟨52, _⟩ => ⟨S_, .f32⟩
  | .hbm, ⟨53, _⟩ => ⟨S8192x4x1, .f32⟩
  | .hbm, ⟨54, _⟩ => ⟨S8192x4x1, .f32⟩
  | .hbm, ⟨55, _⟩ => ⟨S8192x4x1, .f32⟩
  | .hbm, ⟨56, _⟩ => ⟨S8192x4x128, .f32⟩
  | .hbm, ⟨57, _⟩ => ⟨S8192x4x128, .f32⟩
  | .hbm, ⟨58, _⟩ => ⟨S1x1x128, .f32⟩
  | .hbm, ⟨59, _⟩ => ⟨S8192x4x128, .f32⟩
  | .hbm, ⟨60, _⟩ => ⟨S8192x4x128, .f32⟩
  | .hbm, ⟨61, _⟩ => ⟨S8192x4x128, .f32⟩
  | .hbm, ⟨62, _⟩ => ⟨S8192x4x128, .f32⟩
  | .hbm, ⟨63, _⟩ => ⟨S8192x4x128, .f32⟩
  | .hbm, ⟨64, _⟩ => ⟨S_, .f32⟩
  | .hbm, ⟨65, _⟩ => ⟨S8192x4x128, .f32⟩
  | .hbm, ⟨66, _⟩ => ⟨S8192x4x128, .f32⟩
  | .hbm, ⟨67, _⟩ => ⟨S_, .f32⟩
  | .hbm, ⟨68, _⟩ => ⟨S8192x4x128, .f32⟩
  | .hbm, ⟨69, _⟩ => ⟨S8192x4x128, .f32⟩
  | .hbm, ⟨70, _⟩ => ⟨S8192x4x128, .f32⟩
  | .hbm, ⟨71, _⟩ => ⟨S8192x4x128, .f32⟩
  | .hbm, ⟨72, _⟩ => ⟨S8192x512, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S8192x1024, .f32⟩
  | .hbm, ⟨82, _⟩ => ⟨S8192x1024, .f32⟩
  | .hbm, ⟨83, _⟩ => ⟨S512x1024, .f32⟩
  | .hbm, ⟨84, _⟩ => ⟨S8192x1024, .f32⟩
  | .hbm, ⟨85, _⟩ => ⟨S8192x1024, .f32⟩
  | .hbm, ⟨86, _⟩ => ⟨S512x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S1024x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== Proof.FfnSpec.lean ====
/-
  The feed-forward layer's mathematics over the extended reals, one token (row) at a time, in the form the kernel
  computes it (`tanh`-form of the silu) and in the form the reference computes it (`logistic`-form), and their equality
  for finite modulation, norm weight and first weight matrix.
-/
module

public import Idealize.ShloMosaic.Lib.Pointwise

@[expose] public section

set_option maxRecDepth 16384

noncomputable section

namespace Cert.Proof.Ffn

open Idealize.ShloMosaic

/-- The literal 0.5. -/
abbrev half : EReal := Ideal.ofBits FTy.f32 1056964608#32

/-- The reciprocal root-mean-square of a row, as both programs compute it. -/
def rms (x : Fin 1024 → EReal) : EReal :=
  Ideal.rsqrt (Ideal.div (∑ d, x d * x d) (Ideal.ofBits FTy.f32 1149239296#32) + Ideal.ofBits FTy.f32 897988541#32)

/-- A row normalised, scaled and shifted by the modulation. -/
def hmod (x nw sc sh : Fin 1024 → EReal) (d : Fin 1024) : EReal := x d * rms x * (nw d * (1 + sc d)) + sh d

/-- One entry of a row times the first weight matrix. -/
def dotw {N : Nat} (h : Fin 1024 → EReal) (w : (⟨2, ![1024, N]⟩ : Shape).Idx → EReal) (f : Fin N) : EReal := ∑ d, h d * w (ix2 d f)

/-- The silu as the kernel writes it: half the argument, plus that times its hyperbolic tangent. -/
def silT (t : EReal) : EReal := half * t + half * t * Ideal.tanh (half * t)

/-- One chunk of the hidden units' part of the second product. -/
def chunk (u g : Fin 256 → EReal) (w : (⟨2, ![256, 1024]⟩ : Shape).Idx → EReal) (c : Fin 1024) : EReal :=
  ∑ x, silT (u x) * g x * w (ix2 x c)

/-- The second product, all 2816 hidden units, with a given silu. -/
def acc (sil : EReal → EReal) (h : Fin 1024 → EReal) (w13 : (⟨2, ![1024, 5632]⟩ : Shape).Idx → EReal)
    (w2 : (⟨2, ![2816, 1024]⟩ : Shape).Idx → EReal) (c : Fin 1024) : EReal :=
  ∑ f : Fin 2816, sil (dotw h w13 ⟨f, by omega⟩) * dotw h w13 ⟨2816 + f, by omega⟩ * w2 (ix2 f c)

/-- The residual row: the row plus half the gate times the feed-forward's output. -/
def resid (x g a : Fin 1024 → EReal) (d : Fin 1024) : EReal := x d + half * g d * a d

/-- A row normalised by its root-mean-square and a weight. -/
def normed (y fw : Fin 1024 → EReal) (d : Fin 1024) : EReal := y d * rms y * fw d

theorem half_eq : half = ((1 / 2 : ℝ) : EReal) := by
  simp [half, Ideal.ofBits, Ideal.ieee, -EReal.coe_mul]; norm_num

/-- A sum of eleven terms, in order. -/
theorem sum_eleven (H : Fin 11 → EReal) :
    ∑ j, H j = H 0 + H 1 + H 2 + H 3 + H 4 + H 5 + H 6 + H 7 + H 8 + H 9 + H 10 := by
  simp only [Fin.sum_univ_succ, Fin.sum_univ_zero, add_zero, add_assoc]
  rfl

/-- A sum over the 2816 hidden units, cut into the kernel's eleven chunks of 256. -/
theorem sum_chunks (g : Fin 2816 → EReal) : ∑ f, g f
    = ∑ k : Fin 256, g ⟨k, by omega⟩ + ∑ k : Fin 256, g ⟨256 + k, by omega⟩ + ∑ k : Fin 256, g ⟨512 + k, by omega⟩
      + ∑ k : Fin 256, g ⟨768 + k, by omega⟩ + ∑ k : Fin 256, g ⟨1024 + k, by omega⟩ + ∑ k : Fin 256, g ⟨1280 + k, by omega⟩
      + ∑ k : Fin 256, g ⟨1536 + k, by omega⟩ + ∑ k : Fin 256, g ⟨1792 + k, by omega⟩ + ∑ k : Fin 256, g ⟨2048 + k, by omega⟩
      + ∑ k : Fin 256, g ⟨2304 + k, by omega⟩ + ∑ k : Fin 256, g ⟨2560 + k, by omega⟩ := by
  have h : ∑ f : Fin 2816, g f = ∑ j : Fin 11, ∑ k : Fin 256, g ⟨k + 256 * j, by omega⟩ := by
    rw [← Fintype.sum_prod_type', ← (finProdFinEquiv (m := 11) (n := 256)).sum_comp]
    rfl
  rw [h, sum_eleven]
  refine congrArg₂ _ (congrArg₂ _ (congrArg₂ _ (congrArg₂ _ (congrArg₂ _ (congrArg₂ _ (congrArg₂ _ (congrArg₂ _ (congrArg₂ _ (congrArg₂ _ ?_ ?_) ?_) ?_) ?_) ?_) ?_) ?_) ?_) ?_) ?_ <;>
    exact Finset.sum_congr rfl fun k _ => congrArg g (Fin.ext (by simp [add_comm]))

/-- The silu as the reference writes it: the argument times one over one plus the exponential of its negative. -/
def silL (t : EReal) : EReal := t * Ideal.div 1 (1 + Ideal.exp (-t))

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.one : IsR 1 := ⟨1, rfl⟩

theorem coe_sum' {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsR.sum {ι : Type} [Fintype ι] {f : ι → EReal} (hf : ∀ i, IsR (f i)) : IsR (∑ i, f i) := by
  choose g hg using hf
  refine ⟨∑ i, g i, ?_⟩
  rw [coe_sum']
  exact Finset.sum_congr rfl fun i _ => hg i

/-- At a real argument the two forms of the silu agree. -/
theorem silT_eq (t : EReal) (ht : IsR t) : silT t = silL t := by
  obtain ⟨r, rfl⟩ := ht
  have hl : Ideal.div 1 (1 + Ideal.exp (-(r : EReal))) = (((1 + Real.exp (-r))⁻¹ : ℝ) : EReal) := Ideal.logistic_coe r
  rw [silT, silL, half_eq, hl, ← EReal.coe_mul, Ideal.tanh_coe, ← EReal.coe_mul, ← EReal.coe_mul, ← EReal.coe_add]
  congr 1
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  have p1 := Real.exp_pos (1 / 2 * r)
  have p2 := Real.exp_pos (-(1 / 2 * r))
  generalize Real.exp (1 / 2 * r) = A at *
  generalize Real.exp (-(1 / 2 * r)) = B at *
  have hA : A = 1 / B := by field_simp; exact e2
  subst hA
  field_simp
  ring

theorem eps_pos : ∃ e : ℝ, 0 < e ∧ Ideal.ofBits FTy.f32 897988541#32 = (e : EReal) := by
  refine ⟨8796093 / 2 ^ 43, by positivity, ?_⟩
  simp [Ideal.ofBits, Ideal.ieee, -EReal.coe_mul]; norm_num

theorem dim_eq : Ideal.ofBits FTy.f32 1149239296#32 = ((1024 : ℝ) : EReal) := by
  simp [Ideal.ofBits, Ideal.ieee, -EReal.coe_mul]; norm_num

theorem mul_self_nonneg' (x : EReal) : 0 ≤ x * x := by
  rcases le_total 0 x with h | h
  · exact EReal.mul_nonneg h h
  · have := EReal.mul_nonneg (EReal.neg_nonneg.2 h) (EReal.neg_nonneg.2 h)
    simpa using this

/-- A row times its reciprocal root-mean-square is real, whatever the row (an infinite entry makes the factor zero). -/
theorem normed_isR (x : Fin 1024 → EReal) (d : Fin 1024) : IsR (x d * rms x) := by
  obtain ⟨e, he, hee⟩ := eps_pos
  by_cases h : ∀ d, IsR (x d)
  · choose y hy using h
    have hs : ∑ d, x d * x d = ((∑ d, y d * y d : ℝ) : EReal) := by
      rw [coe_sum']
      exact Finset.sum_congr rfl fun d _ => by rw [hy d, EReal.coe_mul]
    have h0 : (0 : ℝ) ≤ ∑ d, y d * y d := Finset.sum_nonneg fun d _ => mul_self_nonneg _
    rw [rms, hs, hee, dim_eq, Ideal.div_coe (by norm_num), ← EReal.coe_mul, ← EReal.coe_add, Ideal.rsqrt_coe,
      if_neg (by have : 0 ≤ (∑ d, y d * y d) * (1 / 1024) := by positivity
                 linarith), if_neg (by have : 0 ≤ (∑ d, y d * y d) * (1 / 1024) := by positivity
                                       intro h; linarith)]
    exact IsR.mul ⟨_, hy d⟩ ⟨_, rfl⟩
  · push Not at h
    obtain ⟨k, hk⟩ := h
    have ht : x k * x k = ⊤ := by
      generalize x k = z at hk
      induction z with
      | bot => rfl
      | top => rfl
      | coe r => exact absurd ⟨r, rfl⟩ hk
    have hs : ∑ d, x d * x d = ⊤ := by
      refine top_le_iff.1 (ht ▸ ?_)
      exact Finset.single_le_sum (f := fun d => x d * x d) (fun d _ => mul_self_nonneg' (x d)) (Finset.mem_univ k)
    have : rms x = 0 := by
      rw [rms, hs, hee, dim_eq, Ideal.div_coe (by norm_num), EReal.top_mul_coe_of_pos (by norm_num), EReal.top_add_coe,
        Ideal.rsqrt_top]
    rw [this, mul_zero]
    exact ⟨0, rfl⟩

theorem hmod_isR (x nw sc sh : Fin 1024 → EReal) (h1 : ∀ d, IsR (nw d)) (h2 : ∀ d, IsR (sc d)) (h3 : ∀ d, IsR (sh d))
    (d : Fin 1024) : IsR (hmod x nw sc sh d) :=
  ((normed_isR x d).mul ((h1 d).mul (IsR.one.add (h2 d)))).add (h3 d)

/-- With real hidden inputs and a real first weight matrix, the second product is the same under either form of the silu. -/
theorem acc_eq (h : Fin 1024 → EReal) (w13 : (⟨2, ![1024, 5632]⟩ : Shape).Idx → EReal)
    (w2 : (⟨2, ![2816, 1024]⟩ : Shape).Idx → EReal) (hh : ∀ d, IsR (h d)) (hw : ∀ i, IsR (w13 i)) :
    acc silT h w13 w2 = acc silL h w13 w2 := by
  funext c
  exact Finset.sum_congr rfl fun f _ => by
    rw [silT_eq (dotw h w13 _) (IsR.sum fun d => (hh d).mul (hw _))]

/-- Finiteness as the preconditions print it. -/
theorem isR_of_abs_lt (x : EReal) (h : Ideal.cmp .olt (max x (-x)) (Ideal.ofBits FTy.f32 0x7F800000#32) = 1#1) : IsR x := by
  have ht : Ideal.ofBits FTy.f32 0x7F800000#32 = ⊤ := by simp [Ideal.ofBits, Ideal.ieee]
  rw [ht] at h
  induction x with
  | bot => simp [Ideal.cmp] at h
  | top => simp [Ideal.cmp] at h
  | coe r => exact ⟨r, rfl⟩

end Cert.Proof.Ffn
-- ==== Proof.AttnSpec.lean ====
/-
  Softmax attention with a sink, one row of scores against one column of values, in the extended reals: the kernel's form
  (base 2, unnormalised weights, one division at the end) and the reference's (base e, normalised weights) are one
  function of the scores. Neither depends on the real number subtracted from the scores.
-/
module

public import proofs.«01_k».proof.Proof.FfnSpec

@[expose] public section

set_option maxRecDepth 16384

noncomputable section

namespace Cert.Proof.Attn

open Idealize.ShloMosaic Cert.Proof.Ffn

/-- A real or minus infinity: a score, which a mask may have removed. -/
def IsRB (a : EReal) : Prop := a = ⊥ ∨ IsR a

/-- The unnormalised weight of a score. -/
def wt (a : EReal) : ℝ := (Ideal.exp a).toReal

theorem wt_bot : wt ⊥ = 0 := by simp [wt, Ideal.exp_bot]
theorem wt_coe (r : ℝ) : wt (r : EReal) = Real.exp r := by simp [wt, Ideal.exp_coe]

theorem wt_nonneg {a : EReal} (h : IsRB a) : 0 ≤ wt a := by
  rcases h with rfl | ⟨r, rfl⟩
  · rw [wt_bot]
  · rw [wt_coe]; positivity

/-- The base of the kernel's exponentials, as a factor on scores. -/
def L2 : EReal := (((Real.log 2)⁻¹ : ℝ) : EReal)

/-- The kernel's weight of a score: the score's weight, times a factor the row shares. -/
theorem exp2_eq {a : EReal} (h : IsRB a) (m : ℝ) : Ideal.exp2 (a * L2 - (m : EReal)) = ((wt a * Real.rpow 2 (-m) : ℝ) : EReal) := by
  have hl : 0 < Real.log 2 := Real.log_pos (by norm_num)
  rcases h with rfl | ⟨r, rfl⟩
  · rw [L2, EReal.bot_mul_coe_of_pos (inv_pos.mpr hl), EReal.bot_sub, Ideal.exp2_bot, wt_bot, zero_mul, EReal.coe_zero]
  · rw [L2, ← EReal.coe_mul, ← EReal.coe_sub, Ideal.exp2_coe, wt_coe]
    congr 1
    show (2 : ℝ) ^ (r * (Real.log 2)⁻¹ - m) = Real.exp r * (2 : ℝ) ^ (-m)
    rw [sub_eq_add_neg, Real.rpow_add (by norm_num)]
    congr 1
    rw [Real.rpow_def_of_pos (by norm_num)]
    congr 1
    field_simp

/-- The reference's. -/
theorem exp_eq {a : EReal} (h : IsRB a) (m : ℝ) : Ideal.exp (a - (m : EReal)) = ((wt a * Real.exp (-m) : ℝ) : EReal) := by
  rcases h with rfl | ⟨r, rfl⟩
  · rw [EReal.bot_sub, Ideal.exp_bot, wt_bot, zero_mul, EReal.coe_zero]
  · rw [← EReal.coe_sub, Ideal.exp_coe, wt_coe, sub_eq_add_neg, Real.exp_add]

variable {ι : Type} [Fintype ι]

/-- Attention of one row of scores `a`, sink `z`, over one column of values `v`. -/
def attn (a : ι → EReal) (z : EReal) (v : ι → EReal) : EReal :=
  ∑ j, ((wt (a j) / (∑ j, wt (a j) + wt z) : ℝ) : EReal) * v j

/-- A real nonnegative factor distributes over a sum of weighted values, whatever the values are. -/
theorem sum_mul_coe (w : ι → ℝ) (hw : ∀ j, 0 ≤ w j) (v : ι → EReal) (t : ℝ) (ht : 0 ≤ t) :
    (∑ j, (w j : EReal) * v j) * (t : EReal) = ∑ j, ((w j * t : ℝ) : EReal) * v j := by
  classical
  have h : ∀ s : Finset ι, (∑ j ∈ s, (w j : EReal) * v j) * (t : EReal) = ∑ j ∈ s, ((w j * t : ℝ) : EReal) * v j := by
    intro s
    induction s using Finset.induction_on with
    | empty => simp
    | insert a s ha ih =>
      rw [Finset.sum_insert ha, Finset.sum_insert ha, ← ih,
        EReal.right_distrib_of_nonneg_of_ne_top (EReal.coe_nonneg.mpr ht) (EReal.coe_ne_top t)]
      congr 1
      rw [EReal.coe_mul, mul_assoc, mul_comm (v a), ← mul_assoc]
  exact h Finset.univ

/-- The kernel's form. -/
theorem kernel_eq {a : ι → EReal} (ha : ∀ j, IsRB (a j)) {z m : EReal} (hz : IsR z) (hm : IsR m) (v : ι → EReal) :
    (∑ j, Ideal.exp2 (a j * L2 - m) * v j)
      * Ideal.div 1 ((∑ j, Ideal.exp2 (a j * L2 - m)) + Ideal.exp2 (z * L2 - m)) = attn a z v := by
  obtain ⟨m, rfl⟩ := hm
  have hz' : 0 < wt z := by obtain ⟨r, rfl⟩ := hz; rw [wt_coe]; positivity
  simp only [exp2_eq (ha _) m, exp2_eq (.inr hz) m]
  have hc : 0 < Real.rpow 2 (-m) := Real.rpow_pos_of_pos (by norm_num) _
  set c := Real.rpow 2 (-m) with hcd
  have hs : 0 ≤ ∑ j, wt (a j) := Finset.sum_nonneg fun j _ => wt_nonneg (ha j)
  rw [← coe_sum', ← EReal.coe_add, ← Finset.sum_mul, ← add_mul]
  have hD : 0 < (∑ j, wt (a j) + wt z) * c := by positivity
  rw [Ideal.div_coe hD.ne', one_mul, sum_mul_coe _ (fun j => mul_nonneg (wt_nonneg (ha j)) hc.le) _ _ (by positivity)]
  refine Finset.sum_congr rfl fun j _ => ?_
  congr 2
  field_simp

/-- The reference's form. -/
theorem ref_eq {a : ι → EReal} (ha : ∀ j, IsRB (a j)) {z m : EReal} (hz : IsR z) (hm : IsR m) (v : ι → EReal) :
    ∑ j, Ideal.div (Ideal.exp (a j - m)) ((∑ j, Ideal.exp (a j - m)) + Ideal.exp (z - m)) * v j = attn a z v := by
  obtain ⟨m, rfl⟩ := hm
  have hz' : 0 < wt z := by obtain ⟨r, rfl⟩ := hz; rw [wt_coe]; positivity
  simp only [exp_eq (ha _) m, exp_eq (.inr hz) m]
  have hc : 0 < Real.exp (-m) := Real.exp_pos _
  set c := Real.exp (-m) with hcd
  have hs : 0 ≤ ∑ j, wt (a j) := Finset.sum_nonneg fun j _ => wt_nonneg (ha j)
  rw [← coe_sum', ← EReal.coe_add, ← Finset.sum_mul, ← add_mul]
  have hD : 0 < (∑ j, wt (a j) + wt z) * c := by positivity
  refine Finset.sum_congr rfl fun j _ => ?_
  rw [Ideal.div_coe hD.ne', ← EReal.coe_mul]
  congr 2
  field_simp

/-- A maximum of scores, one of them real, is real. -/
theorem isR_fold {κ : Type} (s : Finset κ) {a : κ → EReal} (ha : ∀ j, IsRB (a j)) (k : κ) (hk : k ∈ s) (h : IsR (a k)) :
    IsR (s.fold max ⊥ a) := by
  have h1 : s.fold max ⊥ a < ⊤ := by
    rw [Finset.fold_max_lt]
    refine ⟨bot_lt_top, fun j _ => ?_⟩
    rcases ha j with h | ⟨r, h⟩ <;> rw [h]
    · exact bot_lt_top
    · exact EReal.coe_lt_top r
  have h2 : ⊥ < s.fold max ⊥ a := by
    rw [Finset.lt_fold_max]
    obtain ⟨r, h⟩ := h
    exact .inr ⟨k, hk, h ▸ EReal.bot_lt_coe r⟩
  exact ⟨(s.fold max ⊥ a).toReal, (EReal.coe_toReal h1.ne h2.ne').symm⟩

theorem isR_max_fold {κ : Type} (s : Finset κ) {a : κ → EReal} (ha : ∀ j, IsRB (a j)) {z : EReal} (h : IsR z) :
    IsR (max (s.fold max ⊥ a) z) := by
  have h1 : s.fold max ⊥ a < ⊤ := by
    rw [Finset.fold_max_lt]
    refine ⟨bot_lt_top, fun j _ => ?_⟩
    rcases ha j with h | ⟨r, h⟩ <;> rw [h]
    · exact bot_lt_top
    · exact EReal.coe_lt_top r
  obtain ⟨r, rfl⟩ := h
  have h3 := max_lt h1 (EReal.coe_lt_top r)
  have h4 := lt_of_lt_of_le (EReal.bot_lt_coe r) (le_max_right (s.fold max ⊥ a) _)
  exact ⟨_, (EReal.coe_toReal h3.ne h4.ne').symm⟩

theorem isRB_mul {a : EReal} (h : IsRB a) : IsRB (a * L2) := by
  have hl : 0 < Real.log 2 := Real.log_pos (by norm_num)
  rcases h with rfl | ⟨r, rfl⟩
  · exact .inl (EReal.bot_mul_coe_of_pos (inv_pos.mpr hl))
  · exact .inr ⟨r * (Real.log 2)⁻¹, by rw [L2, EReal.coe_mul]⟩

end Cert.Proof.Attn
-- ==== Proof.CtxBlock.lean ====
/-
  The context attention's block values: what the body writes for a sequence's 256 tokens, head by head. A head's scores are
  the dot products of its 64 lanes, its numerators powers of two, and its value the numerators' mean of the values.
-/
module

public import proofs.«01_k».proof.Proof.Gen.Kernel2Ideal.Value
public import Idealize.ShloMosaic.Lib.Pointwise
public import proofs.«01_k».proof.Proof.AttnSpec

@[expose] public section

set_option maxRecDepth 16384

noncomputable section

namespace Cert.Proof.Ctx

open Cert.Kernel2Ideal Cert.Kernel2Ideal.Gen Idealize.ShloMosaic Cert.Proof.Ffn

/-- A lane of the lower half and its partner in the upper half. -/
def lo (d : Fin 64) : Fin 128 := ⟨d, by omega⟩
def hi (d : Fin 64) : Fin 128 := ⟨64 + d, by omega⟩

/-- The bit that says a lane lies in the lower half. -/
abbrev low (x : Fin 128) : BitVec 1 := IntOp.cmpi .slt (BitVec.ofNat 32 x) 64#32

theorem low_lo : ∀ d : Fin 64, low (lo d) = 1#1 := by decide +kernel
theorem low_hi : ∀ d : Fin 64, low (hi d) = 0#1 := by decide +kernel

theorem sel_lo {α : Type} (d : Fin 64) (a b : α) : Scalar.select (low (lo d)) a b = a := by
  rw [low_lo]; rfl
theorem sel_hi {α : Type} (d : Fin 64) (a b : α) : Scalar.select (low (hi d)) a b = b := by
  rw [low_hi]; rfl

/-- A sum over the 128 lanes is the sum over the halves. -/
theorem sum_lanes (f : Fin 128 → EReal) : ∑ x, f x = ∑ d, f (lo d) + ∑ d, f (hi d) :=
  Fin.sum_univ_add (M := EReal) (a := 64) (b := 64) f

/-- A sum that takes the lower half's lanes, or the upper half's. -/
theorem sum_low (f : Fin 128 → EReal) : ∑ x, Scalar.select (low x) (f x) 0 = ∑ d, f (lo d) := by
  rw [sum_lanes]; simp only [sel_lo, sel_hi, Finset.sum_const_zero, add_zero]
theorem sum_high (f : Fin 128 → EReal) : ∑ x, Scalar.select (low x) 0 (f x) = ∑ d, f (hi d) := by
  rw [sum_lanes]; simp only [sel_lo, sel_hi, Finset.sum_const_zero, zero_add]

/-- The scale of the scores and the base-two logarithm of e, as the program names them. -/
abbrev scl : EReal := (Named.named (F := Ideal) κ "scale" (φ := .f32) 0x3E38AA3B#32 : EReal)
abbrev lg : EReal := (Named.named (F := Ideal) κ "log2e" (φ := .f32) 0x3FB8AA3B#32 : EReal)

/-- Lane `d` of query head `h` and of that head's key head. -/
def ql (h : Fin 8) (d : Fin 64) : Fin 512 := ⟨64 * h + d, by omega⟩
def kl (h : Fin 8) (d : Fin 64) : Fin 128 := ⟨64 * (h / 4) + d, by omega⟩

/-- A head's scores in base two. -/
def sc (q : S256x512.Idx → EReal) (k : S256x128.Idx → EReal) (h : Fin 8) (r j : Fin 256) : EReal :=
  ∑ d, q (ix2 r (ql h d)) * scl * k (ix2 j (kl h d))

/-- A head's value from its scores, its sink and its values: numerators' sum over their denominator. -/
def mean (s : Fin 256 → EReal) (z : EReal) (v : Fin 256 → EReal) : EReal :=
  (∑ j, FloatOps.exp2 (F := Ideal) (φ := .f32) (s j - max (Finset.univ.fold max ⊥ s) (z * lg)) * v j)
    * Ideal.div 1 (∑ j, FloatOps.exp2 (F := Ideal) (φ := .f32) (s j - max (Finset.univ.fold max ⊥ s) (z * lg))
        + FloatOps.exp2 (F := Ideal) (φ := .f32) (z * lg - max (Finset.univ.fold max ⊥ s) (z * lg)))

variable (x1 : Vec Ideal S256x512 .f32) (x2 x3 : Vec Ideal S256x128 .f32) (r c : Fin 256)

/-- Two products of a query lane and a key lane agree where the lanes do. -/
theorem prod_eq {a a' : Fin 512} {b b' : Fin 128} (ha : a.val = a'.val) (hb : b.val = b'.val) :
    x1 (ix2 r a) * scl * x2 (ix2 c b) = x1 (ix2 r a') * scl * x2 (ix2 c b') := by
  rw [Fin.ext ha, Fin.ext hb]

theorem score0 : k0_pay9 x1 x2 (ix2 r c) = sc x1 x2 0 r c := by
  unfold k0_pay9 k0_pay3 k0_pay5 k0_pay8 k0_pay4
  pointwise [dot_S256x128_S256x128_S256x256_1_1_0_0_n_n]
  refine (sum_low _).trans (Finset.sum_congr rfl fun d _ => ?_)
  refine (congrArg _ (sel_lo d _ _)).trans (prod_eq x1 x2 r c ?_ ?_) <;> simp [lo, ql, kl]<;> omega

theorem score1 : k0_pay10 x1 x2 (ix2 r c) = sc x1 x2 1 r c := by
  unfold k0_pay10 k0_pay3 k0_pay5 k0_pay8 k0_pay4
  pointwise [dot_S256x128_S256x128_S256x256_1_1_0_0_n_n]
  refine (sum_high _).trans (Finset.sum_congr rfl fun d _ => ?_)
  refine (congrArg _ (sel_hi d _ _)).trans (prod_eq x1 x2 r c ?_ ?_) <;> simp [hi, ql, kl]<;> omega

theorem score2 : k0_pay11 x1 x2 (ix2 r c) = sc x1 x2 2 r c := by
  unfold k0_pay11 k0_pay3 k0_pay5 k0_pay8 k0_pay4
  pointwise [dot_S256x128_S256x128_S256x256_1_1_0_0_n_n]
  refine (sum_low _).trans (Finset.sum_congr rfl fun d _ => ?_)
  refine (congrArg _ (sel_lo d _ _)).trans (prod_eq x1 x2 r c ?_ ?_) <;> simp [lo, ql, kl]<;> omega

theorem score3 : k0_pay12 x1 x2 (ix2 r c) = sc x1 x2 3 r c := by
  unfold k0_pay12 k0_pay3 k0_pay5 k0_pay8 k0_pay4
  pointwise [dot_S256x128_S256x128_S256x256_1_1_0_0_n_n]
  refine (sum_high _).trans (Finset.sum_congr rfl fun d _ => ?_)
  refine (congrArg _ (sel_hi d _ _)).trans (prod_eq x1 x2 r c ?_ ?_) <;> simp [hi, ql, kl]<;> omega

theorem score4 : k0_pay14 (k0_pay6 x2) k0_pay8 (k0_pay13 x1) (ix2 r c) = sc x1 x2 4 r c := by
  unfold k0_pay14 k0_pay13 k0_pay3 k0_pay6 k0_pay8 k0_pay4
  pointwise [dot_S256x128_S256x128_S256x256_1_1_0_0_n_n]
  refine (sum_low _).trans (Finset.sum_congr rfl fun d _ => ?_)
  refine (congrArg _ (sel_lo d _ _)).trans (prod_eq x1 x2 r c ?_ ?_) <;> simp [lo, ql, kl]<;> omega

theorem score5 : k0_pay15 (k0_pay3 x1) (k0_pay6 x2) k0_pay8 (ix2 r c) = sc x1 x2 5 r c := by
  unfold k0_pay15 k0_pay3 k0_pay6 k0_pay8 k0_pay4
  pointwise [dot_S256x128_S256x128_S256x256_1_1_0_0_n_n]
  refine (sum_high _).trans (Finset.sum_congr rfl fun d _ => ?_)
  refine (congrArg _ (sel_hi d _ _)).trans (prod_eq x1 x2 r c ?_ ?_) <;> simp [hi, ql, kl]<;> omega

theorem score6 : k0_pay16 (k0_pay3 x1) (k0_pay6 x2) k0_pay8 (ix2 r c) = sc x1 x2 6 r c := by
  unfold k0_pay16 k0_pay3 k0_pay6 k0_pay8 k0_pay4
  pointwise [dot_S256x128_S256x128_S256x256_1_1_0_0_n_n]
  refine (sum_low _).trans (Finset.sum_congr rfl fun d _ => ?_)
  refine (congrArg _ (sel_lo d _ _)).trans (prod_eq x1 x2 r c ?_ ?_) <;> simp [lo, ql, kl]<;> omega

theorem score7 : k0_pay17 (k0_pay3 x1) (k0_pay6 x2) k0_pay8 (ix2 r c) = sc x1 x2 7 r c := by
  unfold k0_pay17 k0_pay3 k0_pay6 k0_pay8 k0_pay4
  pointwise [dot_S256x128_S256x128_S256x256_1_1_0_0_n_n]
  refine (sum_high _).trans (Finset.sum_congr rfl fun d _ => ?_)
  refine (congrArg _ (sel_hi d _ _)).trans (prod_eq x1 x2 r c ?_ ?_) <;> simp [hi, ql, kl]<;> omega

variable (s s0 s1 : FVec Ideal S256x256 .f32) (z z0 z1 : EReal) (p2 p3 : FVec Ideal S256x256 .bf16) (d : Fin 64)

/-- The other heads' denominators and numerators are the same functions of their scores and sink. -/
theorem inv1 : k0_pay27 s (k0_pay23 z) (k0_pay24 s z) (k0_pay25 s z) = k0_pay21 s z := rfl
theorem inv2 : k0_pay32 s z = k0_pay21 s z := rfl
theorem inv3 : k0_pay37 s z = k0_pay21 s z := rfl
theorem inv4 : k0_pay42 s z = k0_pay21 s z := rfl
theorem inv5 : k0_pay47 s z = k0_pay21 s z := rfl
theorem inv6 : k0_pay53 (k0_pay49 z) (k0_pay50 s z) (k0_pay52 s z) = k0_pay21 s z := rfl
theorem inv7 : k0_pay57 s z = k0_pay21 s z := rfl
theorem num1 : k0_pay28 s (k0_pay25 s z) = k0_pay22 s z := rfl
theorem num2 : k0_pay33 s z = k0_pay22 s z := rfl
theorem num3 : k0_pay38 s z = k0_pay22 s z := rfl
theorem num4 : k0_pay43 s z = k0_pay22 s z := rfl
theorem num5 : k0_pay48 s z = k0_pay22 s z := rfl
theorem num67 (v : FVec Ideal S256x128 .bf16) : k0_pay59 v s1 p2 p3 (k0_pay51 s0 z0) z1 = k0_pay58 v p2 p3 (k0_pay22 s0 z0) (k0_pay22 s1 z1) := rfl

theorem ninf : Ideal.ofBits .f32 0xFF800000#32 = (⊥ : EReal) := by
  simp [Ideal.ofBits, Ideal.ieee]

theorem inv_apply : k0_pay21 s z (ix2 r 0) = Ideal.div 1 (∑ j, FloatOps.exp2 (F := Ideal) (φ := .f32) (s (ix2 r j) - max (Finset.univ.fold max ⊥ fun j => s (ix2 r j)) (z * lg))
        + FloatOps.exp2 (F := Ideal) (φ := .f32) (z * lg - max (Finset.univ.fold max ⊥ fun j => s (ix2 r j)) (z * lg))) := by
  unfold k0_pay21 k0_pay20 k0_pay19 k0_pay18
  pointwise
  simp only [Ideal.ofBits_def, ninf]

theorem num_apply : k0_pay22 s z (ix2 r c) = FloatOps.exp2 (F := Ideal) (φ := .f32) (s (ix2 r c) - max (Finset.univ.fold max ⊥ fun j => s (ix2 r j)) (z * lg)) := by
  unfold k0_pay22 k0_pay20 k0_pay19 k0_pay18
  pointwise
  simp only [Ideal.ofBits_def, ninf]

/-- A weighted sum times an inverse is the mean, once both are read at the row. -/
theorem mean_eq (i : Fin 128) : (∑ j, k0_pay22 s z (ix2 r j) * x3 (ix2 j i)) * k0_pay21 s z (ix2 r 0) = mean (fun j => s (ix2 r j)) z (fun j => x3 (ix2 j i)) := by
  simp only [inv_apply, num_apply]; rfl

theorem rot_lo (h : ((lo d).val + 128 - 64) % 128 < 128) : (⟨((lo d).val + 128 - 64) % 128, h⟩ : Fin 128) = hi d :=
  Fin.ext (by simp only [lo, hi]; omega)
theorem rot_hi (h : ((hi d).val + 128 - 64) % 128 < 128) : (⟨((hi d).val + 128 - 64) % 128, h⟩ : Fin 128) = lo d :=
  Fin.ext (by simp only [lo, hi]; omega)

theorem tile0_lo : k0_pay60 (k0_pay7 x3) k0_pay8 (k0_pay21 s0 z0) (k0_pay22 s0 z0) (k0_pay21 s1 z1) (k0_pay22 s1 z1) p2 p3 (ix2 r (lo d))
    = mean (fun j => s0 (ix2 r j)) z0 (fun j => x3 (ix2 j (lo d))) := by
  unfold k0_pay60 k0_pay58 k0_pay8 k0_pay7
  pointwise [dot_S1024x256_S256x128_S1024x128_1_0_0_1_n_n]
  refine (sel_lo d _ _).trans ?_
  exact mean_eq x3 r s0 z0 _

theorem tile0_hi : k0_pay60 (k0_pay7 x3) k0_pay8 (k0_pay21 s0 z0) (k0_pay22 s0 z0) (k0_pay21 s1 z1) (k0_pay22 s1 z1) p2 p3 (ix2 r (hi d))
    = mean (fun j => s1 (ix2 r j)) z1 (fun j => x3 (ix2 j (lo d))) := by
  unfold k0_pay60 k0_pay58 k0_pay8 k0_pay7
  pointwise [dot_S1024x256_S256x128_S1024x128_1_0_0_1_n_n]
  refine (sel_hi d _ _).trans ?_
  simp only [rot_hi]; exact mean_eq x3 r s1 z1 _

theorem tile1_lo : k0_pay61 (k0_pay7 x3) k0_pay8 p2 p3 (k0_pay21 s0 z0) (k0_pay22 s0 z0) (k0_pay21 s1 z1) (k0_pay22 s1 z1) (ix2 r (lo d))
    = mean (fun j => s0 (ix2 r j)) z0 (fun j => x3 (ix2 j (lo d))) := by
  unfold k0_pay61 k0_pay58 k0_pay8 k0_pay7
  pointwise [dot_S1024x256_S256x128_S1024x128_1_0_0_1_n_n]
  have e1 : ¬ 512 + r.val < 256 := by omega
  have e2 : ¬ 512 + r.val - 256 < 256 := by omega
  have e3 : 512 + r.val - 256 - 256 = r.val := by omega
  simp only [dif_neg e1, dif_neg e2, e3, dif_pos r.isLt]
  refine (sel_lo d _ _).trans ?_
  exact mean_eq x3 r s0 z0 _

theorem tile1_hi : k0_pay61 (k0_pay7 x3) k0_pay8 p2 p3 (k0_pay21 s0 z0) (k0_pay22 s0 z0) (k0_pay21 s1 z1) (k0_pay22 s1 z1) (ix2 r (hi d))
    = mean (fun j => s1 (ix2 r j)) z1 (fun j => x3 (ix2 j (lo d))) := by
  unfold k0_pay61 k0_pay58 k0_pay8 k0_pay7
  pointwise [dot_S1024x256_S256x128_S1024x128_1_0_0_1_n_n]
  have e1 : ¬ 768 + r.val < 256 := by omega
  have e2 : ¬ 768 + r.val - 256 < 256 := by omega
  have e3 : ¬ 768 + r.val - 256 - 256 < 256 := by omega
  have e4 : 768 + r.val - 256 - 256 - 256 = r.val := by omega
  simp only [dif_neg e1, dif_neg e2, dif_neg e3, e4]
  refine (sel_hi d _ _).trans ?_
  simp only [rot_hi]; exact mean_eq x3 r s1 z1 _

theorem tile2_lo : k0_pay1 k0_pay8 (k0_pay21 s0 z0) (k0_pay21 s1 z1) (k0_pay58 (k0_pay7 x3) (k0_pay22 s0 z0) (k0_pay22 s1 z1) p2 p3) (ix2 r (lo d))
    = mean (fun j => s0 (ix2 r j)) z0 (fun j => x3 (ix2 j (hi d))) := by
  unfold k0_pay1 k0_pay58 k0_pay8 k0_pay7
  pointwise [dot_S1024x256_S256x128_S1024x128_1_0_0_1_n_n]
  refine (sel_lo d _ _).trans ?_
  simp only [rot_lo]; exact mean_eq x3 r s0 z0 _

theorem tile2_hi : k0_pay1 k0_pay8 (k0_pay21 s0 z0) (k0_pay21 s1 z1) (k0_pay58 (k0_pay7 x3) (k0_pay22 s0 z0) (k0_pay22 s1 z1) p2 p3) (ix2 r (hi d))
    = mean (fun j => s1 (ix2 r j)) z1 (fun j => x3 (ix2 j (hi d))) := by
  unfold k0_pay1 k0_pay58 k0_pay8 k0_pay7
  pointwise [dot_S1024x256_S256x128_S1024x128_1_0_0_1_n_n]
  refine (sel_hi d _ _).trans ?_
  exact mean_eq x3 r s1 z1 _

theorem tile3_lo : k0_pay2 k0_pay8 (k0_pay21 s0 z0) (k0_pay21 s1 z1) (k0_pay58 (k0_pay7 x3) p2 p3 (k0_pay22 s0 z0) (k0_pay22 s1 z1)) (ix2 r (lo d))
    = mean (fun j => s0 (ix2 r j)) z0 (fun j => x3 (ix2 j (hi d))) := by
  unfold k0_pay2 k0_pay58 k0_pay8 k0_pay7
  pointwise [dot_S1024x256_S256x128_S1024x128_1_0_0_1_n_n]
  have e1 : ¬ 512 + r.val < 256 := by omega
  have e2 : ¬ 512 + r.val - 256 < 256 := by omega
  have e3 : 512 + r.val - 256 - 256 = r.val := by omega
  simp only [dif_neg e1, dif_neg e2, e3, dif_pos r.isLt]
  refine (sel_lo d _ _).trans ?_
  simp only [rot_lo]; exact mean_eq x3 r s0 z0 _

theorem tile3_hi : k0_pay2 k0_pay8 (k0_pay21 s0 z0) (k0_pay21 s1 z1) (k0_pay58 (k0_pay7 x3) p2 p3 (k0_pay22 s0 z0) (k0_pay22 s1 z1)) (ix2 r (hi d))
    = mean (fun j => s1 (ix2 r j)) z1 (fun j => x3 (ix2 j (hi d))) := by
  unfold k0_pay2 k0_pay58 k0_pay8 k0_pay7
  pointwise [dot_S1024x256_S256x128_S1024x128_1_0_0_1_n_n]
  have e1 : ¬ 768 + r.val < 256 := by omega
  have e2 : ¬ 768 + r.val - 256 < 256 := by omega
  have e3 : ¬ 768 + r.val - 256 - 256 < 256 := by omega
  have e4 : 768 + r.val - 256 - 256 - 256 = r.val := by omega
  simp only [dif_neg e1, dif_neg e2, dif_neg e3, e4]
  refine (sel_hi d _ _).trans ?_
  exact mean_eq x3 r s1 z1 _

theorem zero2 : (![0, 0] : Fin 2 → Nat) = fun _ => 0 := funext fun a => by fin_cases a <;> rfl

/-- Of the four stores of 128 lanes each, the store of lanes 128 b … is read back at those lanes, -/
theorem tile_hit (b : Nat) (inb : ∀ a, (![0, 128 * b] : Fin 2 → Nat) a + (![256, 128] : Fin 2 → Nat) a ≤ S256x512.size a)
    (w : Vec Ideal S256x128 .f32) (L : List (View.Piece (Elt Ideal) S256x512 .f32)) (y : Fin 128) (i : Fin 512) (h : i.val = 128 * b + y.val) :
    View.canon ((⟨Rect.unit ![0, 128 * b] ![256, 128] inb, w⟩ : View.Piece (Elt Ideal) S256x512 .f32) :: L) (ix2 r i) = w (ix2 r y) := by
  have e : ix2 r i = (Rect.unit (s := S256x512) ![0, 128 * b] ![256, 128] inb).emb (ix2 r y) := by
    refine funext fun a => Fin.ext ?_
    match a with
    | ⟨0, _⟩ => show r.val = 0 + 1 * r.val; omega
    | ⟨1, _⟩ => show i.val = 128 * b + 1 * y.val; omega
  rw [e]; exact View.canon_cons_emb _ _ _ _

/-- and the other stores do not reach them. -/
theorem tile_miss (b : Nat) (inb : ∀ a, (![0, 128 * b] : Fin 2 → Nat) a + (![256, 128] : Fin 2 → Nat) a ≤ S256x512.size a)
    (w : Vec Ideal S256x128 .f32) (L : List (View.Piece (Elt Ideal) S256x512 .f32)) (i : Fin 512) (h : i.val < 128 * b) :
    View.canon ((⟨Rect.unit ![0, 128 * b] ![256, 128] inb, w⟩ : View.Piece (Elt Ideal) S256x512 .f32) :: L) (ix2 r i) = View.canon L (ix2 r i) := by
  refine View.canon_cons_of_not_mem _ L fun hm => ?_
  obtain ⟨k, hk, he⟩ := (LoadRect.mem_set _).mp hm (1 : Fin 2)
  have he' : i.val = 128 * b + 1 * k := he
  omega

/-- A head's sink is the scalar read of its place. -/
theorem sink_eq (x0 : Vec Ideal S8 .f32) (h : Nat) (hh : h < 8) (inb : ∀ a, (![h] : Fin 1 → Nat) a + (![1] : Fin 1 → Nat) a ≤ S8.size a)
    (hp : 0 < (Rect.unit (s := S8) ![h] ![1] inb).shape.numel) :
    View.ld x0 (Rect.unit (s := S8) ![h] ![1] inb) (Shape.Idx.first hp) = x0 (ix1 ⟨h, hh⟩) := by
  refine congrArg x0 (funext fun a => Fin.ext ?_)
  match a with
  | ⟨0, _⟩ =>
    show h + 1 * (Shape.Idx.first hp (0 : Fin 1)).val = h
    have : (Shape.Idx.first hp (0 : Fin 1)).val < 1 := (Shape.Idx.first hp (0 : Fin 1)).isLt
    omega

/-- The mean is the same at the same scores, sink and values. -/
theorem mean_congr {s s' : Fin 256 → EReal} {z z' : EReal} {a b : Fin 128} (hs : s = s') (hz : z = z') (hv : a.val = b.val) :
    mean s z (fun j => x3 (ix2 j a)) = mean s' z' (fun j => x3 (ix2 j b)) := by
  rw [hs, hz, Fin.ext hv]

variable (cd : Dev nD) (i : grid0.Coords) (arg1 : Memref sig .tc .smem S8 .f32) (harg1 : arg1.IsWhole) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x512 .f32) (harg5 : arg5.IsWhole)
    (x0 : Vec Ideal S8 .f32)

/-- The block the body leaves, at a token and a lane of a head: that head's mean of the values. -/
theorem out_apply (h : Fin 8) :
    out0_A_4 cd i arg1 harg1 arg2 harg2 arg3 harg3 arg4 harg4 arg5 harg5 x0 x1 x2 x3 (ix2 r (ql h d))
      = mean (sc x1 x2 h r) (x0 (ix1 h)) (fun j => x3 (ix2 j (kl h d))) := by
  unfold out0_A_4
  rw [View.read_writes_eq_canon _ _ _ (cover0_A_4 cd i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread,
    View.ld_unit_zero (S := S256x512) zero2, View.ld_unit_zero (S := S256x128) zero2, inv1, inv2, inv3, inv4, inv5, inv6, inv7,
    num1, num2, num3, num4, num5, num67]
  match h with
  | ⟨0, h0⟩ =>
    refine (tile_miss r 3 _ _ _ _ (by show 64 * 0 + d.val < _; omega)).trans ?_
    refine (tile_miss r 2 _ _ _ _ (by show 64 * 0 + d.val < _; omega)).trans ?_
    refine (tile_miss r 1 _ _ _ _ (by show 64 * 0 + d.val < _; omega)).trans ?_
    refine (tile_hit r 0 _ _ _ (lo d) _ (by simp [ql, lo])).trans ((tile0_lo ..).trans ?_)
    exact mean_congr _ (funext fun j => score0 x1 x2 r j) (sink_eq x0 0 h0 _ _) (by simp [lo, kl])
  | ⟨1, h1⟩ =>
    refine (tile_miss r 3 _ _ _ _ (by show 64 * 1 + d.val < _; omega)).trans ?_
    refine (tile_miss r 2 _ _ _ _ (by show 64 * 1 + d.val < _; omega)).trans ?_
    refine (tile_miss r 1 _ _ _ _ (by show 64 * 1 + d.val < _; omega)).trans ?_
    refine (tile_hit r 0 _ _ _ (hi d) _ (by simp [ql, hi]; try omega)).trans ((tile0_hi ..).trans ?_)
    exact mean_congr _ (funext fun j => score1 x1 x2 r j) (sink_eq x0 1 h1 _ _) (by simp [lo, kl])
  | ⟨2, h2⟩ =>
    refine (tile_miss r 3 _ _ _ _ (by show 64 * 2 + d.val < _; omega)).trans ?_
    refine (tile_miss r 2 _ _ _ _ (by show 64 * 2 + d.val < _; omega)).trans ?_
    refine (tile_hit r 1 _ _ _ (lo d) _ (by simp [ql, lo]; try omega)).trans ((tile1_lo ..).trans ?_)
    exact mean_congr _ (funext fun j => score2 x1 x2 r j) (sink_eq x0 2 h2 _ _) (by simp [lo, kl])
  | ⟨3, h3⟩ =>
    refine (tile_miss r 3 _ _ _ _ (by show 64 * 3 + d.val < _; omega)).trans ?_
    refine (tile_miss r 2 _ _ _ _ (by show 64 * 3 + d.val < _; omega)).trans ?_
    refine (tile_hit r 1 _ _ _ (hi d) _ (by simp [ql, hi]; try omega)).trans ((tile1_hi ..).trans ?_)
    exact mean_congr _ (funext fun j => score3 x1 x2 r j) (sink_eq x0 3 h3 _ _) (by simp [lo, kl])
  | ⟨4, h4⟩ =>
    refine (tile_miss r 3 _ _ _ _ (by show 64 * 4 + d.val < _; omega)).trans ?_
    refine (tile_hit r 2 _ _ _ (lo d) _ (by simp [ql, lo]; try omega)).trans ((tile2_lo ..).trans ?_)
    exact mean_congr _ (funext fun j => score4 x1 x2 r j) (sink_eq x0 4 h4 _ _) (by simp [hi, kl])
  | ⟨5, h5⟩ =>
    refine (tile_miss r 3 _ _ _ _ (by show 64 * 5 + d.val < _; omega)).trans ?_
    refine (tile_hit r 2 _ _ _ (hi d) _ (by simp [ql, hi]; try omega)).trans ((tile2_hi ..).trans ?_)
    exact mean_congr _ (funext fun j => score5 x1 x2 r j) (sink_eq x0 5 h5 _ _) (by simp [hi, kl])
  | ⟨6, h6⟩ =>
    refine (tile_hit r 3 _ _ _ (lo d) _ (by simp [ql, lo]; try omega)).trans ((tile3_lo ..).trans ?_)
    exact mean_congr _ (funext fun j => score6 x1 x2 r j) (sink_eq x0 6 h6 _ _) (by simp [hi, kl])
  | ⟨7, h7⟩ =>
    refine (tile_hit r 3 _ _ _ (hi d) _ (by simp [ql, hi]; try omega)).trans ((tile3_hi ..).trans ?_)
    exact mean_congr _ (funext fun j => score7 x1 x2 r j) (sink_eq x0 7 h7 _ _) (by simp [hi, kl])

end Cert.Proof.Ctx
-- ==== Proof.CtxRef.lean ====
/-
  The context attention's reference read at an index: a head's value for a token is the softmax mean of the head's values over the
  sequence's 256 keys and the sink.
-/
module

public import proofs.«01_k».proof.Proof.Gen.Reference2Ideal.Read
public import Idealize.ShloMosaic.Lib.Pointwise
public import proofs.«01_k».proof.Proof.AttnSpec

@[expose] public section

set_option maxRecDepth 16384

noncomputable section

namespace Cert.Proof.CtxRef

open Cert.Reference2Ideal Cert.Reference2Ideal.Gen Cert.Reference2Ideal.Read Idealize.ShloMosaic Cert.Proof.Ffn Cert.Proof.Attn

variable (x0 : (⟨S8, .f32⟩ : BufTy).Contents (Elt Ideal)) (x1 : (⟨S8192x512, .f32⟩ : BufTy).Contents (Elt Ideal))
  (x2 x3 : (⟨S8192x128, .f32⟩ : BufTy).Contents (Elt Ideal))
  (b : Fin 32) (g : Fin 2) (e : Fin 4) (i j : Fin 256) (d : Fin 64)

/-- A token's row in the flat arrays; a lane of a query head; a lane of a key head. -/
def row (b : Fin 32) (i : Fin 256) : Fin 8192 := ⟨256 * b + i, by omega⟩
def qlane (g : Fin 2) (e : Fin 4) (d : Fin 64) : Fin 512 := ⟨256 * g + 64 * e + d, by omega⟩
def klane (g : Fin 2) (d : Fin 64) : Fin 128 := ⟨64 * g + d, by omega⟩

theorem v0_at : val_main_v0 (F := Ideal) x1 (ix5 b i g e d) = x1 (ix2 (row b i) (qlane g e d)) := by
  rw [val_main_v0_apply]
  refine congrArg x1 (funext fun a => Fin.ext ?_)
  match a with
  | ⟨0, _⟩ => show ((((b.val * 256 + i.val) * 2 + g.val) * 4 + e.val) * 64 + d.val) / 512 = 256 * b.val + i.val; omega
  | ⟨1, _⟩ => show ((((b.val * 256 + i.val) * 2 + g.val) * 4 + e.val) * 64 + d.val) % 512 = 256 * g.val + 64 * e.val + d.val; omega

theorem v1_at : val_main_v1 (F := Ideal) x2 (ix4 b j g d) = x2 (ix2 (row b j) (klane g d)) := by
  rw [val_main_v1_apply]
  refine congrArg x2 (funext fun a => Fin.ext ?_)
  match a with
  | ⟨0, _⟩ => show (((b.val * 256 + j.val) * 2 + g.val) * 64 + d.val) / 128 = 256 * b.val + j.val; omega
  | ⟨1, _⟩ => show (((b.val * 256 + j.val) * 2 + g.val) * 64 + d.val) % 128 = 64 * g.val + d.val; omega

theorem v2_at : val_main_v2 (F := Ideal) x3 (ix4 b j g d) = x3 (ix2 (row b j) (klane g d)) := v1_at x3 b g j d

/-- A score. -/
def score : EReal := (∑ d, x2 (ix2 (row b j) (klane g d)) * x1 (ix2 (row b i) (qlane g e d))) * ((1 / 8 : ℝ) : EReal)

theorem v6_at : val_main_v6 (F := Ideal) x1 x2 (ix5 b g e i j) = score x1 x2 b g e i j := by
  simp only [val_main_v6_apply, val_main_v4_apply, val_main_v3_apply, val_main_v5_apply, val_main_cst_apply]
  have e1 : ∀ k, lidx_main_v3 (idx_main_v4 (ix5 b g e i j)) k = ix4 b j g k := fun k => funext fun a => by fin_cases a <;> rfl
  have e2 : ∀ k, ridx_main_v3 (idx_main_v4 (ix5 b g e i j)) k = ix5 b i g e k := fun k => funext fun a => by fin_cases a <;> rfl
  simp only [e1, e2, v0_at, v1_at]
  refine congrArg (_ * ·) ?_
  rw [Ideal.ofBits_def]
  simp [Ideal.ofBits, Ideal.ieee, -EReal.coe_mul]; norm_num

/-- The sink's place. -/
def hd (g : Fin 2) (e : Fin 4) : Fin 8 := ⟨4 * g + e, by omega⟩

theorem v8_at (z : Fin 1) : val_main_v8 (F := Ideal) x0 (ix5 b g e i z) = x0 (ix1 (hd g e)) := by
  rw [val_main_v8_apply, val_main_v7_apply]
  refine congrArg x0 (funext fun a => Fin.ext ?_)
  match a with
  | ⟨0, _⟩ => simp [idx_main_v7, idx_main_v8, hd]; try omega

theorem v9_any (x : Fin 257) : val_main_v9 (F := Ideal) x0 x1 x2 (ix5 b g e i x)
    = if h : x.val < 256 then val_main_v6 (F := Ideal) x1 x2 (ix5 b g e i ⟨x, h⟩) else val_main_v8 (F := Ideal) x0 (ix5 b g e i ⟨x - 256, by omega⟩) := by
  unfold val_main_v9
  pointwise

theorem v9_key : val_main_v9 (F := Ideal) x0 x1 x2 (ix5 b g e i j.castSucc) = score x1 x2 b g e i j := by
  rw [v9_any, dif_pos (show j.castSucc.val < 256 from j.isLt)]
  exact v6_at ..
theorem v9_sink : val_main_v9 (F := Ideal) x0 x1 x2 (ix5 b g e i (Fin.last 256)) = x0 (ix1 (hd g e)) := by
  rw [v9_any, dif_neg (by simp)]
  exact v8_at ..

/-- The largest of a token's scores and sink. -/
def top : EReal := val_main_v12 (F := Ideal) x0 x1 x2 (ix4 b g e i)

theorem score_isR (h1 : ∀ i, IsR (x1 i)) (h2 : ∀ i, IsR (x2 i)) : IsR (score x1 x2 b g e i j) :=
  (IsR.sum fun d => (h2 _).mul (h1 _)).mul ⟨_, rfl⟩

theorem top_isR (h0 : ∀ i, IsR (x0 i)) (h1 : ∀ i, IsR (x1 i)) (h2 : ∀ i, IsR (x2 i)) : IsR (top x0 x1 x2 b g e i) := by
  have hm : val_main_v10 (F := Ideal) x0 x1 x2 (ix4 b g e i) = Finset.univ.fold max ⊥ (fun x => val_main_v9 (F := Ideal) x0 x1 x2 (ix5 b g e i x)) := by
    unfold val_main_v10
    pointwise
    rw [val_main_cst_0_apply]
    simp [Ideal.ofBits_def, Ideal.ofBits, Ideal.ieee]
  have h9 : ∀ x, IsR (val_main_v9 (F := Ideal) x0 x1 x2 (ix5 b g e i x)) := fun x => by
    rw [v9_any]
    split
    · rw [v6_at]; exact score_isR x1 x2 b g e i _ h1 h2
    · rw [v8_at]; exact h0 _
  unfold top
  rw [val_main_v12_apply, hm, val_main_v11_apply, val_main_cst_1_apply]
  have hb : FloatOps.ofBits (F := Ideal) .f32 0xFF800000#32 = (⊥ : EReal) := by simp [Ideal.ofBits_def, Ideal.ofBits, Ideal.ieee]
  rw [hb]
  show IsR (max ⊥ _)
  rw [max_eq_right bot_le]
  exact isR_fold _ (fun x => .inr (h9 x)) 0 (Finset.mem_univ _) (h9 0)

/-- A numerator. -/
theorem v16_at (x : Fin 257) : val_main_v16 (F := Ideal) x0 x1 x2 (ix5 b g e i x)
    = Ideal.exp (val_main_v9 (F := Ideal) x0 x1 x2 (ix5 b g e i x) - top x0 x1 x2 b g e i) := by
  rw [val_main_v16_apply, val_main_v15_apply, val_main_v14_apply, val_main_v13_apply]
  have e1 : idx_main_v13 (idx_main_v14 (ix5 b g e i x)) = ix4 b g e i := funext fun a => by fin_cases a <;> rfl
  rw [e1]; rfl

/-- A weight. -/
theorem v21_at : val_main_v21 (F := Ideal) x0 x1 x2 (ix5 b g e i j)
    = Ideal.div (Ideal.exp (score x1 x2 b g e i j - top x0 x1 x2 b g e i))
      ((∑ j, Ideal.exp (score x1 x2 b g e i j - top x0 x1 x2 b g e i)) + Ideal.exp (x0 (ix1 (hd g e)) - top x0 x1 x2 b g e i)) := by
  rw [val_main_v21_apply, val_main_v20_apply, val_main_v19_apply, val_main_v18_apply, val_main_v17_apply, val_main_cst_2_apply]
  have e0 : idx_main_v21 (ix5 b g e i j) = ix5 b g e i j.castSucc := funext fun a => by fin_cases a <;> rfl
  have e1 : ∀ k, idx_main_v17 (idx_main_v18 (idx_main_v19 (ix5 b g e i j.castSucc))) k = ix5 b g e i k := fun k => funext fun a => by fin_cases a <;> rfl
  rw [e0]
  simp only [e1, v16_at, Ideal.ofBits_def, Ideal.ofBits_zero_f32, zero_add]
  rw [Fin.sum_univ_castSucc]
  simp only [v9_key, v9_sink]
  rfl

/-- The reference's result at a token and a lane: the softmax mean. -/
theorem v24_at (h0 : ∀ i, IsR (x0 i)) (h1 : ∀ i, IsR (x1 i)) (h2 : ∀ i, IsR (x2 i)) :
    val_main_v24 (F := Ideal) x0 x1 x2 x3 (ix2 (row b i) (qlane g e d))
      = attn (score x1 x2 b g e i) (x0 (ix1 (hd g e))) (fun j => x3 (ix2 (row b j) (klane g d))) := by
  rw [val_main_v24_apply, val_main_v23_apply, val_main_v22_apply]
  have e0 : idx_main_v24 (ix2 (row b i) (qlane g e d)) = ix5 b i g e d := by
    refine funext fun a => Fin.ext ?_
    match a with
    | ⟨0, _⟩ => show ((256 * b.val + i.val) * 512 + (256 * g.val + 64 * e.val + d.val)) / 131072 = b.val; omega
    | ⟨1, _⟩ => show ((256 * b.val + i.val) * 512 + (256 * g.val + 64 * e.val + d.val)) / 512 % 256 = i.val; omega
    | ⟨2, _⟩ => show ((256 * b.val + i.val) * 512 + (256 * g.val + 64 * e.val + d.val)) / 256 % 2 = g.val; omega
    | ⟨3, _⟩ => show ((256 * b.val + i.val) * 512 + (256 * g.val + 64 * e.val + d.val)) / 64 % 4 = e.val; omega
    | ⟨4, _⟩ => show ((256 * b.val + i.val) * 512 + (256 * g.val + 64 * e.val + d.val)) % 64 = d.val; omega
  have e1 : ∀ k, lidx_main_v22 (idx_main_v23 (ix5 b i g e d)) k = ix4 b k g d := fun k => funext fun a => by fin_cases a <;> rfl
  have e2 : ∀ k, ridx_main_v22 (idx_main_v23 (ix5 b i g e d)) k = ix5 b g e i k := fun k => funext fun a => by fin_cases a <;> rfl
  rw [e0]
  simp only [e1, e2, v2_at, v21_at]
  rw [← ref_eq (fun j => .inr (score_isR x1 x2 b g e i j h1 h2)) (h0 _) (top_isR x0 x1 x2 b g e i h0 h1 h2)]
  exact Finset.sum_congr rfl fun j _ => mul_comm _ _

end Cert.Proof.CtxRef
-- ==== Proof.CtxFinal.lean ====
/-
  The context attention's result array: at every token and lane of a head the softmax mean of the head's values, which is the
  reference's result.
-/
module

public import proofs.«01_k».proof.Defs
public import proofs.«01_k».proof.Proof.CtxBlock
public import proofs.«01_k».proof.Proof.CtxRef

@[expose] public section

set_option maxRecDepth 16384

noncomputable section

namespace Cert.Proof.Ctx

open Cert.Kernel2Ideal Cert.Kernel2Ideal.Gen Idealize.ShloMosaic Idealize.ShloMosaic.TcCoe Idealize.SL.Sem
open Cert.Proof.Ffn Cert.Proof.Attn
open Cert.Proof.CtxRef (row qlane klane score)

/-- The two named constants. -/
theorem scl_eq : scl = (((1 / 8) * (Real.log 2)⁻¹ : ℝ) : EReal) := rfl
theorem lg_eq : lg = L2 := rfl

/-- The kernel's mean, of scores in base two, is the softmax mean. -/
theorem mean_attn (a : Fin 256 → EReal) (ha : ∀ j, IsR (a j)) (z : EReal) (hz : IsR z) (v : Fin 256 → EReal) :
    mean (fun j => a j * L2) z v = attn a z v :=
  kernel_eq (fun j => .inr (ha j)) hz (isR_max_fold _ (fun j => .inr ((ha j).mul ⟨_, rfl⟩)) (hz.mul ⟨_, rfl⟩)) v

/-- A real score in base two is the reference's, changed of base. -/
theorem score_scaled (q k : Fin 64 → EReal) (hq : ∀ d, IsR (q d)) (hk : ∀ d, IsR (k d)) :
    ∑ d, q d * scl * k d = (∑ d, k d * q d) * ((1 / 8 : ℝ) : EReal) * L2 := by
  choose q' hq using hq
  choose k' hk using hk
  simp only [hq, hk, scl_eq, L2, ← EReal.coe_mul, ← coe_sum']
  refine congrArg _ ?_
  rw [Finset.sum_mul, Finset.sum_mul]
  exact Finset.sum_congr rfl fun d _ => by ring

variable (m : (ℓ : Loc nD τ sig) → Buf (Elt Ideal) ℓ) (c : Dev nD)

theorem idx0 : ∀ t : Fin cfg0.N, win0_0.index t = ![0] := (by decide +kernel : ∀ t : Fin grid0.N, win0_0.index t = ![0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem flush4 : ∀ t : Fin cfg0.N, (cfg0.win 4).flush t = true := (by decide +kernel : ∀ t : Fin grid0.N, win0_4.flush t = true)

/-- Grid point of a sequence. -/
def pt (b : Fin 32) : Fin cfg0.N := ⟨b, by have : cfg0.N = 32 := rfl; omega⟩

variable (b : Fin 32)

/-- The sinks' window is the whole array; the others' blocks are the sequence's rows. -/
theorem blk0 (t : Fin cfg0.N) : iblk m c 0 t = m ((c : Thread nD τ).loc main_arg0) := by
  have hz : (fun a => win0_0.index t a * main_arg0.ty.shape.size a) = fun _ => 0 := by
    rw [idx0 t]; funext a; fin_cases a; rfl
  exact (Memref.read_access_unit_zero (Elt Ideal) main_arg0 hz (fun a => by rw [congrFun hz a]; simp) _).trans (V_main_arg0 m c)

theorem blk1 (i : Fin 256) (d : Fin 512) : iblk m c 1 (pt b) (ix2 i d) = m ((c : Thread nD τ).loc main_arg1) (ix2 (row b i) d) := by
  unfold iblk
  rw [View.read_apply]
  show V m c main_arg1 _ = _
  rw [V_main_arg1]
  have hi := idx1 (pt b)
  refine congrArg _ (funext fun a => Fin.ext ?_)
  match a with
  | ⟨0, _⟩ => show win0_1.index (pt b) 0 * 256 + 1 * i.val = 256 * b.val + i.val
              rw [hi]; show b.val * 256 + 1 * i.val = _; omega
  | ⟨1, _⟩ => show win0_1.index (pt b) 1 * 512 + 1 * d.val = d.val
              rw [hi]; show 0 * 512 + 1 * d.val = _; omega

theorem blk2 (i : Fin 256) (d : Fin 128) : iblk m c 2 (pt b) (ix2 i d) = m ((c : Thread nD τ).loc main_arg2) (ix2 (row b i) d) := by
  unfold iblk
  rw [View.read_apply]
  show V m c main_arg2 _ = _
  rw [V_main_arg2]
  have hi := idx2 (pt b)
  refine congrArg _ (funext fun a => Fin.ext ?_)
  match a with
  | ⟨0, _⟩ => show win0_2.index (pt b) 0 * 256 + 1 * i.val = 256 * b.val + i.val
              rw [hi]; show b.val * 256 + 1 * i.val = _; omega
  | ⟨1, _⟩ => show win0_2.index (pt b) 1 * 128 + 1 * d.val = d.val
              rw [hi]; show 0 * 128 + 1 * d.val = _; omega

theorem blk3 (i : Fin 256) (d : Fin 128) : iblk m c 3 (pt b) (ix2 i d) = m ((c : Thread nD τ).loc main_arg3) (ix2 (row b i) d) := by
  unfold iblk
  rw [View.read_apply]
  show V m c main_arg3 _ = _
  rw [V_main_arg3]
  have hi := idx3 (pt b)
  refine congrArg _ (funext fun a => Fin.ext ?_)
  match a with
  | ⟨0, _⟩ => show win0_3.index (pt b) 0 * 256 + 1 * i.val = 256 * b.val + i.val
              rw [hi]; show b.val * 256 + 1 * i.val = _; omega
  | ⟨1, _⟩ => show win0_3.index (pt b) 1 * 128 + 1 * d.val = d.val
              rw [hi]; show 0 * 128 + 1 * d.val = _; omega

variable (g : Fin 2) (e : Fin 4) (i : Fin 256) (d : Fin 64)

theorem ql_eq (d : Fin 64) : ql (CtxRef.hd g e) d = qlane g e d := Fin.ext (by simp only [ql, qlane, CtxRef.hd]; omega)
theorem kl_eq (d : Fin 64) : kl (CtxRef.hd g e) d = klane g d := Fin.ext (by simp only [kl, klane, CtxRef.hd]; omega)

/-- The kernel's result array after the run, at a token and a lane. -/
theorem final_at (h0 : ∀ i, IsR (m ((c : Thread nD τ).loc main_arg0) i)) (h1 : ∀ i, IsR (m ((c : Thread nD τ).loc main_arg1) i))
    (h2 : ∀ i, IsR (m ((c : Thread nD τ).loc main_arg2) i)) :
    (dats m 0 c).arrAt 4 cfg0.N (ix2 (row b i) (qlane g e d))
      = attn (score (m ((c : Thread nD τ).loc main_arg1)) (m ((c : Thread nD τ).loc main_arg2)) b g e i)
          (m ((c : Thread nD τ).loc main_arg0) (ix1 (CtxRef.hd g e)))
          (fun j => m ((c : Thread nD τ).loc main_arg3) (ix2 (row b j) (klane g d))) := by
  have h := congrFun (Value.blocks4 m c (pt b) (flush4 _)) (ix2 i (qlane g e d))
  rw [Value.flushed4_A, View.read_apply] at h
  have hi := idx4 (pt b)
  have e0 : ((cfg0.win 4).blk (pt b)).view.emb (ix2 i (qlane g e d)) = ix2 (row b i) (qlane g e d) := by
    refine funext fun a => Fin.ext ?_
    match a with
    | ⟨0, _⟩ => show win0_4.index (pt b) 0 * 256 + 1 * i.val = 256 * b.val + i.val
                rw [hi]; show b.val * 256 + 1 * i.val = _; omega
    | ⟨1, _⟩ => show win0_4.index (pt b) 1 * 512 + 1 * (qlane g e d).val = (qlane g e d).val
                rw [hi]; show 0 * 512 + 1 * (qlane g e d).val = _; omega
  refine (congrArg ((dats m 0 c).arrAt 4 cfg0.N) e0).symm.trans (h.trans ?_)
  rw [← ql_eq]
  refine (out_apply _ _ _ i d c _ _ _ _ _ _ _ _ _ _ _ _ (CtxRef.hd g e)).trans ?_
  have hs : sc (iblk m c 1 (pt b)) (iblk m c 2 (pt b)) (CtxRef.hd g e) i
      = fun j => score (m ((c : Thread nD τ).loc main_arg1)) (m ((c : Thread nD τ).loc main_arg2)) b g e i j * L2 := by
    funext j
    unfold sc
    simp only [blk1, blk2, ql_eq, kl_eq]
    exact score_scaled _ _ (fun _ => h1 _) (fun _ => h2 _)
  rw [hs]
  simp only [blk0, blk3, kl_eq]
  exact mean_attn _ (fun j => CtxRef.score_isR _ _ b g e i j h1 h2) _ (h0 _) _

end Cert.Proof.Ctx
-- ==== Proof.CtxClaims.lean ====
/-
  The claims about the context attention: frames, the ideal pass, and the kernel's result equal to the reference's.
-/
module

public import proofs.«01_k».proof.Proof.CtxFinal
public import proofs.«01_k».proof.Proof.Gen.Kernel2.Frame
public import Idealize.ShloMosaic.Lib.Quiescent

@[expose] public section

set_option maxRecDepth 16384

noncomputable section

namespace Cert.Proof.Ctx

open Idealize.ShloMosaic Idealize.ShloMosaic.TcCoe Idealize.SL.Sem
open Cert.Proof.Ffn (IsR isR_of_abs_lt)
open Cert.Proof.CtxRef (row qlane)

/-- The precondition's stated facts. -/
theorem preFacts : Cert.Pre_finite2.Facts where
  bcast_S_S8 := by decide
  bcast_S_S8192x512 := by decide
  bcast_S_S8192x128 := by decide

instance : Cert.Pre_finite2.Facts := preFacts

/-- Every run of the kernel ends, without a fault, arguments kept, counters at zero. -/
theorem frame_k : Cert.quiescent_Kernel2 := fun m ρ _ => Cert.Kernel2.Gen.frame m ρ
theorem frame_ki : Cert.quiescent_Kernel2Ideal := fun m ρ _ => Cert.Kernel2Ideal.Gen.frame m ρ
theorem frame_kip : Cert.quiescent_Kernel2Ideal_pre_finite2 := fun m ρ _ => Cert.Kernel2Ideal.Gen.frame m ρ
/-- The reference's run: it declares no semaphore. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_rip : Cert.quiescent_Reference2Ideal_pre_finite2 := fun m ρ _ => frame_ri m ρ trivial

/-- What the ideal pass names: the scale of the scores and the base-two logarithm of e. -/
theorem preserves : Cert.preserves_Kernel2_Kernel2Ideal :=
  ⟨IdealRules.named_const.statement Cert.Kernel2Ideal.κ "scale" .f32 0x3E38AA3B#32 (((1 / 8) * (Real.log 2)⁻¹ : ℝ) : EReal) rfl,
    IdealRules.named_const.statement Cert.Kernel2Ideal.κ "log2e" .f32 0x3FB8AA3B#32 (((Real.log 2)⁻¹ : ℝ) : EReal) rfl⟩

/-- The precondition, entry by entry: sinks, queries and keys are real. -/
theorem pre_isR (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    (∀ i, IsR (m ((c : Thread Cert.Kernel2Ideal.nD Cert.Kernel2Ideal.τ).loc Cert.Kernel2Ideal.main_arg0) i))
    ∧ (∀ i, IsR (m ((c : Thread Cert.Kernel2Ideal.nD Cert.Kernel2Ideal.τ).loc Cert.Kernel2Ideal.main_arg1) i))
    ∧ (∀ i, IsR (m ((c : Thread Cert.Kernel2Ideal.nD Cert.Kernel2Ideal.τ).loc Cert.Kernel2Ideal.main_arg2) i)) :=
  ⟨fun i => isR_of_abs_lt _ (congrFun (h c).1 i), fun i => isR_of_abs_lt _ (congrFun (h c).2.1 i),
    fun i => isR_of_abs_lt _ (congrFun (h c).2.2 i)⟩

/-- The kernel's result array is the reference's function of the arguments. -/
theorem final (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    (Cert.Kernel2Ideal.Gen.dats m 0 c).arrAt 4 Cert.Kernel2Ideal.cfg0.N
      = Cert.Reference2Ideal.Read.val_main_v24
        (m ((c : Thread Cert.Kernel2Ideal.nD Cert.Kernel2Ideal.τ).loc Cert.Kernel2Ideal.main_arg0))
        (m ((c : Thread Cert.Kernel2Ideal.nD Cert.Kernel2Ideal.τ).loc Cert.Kernel2Ideal.main_arg1))
        (m ((c : Thread Cert.Kernel2Ideal.nD Cert.Kernel2Ideal.τ).loc Cert.Kernel2Ideal.main_arg2))
        (m ((c : Thread Cert.Kernel2Ideal.nD Cert.Kernel2Ideal.τ).loc Cert.Kernel2Ideal.main_arg3)) := by
  obtain ⟨h0, h1, h2⟩ := pre_isR m h c
  funext i
  have hr : (i 0 : Nat) < 8192 := (i 0).isLt
  have hl : (i 1 : Nat) < 512 := (i 1).isLt
  let b : Fin 32 := ⟨(i 0 : Nat) / 256, by omega⟩
  let r : Fin 256 := ⟨(i 0 : Nat) % 256, by omega⟩
  let g : Fin 2 := ⟨(i 1 : Nat) / 256, by omega⟩
  let e : Fin 4 := ⟨(i 1 : Nat) % 256 / 64, by omega⟩
  let d : Fin 64 := ⟨(i 1 : Nat) % 64, by omega⟩
  have ei : i = ix2 (row b r) (qlane g e d) := by
    funext a
    match a with
    | ⟨0, _⟩ => exact Fin.ext (by show (i 0 : Nat) = 256 * ((i 0 : Nat) / 256) + (i 0 : Nat) % 256; omega)
    | ⟨1, _⟩ => exact Fin.ext (by show (i 1 : Nat) = 256 * ((i 1 : Nat) / 256) + 64 * ((i 1 : Nat) % 256 / 64) + (i 1 : Nat) % 64; omega)
  rw [ei]
  exact (final_at m c b g e r d h0 h1 h2).trans (Cert.Proof.CtxRef.v24_at _ _ _ _ b g e r d h0 h1 h2).symm

/-- `Cert.algebraic_Kernel2Ideal_Reference2Ideal_pre_finite2`: equal results in the extended reals. -/
theorem algebraic : Cert.algebraic_Kernel2Ideal_Reference2Ideal_pre_finite2 := by
  intro m ρ m' ρ' hp hag
  refine ⟨fun c => (Cert.Kernel2Ideal.Gen.dats m 0 c).arrAt 4 Cert.Kernel2Ideal.cfg0.N,
    Cert.Kernel2Ideal.Value.run_blocks m ρ, ?_⟩
  refine (θ_run Cert.Reference2Ideal.defs _ _).mono (fun _ hr c => ⟨(hr c).1.trans ?_, (hr c).2⟩)
    (Cert.Reference2Ideal.Value.run (F := Ideal) m' ρ')
  rw [Cert.Reference2Ideal.Read.val_main_v24_eq]
  obtain ⟨e0, e1, e2, e3⟩ := hag c
  exact (by rw [e0, e1, e2, e3]; exact (final m hp c).symm)

end Cert.Proof.Ctx
-- ==== Proof.FfnBlock.lean ====
/-
  The block the second feed-forward kernel's body writes, at an index: payload by payload, then as a whole.
-/
module

public import proofs.«01_k».proof.Proof.Gen.Kernel3Ideal.Value
public import Idealize.ShloMosaic.Lib.Pointwise
public import proofs.«01_k».proof.Proof.FfnSpec

@[expose] public section

set_option maxRecDepth 16384

noncomputable section

namespace Cert.Proof.Ffn

open Cert.Kernel3Ideal Cert.Kernel3Ideal.Gen Idealize.ShloMosaic Idealize.ShloMosaic.TcCoe Idealize.SL.Sem

theorem zero2 : (![0, 0] : Fin 2 → Nat) = fun _ => 0 := funext fun a => by fin_cases a <;> rfl
theorem zero4 : (![0, 0, 0, 0] : Fin 4 → Nat) = fun _ => 0 := funext fun a => by fin_cases a <;> rfl

theorem pay1_apply (v0 : Vec Ideal S1024x1024 .f32) (v164 : FVec Ideal S1024x1024 .f32) (v174 : FVec Ideal S1024x256 .f32) (v176 : Vec Ideal S256x1024 .bf16) (v179 : Vec Ideal S1x1x1x1024 .f32) (v186 : Vec Ideal S1x1024 .f32) (r : Fin 1024) (c : Fin 1024) :
    k0_pay1 (F := Ideal) v0 v164 v174 v176 v179 v186 (ix2 r c)
      = normed (resid (fun d => v0 (ix2 r d)) (fun d => v179 (ix4 0 0 0 d))
      (fun d => v164 (ix2 r d) + ∑ x, v174 (ix2 r x) * v176 (ix2 x d))) (fun d => v186 (ix2 0 d)) c := by
  unfold k0_pay1
  pointwise [dot_S1024x1024_S1024x256_S1024x256_1_0_0_1_n_n, dot_S1024x256_S256x1024_S1024x1024_1_0_0_1_n_n]
  rfl

theorem pay2_apply (v0 : Vec Ideal S1024x1024 .f32) (v1 : Vec Ideal S1x1024 .f32) (v2 : Vec Ideal S1x1x1x1024 .f32) (v19 : Vec Ideal S1x1x1x1024 .f32) (r : Fin 1024) (c : Fin 1024) :
    k0_pay2 (F := Ideal) v0 v1 v2 v19 (ix2 r c)
      = hmod (fun d => v0 (ix2 r d)) (fun d => v1 (ix2 0 d)) (fun d => v2 (ix4 0 0 0 d)) (fun d => v19 (ix4 0 0 0 d)) c := by
  unfold k0_pay2
  pointwise [dot_S1024x1024_S1024x256_S1024x256_1_0_0_1_n_n, dot_S1024x256_S256x1024_S1024x1024_1_0_0_1_n_n]
  rfl

theorem pay4_apply (v0 : Vec Ideal S1024x1024 .f32) (v1 : Vec Ideal S1x1024 .f32) (v2 : Vec Ideal S1x1x1x1024 .f32) (v19 : Vec Ideal S1x1x1x1024 .f32) (v25 : Vec Ideal S1024x256 .bf16) (v27 : Vec Ideal S1024x256 .bf16) (r : Fin 1024) (c : Fin 256) :
    k0_pay4 (F := Ideal) v0 v1 v2 v19 v25 v27 (ix2 r c)
      = silT (dotw (fun d => k0_pay2 v0 v1 v2 v19 (ix2 r d)) v25 c) * dotw (fun d => k0_pay2 v0 v1 v2 v19 (ix2 r d)) v27 c := by
  unfold k0_pay4
  pointwise [dot_S1024x1024_S1024x256_S1024x256_1_0_0_1_n_n, dot_S1024x256_S256x1024_S1024x1024_1_0_0_1_n_n]
  rfl

theorem pay5_apply (v23 : FVec Ideal S1024x1024 .bf16) (v24 : FVec Ideal S1024x1024 .f32) (v34 : FVec Ideal S1024x256 .f32) (v36 : Vec Ideal S256x1024 .bf16) (v39 : Vec Ideal S1024x256 .bf16) (v41 : Vec Ideal S1024x256 .bf16) (v50 : Vec Ideal S256x1024 .bf16) (v53 : Vec Ideal S1024x256 .bf16) (v55 : Vec Ideal S1024x256 .bf16) (v64 : Vec Ideal S256x1024 .bf16) (r : Fin 1024) (c : Fin 1024) :
    k0_pay5 (F := Ideal) v23 v24 v34 v36 v39 v41 v50 v53 v55 v64 (ix2 r c)
      = v24 (ix2 r c) + ∑ x, v34 (ix2 r x) * v36 (ix2 x c) + chunk (dotw (fun d => v23 (ix2 r d)) v39) (dotw (fun d => v23 (ix2 r d)) v41) v50 c + chunk (dotw (fun d => v23 (ix2 r d)) v53) (dotw (fun d => v23 (ix2 r d)) v55) v64 c := by
  unfold k0_pay5
  pointwise [dot_S1024x1024_S1024x256_S1024x256_1_0_0_1_n_n, dot_S1024x256_S256x1024_S1024x1024_1_0_0_1_n_n]
  rfl

theorem pay6_apply (v23 : FVec Ideal S1024x1024 .bf16) (v67 : Vec Ideal S1024x256 .bf16) (r : Fin 1024) (c : Fin 256) :
    k0_pay6 (F := Ideal) v23 v67 (ix2 r c)
      = dotw (fun d => v23 (ix2 r d)) v67 c := by
  unfold k0_pay6
  pointwise [dot_S1024x1024_S1024x256_S1024x256_1_0_0_1_n_n, dot_S1024x256_S256x1024_S1024x1024_1_0_0_1_n_n]
  rfl

theorem pay7_apply (v23 : FVec Ideal S1024x1024 .bf16) (v66 : FVec Ideal S1024x1024 .f32) (v68 : FVec Ideal S1024x256 .f32) (v69 : Vec Ideal S1024x256 .bf16) (v78 : Vec Ideal S256x1024 .bf16) (v81 : Vec Ideal S1024x256 .bf16) (v83 : Vec Ideal S1024x256 .bf16) (v92 : Vec Ideal S256x1024 .bf16) (r : Fin 1024) (c : Fin 1024) :
    k0_pay7 (F := Ideal) v23 v66 v68 v69 v78 v81 v83 v92 (ix2 r c)
      = v66 (ix2 r c) + chunk (fun x => v68 (ix2 r x)) (dotw (fun d => v23 (ix2 r d)) v69) v78 c + chunk (dotw (fun d => v23 (ix2 r d)) v81) (dotw (fun d => v23 (ix2 r d)) v83) v92 c := by
  unfold k0_pay7
  pointwise [dot_S1024x1024_S1024x256_S1024x256_1_0_0_1_n_n, dot_S1024x256_S256x1024_S1024x1024_1_0_0_1_n_n]
  rfl

theorem pay8_apply (v23 : FVec Ideal S1024x1024 .bf16) (v95 : Vec Ideal S1024x256 .bf16) (v97 : Vec Ideal S1024x256 .bf16) (r : Fin 1024) (c : Fin 256) :
    k0_pay8 (F := Ideal) v23 v95 v97 (ix2 r c)
      = silT (dotw (fun d => v23 (ix2 r d)) v95 c) * dotw (fun d => v23 (ix2 r d)) v97 c := by
  unfold k0_pay8
  pointwise [dot_S1024x1024_S1024x256_S1024x256_1_0_0_1_n_n, dot_S1024x256_S256x1024_S1024x1024_1_0_0_1_n_n]
  rfl

theorem pay9_apply (v23 : FVec Ideal S1024x1024 .bf16) (v94 : FVec Ideal S1024x1024 .f32) (v104 : FVec Ideal S1024x256 .f32) (v106 : Vec Ideal S256x1024 .bf16) (v109 : Vec Ideal S1024x256 .bf16) (v111 : Vec Ideal S1024x256 .bf16) (v120 : Vec Ideal S256x1024 .bf16) (v123 : Vec Ideal S1024x256 .bf16) (v125 : Vec Ideal S1024x256 .bf16) (v134 : Vec Ideal S256x1024 .bf16) (r : Fin 1024) (c : Fin 1024) :
    k0_pay9 (F := Ideal) v23 v94 v104 v106 v109 v111 v120 v123 v125 v134 (ix2 r c)
      = v94 (ix2 r c) + ∑ x, v104 (ix2 r x) * v106 (ix2 x c) + chunk (dotw (fun d => v23 (ix2 r d)) v109) (dotw (fun d => v23 (ix2 r d)) v111) v120 c + chunk (dotw (fun d => v23 (ix2 r d)) v123) (dotw (fun d => v23 (ix2 r d)) v125) v134 c := by
  unfold k0_pay9
  pointwise [dot_S1024x1024_S1024x256_S1024x256_1_0_0_1_n_n, dot_S1024x256_S256x1024_S1024x1024_1_0_0_1_n_n]
  rfl

theorem pay10_apply (v23 : FVec Ideal S1024x1024 .bf16) (v137 : Vec Ideal S1024x256 .bf16) (r : Fin 1024) (c : Fin 256) :
    k0_pay10 (F := Ideal) v23 v137 (ix2 r c)
      = dotw (fun d => v23 (ix2 r d)) v137 c := by
  unfold k0_pay10
  pointwise [dot_S1024x1024_S1024x256_S1024x256_1_0_0_1_n_n, dot_S1024x256_S256x1024_S1024x1024_1_0_0_1_n_n]
  rfl

theorem pay11_apply (v23 : FVec Ideal S1024x1024 .bf16) (v136 : FVec Ideal S1024x1024 .f32) (v138 : FVec Ideal S1024x256 .f32) (v139 : Vec Ideal S1024x256 .bf16) (v148 : Vec Ideal S256x1024 .bf16) (v151 : Vec Ideal S1024x256 .bf16) (v153 : Vec Ideal S1024x256 .bf16) (v162 : Vec Ideal S256x1024 .bf16) (r : Fin 1024) (c : Fin 1024) :
    k0_pay11 (F := Ideal) v23 v136 v138 v139 v148 v151 v153 v162 (ix2 r c)
      = v136 (ix2 r c) + chunk (fun x => v138 (ix2 r x)) (dotw (fun d => v23 (ix2 r d)) v139) v148 c + chunk (dotw (fun d => v23 (ix2 r d)) v151) (dotw (fun d => v23 (ix2 r d)) v153) v162 c := by
  unfold k0_pay11
  pointwise [dot_S1024x1024_S1024x256_S1024x256_1_0_0_1_n_n, dot_S1024x256_S256x1024_S1024x1024_1_0_0_1_n_n]
  rfl

theorem pay12_apply (v23 : FVec Ideal S1024x1024 .bf16) (v165 : Vec Ideal S1024x256 .bf16) (v167 : Vec Ideal S1024x256 .bf16) (r : Fin 1024) (c : Fin 256) :
    k0_pay12 (F := Ideal) v23 v165 v167 (ix2 r c)
      = silT (dotw (fun d => v23 (ix2 r d)) v165 c) * dotw (fun d => v23 (ix2 r d)) v167 c := by
  unfold k0_pay12
  pointwise [dot_S1024x1024_S1024x256_S1024x256_1_0_0_1_n_n, dot_S1024x256_S256x1024_S1024x1024_1_0_0_1_n_n]
  rfl

/-- The accumulated products of the hidden activations with the second weights, as the body's last payloads leave them,
    are the row mathematics' sum over the hidden columns. -/
theorem acc_apply (x0 : Vec Ideal S1024x1024 .f32) (x1 x2 : Vec Ideal S1x1x1x1024 .f32) (x4 : Vec Ideal S1x1024 .f32)
    (x5 : Vec Ideal S1024x5632 .bf16) (x6 : Vec Ideal S2816x1024 .bf16) (x3 : Vec Ideal S1x1x1x1024 .f32) (x7 : Vec Ideal S1x1024 .f32)
    (r d : Fin 1024) :
    (k0_pay11 (k0_pay13 x0 x1 x2 x3 x4 x5 x6 x7) (k0_pay9 (k0_pay13 x0 x1 x2 x3 x4 x5 x6 x7) (k0_pay7 (k0_pay13 x0 x1 x2 x3 x4 x5 x6 x7) (k0_pay5
        (k0_pay13 x0 x1 x2 x3 x4 x5 x6 x7) (k0_pay3 (F := Ideal)) (k0_pay4 (View.ld x0 r0_0) (View.ld x4 r0_1) (View.ld x2 r0_2) (View.ld x1 r0_2) (View.ld x5
        r0_3) (View.ld x5 r0_4)) (View.ld x6 r0_5) (View.ld x5 r0_6) (View.ld x5 r0_7) (View.ld x6 r0_8) (View.ld x5 r0_9) (View.ld x5 r0_10) (View.ld x6
        r0_11)) (k0_pay6 (k0_pay13 x0 x1 x2 x3 x4 x5 x6 x7) (View.ld x5 r0_12)) (View.ld x5 r0_13) (View.ld x6 r0_14) (View.ld x5 r0_15) (View.ld x5 r0_16)
        (View.ld x6 r0_17)) (k0_pay8 (k0_pay13 x0 x1 x2 x3 x4 x5 x6 x7) (View.ld x5 r0_18) (View.ld x5 r0_19)) (View.ld x6 r0_20) (View.ld x5 r0_21) (View.ld
        x5 r0_22) (View.ld x6 r0_23) (View.ld x5 r0_24) (View.ld x5 r0_25) (View.ld x6 r0_26)) (k0_pay10 (k0_pay13 x0 x1 x2 x3 x4 x5 x6 x7) (View.ld x5
        r0_27)) (View.ld x5 r0_28) (View.ld x6 r0_29) (View.ld x5 r0_30) (View.ld x5 r0_31) (View.ld x6 r0_32)) (ix2 r d)
      + ∑ x, (k0_pay12 (k0_pay13 x0 x1 x2 x3 x4 x5 x6 x7) (View.ld x5 r0_33) (View.ld x5 r0_34)) (ix2 r x) * (View.ld x6 r0_35) (ix2 x d)
    = acc silT (hmod (fun d => x0 (ix2 r d)) (fun d => x4 (ix2 0 d)) (fun d => x2 (ix4 0 0 0 d)) (fun d => x1 (ix4 0 0 0 d))) x5 x6 d := by
  have e0 : View.ld x0 r0_0 = x0 := View.ld_unit_zero zero2 ..
  have e4 : View.ld x4 r0_1 = x4 := View.ld_unit_zero zero2 ..
  have e1 : View.ld x1 r0_2 = x1 := View.ld_unit_zero zero4 ..
  have e2 : View.ld x2 r0_2 = x2 := View.ld_unit_zero zero4 ..
  unfold k0_pay13
  rw [e0, e1, e2, e4]
  rw [acc, sum_chunks]
  simp only [pay11_apply, pay12_apply, pay10_apply, pay9_apply, pay8_apply, pay7_apply, pay6_apply, pay5_apply, pay4_apply, pay2_apply]
  unfold k0_pay3
  pointwise [chunk, dotw, ← Nat.add_assoc]

/-- The block the body writes, at an index: the layer's row mathematics of the blocks it read. -/
theorem out_apply (x0 : Vec Ideal S1024x1024 .f32) (x1 x2 x3 : Vec Ideal S1x1x1x1024 .f32) (x4 : Vec Ideal S1x1024 .f32)
    (x5 : Vec Ideal S1024x5632 .bf16) (x6 : Vec Ideal S2816x1024 .bf16) (x7 : Vec Ideal S1x1024 .f32) (r c : Fin 1024) :
    out0_8 x0 x1 x2 x3 x4 x5 x6 x7 (ix2 r c)
      = normed (resid (fun d => x0 (ix2 r d)) (fun d => x3 (ix4 0 0 0 d))
          (acc silT (hmod (fun d => x0 (ix2 r d)) (fun d => x4 (ix2 0 d)) (fun d => x2 (ix4 0 0 0 d)) (fun d => x1 (ix4 0 0 0 d))) x5 x6))
          (fun d => x7 (ix2 0 d)) c := by
  unfold out0_8
  rw [View.canon_unit_zero zero2, pay1_apply]
  have e0 : View.ld x0 r0_0 = x0 := View.ld_unit_zero zero2 ..
  have e7 : View.ld x7 r0_1 = x7 := View.ld_unit_zero zero2 ..
  have e3 : View.ld x3 r0_2 = x3 := View.ld_unit_zero zero4 ..
  simp only [acc_apply]
  rw [e0, e3, e7]

end Cert.Proof.Ffn
-- ==== Proof.FfnRef.lean ====
/-
  The reference feed-forward layer read at an index: row `r` of its result is the layer's row mathematics of row `r` of
  its argument, with the modulation of the row's batch.
-/
module

public import proofs.«01_k».proof.Proof.Gen.Reference3Ideal.Read
public import proofs.«01_k».proof.Proof.FfnSpec

@[expose] public section

set_option maxRecDepth 16384

noncomputable section

namespace Cert.Proof.FfnRef

open Cert.Reference3Ideal Cert.Reference3Ideal.Gen Cert.Reference3Ideal.Read Idealize.ShloMosaic Cert.Proof.Ffn

variable (x0 : (⟨S32768x1024, .f32⟩ : BufTy).Contents (Elt Ideal)) (x1 : (⟨S16x9x1x1024, .f32⟩ : BufTy).Contents (Elt Ideal))
  (x2 : (⟨S1x1024, .f32⟩ : BufTy).Contents (Elt Ideal)) (x3 : (⟨S1024x5632, .bf16⟩ : BufTy).Contents (Elt Ideal))
  (x4 : (⟨S2816x1024, .bf16⟩ : BufTy).Contents (Elt Ideal)) (x5 : (⟨S1x1024, .f32⟩ : BufTy).Contents (Elt Ideal))

/-- The row of a batch's token. -/
def rowOf (b : Fin 8) (t : Fin 4096) : Fin 32768 := ⟨b * 4096 + t, by omega⟩

/-- The modulation row of the sample's batch `b`. -/
def modOf (b : Fin 8) : Fin 16 := ⟨1 + b, by omega⟩

theorem v0_at (b : Fin 8) (t : Fin 4096) (d : Fin 1024) : val_main_v0 (F := Ideal) x0 (ix3 b t d) = x0 (ix2 (rowOf b t) d) := by
  rw [val_main_v0_apply]
  refine congrArg x0 (funext fun a => Fin.ext ?_)
  match a with
  | ⟨0, _⟩ => show ((b.val * 4096 + t.val) * 1024 + d.val) / 1024 = b.val * 4096 + t.val; omega
  | ⟨1, _⟩ => show ((b.val * 4096 + t.val) * 1024 + d.val) % 1024 = d.val; omega

theorem v2_at (b : Fin 8) (k : Fin 9) (d : Fin 1024) : val_main_v2 (F := Ideal) x1 (ix3 b k d) = x1 (ix4 (modOf b) k 0 d) := by
  rw [val_main_v2_apply, val_main_v1_apply]
  refine congrArg x1 (funext fun a => Fin.ext ?_)
  match a with
  | ⟨0, _⟩ => show 1 + ((b.val * 9 + k.val) * 1024 + d.val) / 9216 = 1 + b.val; omega
  | ⟨1, _⟩ => show ((b.val * 9 + k.val) * 1024 + d.val) / 1024 % 9 = k.val; omega
  | ⟨2, _⟩ => rfl
  | ⟨3, _⟩ => show ((b.val * 9 + k.val) * 1024 + d.val) % 1024 = d.val; omega

/-- The modulated, normalised row. -/
theorem v24_at (b : Fin 8) (t : Fin 4096) (d : Fin 1024) : val_main_v24 (F := Ideal) x0 x1 x2 (ix3 b t d)
    = hmod (fun d => x0 (ix2 (rowOf b t) d)) (fun d => x2 (ix2 0 d)) (fun d => x1 (ix4 (modOf b) 7 0 d)) (fun d => x1 (ix4 (modOf b) 6 0 d)) d := by
  simp only [val_main_v24_apply, val_main_v22_apply, val_main_v18_apply, val_main_v15_apply, val_main_v14_apply,
    val_main_v13_apply, val_main_v12_apply, val_main_v10_apply, val_main_v8_apply, val_main_v7_apply, val_main_v6_apply,
    val_main_cst_apply, val_main_v9_apply, val_main_cst_0_apply, val_main_v11_apply, val_main_cst_1_apply,
    val_main_v17_apply, val_main_v16_apply, val_main_v21_apply, val_main_v20_apply, val_main_v19_apply, val_main_cst_2_apply,
    val_main_v4_apply, val_main_v23_apply, val_main_v3_apply]
  have e1 : ∀ k, idx_main_v7 (idx_main_v8 (idx_main_v14 (ix3 b t d))) k = ix3 b t k := fun k => funext fun a => by fin_cases a <;> rfl
  have e2 : idx_main_v16 (idx_main_v17 (ix3 b t d)) = ix2 0 d := funext fun a => by fin_cases a <;> rfl
  have e3 : idx_main_v4 (idx_main_v21 (ix3 b t d)) = ix3 b 7 d := funext fun a => by fin_cases a <;> rfl
  have e4 : idx_main_v3 (idx_main_v23 (ix3 b t d)) = ix3 b 6 d := funext fun a => by fin_cases a <;> rfl
  simp only [e1, e2, e3, e4, v0_at, v2_at]
  simp only [hmod, rms, Ideal.ofBits_def, Ideal.ofBits_zero_f32, zero_add, Ideal.ofBits_one_f32, ← mul_assoc]
  rfl

/-- One hidden pre-activation. -/
theorem v26_at (b : Fin 8) (t : Fin 4096) (f : Fin 5632) : val_main_v26 (F := Ideal) x0 x1 x2 x3 (ix3 b t f)
    = dotw (hmod (fun d => x0 (ix2 (rowOf b t) d)) (fun d => x2 (ix2 0 d)) (fun d => x1 (ix4 (modOf b) 7 0 d)) (fun d => x1 (ix4 (modOf b) 6 0 d))) x3 f := by
  rw [val_main_v26_apply, dotw]
  refine Finset.sum_congr rfl fun k _ => ?_
  have e1 : lidx_main_v26 (ix3 b t f) k = ix3 b t k := funext fun a => by fin_cases a <;> rfl
  have e2 : ridx_main_v26 (ix3 b t f) k = ix2 k f := funext fun a => by fin_cases a <;> rfl
  rw [e1, e2, v24_at]
  rfl

/-- The feed-forward's output before the gate. -/
theorem v32_at (b : Fin 8) (t : Fin 4096) (d : Fin 1024) : val_main_v32 (F := Ideal) x0 x1 x2 x3 x4 (ix3 b t d)
    = acc silL (hmod (fun d => x0 (ix2 (rowOf b t) d)) (fun d => x2 (ix2 0 d)) (fun d => x1 (ix4 (modOf b) 7 0 d)) (fun d => x1 (ix4 (modOf b) 6 0 d))) x3 x4 d := by
  rw [val_main_v32_apply, acc]
  refine Finset.sum_congr rfl fun k _ => ?_
  have e1 : lidx_main_v32 (ix3 b t d) k = ix3 b t k := funext fun a => by fin_cases a <;> rfl
  have e2 : ridx_main_v32 (ix3 b t d) k = ix2 k d := funext fun a => by fin_cases a <;> rfl
  rw [e1, e2]
  simp only [val_main_v30_apply, val_main_v29_apply, val_main_call0_v5_apply, val_main_call0_v4_apply, val_main_call0_cst_0_apply,
    val_main_call0_v3_apply, val_main_call0_v2_apply, val_main_call0_cst_apply, val_main_call0_v1_apply, val_main_call0_v0_apply,
    val_main_v27_apply, val_main_v28_apply]
  have e3 : idx_main_v27 (ix3 b t k) = ix3 b t ⟨k, by omega⟩ := funext fun a => by fin_cases a <;> rfl
  have e4 : idx_main_v28 (ix3 b t k) = ix3 b t ⟨2816 + k, by omega⟩ := funext fun a => by fin_cases a <;> rfl
  rw [e3, e4, v26_at, v26_at]
  simp only [silL, Ideal.ofBits_def, Ideal.ofBits_one_f32]
  rfl

/-- The residual row. -/
theorem v37_at (b : Fin 8) (t : Fin 4096) (d : Fin 1024) : val_main_v37 (F := Ideal) x0 x1 x2 x3 x4 (ix3 b t d)
    = resid (fun d => x0 (ix2 (rowOf b t) d)) (fun d => x1 (ix4 (modOf b) 8 0 d))
        (acc silL (hmod (fun d => x0 (ix2 (rowOf b t) d)) (fun d => x2 (ix2 0 d)) (fun d => x1 (ix4 (modOf b) 7 0 d)) (fun d => x1 (ix4 (modOf b) 6 0 d))) x3 x4) d := by
  simp only [val_main_v37_apply, val_main_v36_apply, val_main_v35_apply, val_main_v34_apply, val_main_v33_apply, val_main_cst_3_apply, val_main_v5_apply]
  have e3 : idx_main_v5 (idx_main_v35 (ix3 b t d)) = ix3 b 8 d := funext fun a => by fin_cases a <;> rfl
  rw [e3, v32_at, v0_at, v2_at]
  rfl

/-- The reference's result at a token. -/
theorem v50_at (b : Fin 8) (t : Fin 4096) (d : Fin 1024) : val_main_v50 (F := Ideal) x0 x1 x2 x3 x4 x5 (ix3 b t d)
    = normed (resid (fun d => x0 (ix2 (rowOf b t) d)) (fun d => x1 (ix4 (modOf b) 8 0 d))
        (acc silL (hmod (fun d => x0 (ix2 (rowOf b t) d)) (fun d => x2 (ix2 0 d)) (fun d => x1 (ix4 (modOf b) 7 0 d)) (fun d => x1 (ix4 (modOf b) 6 0 d))) x3 x4))
        (fun d => x5 (ix2 0 d)) d := by
  simp only [val_main_v50_apply, val_main_v49_apply, val_main_v48_apply, val_main_v47_apply, val_main_v46_apply, val_main_v45_apply,
    val_main_v44_apply, val_main_v43_apply, val_main_cst_6_apply, val_main_v42_apply, val_main_v41_apply, val_main_cst_5_apply,
    val_main_v40_apply, val_main_v39_apply, val_main_cst_4_apply, val_main_v38_apply]
  have e1 : ∀ k, idx_main_v39 (idx_main_v40 (idx_main_v46 (ix3 b t d))) k = ix3 b t k := fun k => funext fun a => by fin_cases a <;> rfl
  have e2 : idx_main_v48 (idx_main_v49 (ix3 b t d)) = ix2 0 d := funext fun a => by fin_cases a <;> rfl
  simp only [e1, e2, v37_at]
  simp only [normed, rms, Ideal.ofBits_def, Ideal.ofBits_zero_f32, zero_add]
  rfl

/-- The reference's result, row by row. -/
theorem v51_at (b : Fin 8) (t : Fin 4096) (d : Fin 1024) : val_main_v51 (F := Ideal) x0 x1 x2 x3 x4 x5 (ix2 (rowOf b t) d)
    = normed (resid (fun d => x0 (ix2 (rowOf b t) d)) (fun d => x1 (ix4 (modOf b) 8 0 d))
        (acc silL (hmod (fun d => x0 (ix2 (rowOf b t) d)) (fun d => x2 (ix2 0 d)) (fun d => x1 (ix4 (modOf b) 7 0 d)) (fun d => x1 (ix4 (modOf b) 6 0 d))) x3 x4))
        (fun d => x5 (ix2 0 d)) d := by
  rw [val_main_v51_apply, ← v50_at]
  refine congrArg _ (funext fun a => Fin.ext ?_)
  match a with
  | ⟨0, _⟩ => show ((b.val * 4096 + t.val) * 1024 + d.val) / 4194304 = b.val; omega
  | ⟨1, _⟩ => show ((b.val * 4096 + t.val) * 1024 + d.val) / 1024 % 4096 = t.val; omega
  | ⟨2, _⟩ => show ((b.val * 4096 + t.val) * 1024 + d.val) % 1024 = d.val; omega

end Cert.Proof.FfnRef
-- ==== Proof.FfnFinal.lean ====
/-
  The feed-forward kernel's result array: row by row the layer's row mathematics, which under the precondition is the
  reference's result.
-/
module

public import proofs.«01_k».proof.Defs
public import proofs.«01_k».proof.Proof.FfnBlock
public import proofs.«01_k».proof.Proof.FfnRef

@[expose] public section

set_option maxRecDepth 16384

noncomputable section

namespace Cert.Proof.Ffn

open Cert.Kernel3Ideal Cert.Kernel3Ideal.Gen Idealize.ShloMosaic Idealize.ShloMosaic.TcCoe Idealize.SL.Sem
open Cert.Proof.FfnRef (rowOf modOf)

variable (m : (ℓ : Loc nD τ sig) → Buf (Elt Ideal) ℓ) (c : Dev nD)

/-- The token blocks' place. -/
theorem idx0 : ∀ t : Fin cfg0.N, win0_0.index t = ![t.val, 0] := (by decide +kernel : ∀ t : Fin grid0.N, win0_0.index t = ![t.val, 0])
theorem idx1 : ∀ t : Fin cfg0.N, win0_1.index t = ![1 + t.val / 4, 6, 0, 0] := (by decide +kernel : ∀ t : Fin grid0.N, win0_1.index t = ![1 + t.val / 4, 6, 0, 0])
theorem idx2 : ∀ t : Fin cfg0.N, win0_2.index t = ![1 + t.val / 4, 7, 0, 0] := (by decide +kernel : ∀ t : Fin grid0.N, win0_2.index t = ![1 + t.val / 4, 7, 0, 0])
theorem idx3 : ∀ t : Fin cfg0.N, win0_3.index t = ![1 + t.val / 4, 8, 0, 0] := (by decide +kernel : ∀ t : Fin grid0.N, win0_3.index t = ![1 + t.val / 4, 8, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])
theorem flush8 : ∀ t : Fin cfg0.N, (cfg0.win 8).flush t = true := (by decide +kernel : ∀ t : Fin grid0.N, win0_8.flush t = true)

/-- Grid point of a batch's token block. -/
def pt (b : Fin 8) (k : Fin 4) : Fin cfg0.N := ⟨4 * b + k, by have : cfg0.N = 32 := rfl; omega⟩

variable (b : Fin 8) (k : Fin 4)

theorem blk0 (r d : Fin 1024) : iblk m c 0 (pt b k) (ix2 r d)
    = m ((c : Thread nD τ).loc main_arg0) (ix2 (rowOf b ⟨1024 * k + r, by omega⟩) d) := by
  unfold iblk
  rw [View.read_apply]
  show V m c main_arg0 _ = _
  rw [V_main_arg0]
  have hi := idx0 (pt b k)
  refine congrArg _ (funext fun a => Fin.ext ?_)
  match a with
  | ⟨0, _⟩ => show win0_0.index (pt b k) 0 * 1024 + 1 * r.val = b.val * 4096 + (1024 * k.val + r.val)
              rw [hi]; show (4 * b.val + k.val) * 1024 + 1 * r.val = _; omega
  | ⟨1, _⟩ => show win0_0.index (pt b k) 1 * 1024 + 1 * d.val = d.val
              rw [hi]; show 0 * 1024 + 1 * d.val = _; omega

theorem blkMod1 (d : Fin 1024) : iblk m c 1 (pt b k) (ix4 0 0 0 d) = m ((c : Thread nD τ).loc main_arg1) (ix4 (modOf b) 6 0 d) := by
  unfold iblk
  rw [View.read_apply]
  show V m c main_arg1 _ = _
  rw [V_main_arg1]
  have hi := idx1 (pt b k)
  refine congrArg _ (funext fun a => Fin.ext ?_)
  match a with
  | ⟨0, _⟩ => show win0_1.index (pt b k) 0 * 1 + 1 * 0 = 1 + b.val
              rw [hi]; show (1 + (4 * b.val + k.val) / 4) * 1 + 1 * 0 = _; omega
  | ⟨1, _⟩ => show win0_1.index (pt b k) 1 * 1 + 1 * 0 = 6
              rw [hi]; rfl
  | ⟨2, _⟩ => show win0_1.index (pt b k) 2 * 1 + 1 * 0 = 0
              rw [hi]; rfl
  | ⟨3, _⟩ => show win0_1.index (pt b k) 3 * 1024 + 1 * d.val = d.val
              rw [hi]; show 0 * 1024 + 1 * d.val = _; omega

theorem blkMod2 (d : Fin 1024) : iblk m c 2 (pt b k) (ix4 0 0 0 d) = m ((c : Thread nD τ).loc main_arg1) (ix4 (modOf b) 7 0 d) := by
  unfold iblk
  rw [View.read_apply]
  show V m c main_arg1 _ = _
  rw [V_main_arg1]
  have hi := idx2 (pt b k)
  refine congrArg _ (funext fun a => Fin.ext ?_)
  match a with
  | ⟨0, _⟩ => show win0_2.index (pt b k) 0 * 1 + 1 * 0 = 1 + b.val
              rw [hi]; show (1 + (4 * b.val + k.val) / 4) * 1 + 1 * 0 = _; omega
  | ⟨1, _⟩ => show win0_2.index (pt b k) 1 * 1 + 1 * 0 = 7
              rw [hi]; rfl
  | ⟨2, _⟩ => show win0_2.index (pt b k) 2 * 1 + 1 * 0 = 0
              rw [hi]; rfl
  | ⟨3, _⟩ => show win0_2.index (pt b k) 3 * 1024 + 1 * d.val = d.val
              rw [hi]; show 0 * 1024 + 1 * d.val = _; omega

theorem blkMod3 (d : Fin 1024) : iblk m c 3 (pt b k) (ix4 0 0 0 d) = m ((c : Thread nD τ).loc main_arg1) (ix4 (modOf b) 8 0 d) := by
  unfold iblk
  rw [View.read_apply]
  show V m c main_arg1 _ = _
  rw [V_main_arg1]
  have hi := idx3 (pt b k)
  refine congrArg _ (funext fun a => Fin.ext ?_)
  match a with
  | ⟨0, _⟩ => show win0_3.index (pt b k) 0 * 1 + 1 * 0 = 1 + b.val
              rw [hi]; show (1 + (4 * b.val + k.val) / 4) * 1 + 1 * 0 = _; omega
  | ⟨1, _⟩ => show win0_3.index (pt b k) 1 * 1 + 1 * 0 = 8
              rw [hi]; rfl
  | ⟨2, _⟩ => show win0_3.index (pt b k) 2 * 1 + 1 * 0 = 0
              rw [hi]; rfl
  | ⟨3, _⟩ => show win0_3.index (pt b k) 3 * 1024 + 1 * d.val = d.val
              rw [hi]; show 0 * 1024 + 1 * d.val = _; omega

/-- The whole-array windows' blocks are the arrays. -/
theorem blk4 (t : Fin cfg0.N) : iblk m c 4 t = m ((c : Thread nD τ).loc main_arg2) := by
  have hz : (fun a => win0_4.index t a * main_arg2.ty.shape.size a) = fun _ => 0 := by
    rw [idx4 t]; funext a; fin_cases a <;> rfl
  exact (Memref.read_access_unit_zero (Elt Ideal) main_arg2 hz (fun a => by rw [congrFun hz a]; simp) _).trans (V_main_arg2 m c)
theorem blk5 (t : Fin cfg0.N) : iblk m c 5 t = m ((c : Thread nD τ).loc main_arg3) := by
  have hz : (fun a => win0_5.index t a * main_arg3.ty.shape.size a) = fun _ => 0 := by
    rw [idx5 t]; funext a; fin_cases a <;> rfl
  exact (Memref.read_access_unit_zero (Elt Ideal) main_arg3 hz (fun a => by rw [congrFun hz a]; simp) _).trans (V_main_arg3 m c)
theorem blk6 (t : Fin cfg0.N) : iblk m c 6 t = m ((c : Thread nD τ).loc main_arg4) := by
  have hz : (fun a => win0_6.index t a * main_arg4.ty.shape.size a) = fun _ => 0 := by
    rw [idx6 t]; funext a; fin_cases a <;> rfl
  exact (Memref.read_access_unit_zero (Elt Ideal) main_arg4 hz (fun a => by rw [congrFun hz a]; simp) _).trans (V_main_arg4 m c)
theorem blk7 (t : Fin cfg0.N) : iblk m c 7 t = m ((c : Thread nD τ).loc main_arg5) := by
  have hz : (fun a => win0_7.index t a * main_arg5.ty.shape.size a) = fun _ => 0 := by
    rw [idx7 t]; funext a; fin_cases a <;> rfl
  exact (Memref.read_access_unit_zero (Elt Ideal) main_arg5 hz (fun a => by rw [congrFun hz a]; simp) _).trans (V_main_arg5 m c)

/-- The kernel's result array after the run, at a token: the row mathematics of the token's row. -/
theorem final_at (r d : Fin 1024) :
    (dats m 0 c).arrAt 8 cfg0.N (ix2 (rowOf b ⟨1024 * k + r, by omega⟩) d)
      = normed (resid (fun d => m ((c : Thread nD τ).loc main_arg0) (ix2 (rowOf b ⟨1024 * k + r, by omega⟩) d))
          (fun d => m ((c : Thread nD τ).loc main_arg1) (ix4 (modOf b) 8 0 d))
          (acc silT (hmod (fun d => m ((c : Thread nD τ).loc main_arg0) (ix2 (rowOf b ⟨1024 * k + r, by omega⟩) d))
            (fun d => m ((c : Thread nD τ).loc main_arg2) (ix2 0 d)) (fun d => m ((c : Thread nD τ).loc main_arg1) (ix4 (modOf b) 7 0 d))
            (fun d => m ((c : Thread nD τ).loc main_arg1) (ix4 (modOf b) 6 0 d)))
            (m ((c : Thread nD τ).loc main_arg3)) (m ((c : Thread nD τ).loc main_arg4))))
          (fun d => m ((c : Thread nD τ).loc main_arg5) (ix2 0 d)) d := by
  have h := congrFun (Value.blocks8 m c (pt b k) (flush8 _)) (ix2 r d)
  rw [Value.flushed8, View.read_apply] at h
  have hi := idx8 (pt b k)
  have e : ((cfg0.win 8).blk (pt b k)).view.emb (ix2 r d) = ix2 (rowOf b ⟨1024 * k + r, by omega⟩) d := by
    refine funext fun a => Fin.ext ?_
    match a with
    | ⟨0, _⟩ => show win0_8.index (pt b k) 0 * 1024 + 1 * r.val = b.val * 4096 + (1024 * k.val + r.val)
                rw [hi]; show (4 * b.val + k.val) * 1024 + 1 * r.val = _; omega
    | ⟨1, _⟩ => show win0_8.index (pt b k) 1 * 1024 + 1 * d.val = d.val
                rw [hi]; show 0 * 1024 + 1 * d.val = _; omega
  refine (congrArg ((dats m 0 c).arrAt 8 cfg0.N) e).symm.trans (h.trans ?_)
  refine (out_apply _ _ _ _ _ _ _ _ r d).trans ?_
  simp only [blk0, blkMod1, blkMod2, blkMod3, blk4, blk5, blk6, blk7]

end Cert.Proof.Ffn
-- ==== Proof.FfnClaims.lean ====
/-
  The claims about the feed-forward call: frames, the ideal pass, and the kernel's result equal to the reference's.
-/
module

public import proofs.«01_k».proof.Proof.FfnFinal
public import proofs.«01_k».proof.Proof.Gen.Kernel3.Frame
public import Idealize.ShloMosaic.Lib.Quiescent

@[expose] public section

set_option maxRecDepth 16384

noncomputable section

namespace Cert.Proof.Ffn

open Idealize.ShloMosaic Idealize.ShloMosaic.TcCoe Idealize.SL.Sem
open Cert.Proof.FfnRef (rowOf modOf)

/-- The precondition's stated facts. -/
theorem preFacts : Cert.Pre_finite3.Facts where
  bcast_S_S16x9x1x1024 := by decide
  bcast_S_S1x1024 := by decide
  bitsLt_bf16_f32 := by decide
  bcast_S_S1024x5632 := by decide

instance : Cert.Pre_finite3.Facts := preFacts

/-- Every run of the kernel ends, without a fault, arguments kept, counters at zero. -/
theorem frame_k : Cert.quiescent_Kernel3 := fun m ρ _ => Cert.Kernel3.Gen.frame m ρ
theorem frame_ki : Cert.quiescent_Kernel3Ideal := fun m ρ _ => Cert.Kernel3Ideal.Gen.frame m ρ
theorem frame_kip : Cert.quiescent_Kernel3Ideal_pre_finite3 := fun m ρ _ => Cert.Kernel3Ideal.Gen.frame m ρ
/-- The reference's run: it declares no semaphore. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem frame_rip : Cert.quiescent_Reference3Ideal_pre_finite3 := fun m ρ _ => frame_ri m ρ trivial

/-- The ideal pass rewrote nothing. -/
theorem preserves : Cert.preserves_Kernel3_Kernel3Ideal := trivial

/-- The precondition, entry by entry: modulation, norm weight and first projection are real. -/
theorem pre_isR (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) :
    (∀ i, IsR (m ((c : Thread Cert.Kernel3Ideal.nD Cert.Kernel3Ideal.τ).loc Cert.Kernel3Ideal.main_arg1) i))
    ∧ (∀ i, IsR (m ((c : Thread Cert.Kernel3Ideal.nD Cert.Kernel3Ideal.τ).loc Cert.Kernel3Ideal.main_arg2) i))
    ∧ (∀ i, IsR (m ((c : Thread Cert.Kernel3Ideal.nD Cert.Kernel3Ideal.τ).loc Cert.Kernel3Ideal.main_arg3) i)) :=
  ⟨fun i => isR_of_abs_lt _ (congrFun (h c).1 i), fun i => isR_of_abs_lt _ (congrFun (h c).2.1 i),
    fun i => isR_of_abs_lt _ (congrFun (h c).2.2 i)⟩

/-- The kernel's result array is the reference's function of the arguments. -/
theorem final (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) :
    (Cert.Kernel3Ideal.Gen.dats m 0 c).arrAt 8 Cert.Kernel3Ideal.cfg0.N
      = Cert.Reference3Ideal.Read.val_main_v51
        (m ((c : Thread Cert.Kernel3Ideal.nD Cert.Kernel3Ideal.τ).loc Cert.Kernel3Ideal.main_arg0))
        (m ((c : Thread Cert.Kernel3Ideal.nD Cert.Kernel3Ideal.τ).loc Cert.Kernel3Ideal.main_arg1))
        (m ((c : Thread Cert.Kernel3Ideal.nD Cert.Kernel3Ideal.τ).loc Cert.Kernel3Ideal.main_arg2))
        (m ((c : Thread Cert.Kernel3Ideal.nD Cert.Kernel3Ideal.τ).loc Cert.Kernel3Ideal.main_arg3))
        (m ((c : Thread Cert.Kernel3Ideal.nD Cert.Kernel3Ideal.τ).loc Cert.Kernel3Ideal.main_arg4))
        (m ((c : Thread Cert.Kernel3Ideal.nD Cert.Kernel3Ideal.τ).loc Cert.Kernel3Ideal.main_arg5)) := by
  obtain ⟨hm, hn, hw⟩ := pre_isR m h c
  funext i
  have h0 : (i 0 : Nat) < 32768 := (i 0).isLt
  let b : Fin 8 := ⟨(i 0 : Nat) / 4096, by omega⟩
  let k : Fin 4 := ⟨(i 0 : Nat) % 4096 / 1024, by omega⟩
  let r : Fin 1024 := ⟨(i 0 : Nat) % 1024, by omega⟩
  let d : Fin 1024 := i 1
  have ei : i = ix2 (rowOf b ⟨1024 * k + r, by omega⟩) d := by
    funext a
    match a with
    | ⟨0, _⟩ => exact Fin.ext (by show (i 0 : Nat) = (i 0 : Nat) / 4096 * 4096 + (1024 * ((i 0 : Nat) % 4096 / 1024) + (i 0 : Nat) % 1024); omega)
    | ⟨1, _⟩ => rfl
  rw [ei]
  refine (final_at m c b k r d).trans (Eq.trans ?_ (Cert.Proof.FfnRef.v51_at _ _ _ _ _ _ b _ d).symm)
  exact congrArg (fun a => normed (resid _ _ a) _ d)
    (acc_eq _ _ _ (fun d => hmod_isR _ _ _ _ (fun _ => hn _) (fun _ => hm _) (fun _ => hm _) d) hw)

/-- `Cert.algebraic_Kernel3Ideal_Reference3Ideal_pre_finite3`: equal results in the extended reals. -/
theorem algebraic : Cert.algebraic_Kernel3Ideal_Reference3Ideal_pre_finite3 := by
  intro m ρ m' ρ' hp hag
  refine ⟨fun c => (Cert.Kernel3Ideal.Gen.dats m 0 c).arrAt 8 Cert.Kernel3Ideal.cfg0.N,
    Cert.Kernel3Ideal.Value.run_blocks m ρ, ?_⟩
  refine (θ_run Cert.Reference3Ideal.defs _ _).mono (fun _ hr c => ⟨(hr c).1.trans ?_, (hr c).2⟩)
    (Cert.Reference3Ideal.Value.run (F := Ideal) m' ρ')
  rw [Cert.Reference3Ideal.Read.val_main_v51_eq]
  obtain ⟨e0, e1, e2, e3, e4, e5⟩ := hag c
  exact (by rw [e0, e1, e2, e3, e4, e5]; exact (final m hp c).symm)

end Cert.Proof.Ffn
-- ==== Proof.Ffn1Block.lean ====
/-
  The block the first feed-forward kernel's body writes, at an index. Its payloads are those of the second feed-forward
  kernel's, up to the last, which adds the residual without the final norm.
-/
module

public import proofs.«01_k».proof.Proof.Gen.Kernel4Ideal.Value
public import proofs.«01_k».proof.Proof.FfnBlock

@[expose] public section

set_option maxRecDepth 16384

noncomputable section

namespace Cert.Proof.Ffn1

open Cert.Kernel4Ideal Cert.Kernel4Ideal.Gen Idealize.ShloMosaic Cert.Proof.Ffn

theorem pay1_apply (v0 : Vec Ideal S1024x1024 .f32) (v164 : FVec Ideal S1024x1024 .f32) (v174 : FVec Ideal S1024x256 .f32)
    (v176 : Vec Ideal S256x1024 .bf16) (v179 : Vec Ideal S1x1x1x1024 .f32) (r : Fin 1024) (c : Fin 1024) :
    k0_pay1 (F := Ideal) v0 v164 v174 v176 v179 (ix2 r c)
      = resid (fun d => v0 (ix2 r d)) (fun d => v179 (ix4 0 0 0 d))
      (fun d => v164 (ix2 r d) + ∑ x, v174 (ix2 r x) * v176 (ix2 x d)) c := by
  unfold k0_pay1
  pointwise [dot_S1024x1024_S1024x256_S1024x256_1_0_0_1_n_n, dot_S1024x256_S256x1024_S1024x1024_1_0_0_1_n_n]
  rfl

/-- The block the body writes, at an index: the sublayer's row mathematics of the blocks it read. -/
theorem out_apply (x0 : Vec Ideal S1024x1024 .f32) (x1 x2 x3 : Vec Ideal S1x1x1x1024 .f32) (x4 : Vec Ideal S1x1024 .f32)
    (x5 : Vec Ideal S1024x5632 .bf16) (x6 : Vec Ideal S2816x1024 .bf16) (x7 : Vec Ideal S1x1024 .f32) (r c : Fin 1024) :
    out0_8 x0 x1 x2 x3 x4 x5 x6 x7 (ix2 r c)
      = resid (fun d => x0 (ix2 r d)) (fun d => x3 (ix4 0 0 0 d))
          (acc silT (hmod (fun d => x0 (ix2 r d)) (fun d => x4 (ix2 0 d)) (fun d => x2 (ix4 0 0 0 d)) (fun d => x1 (ix4 0 0 0 d))) x5 x6) c := by
  unfold out0_8
  rw [View.canon_unit_zero zero2, pay1_apply]
  have e0 : View.ld x0 r0_0 = x0 := View.ld_unit_zero zero2 ..
  have e3 : View.ld x3 r0_2 = x3 := View.ld_unit_zero zero4 ..
  rw [e3]
  refine (congrArg (fun a => resid _ _ a c) (funext fun d => acc_apply x0 x1 x2 x4 x5 x6 x3 x7 r d)).trans ?_
  rw [e0]

end Cert.Proof.Ffn1
-- ==== Proof.Ffn1Ref.lean ====
/-
  The first feed-forward sublayer's reference read at an index: row `r` of its result is the layer's row mathematics of row `r` of
  its argument, with the modulation of the row's batch.
-/
module

public import proofs.«01_k».proof.Proof.Gen.Reference4Ideal.Read
public import proofs.«01_k».proof.Proof.FfnSpec
public import proofs.«01_k».proof.Proof.FfnRef

@[expose] public section

set_option maxRecDepth 16384

noncomputable section

namespace Cert.Proof.Ffn1Ref

open Cert.Proof.FfnRef (rowOf modOf)
open Cert.Reference4Ideal Cert.Reference4Ideal.Gen Cert.Reference4Ideal.Read Idealize.ShloMosaic Cert.Proof.Ffn

variable (x0 : (⟨S32768x1024, .f32⟩ : BufTy).Contents (Elt Ideal)) (x1 : (⟨S16x9x1x1024, .f32⟩ : BufTy).Contents (Elt Ideal))
  (x2 : (⟨S1x1024, .f32⟩ : BufTy).Contents (Elt Ideal)) (x3 : (⟨S1024x5632, .bf16⟩ : BufTy).Contents (Elt Ideal))
  (x4 : (⟨S2816x1024, .bf16⟩ : BufTy).Contents (Elt Ideal))

theorem v0_at (b : Fin 8) (t : Fin 4096) (d : Fin 1024) : val_main_v0 (F := Ideal) x0 (ix3 b t d) = x0 (ix2 (rowOf b t) d) := by
  rw [val_main_v0_apply]
  refine congrArg x0 (funext fun a => Fin.ext ?_)
  match a with
  | ⟨0, _⟩ => show ((b.val * 4096 + t.val) * 1024 + d.val) / 1024 = b.val * 4096 + t.val; omega
  | ⟨1, _⟩ => show ((b.val * 4096 + t.val) * 1024 + d.val) % 1024 = d.val; omega

theorem v2_at (b : Fin 8) (k : Fin 9) (d : Fin 1024) : val_main_v2 (F := Ideal) x1 (ix3 b k d) = x1 (ix4 (modOf b) k 0 d) := by
  rw [val_main_v2_apply, val_main_v1_apply]
  refine congrArg x1 (funext fun a => Fin.ext ?_)
  match a with
  | ⟨0, _⟩ => show 1 + ((b.val * 9 + k.val) * 1024 + d.val) / 9216 = 1 + b.val; omega
  | ⟨1, _⟩ => show ((b.val * 9 + k.val) * 1024 + d.val) / 1024 % 9 = k.val; omega
  | ⟨2, _⟩ => rfl
  | ⟨3, _⟩ => show ((b.val * 9 + k.val) * 1024 + d.val) % 1024 = d.val; omega

/-- The modulated, normalised row. -/
theorem v24_at (b : Fin 8) (t : Fin 4096) (d : Fin 1024) : val_main_v24 (F := Ideal) x0 x1 x2 (ix3 b t d)
    = hmod (fun d => x0 (ix2 (rowOf b t) d)) (fun d => x2 (ix2 0 d)) (fun d => x1 (ix4 (modOf b) 1 0 d)) (fun d => x1 (ix4 (modOf b) 0 0 d)) d := by
  simp only [val_main_v24_apply, val_main_v22_apply, val_main_v18_apply, val_main_v15_apply, val_main_v14_apply,
    val_main_v13_apply, val_main_v12_apply, val_main_v10_apply, val_main_v8_apply, val_main_v7_apply, val_main_v6_apply,
    val_main_cst_apply, val_main_v9_apply, val_main_cst_0_apply, val_main_v11_apply, val_main_cst_1_apply,
    val_main_v17_apply, val_main_v16_apply, val_main_v21_apply, val_main_v20_apply, val_main_v19_apply, val_main_cst_2_apply,
    val_main_v4_apply, val_main_v23_apply, val_main_v3_apply]
  have e1 : ∀ k, idx_main_v7 (idx_main_v8 (idx_main_v14 (ix3 b t d))) k = ix3 b t k := fun k => funext fun a => by fin_cases a <;> rfl
  have e2 : idx_main_v16 (idx_main_v17 (ix3 b t d)) = ix2 0 d := funext fun a => by fin_cases a <;> rfl
  have e3 : idx_main_v4 (idx_main_v21 (ix3 b t d)) = ix3 b 1 d := funext fun a => by fin_cases a <;> rfl
  have e4 : idx_main_v3 (idx_main_v23 (ix3 b t d)) = ix3 b 0 d := funext fun a => by fin_cases a <;> rfl
  simp only [e1, e2, e3, e4, v0_at, v2_at]
  simp only [hmod, rms, Ideal.ofBits_def, Ideal.ofBits_zero_f32, zero_add, Ideal.ofBits_one_f32, ← mul_assoc]
  rfl

/-- One hidden pre-activation. -/
theorem v26_at (b : Fin 8) (t : Fin 4096) (f : Fin 5632) : val_main_v26 (F := Ideal) x0 x1 x2 x3 (ix3 b t f)
    = dotw (hmod (fun d => x0 (ix2 (rowOf b t) d)) (fun d => x2 (ix2 0 d)) (fun d => x1 (ix4 (modOf b) 1 0 d)) (fun d => x1 (ix4 (modOf b) 0 0 d))) x3 f := by
  rw [val_main_v26_apply, dotw]
  refine Finset.sum_congr rfl fun k _ => ?_
  have e1 : lidx_main_v26 (ix3 b t f) k = ix3 b t k := funext fun a => by fin_cases a <;> rfl
  have e2 : ridx_main_v26 (ix3 b t f) k = ix2 k f := funext fun a => by fin_cases a <;> rfl
  rw [e1, e2, v24_at]
  rfl

/-- The feed-forward's output before the gate. -/
theorem v32_at (b : Fin 8) (t : Fin 4096) (d : Fin 1024) : val_main_v32 (F := Ideal) x0 x1 x2 x3 x4 (ix3 b t d)
    = acc silL (hmod (fun d => x0 (ix2 (rowOf b t) d)) (fun d => x2 (ix2 0 d)) (fun d => x1 (ix4 (modOf b) 1 0 d)) (fun d => x1 (ix4 (modOf b) 0 0 d))) x3 x4 d := by
  rw [val_main_v32_apply, acc]
  refine Finset.sum_congr rfl fun k _ => ?_
  have e1 : lidx_main_v32 (ix3 b t d) k = ix3 b t k := funext fun a => by fin_cases a <;> rfl
  have e2 : ridx_main_v32 (ix3 b t d) k = ix2 k d := funext fun a => by fin_cases a <;> rfl
  rw [e1, e2]
  simp only [val_main_v30_apply, val_main_v29_apply, val_main_call0_v5_apply, val_main_call0_v4_apply, val_main_call0_cst_0_apply,
    val_main_call0_v3_apply, val_main_call0_v2_apply, val_main_call0_cst_apply, val_main_call0_v1_apply, val_main_call0_v0_apply,
    val_main_v27_apply, val_main_v28_apply]
  have e3 : idx_main_v27 (ix3 b t k) = ix3 b t ⟨k, by omega⟩ := funext fun a => by fin_cases a <;> rfl
  have e4 : idx_main_v28 (ix3 b t k) = ix3 b t ⟨2816 + k, by omega⟩ := funext fun a => by fin_cases a <;> rfl
  rw [e3, e4, v26_at, v26_at]
  simp only [silL, Ideal.ofBits_def, Ideal.ofBits_one_f32]
  rfl

/-- The residual row. -/
theorem v37_at (b : Fin 8) (t : Fin 4096) (d : Fin 1024) : val_main_v37 (F := Ideal) x0 x1 x2 x3 x4 (ix3 b t d)
    = resid (fun d => x0 (ix2 (rowOf b t) d)) (fun d => x1 (ix4 (modOf b) 2 0 d))
        (acc silL (hmod (fun d => x0 (ix2 (rowOf b t) d)) (fun d => x2 (ix2 0 d)) (fun d => x1 (ix4 (modOf b) 1 0 d)) (fun d => x1 (ix4 (modOf b) 0 0 d))) x3 x4) d := by
  simp only [val_main_v37_apply, val_main_v36_apply, val_main_v35_apply, val_main_v34_apply, val_main_v33_apply, val_main_cst_3_apply, val_main_v5_apply]
  have e3 : idx_main_v5 (idx_main_v35 (ix3 b t d)) = ix3 b 2 d := funext fun a => by fin_cases a <;> rfl
  rw [e3, v32_at, v0_at, v2_at]
  rfl

/-- The reference's result, row by row. -/
theorem v38_at (b : Fin 8) (t : Fin 4096) (d : Fin 1024) : val_main_v38 (F := Ideal) x0 x1 x2 x3 x4 (ix2 (rowOf b t) d)
    = resid (fun d => x0 (ix2 (rowOf b t) d)) (fun d => x1 (ix4 (modOf b) 2 0 d))
        (acc silL (hmod (fun d => x0 (ix2 (rowOf b t) d)) (fun d => x2 (ix2 0 d)) (fun d => x1 (ix4 (modOf b) 1 0 d)) (fun d => x1 (ix4 (modOf b) 0 0 d))) x3 x4) d := by
  rw [val_main_v38_apply, ← v37_at]
  refine congrArg _ (funext fun a => Fin.ext ?_)
  match a with
  | ⟨0, _⟩ => show ((b.val * 4096 + t.val) * 1024 + d.val) / 4194304 = b.val; omega
  | ⟨1, _⟩ => show ((b.val * 4096 + t.val) * 1024 + d.val) / 1024 % 4096 = t.val; omega
  | ⟨2, _⟩ => show ((b.val * 4096 + t.val) * 1024 + d.val) % 1024 = d.val; omega

end Cert.Proof.Ffn1Ref
-- ==== Proof.Ffn1Final.lean ====
/-
  The first feed-forward kernel's result array: row by row the layer's row mathematics, which under the precondition is the
  reference's result.
-/
module

public import proofs.«01_k».proof.Defs
public import proofs.«01_k».proof.Proof.Ffn1Block
public import proofs.«01_k».proof.Proof.Ffn1Ref

@[expose] public section

set_option maxRecDepth 16384

noncomputable section

namespace Cert.Proof.Ffn1

open Cert.Kernel4Ideal Cert.Kernel4Ideal.Gen Idealize.ShloMosaic Idealize.ShloMosaic.TcCoe Idealize.SL.Sem
open Cert.Proof.Ffn
open Cert.Proof.FfnRef (rowOf modOf)

variable (m : (ℓ : Loc nD τ sig) → Buf (Elt Ideal) ℓ) (c : Dev nD)

/-- The token blocks' place. -/
theorem idx0 : ∀ t : Fin cfg0.N, win0_0.index t = ![t.val, 0] := (by decide +kernel : ∀ t : Fin grid0.N, win0_0.index t = ![t.val, 0])
theorem idx1 : ∀ t : Fin cfg0.N, win0_1.index t = ![1 + t.val / 4, 0, 0, 0] := (by decide +kernel : ∀ t : Fin grid0.N, win0_1.index t = ![1 + t.val / 4, 0, 0, 0])
theorem idx2 : ∀ t : Fin cfg0.N, win0_2.index t = ![1 + t.val / 4, 1, 0, 0] := (by decide +kernel : ∀ t : Fin grid0.N, win0_2.index t = ![1 + t.val / 4, 1, 0, 0])
theorem idx3 : ∀ t : Fin cfg0.N, win0_3.index t = ![1 + t.val / 4, 2, 0, 0] := (by decide +kernel : ∀ t : Fin grid0.N, win0_3.index t = ![1 + t.val / 4, 2, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx8 : ∀ t : Fin cfg0.N, win0_8.index t = ![t.val, 0] := (by decide +kernel : ∀ t : Fin grid0.N, win0_8.index t = ![t.val, 0])
theorem flush8 : ∀ t : Fin cfg0.N, (cfg0.win 8).flush t = true := (by decide +kernel : ∀ t : Fin grid0.N, win0_8.flush t = true)

/-- Grid point of a batch's token block. -/
def pt (b : Fin 8) (k : Fin 4) : Fin cfg0.N := ⟨4 * b + k, by have : cfg0.N = 32 := rfl; omega⟩

variable (b : Fin 8) (k : Fin 4)

theorem blk0 (r d : Fin 1024) : iblk m c 0 (pt b k) (ix2 r d)
    = m ((c : Thread nD τ).loc main_arg0) (ix2 (rowOf b ⟨1024 * k + r, by omega⟩) d) := by
  unfold iblk
  rw [View.read_apply]
  show V m c main_arg0 _ = _
  rw [V_main_arg0]
  have hi := idx0 (pt b k)
  refine congrArg _ (funext fun a => Fin.ext ?_)
  match a with
  | ⟨0, _⟩ => show win0_0.index (pt b k) 0 * 1024 + 1 * r.val = b.val * 4096 + (1024 * k.val + r.val)
              rw [hi]; show (4 * b.val + k.val) * 1024 + 1 * r.val = _; omega
  | ⟨1, _⟩ => show win0_0.index (pt b k) 1 * 1024 + 1 * d.val = d.val
              rw [hi]; show 0 * 1024 + 1 * d.val = _; omega

theorem blkMod1 (d : Fin 1024) : iblk m c 1 (pt b k) (ix4 0 0 0 d) = m ((c : Thread nD τ).loc main_arg1) (ix4 (modOf b) 0 0 d) := by
  unfold iblk
  rw [View.read_apply]
  show V m c main_arg1 _ = _
  rw [V_main_arg1]
  have hi := idx1 (pt b k)
  refine congrArg _ (funext fun a => Fin.ext ?_)
  match a with
  | ⟨0, _⟩ => show win0_1.index (pt b k) 0 * 1 + 1 * 0 = 1 + b.val
              rw [hi]; show (1 + (4 * b.val + k.val) / 4) * 1 + 1 * 0 = _; omega
  | ⟨1, _⟩ => show win0_1.index (pt b k) 1 * 1 + 1 * 0 = 0
              rw [hi]; rfl
  | ⟨2, _⟩ => show win0_1.index (pt b k) 2 * 1 + 1 * 0 = 0
              rw [hi]; rfl
  | ⟨3, _⟩ => show win0_1.index (pt b k) 3 * 1024 + 1 * d.val = d.val
              rw [hi]; show 0 * 1024 + 1 * d.val = _; omega

theorem blkMod2 (d : Fin 1024) : iblk m c 2 (pt b k) (ix4 0 0 0 d) = m ((c : Thread nD τ).loc main_arg1) (ix4 (modOf b) 1 0 d) := by
  unfold iblk
  rw [View.read_apply]
  show V m c main_arg1 _ = _
  rw [V_main_arg1]
  have hi := idx2 (pt b k)
  refine congrArg _ (funext fun a => Fin.ext ?_)
  match a with
  | ⟨0, _⟩ => show win0_2.index (pt b k) 0 * 1 + 1 * 0 = 1 + b.val
              rw [hi]; show (1 + (4 * b.val + k.val) / 4) * 1 + 1 * 0 = _; omega
  | ⟨1, _⟩ => show win0_2.index (pt b k) 1 * 1 + 1 * 0 = 1
              rw [hi]; rfl
  | ⟨2, _⟩ => show win0_2.index (pt b k) 2 * 1 + 1 * 0 = 0
              rw [hi]; rfl
  | ⟨3, _⟩ => show win0_2.index (pt b k) 3 * 1024 + 1 * d.val = d.val
              rw [hi]; show 0 * 1024 + 1 * d.val = _; omega

theorem blkMod3 (d : Fin 1024) : iblk m c 3 (pt b k) (ix4 0 0 0 d) = m ((c : Thread nD τ).loc main_arg1) (ix4 (modOf b) 2 0 d) := by
  unfold iblk
  rw [View.read_apply]
  show V m c main_arg1 _ = _
  rw [V_main_arg1]
  have hi := idx3 (pt b k)
  refine congrArg _ (funext fun a => Fin.ext ?_)
  match a with
  | ⟨0, _⟩ => show win0_3.index (pt b k) 0 * 1 + 1 * 0 = 1 + b.val
              rw [hi]; show (1 + (4 * b.val + k.val) / 4) * 1 + 1 * 0 = _; omega
  | ⟨1, _⟩ => show win0_3.index (pt b k) 1 * 1 + 1 * 0 = 2
              rw [hi]; rfl
  | ⟨2, _⟩ => show win0_3.index (pt b k) 2 * 1 + 1 * 0 = 0
              rw [hi]; rfl
  | ⟨3, _⟩ => show win0_3.index (pt b k) 3 * 1024 + 1 * d.val = d.val
              rw [hi]; show 0 * 1024 + 1 * d.val = _; omega

/-- The whole-array windows' blocks are the arrays. -/
theorem blk4 (t : Fin cfg0.N) : iblk m c 4 t = m ((c : Thread nD τ).loc main_arg2) := by
  have hz : (fun a => win0_4.index t a * main_arg2.ty.shape.size a) = fun _ => 0 := by
    rw [idx4 t]; funext a; fin_cases a <;> rfl
  exact (Memref.read_access_unit_zero (Elt Ideal) main_arg2 hz (fun a => by rw [congrFun hz a]; simp) _).trans (V_main_arg2 m c)
theorem blk5 (t : Fin cfg0.N) : iblk m c 5 t = m ((c : Thread nD τ).loc main_arg3) := by
  have hz : (fun a => win0_5.index t a * main_arg3.ty.shape.size a) = fun _ => 0 := by
    rw [idx5 t]; funext a; fin_cases a <;> rfl
  exact (Memref.read_access_unit_zero (Elt Ideal) main_arg3 hz (fun a => by rw [congrFun hz a]; simp) _).trans (V_main_arg3 m c)
theorem blk6 (t : Fin cfg0.N) : iblk m c 6 t = m ((c : Thread nD τ).loc main_arg4) := by
  have hz : (fun a => win0_6.index t a * main_arg4.ty.shape.size a) = fun _ => 0 := by
    rw [idx6 t]; funext a; fin_cases a <;> rfl
  exact (Memref.read_access_unit_zero (Elt Ideal) main_arg4 hz (fun a => by rw [congrFun hz a]; simp) _).trans (V_main_arg4 m c)

/-- The kernel's result array after the run, at a token: the row mathematics of the token's row. -/
theorem final_at (r d : Fin 1024) :
    (dats m 0 c).arrAt 8 cfg0.N (ix2 (rowOf b ⟨1024 * k + r, by omega⟩) d)
      = resid (fun d => m ((c : Thread nD τ).loc main_arg0) (ix2 (rowOf b ⟨1024 * k + r, by omega⟩) d))
          (fun d => m ((c : Thread nD τ).loc main_arg1) (ix4 (modOf b) 2 0 d))
          (acc silT (hmod (fun d => m ((c : Thread nD τ).loc main_arg0) (ix2 (rowOf b ⟨1024 * k + r, by omega⟩) d))
            (fun d => m ((c : Thread nD τ).loc main_arg2) (ix2 0 d)) (fun d => m ((c : Thread nD τ).loc main_arg1) (ix4 (modOf b) 1 0 d))
            (fun d => m ((c : Thread nD τ).loc main_arg1) (ix4 (modOf b) 0 0 d)))
            (m ((c : Thread nD τ).loc main_arg3)) (m ((c : Thread nD τ).loc main_arg4))) d := by
  have h := congrFun (Value.blocks8 m c (pt b k) (flush8 _)) (ix2 r d)
  rw [Value.flushed8, View.read_apply] at h
  have hi := idx8 (pt b k)
  have e : ((cfg0.win 8).blk (pt b k)).view.emb (ix2 r d) = ix2 (rowOf b ⟨1024 * k + r, by omega⟩) d := by
    refine funext fun a => Fin.ext ?_
    match a with
    | ⟨0, _⟩ => show win0_8.index (pt b k) 0 * 1024 + 1 * r.val = b.val * 4096 + (1024 * k.val + r.val)
                rw [hi]; show (4 * b.val + k.val) * 1024 + 1 * r.val = _; omega
    | ⟨1, _⟩ => show win0_8.index (pt b k) 1 * 1024 + 1 * d.val = d.val
                rw [hi]; show 0 * 1024 + 1 * d.val = _; omega
  refine (congrArg ((dats m 0 c).arrAt 8 cfg0.N) e).symm.trans (h.trans ?_)
  refine (out_apply _ _ _ _ _ _ _ _ r d).trans ?_
  simp only [blk0, blkMod1, blkMod2, blkMod3, blk4, blk5, blk6]

end Cert.Proof.Ffn1
-- ==== Proof.Ffn1Claims.lean ====
/-
  The claims about the first feed-forward call: frames, the ideal pass, and the kernel's result equal to the reference's.
-/
module

public import proofs.«01_k».proof.Proof.Ffn1Final
public import proofs.«01_k».proof.Proof.FfnClaims
public import proofs.«01_k».proof.Proof.Gen.Kernel4.Frame
public import Idealize.ShloMosaic.Lib.Quiescent

@[expose] public section

set_option maxRecDepth 16384

noncomputable section

namespace Cert.Proof.Ffn1

open Idealize.ShloMosaic Idealize.ShloMosaic.TcCoe Idealize.SL.Sem
open Cert.Proof.Ffn
open Cert.Proof.FfnRef (rowOf modOf)

/-- Every run of the kernel ends, without a fault, arguments kept, counters at zero. -/
theorem frame_k : Cert.quiescent_Kernel4 := fun m ρ _ => Cert.Kernel4.Gen.frame m ρ
theorem frame_ki : Cert.quiescent_Kernel4Ideal := fun m ρ _ => Cert.Kernel4Ideal.Gen.frame m ρ
theorem frame_kip : Cert.quiescent_Kernel4Ideal_pre_finite3 := fun m ρ _ => Cert.Kernel4Ideal.Gen.frame m ρ
/-- The reference's run: it declares no semaphore. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem frame_rip : Cert.quiescent_Reference4Ideal_pre_finite3 := fun m ρ _ => frame_ri m ρ trivial

/-- The ideal pass rewrote nothing. -/
theorem preserves : Cert.preserves_Kernel4_Kernel4Ideal := trivial

/-- The precondition, entry by entry: modulation, norm weight and first projection are real. -/
theorem pre_isR (m : (ℓ : Loc Cert.Kernel4Ideal.nD Cert.Kernel4Ideal.τ Cert.Kernel4Ideal.sig) → Buf (Elt Ideal) ℓ)
    (h : Cert.Pre_Kernel4Ideal_finite3 m) (c : Dev Cert.Kernel4Ideal.nD) :
    (∀ i, IsR (m ((c : Thread Cert.Kernel4Ideal.nD Cert.Kernel4Ideal.τ).loc Cert.Kernel4Ideal.main_arg1) i))
    ∧ (∀ i, IsR (m ((c : Thread Cert.Kernel4Ideal.nD Cert.Kernel4Ideal.τ).loc Cert.Kernel4Ideal.main_arg2) i))
    ∧ (∀ i, IsR (m ((c : Thread Cert.Kernel4Ideal.nD Cert.Kernel4Ideal.τ).loc Cert.Kernel4Ideal.main_arg3) i)) :=
  ⟨fun i => isR_of_abs_lt _ (congrFun (h c).1 i), fun i => isR_of_abs_lt _ (congrFun (h c).2.1 i),
    fun i => isR_of_abs_lt _ (congrFun (h c).2.2 i)⟩

/-- The kernel's result array is the reference's function of the arguments. -/
theorem final (m : (ℓ : Loc Cert.Kernel4Ideal.nD Cert.Kernel4Ideal.τ Cert.Kernel4Ideal.sig) → Buf (Elt Ideal) ℓ)
    (h : Cert.Pre_Kernel4Ideal_finite3 m) (c : Dev Cert.Kernel4Ideal.nD) :
    (Cert.Kernel4Ideal.Gen.dats m 0 c).arrAt 8 Cert.Kernel4Ideal.cfg0.N
      = Cert.Reference4Ideal.Read.val_main_v38
        (m ((c : Thread Cert.Kernel4Ideal.nD Cert.Kernel4Ideal.τ).loc Cert.Kernel4Ideal.main_arg0))
        (m ((c : Thread Cert.Kernel4Ideal.nD Cert.Kernel4Ideal.τ).loc Cert.Kernel4Ideal.main_arg1))
        (m ((c : Thread Cert.Kernel4Ideal.nD Cert.Kernel4Ideal.τ).loc Cert.Kernel4Ideal.main_arg2))
        (m ((c : Thread Cert.Kernel4Ideal.nD Cert.Kernel4Ideal.τ).loc Cert.Kernel4Ideal.main_arg3))
        (m ((c : Thread Cert.Kernel4Ideal.nD Cert.Kernel4Ideal.τ).loc Cert.Kernel4Ideal.main_arg4)) := by
  obtain ⟨hm, hn, hw⟩ := pre_isR m h c
  funext i
  have h0 : (i 0 : Nat) < 32768 := (i 0).isLt
  let b : Fin 8 := ⟨(i 0 : Nat) / 4096, by omega⟩
  let k : Fin 4 := ⟨(i 0 : Nat) % 4096 / 1024, by omega⟩
  let r : Fin 1024 := ⟨(i 0 : Nat) % 1024, by omega⟩
  let d : Fin 1024 := i 1
  have ei : i = ix2 (rowOf b ⟨1024 * k + r, by omega⟩) d := by
    funext a
    match a with
    | ⟨0, _⟩ => exact Fin.ext (by show (i 0 : Nat) = (i 0 : Nat) / 4096 * 4096 + (1024 * ((i 0 : Nat) % 4096 / 1024) + (i 0 : Nat) % 1024); omega)
    | ⟨1, _⟩ => rfl
  rw [ei]
  refine (final_at m c b k r d).trans (Eq.trans ?_ (Cert.Proof.Ffn1Ref.v38_at _ _ _ _ _ b _ d).symm)
  exact congrArg (fun a => resid _ _ a d)
    (acc_eq _ _ _ (fun d => hmod_isR _ _ _ _ (fun _ => hn _) (fun _ => hm _) (fun _ => hm _) d) hw)

/-- `Cert.algebraic_Kernel4Ideal_Reference4Ideal_pre_finite3`: equal results in the extended reals. -/
theorem algebraic : Cert.algebraic_Kernel4Ideal_Reference4Ideal_pre_finite3 := by
  intro m ρ m' ρ' hp hag
  refine ⟨fun c => (Cert.Kernel4Ideal.Gen.dats m 0 c).arrAt 8 Cert.Kernel4Ideal.cfg0.N,
    Cert.Kernel4Ideal.Value.run_blocks m ρ, ?_⟩
  refine (θ_run Cert.Reference4Ideal.defs _ _).mono (fun _ hr c => ⟨(hr c).1.trans ?_, (hr c).2⟩)
    (Cert.Reference4Ideal.Value.run (F := Ideal) m' ρ')
  rw [Cert.Reference4Ideal.Read.val_main_v38_eq]
  obtain ⟨e0, e1, e2, e3, e4, e5⟩ := hag c
  exact (by rw [e0, e1, e2, e3, e4]; exact (final m hp c).symm)

end Cert.Proof.Ffn1
-- ==== Proof.MergeBlock.lean ====
/-
  The block the merge kernel's body writes, at an index: payload by payload, then as a whole. The two mixers' outputs are
  normalised per head and gated, projected, mixed by two sigmoid gates, projected again and added to the residual row.
-/
module

public import proofs.«01_k».proof.Proof.Gen.Kernel6Ideal.Value
public import Idealize.ShloMosaic.Lib.Pointwise
public import proofs.«01_k».proof.Proof.FfnSpec

@[expose] public section

set_option maxRecDepth 16384

noncomputable section

namespace Cert.Proof.Merge

open Cert.Kernel6Ideal Cert.Kernel6Ideal.Gen Idealize.ShloMosaic Idealize.ShloMosaic.TcCoe Idealize.SL.Sem Cert.Proof.Ffn

/-- The sigmoid as the kernel writes it: one half plus half a hyperbolic tangent. -/
def sigT (t : EReal) : EReal := half + half * Ideal.tanh (half * t)

/-- The sigmoid as the reference writes it. -/
def sigL (t : EReal) : EReal := Ideal.div 1 (1 + Ideal.exp (-t))

theorem sigT_eq (t : EReal) (ht : IsR t) : sigT t = sigL t := by
  obtain ⟨r, rfl⟩ := ht
  have hl : Ideal.div 1 (1 + Ideal.exp (-(r : EReal))) = (((1 + Real.exp (-r))⁻¹ : ℝ) : EReal) := Ideal.logistic_coe r
  rw [sigT, sigL, half_eq, hl, ← EReal.coe_mul, Ideal.tanh_coe, ← EReal.coe_mul, ← EReal.coe_add]
  congr 1
  rw [Real.tanh_eq_sinh_div_cosh, Real.sinh_eq, Real.cosh_eq]
  have hx : Real.exp (-(1 / 2 * r)) = (Real.exp (1 / 2 * r))⁻¹ := Real.exp_neg _
  have h2 : Real.exp (-r) = (Real.exp (1 / 2 * r))⁻¹ * (Real.exp (1 / 2 * r))⁻¹ := by
    rw [← Real.exp_neg, ← Real.exp_add]; congr 1; ring
  have hp : Real.exp (1 / 2 * r) > 0 := Real.exp_pos _
  rw [hx, h2]
  field_simp
  ring

/-- The reciprocal root-mean-square of a head. -/
def rmsH (x : Fin 128 → EReal) : EReal :=
  Ideal.rsqrt (Ideal.div (∑ d, x d * x d) (Ideal.ofBits FTy.f32 1124073472#32) + Ideal.ofBits FTy.f32 897988541#32)

/-- Two rows added. -/
def addRow {n : Nat} (a b : Fin n → EReal) (c : Fin n) : EReal := a c + b c

/-- The first mixer's output, normalised per head, weighted and gated by the silu of `z`. -/
def ya (sil : EReal → EReal) (o z : Fin 512 → EReal) (w : Fin 128 → EReal) (c : Fin 512) : EReal :=
  o c * rmsH (fun j => o ⟨128 * (c / 128) + j, by omega⟩) * w ⟨c % 128, by omega⟩ * sil (z c)

/-- A row of the merged output before the residual. -/
def mixed (sil sg : EReal → EReal) (h : Fin 1024 → EReal) (o yb : Fin 512 → EReal) (w : Fin 128 → EReal)
    (wzg : (⟨2, ![1024, 2560]⟩ : Shape).Idx → EReal) (woa wob : (⟨2, ![512, 1024]⟩ : Shape).Idx → EReal) (e : Fin 1024) : EReal :=
  sg (dotw h wzg ⟨512 + e, by omega⟩) * ∑ k, ya sil o (fun c => dotw h wzg ⟨c, by omega⟩) w k * woa (ix2 k e)
    + sg (dotw h wzg ⟨1536 + e, by omega⟩) * ∑ k, yb k * wob (ix2 k e)

/-- The merged row: the residual plus the gated projection of the mixed row. -/
def merged (x g y : Fin 1024 → EReal) (wout : (⟨2, ![1024, 1024]⟩ : Shape).Idx → EReal) (d : Fin 1024) : EReal :=
  x d + g d * ∑ e, y e * wout (ix2 e d)

theorem zero2 : (![0, 0] : Fin 2 → Nat) = fun _ => 0 := funext fun a => by fin_cases a <;> rfl
theorem zero4 : (![0, 0, 0, 0] : Fin 4 → Nat) = fun _ => 0 := funext fun a => by fin_cases a <;> rfl

theorem pay1_apply (v0 : Vec Ideal S512x1024 .f32) (v113 : FVec Ideal S512x512 .f32) (v117 v122 : FVec Ideal S512x1024 .f32) (h : Ideal .f32)
    (v125 : Vec Ideal S512x1024 .bf16) (v136 : Vec Ideal S512x512 .f32) (v137 : Vec Ideal S512x1024 .bf16) (v142 : Vec Ideal S1x1x1x1024 .f32)
    (v144 : Vec Ideal S1024x1024 .bf16) (r : Fin 512) (d : Fin 1024) :
    k0_pay1 (F := Ideal) v0 v113 v117 v122 h v125 v136 v137 v142 v144 (ix2 r d)
      = merged (fun d => v0 (ix2 r d)) (fun d => v142 (ix4 0 0 0 d))
        (fun e => (h + v122 (ix2 r e)) * ∑ k, v113 (ix2 r k) * v125 (ix2 k e) + sigT (v117 (ix2 r e)) * ∑ k, v136 (ix2 r k) * v137 (ix2 k e)) v144 d := by
  unfold k0_pay1
  pointwise [dot_S512x512_S512x1024_S512x1024_1_0_0_1_n_n, dot_S512x1024_S1024x1024_S512x1024_1_0_0_1_n_n]
  rfl

theorem pay2_apply (v0 : Vec Ideal S512x1024 .f32) (v1 : Vec Ideal S1x1024 .f32) (v2 v19 : Vec Ideal S1x1x1x1024 .f32) (r : Fin 512) (c : Fin 1024) :
    k0_pay2 (F := Ideal) v0 v1 v2 v19 (ix2 r c)
      = hmod (fun d => v0 (ix2 r d)) (fun d => v1 (ix2 0 d)) (fun d => v2 (ix4 0 0 0 d)) (fun d => v19 (ix4 0 0 0 d)) c := by
  unfold k0_pay2
  pointwise [dot_S512x512_S512x1024_S512x1024_1_0_0_1_n_n]
  rfl

theorem pay3_apply (v0 : Vec Ideal S512x1024 .f32) (v1 : Vec Ideal S1x1024 .f32) (v2 v19 : Vec Ideal S1x1x1x1024 .f32) (v24 : Vec Ideal S1024x512 .bf16) (r c : Fin 512) :
    k0_pay3 (F := Ideal) v0 v1 v2 v19 v24 (ix2 r c) = dotw (fun d => k0_pay2 (F := Ideal) v0 v1 v2 v19 (ix2 r d)) v24 c := by
  unfold k0_pay3
  pointwise [dot_S512x1024_S1024x512_S512x512_1_0_0_1_n_n]
  rfl

theorem pay13_apply (v23 : FVec Ideal S512x1024 .bf16) (v116 : Vec Ideal S1024x1024 .bf16) (r : Fin 512) (c : Fin 1024) :
    k0_pay13 (F := Ideal) v23 v116 (ix2 r c) = dotw (fun d => v23 (ix2 r d)) v116 c := by
  unfold k0_pay13
  pointwise [dot_S512x1024_S1024x1024_S512x1024_1_0_0_1_n_n]
  rfl

theorem pay14_apply (v23 : FVec Ideal S512x1024 .bf16) (v114 : Vec Ideal S1024x1024 .bf16) (r : Fin 512) (c : Fin 1024) :
    k0_pay14 (F := Ideal) v23 v114 (ix2 r c) = half * Ideal.tanh (half * dotw (fun d => v23 (ix2 r d)) v114 c) := by
  unfold k0_pay14
  pointwise [dot_S512x1024_S1024x1024_S512x1024_1_0_0_1_n_n]
  rfl

/-- The gated heads, put side by side, are the row mathematics' gated heads. -/
theorem ya_apply (z o1 o2 : FVec Ideal S512x512 .f32) (w : Vec Ideal S1x128 .f32) (r c : Fin 512) :
    k0_pay12 (F := Ideal) z (k0_pay4 o1 o2) (k0_pay7 z (k0_pay5 o1 o2) w (k0_pay6 o1 o2)) (k0_pay8 z (k0_pay4 o1 o2) w) (k0_pay9 (k0_pay4 o1 o2)) w
        (k0_pay10 (k0_pay4 o1 o2)) (k0_pay11 (F := Ideal)) w (ix2 r c)
      = ya silT (fun c => o1 (ix2 r c) + o2 (ix2 r c)) (fun c => z (ix2 r c)) (fun j => w (ix2 0 j)) c := by
  unfold k0_pay12 k0_pay7 k0_pay8 k0_pay10 k0_pay9 k0_pay11 k0_pay6 k0_pay5 k0_pay4
  pointwise [dot_S512x512_S512x1024_S512x1024_1_0_0_1_n_n]
  have hc := c.isLt
  by_cases h1 : (c : Nat) < 128
  · rw [dif_pos h1]
    have e0 : (c : Nat) / 128 = 0 := by omega
    have e1 : (c : Nat) % 128 = c := by omega
    simp only [ya, rmsH, silT, half, e0, e1, Nat.mul_zero, Nat.zero_add]
  by_cases h2 : (c : Nat) - 128 < 128
  · rw [dif_neg h1, dif_pos h2]
    have e0 : (c : Nat) / 128 = 1 := by omega
    have e1 : (c : Nat) % 128 = c - 128 := by omega
    have e2 : 128 + ((c : Nat) - 128) = c := by omega
    simp only [ya, rmsH, silT, half, e0, e1, e2, Nat.mul_one]
  by_cases h3 : (c : Nat) - 128 - 128 < 128
  · rw [dif_neg h1, dif_neg h2, dif_pos h3]
    have e0 : (c : Nat) / 128 = 2 := by omega
    have e1 : (c : Nat) % 128 = c - 128 - 128 := by omega
    have e2 : 256 + ((c : Nat) - 128 - 128) = c := by omega
    simp only [ya, rmsH, silT, half, e0, e1, e2, Nat.reduceMul]
  · rw [dif_neg h1, dif_neg h2, dif_neg h3]
    have e0 : (c : Nat) / 128 = 3 := by omega
    have e1 : (c : Nat) % 128 = c - 128 - 128 - 128 := by omega
    have e2 : 384 + ((c : Nat) - 128 - 128 - 128) = c := by omega
    simp only [ya, rmsH, silT, half, e0, e1, e2, Nat.reduceMul]

/-- Two indices of a matrix with the same coordinates. -/
theorem col_ext {m n : Nat} {i j : (⟨2, ![m, n]⟩ : Shape).Idx} (h0 : (i 0 : Nat) = j 0) (h1 : (i 1 : Nat) = j 1) : i = j :=
  funext fun a => Fin.ext (match a with | ⟨0, _⟩ => h0 | ⟨1, _⟩ => h1)

/-- The block the body writes, at an index: the merge's row mathematics of the blocks it read. -/
theorem out_apply (x0 : Vec Ideal S512x1024 .f32) (x1 x2 x3 : Vec Ideal S512x512 .f32) (x4 x5 x6 : Vec Ideal S1x1x1x1024 .f32)
    (x7 : Vec Ideal S1x1024 .f32) (x8 : Vec Ideal S1x128 .f32) (x9 : Vec Ideal S1024x2560 .bf16) (x10 x11 : Vec Ideal S512x1024 .bf16)
    (x12 : Vec Ideal S1024x1024 .bf16) (r : Fin 512) (d : Fin 1024) :
    out0_13 x0 x1 x2 x3 x4 x5 x6 x7 x8 x9 x10 x11 x12 (ix2 r d)
      = merged (fun d => x0 (ix2 r d)) (fun d => x6 (ix4 0 0 0 d))
          (mixed silT sigT (hmod (fun d => x0 (ix2 r d)) (fun d => x7 (ix2 0 d)) (fun d => x5 (ix4 0 0 0 d)) (fun d => x4 (ix4 0 0 0 d)))
            (fun c => x1 (ix2 r c) + x2 (ix2 r c)) (fun c => x3 (ix2 r c)) (fun j => x8 (ix2 0 j)) x9 x10 x11) x12 d := by
  unfold_out out0_13
  rw [View.canon_unit_zero zero2, pay1_apply]
  have e0 : View.ld x0 r0_0 = x0 := View.ld_unit_zero zero2 ..
  have e1 : View.ld x1 r0_4 = x1 := View.ld_unit_zero zero2 ..
  have e2 : View.ld x2 r0_4 = x2 := View.ld_unit_zero zero2 ..
  have e3 : View.ld x3 r0_4 = x3 := View.ld_unit_zero zero2 ..
  have e4 : View.ld x4 r0_2 = x4 := View.ld_unit_zero zero4 ..
  have e5 : View.ld x5 r0_2 = x5 := View.ld_unit_zero zero4 ..
  have e6 : View.ld x6 r0_2 = x6 := View.ld_unit_zero zero4 ..
  have e7 : View.ld x7 r0_1 = x7 := View.ld_unit_zero zero2 ..
  have e8 : View.ld x8 r0_5 = x8 := View.ld_unit_zero zero2 ..
  have e10 : View.ld x10 r0_0 = x10 := View.ld_unit_zero zero2 ..
  have e11 : View.ld x11 r0_0 = x11 := View.ld_unit_zero zero2 ..
  have e12 : View.ld x12 r0_8 = x12 := View.ld_unit_zero zero2 ..
  rw [e0, e1, e2, e3, e4, e5, e6, e7, e8, e10, e11, e12]
  simp only [ya_apply, pay13_apply, pay14_apply, pay3_apply, pay2_apply]
  have s3 : ∀ (h : Fin 1024 → EReal) (c : Fin 512), dotw h (View.ld x9 r0_3) c = dotw h x9 ⟨c, by omega⟩ := fun h c =>
    Finset.sum_congr rfl fun d _ => congrArg (h d * ·) (congrArg x9 (col_ext (i := r0_3.emb (ix2 d c)) (j := ix2 d ⟨c, by omega⟩)
      (by show 0 + 1 * d.val = d.val; omega) (by show 0 + 1 * c.val = c.val; omega)))
  have s6 : ∀ (h : Fin 1024 → EReal) (c : Fin 1024), dotw h (View.ld x9 r0_6) c = dotw h x9 ⟨512 + c, by omega⟩ := fun h c =>
    Finset.sum_congr rfl fun d _ => congrArg (h d * ·) (congrArg x9 (col_ext (i := r0_6.emb (ix2 d c)) (j := ix2 d ⟨512 + c, by omega⟩)
      (by show 0 + 1 * d.val = d.val; omega) (by show 512 + 1 * c.val = 512 + c.val; omega)))
  have s7 : ∀ (h : Fin 1024 → EReal) (c : Fin 1024), dotw h (View.ld x9 r0_7) c = dotw h x9 ⟨1536 + c, by omega⟩ := fun h c =>
    Finset.sum_congr rfl fun d _ => congrArg (h d * ·) (congrArg x9 (col_ext (i := r0_7.emb (ix2 d c)) (j := ix2 d ⟨1536 + c, by omega⟩)
      (by show 0 + 1 * d.val = d.val; omega) (by show 1536 + 1 * c.val = 1536 + c.val; omega)))
  simp only [s3, s6, s7]
  rfl

end Cert.Proof.Merge
-- ==== Proof.InprojBlock.lean ====
/-
  The block the input projection's body writes, at an index: payload by payload, then as a whole. The tokens are normalised
  and modulated, projected, and the first 1536 columns convolved over time with five taps (zero beyond the sequence's ends).
-/
module

public import proofs.«01_k».proof.Proof.Gen.Kernel5Ideal.Value
public import Idealize.ShloMosaic.Lib.Pointwise
public import proofs.«01_k».proof.Proof.FfnSpec
public import proofs.«01_k».proof.Proof.MergeBlock

@[expose] public section

set_option maxRecDepth 16384

noncomputable section

namespace Cert.Proof.Inproj

open Cert.Kernel5Ideal Cert.Kernel5Ideal.Gen Idealize.ShloMosaic Idealize.ShloMosaic.TcCoe Idealize.SL.Sem Cert.Proof.Ffn
open Cert.Proof.Merge (sigT sigL sigT_eq zero2 zero4 col_ext)

/-- A column of the 256 tokens with eight rows of zeros before and after it. -/
def hal (g : Fin 256 → EReal) (m : Nat) : EReal := if h : 8 ≤ m ∧ m < 264 then g ⟨m - 8, by omega⟩ else 0

/-- The convolution of a column with five taps, centred. -/
def conv5 (g : Fin 256 → EReal) (w : Fin 5 → EReal) (t : Nat) : EReal :=
  hal g (t + 6) * w 0 + hal g (t + 7) * w 1 + hal g (t + 8) * w 2 + hal g (t + 9) * w 3 + hal g (t + 10) * w 4

/-- The convolved projection, through a silu. -/
def cs (sil : EReal → EReal) (h : Fin 256 → Fin 1024 → EReal) (w : (⟨2, ![1024, 2432]⟩ : Shape).Idx → EReal)
    (cv : (⟨2, ![5, 1536]⟩ : Shape).Idx → EReal) (t : Fin 256) (c : Fin 1536) : EReal :=
  sil (conv5 (fun t => dotw (h t) w ⟨c, by omega⟩) (fun j => cv (ix2 j c)) t)

/-- The reciprocal length of a head. -/
def len (y : Fin 128 → EReal) : EReal := Ideal.rsqrt (∑ d, y d * y d + Ideal.ofBits FTy.f32 897988541#32)

/-- Queries, keys (both brought to unit length per head, the queries scaled) and values side by side. -/
def qkv (sil : EReal → EReal) (h : Fin 256 → Fin 1024 → EReal) (w : (⟨2, ![1024, 2432]⟩ : Shape).Idx → EReal)
    (cv : (⟨2, ![5, 1536]⟩ : Shape).Idx → EReal) (t : Fin 256) (b : Fin 12) (d : Fin 128) : EReal :=
  if b.val < 4 then
    cs sil h w cv t ⟨128 * b + d, by omega⟩ * (len (fun d => cs sil h w cv t ⟨128 * b + d, by omega⟩) * Ideal.ofBits FTy.f32 0x3DB504F3#32)
  else if b.val < 8 then
    cs sil h w cv t ⟨128 * b + d, by omega⟩ * len (fun d => cs sil h w cv t ⟨128 * b + d, by omega⟩)
  else cs sil h w cv t ⟨128 * b + d, by omega⟩

/-- The decay and the write strength: the first eight lanes and the next eight. -/
def gb (sg : EReal → EReal) (sp : EReal → EReal) (db al dt : Fin 128 → EReal) (c : Fin 128) : EReal :=
  if c.val < 8 then (0 - Ideal.exp (al c)) * sp (db c + dt c) else if c.val < 16 then sg (db c) else 0

/-- The softplus as the kernel writes it. -/
def spK (x : EReal) : EReal := max x 0 + Ideal.log1p (Ideal.exp (0 - max x (-x)))

theorem pay3_apply (v10 : Vec Ideal S8x1024 .f32) (v11 : Vec Ideal S256x1024 .f32) (v12 : Vec Ideal S8x1024 .f32) (v14 : Vec Ideal S1x1024 .f32)
    (v15 v32 : Vec Ideal S1x1x1x1024 .f32) (m : Fin 272) (hm : 8 ≤ m.val ∧ m.val < 264) (c : Fin 1024) :
    k0_pay3 (F := Ideal) (k0_pay2 v10 v11 v12 v14 v15) v32 (ix2 m c)
      = hmod (fun d => v11 (ix2 ⟨m - 8, by omega⟩ d)) (fun d => v14 (ix2 0 d)) (fun d => v15 (ix4 0 0 0 d)) (fun d => v32 (ix4 0 0 0 d)) c := by
  unfold k0_pay3 k0_pay2
  pointwise [dot_S272x1024_S1024x512_S272x512_1_0_0_1_n_n]
  have h1 : ¬ m.val < 8 := by omega
  have h2 : m.val - 8 < 256 := by omega
  simp only [dif_neg h1, dif_pos h2]
  rfl

theorem pay4_apply (v10 : Vec Ideal S8x1024 .f32) (v11 : Vec Ideal S256x1024 .f32) (v12 : Vec Ideal S8x1024 .f32) (v14 : Vec Ideal S1x1024 .f32)
    (v15 v32 : Vec Ideal S1x1x1x1024 .f32) (m : Fin 256) (c : Fin 1024) :
    k0_pay4 (F := Ideal) (k0_pay2 v10 v11 v12 v14 v15) v32 (ix2 m c)
      = hmod (fun d => v11 (ix2 m d)) (fun d => v14 (ix2 0 d)) (fun d => v15 (ix4 0 0 0 d)) (fun d => v32 (ix4 0 0 0 d)) c := by
  unfold k0_pay4
  pointwise [dot_S272x1024_S1024x512_S272x512_1_0_0_1_n_n]
  rw [pay3_apply _ _ _ _ _ _ _ (by constructor <;> (dsimp only; omega))]
  simp only [Nat.add_sub_cancel_left]

/-- The blocks of eight rows are the column with zeros around it: for the three products alike. -/
theorem blocks (E : FVec Ideal S34x8x512 .f32) (x : Fin 272 → Fin 512 → EReal)
    (hE : ∀ b s c, E (ix3 b s c) = if h : b.val < 1 then 0 else if h : b.val - 1 < 32 then x ⟨(1 + (b.val - 1)) * 8 + s.val, by omega⟩ c else 0)
    (g : Fin 512 → Fin 256 → EReal) (hg : ∀ (m : Fin 256) c, x ⟨m + 8, by omega⟩ c = g c m) (b : Fin 34) (s : Fin 8) (c : Fin 512) :
    E (ix3 b s c) = hal (g c) (8 * b + s) := by
  have hb := b.isLt; have hs := s.isLt
  rw [hE, hal]
  by_cases h1 : b.val < 1
  · rw [dif_pos h1, dif_neg (by omega)]
  by_cases h2 : b.val - 1 < 32
  · rw [dif_neg h1, dif_pos h2, dif_pos (by omega), ← hg]
    congr 2; dsimp only; omega
  · rw [dif_neg h1, dif_neg h2, dif_neg (by omega)]

theorem pay5_apply (v31 : FVec Ideal S272x1024 .f32) (v32 : Vec Ideal S1x1x1x1024 .f32) (v38 : Vec Ideal S1024x512 .bf16) (b : Fin 34) (s : Fin 8) (c : Fin 512) :
    k0_pay5 (F := Ideal) 0#32 v31 v32 v38 (ix3 b s c)
      = if h : b.val < 1 then 0 else if h : b.val - 1 < 32 then dotw (fun d => k0_pay3 v31 v32 (ix2 ⟨(1 + (b.val - 1)) * 8 + s.val, by omega⟩ d)) v38 c else 0 := by
  unfold k0_pay5
  pointwise [dot_S272x1024_S1024x512_S272x512_1_0_0_1_n_n]
  rfl

theorem pay14_apply (v36 : FVec Ideal S272x1024 .bf16) (v38 : Vec Ideal S1024x512 .bf16) (b : Fin 34) (s : Fin 8) (c : Fin 512) :
    k0_pay14 (F := Ideal) 0#32 v36 v38 (ix3 b s c)
      = if h : b.val < 1 then 0 else if h : b.val - 1 < 32 then dotw (fun d => v36 (ix2 ⟨(1 + (b.val - 1)) * 8 + s.val, by omega⟩ d)) v38 c else 0 := by
  unfold k0_pay14
  pointwise [dot_S272x1024_S1024x512_S272x512_1_0_0_1_n_n]
  rfl

theorem pay24_apply (v36 : FVec Ideal S272x1024 .bf16) (v38 : Vec Ideal S1024x512 .bf16) (b : Fin 34) (s : Fin 8) (c : Fin 512) :
    k0_pay24 (F := Ideal) 0#32 (k0_pay23 v36 v38) (ix3 b s c)
      = if h : b.val < 1 then 0 else if h : b.val - 1 < 32 then dotw (fun d => v36 (ix2 ⟨(1 + (b.val - 1)) * 8 + s.val, by omega⟩ d)) v38 c else 0 := by
  unfold k0_pay24 k0_pay23
  pointwise [dot_S272x1024_S1024x512_S272x512_1_0_0_1_n_n]
  rfl

/-- The first two taps take the row before from the previous block of eight where the shift crosses its start, -/
theorem shift_dn (g : Fin 256 → EReal) (r : Fin 256) :
    Scalar.select (IntOp.cmpi .slt (BitVec.ofNat 32 ((r.val % 8 + 8 - 2) % 8)) 6#32)
        (hal g (8 * (1 + r.val / 8) + (r.val % 8 + 8 - 2) % 8)) (hal g (8 * (r.val / 8) + (r.val % 8 + 8 - 2) % 8)) = hal g (r + 6)
    ∧ Scalar.select (IntOp.cmpi .slt (BitVec.ofNat 32 ((r.val % 8 + 8 - 1) % 8)) 7#32)
        (hal g (8 * (1 + r.val / 8) + (r.val % 8 + 8 - 1) % 8)) (hal g (8 * (r.val / 8) + (r.val % 8 + 8 - 1) % 8)) = hal g (r + 7) := by
  have hr : r.val = 8 * (r.val / 8) + r.val % 8 := by omega
  have hl : r.val % 8 < 8 := by omega
  generalize r.val / 8 = b at hr ⊢
  generalize r.val % 8 = s at hr hl ⊢
  rw [hr]
  interval_cases s <;> exact ⟨congrArg (hal g) (by omega), congrArg (hal g) (by omega)⟩

/-- the last two the row after from the next block where it crosses its end. -/
theorem shift_up (g : Fin 256 → EReal) (r : Fin 256) :
    Scalar.select (IntOp.cmpi .sge (BitVec.ofNat 32 ((r.val % 8 + 8 - 7) % 8)) 1#32)
        (hal g (8 * (1 + r.val / 8) + (r.val % 8 + 8 - 7) % 8)) (hal g (8 * (2 + r.val / 8) + (r.val % 8 + 8 - 7) % 8)) = hal g (r + 9)
    ∧ Scalar.select (IntOp.cmpi .sge (BitVec.ofNat 32 ((r.val % 8 + 8 - 6) % 8)) 2#32)
        (hal g (8 * (1 + r.val / 8) + (r.val % 8 + 8 - 6) % 8)) (hal g (8 * (2 + r.val / 8) + (r.val % 8 + 8 - 6) % 8)) = hal g (r + 10) := by
  have hr : r.val = 8 * (r.val / 8) + r.val % 8 := by omega
  have hl : r.val % 8 < 8 := by omega
  generalize r.val / 8 = b at hr ⊢
  generalize r.val % 8 = s at hr hl ⊢
  rw [hr]
  interval_cases s <;> exact ⟨congrArg (hal g) (by omega), congrArg (hal g) (by omega)⟩

/-- The five taps of a convolution, as read from a 1 × 512 row each. -/
def taps (a b c d e : Vec Ideal S1x512 .f32) (n : Fin 512) : Fin 5 → EReal := ![a (ix2 0 n), b (ix2 0 n), c (ix2 0 n), d (ix2 0 n), e (ix2 0 n)]

theorem conv_q (v31 : FVec Ideal S272x1024 .f32) (v32 : Vec Ideal S1x1x1x1024 .f32) (v38 : Vec Ideal S1024x512 .bf16) (a b c' d e : Vec Ideal S1x512 .f32)
    (g : Fin 512 → Fin 256 → EReal) (hE : ∀ b s c, k0_pay5 (F := Ideal) 0#32 v31 v32 v38 (ix3 b s c) = hal (g c) (8 * b + s)) (r : Fin 256) (c : Fin 512) :
    k0_pay7 (F := Ideal) (k0_pay5 0#32 v31 v32 v38) (iota .tc S1x8x512 32 [1] iota_S1x8x512_d1_w32) (k0_pay6 0#32 v31 v32 v38 a b) c' d e (ix2 r c)
      = silT (conv5 (g c) (taps a b c' d e c) r) := by
  unfold k0_pay7 k0_pay6
  pointwise [dot_S272x1024_S1024x512_S272x512_1_0_0_1_n_n]
  have h1 := shift_dn (g c) r
  have h2 := shift_up (g c) r
  have e1 : 8 * (1 + r.val / 8) + r.val % 8 = r + 8 := by omega
  simp only [hE, h1.1, h1.2, h2.1, h2.2, e1]
  simp only [silT, half, conv5, taps, Matrix.cons_val]

theorem conv_k (v31 : FVec Ideal S272x1024 .bf16) (v38 : Vec Ideal S1024x512 .bf16) (a b c' d e : Vec Ideal S1x512 .f32)
    (g : Fin 512 → Fin 256 → EReal) (hE : ∀ b s c, k0_pay14 (F := Ideal) 0#32 v31 v38 (ix3 b s c) = hal (g c) (8 * b + s)) (r : Fin 256) (c : Fin 512) :
    k0_pay18 (F := Ideal) (k0_pay14 0#32 v31 v38) (iota .tc S1x8x512 32 [1] iota_S1x8x512_d1_w32) (k0_pay15 0#32 v31 v38 a b) (k0_pay16 0#32 v31 v38) (k0_pay17 c') d e (ix2 r c)
      = silT (conv5 (g c) (taps a b c' d e c) r) := by
  unfold k0_pay18 k0_pay15 k0_pay16 k0_pay17
  pointwise [dot_S272x1024_S1024x512_S272x512_1_0_0_1_n_n]
  have h1 := shift_dn (g c) r
  have h2 := shift_up (g c) r
  have e1 : 8 * (1 + r.val / 8) + r.val % 8 = r + 8 := by omega
  simp only [hE, h1.1, h1.2, h2.1, h2.2, e1]
  simp only [silT, half, conv5, taps, Matrix.cons_val]

theorem conv_v (v31 : FVec Ideal S272x512 .f32) (a b c' d e : Vec Ideal S1x512 .f32)
    (g : Fin 512 → Fin 256 → EReal) (hE : ∀ b s c, k0_pay24 (F := Ideal) 0#32 v31 (ix3 b s c) = hal (g c) (8 * b + s)) (r : Fin 256) (c : Fin 512) :
    k0_pay26 (F := Ideal) (k0_pay24 0#32 v31) (iota .tc S1x8x512 32 [1] iota_S1x8x512_d1_w32) (k0_pay25 0#32 v31 a b c') d e (ix2 r c)
      = silT (conv5 (g c) (taps a b c' d e c) r) := by
  unfold k0_pay26 k0_pay25
  pointwise [dot_S272x1024_S1024x512_S272x512_1_0_0_1_n_n]
  have h1 := shift_dn (g c) r
  have h2 := shift_up (g c) r
  have e1 : 8 * (1 + r.val / 8) + r.val % 8 = r + 8 := by omega
  simp only [hE, h1.1, h1.2, h2.1, h2.2, e1]
  simp only [silT, half, conv5, taps, Matrix.cons_val]

/-- A head of a convolved row, brought to unit length. -/
def headN (k : EReal) (y : Fin 512 → EReal) (b : Nat) (hb : b < 4) (d : Fin 128) : EReal :=
  y ⟨128 * b + d, by omega⟩ * (len (fun d => y ⟨128 * b + d, by omega⟩) * k)

theorem head_congr (k : EReal) (y : Fin 512 → EReal) (b : Nat) (hb : b < 4) (d : Fin 128) (e : Nat → Fin 128 → Fin 512)
    (he : ∀ d, e b d = ⟨128 * b + d, by omega⟩) :
    y (e b d) * (Ideal.rsqrt (∑ d, y (e b d) * y (e b d) + Ideal.ofBits FTy.f32 897988541#32) * k) = headN k y b hb d := by
  simp only [he, headN, len]

theorem pay11_apply (y : FVec Ideal S256x512 .f32) (r : Fin 256) (d : Fin 128) :
    k0_pay11 (F := Ideal) y (ix2 r d) = headN (Ideal.ofBits FTy.f32 0x3DB504F3#32) (fun c => y (ix2 r c)) 1 (by omega) d := by
  unfold k0_pay11
  pointwise [dot_S272x1024_S1024x512_S272x512_1_0_0_1_n_n]
  rfl

theorem pay12_apply (y : FVec Ideal S256x512 .f32) (r : Fin 256) (d : Fin 128) :
    k0_pay12 (F := Ideal) y (ix2 r d) = headN (Ideal.ofBits FTy.f32 0x3DB504F3#32) (fun c => y (ix2 r c)) 2 (by omega) d := by
  unfold k0_pay12
  pointwise [dot_S272x1024_S1024x512_S272x512_1_0_0_1_n_n]
  rfl

theorem pay13_apply (y : FVec Ideal S256x512 .f32) (r : Fin 256) (d : Fin 128) :
    k0_pay13 (F := Ideal) y (ix2 r d) = headN (Ideal.ofBits FTy.f32 0x3DB504F3#32) (fun c => y (ix2 r c)) 3 (by omega) d := by
  unfold k0_pay13
  pointwise [dot_S272x1024_S1024x512_S272x512_1_0_0_1_n_n]
  rfl

theorem pay20_apply (y : FVec Ideal S256x512 .f32) (r : Fin 256) (d : Fin 128) :
    k0_pay20 (F := Ideal) y (ix2 r d) = headN 1 (fun c => y (ix2 r c)) 1 (by omega) d := by
  unfold k0_pay20
  pointwise [dot_S272x1024_S1024x512_S272x512_1_0_0_1_n_n]
  simp only [headN, mul_one]
  rfl

theorem pay21_apply (y : FVec Ideal S256x512 .f32) (r : Fin 256) (d : Fin 128) :
    k0_pay21 (F := Ideal) y (ix2 r d) = headN 1 (fun c => y (ix2 r c)) 2 (by omega) d := by
  unfold k0_pay21
  pointwise [dot_S272x1024_S1024x512_S272x512_1_0_0_1_n_n]
  simp only [headN, mul_one]
  rfl

theorem pay22_apply (y : FVec Ideal S256x512 .f32) (r : Fin 256) (d : Fin 128) :
    k0_pay22 (F := Ideal) y (ix2 r d) = headN 1 (fun c => y (ix2 r c)) 3 (by omega) d := by
  unfold k0_pay22
  pointwise [dot_S272x1024_S1024x512_S272x512_1_0_0_1_n_n]
  simp only [headN, mul_one]
  rfl

theorem pay10_apply (v50 : FVec Ideal S34x8x512 .f32) (v51 : IVec S1x8x512 32) (v76 : FVec Ideal S32x8x512 .f32) (v77 v83 v96 : Vec Ideal S1x512 .f32)
    (r : Fin 256) (d : Fin 128) :
    k0_pay10 (F := Ideal) (k0_pay8 v50 v51 v76 v77 v83 v96) (k0_pay9 v50 v51 v76 v77 v83 v96) (ix2 r d)
      = headN (Ideal.ofBits FTy.f32 0x3DB504F3#32) (fun c => k0_pay7 (F := Ideal) v50 v51 v76 v77 v83 v96 (ix2 r c)) 0 (by omega) d := by
  unfold k0_pay10 k0_pay9 k0_pay8
  pointwise [dot_S272x1024_S1024x512_S272x512_1_0_0_1_n_n]
  simp only [headN, len, Nat.mul_zero, Nat.zero_add]

theorem pay19_apply (v175 : FVec Ideal S34x8x512 .f32) (v176 : IVec S1x8x512 32) (v201 v204 v205 : FVec Ideal S32x8x512 .f32) (v208 v221 : Vec Ideal S1x512 .f32)
    (r : Fin 256) (d : Fin 128) :
    k0_pay19 (F := Ideal) v175 v176 v201 v204 v205 v208 v221 (ix2 r d)
      = headN 1 (fun c => k0_pay18 (F := Ideal) v175 v176 v201 v204 v205 v208 v221 (ix2 r c)) 0 (by omega) d := by
  unfold k0_pay19
  pointwise [dot_S272x1024_S1024x512_S272x512_1_0_0_1_n_n]
  simp only [headN, len, Nat.mul_zero, Nat.zero_add, mul_one]

theorem pay27_apply (v300 : FVec Ideal S34x8x512 .f32) (v301 : IVec S1x8x512 32) (v332 : FVec Ideal S32x8x512 .f32) (v333 v346 : Vec Ideal S1x512 .f32)
    (r : Fin 256) (d : Fin 128) :
    k0_pay27 (F := Ideal) v300 v301 v332 v333 v346 (ix2 r d) = k0_pay26 (F := Ideal) v300 v301 v332 v333 v346 (ix2 r ⟨128 * 0 + d, by omega⟩) := by
  unfold k0_pay27
  pointwise [dot_S272x1024_S1024x512_S272x512_1_0_0_1_n_n]

theorem pay28_apply (v300 : FVec Ideal S34x8x512 .f32) (v301 : IVec S1x8x512 32) (v332 : FVec Ideal S32x8x512 .f32) (v333 v346 : Vec Ideal S1x512 .f32)
    (r : Fin 256) (d : Fin 128) :
    k0_pay28 (F := Ideal) v300 v301 v332 v333 v346 (ix2 r d) = k0_pay26 (F := Ideal) v300 v301 v332 v333 v346 (ix2 r ⟨128 * 1 + d, by omega⟩) := by
  unfold k0_pay28
  pointwise [dot_S272x1024_S1024x512_S272x512_1_0_0_1_n_n]

theorem pay29_apply (v300 : FVec Ideal S34x8x512 .f32) (v301 : IVec S1x8x512 32) (v332 : FVec Ideal S32x8x512 .f32) (v333 v346 : Vec Ideal S1x512 .f32)
    (r : Fin 256) (d : Fin 128) :
    k0_pay29 (F := Ideal) v300 v301 v332 v333 v346 (ix2 r d) = k0_pay26 (F := Ideal) v300 v301 v332 v333 v346 (ix2 r ⟨128 * 2 + d, by omega⟩) := by
  unfold k0_pay29
  pointwise [dot_S272x1024_S1024x512_S272x512_1_0_0_1_n_n]

theorem pay30_apply (v300 : FVec Ideal S34x8x512 .f32) (v301 : IVec S1x8x512 32) (v332 : FVec Ideal S32x8x512 .f32) (v333 v346 : Vec Ideal S1x512 .f32)
    (r : Fin 256) (d : Fin 128) :
    k0_pay30 (F := Ideal) v300 v301 v332 v333 v346 (ix2 r d) = k0_pay26 (F := Ideal) v300 v301 v332 v333 v346 (ix2 r ⟨128 * 3 + d, by omega⟩) := by
  unfold k0_pay30
  pointwise [dot_S272x1024_S1024x512_S272x512_1_0_0_1_n_n]

theorem pay31_apply (v37 : FVec Ideal S256x1024 .bf16) (w : Vec Ideal S1024x512 .bf16) (r : Fin 256) (c : Fin 512) :
    k0_pay31 (F := Ideal) v37 w (ix2 r c) = dotw (fun d => v37 (ix2 r d)) w c := by
  unfold k0_pay31
  pointwise [dot_S256x1024_S1024x512_S256x512_1_0_0_1_n_n]
  rfl

theorem pay33_apply (v37 : FVec Ideal S256x1024 .bf16) (w : Vec Ideal S1024x256 .bf16) (r : Fin 256) (c : Fin 128) :
    k0_pay33 (F := Ideal) v37 w (ix2 r c) = dotw (fun d => v37 (ix2 r d)) w ⟨c, by omega⟩
    ∧ k0_pay34 (F := Ideal) v37 w (ix2 r c) = dotw (fun d => v37 (ix2 r d)) w ⟨128 + c, by omega⟩
    ∧ k0_pay35 (F := Ideal) v37 w (ix3 0 c r) = dotw (fun d => v37 (ix2 r d)) w ⟨c, by omega⟩
    ∧ k0_pay36 (F := Ideal) v37 w (ix3 0 c r) = dotw (fun d => v37 (ix2 r d)) w ⟨128 + c, by omega⟩ := by
  unfold k0_pay33 k0_pay34 k0_pay35 k0_pay36 k0_pay32
  refine ⟨?_, ?_, ?_, ?_⟩ <;> pointwise [dot_S256x1024_S1024x256_S256x256_1_0_0_1_n_n] <;> rfl

theorem pay1_apply (v37 : FVec Ideal S256x1024 .bf16) (w : Vec Ideal S1024x128 .bf16) (dt al : Vec Ideal S1x128 .f32) (r : Fin 256) (c : Fin 128) :
    k0_pay1 (F := Ideal) (k0_pay37 v37 w) (k0_pay38 v37 w dt) al (ix2 r c)
      = gb sigT spK (fun c => dotw (fun d => v37 (ix2 r d)) w c) (fun c => al (ix2 0 c)) (fun c => dt (ix2 0 c)) c := by
  unfold k0_pay1 k0_pay38 k0_pay37
  pointwise [dot_S256x1024_S1024x128_S256x128_1_0_0_1_n_n]
  have k8 : ∀ c : Fin 128, IntOp.cmpi .slt (BitVec.ofNat 32 c.val) 8#32 = if c.val < 8 then 1#1 else 0#1 := by decide
  have k16 : ∀ c : Fin 128, IntOp.cmpi .slt (BitVec.ofNat 32 c.val) 16#32 = if c.val < 16 then 1#1 else 0#1 := by decide
  rw [k8, k16, gb]
  by_cases h8 : c.val < 8
  · rw [if_pos h8, if_pos h8]; rfl
  by_cases h16 : c.val < 16
  · rw [if_neg h8, if_neg h8, if_pos h16, if_pos h16]; rfl
  · rw [if_neg h8, if_neg h8, if_neg h16, if_neg h16]; rfl

/-- Of the twelve stores of 128 lanes each, the store of lanes 128 b … is read back at those lanes, -/
theorem tile_hit (r : Fin 256) (b : Nat) (inb : ∀ a, (![0, 128 * b] : Fin 2 → Nat) a + (![256, 128] : Fin 2 → Nat) a ≤ S256x1536.size a)
    (w : Vec Ideal S256x128 .f32) (L : List (View.Piece (Elt Ideal) S256x1536 .f32)) (y : Fin 128) (i : Fin 1536) (h : i.val = 128 * b + y.val) :
    View.canon ((⟨Rect.unit ![0, 128 * b] ![256, 128] inb, w⟩ : View.Piece (Elt Ideal) S256x1536 .f32) :: L) (ix2 r i) = w (ix2 r y) := by
  have e : ix2 r i = (Rect.unit (s := S256x1536) ![0, 128 * b] ![256, 128] inb).emb (ix2 r y) := by
    refine funext fun a => Fin.ext ?_
    match a with
    | ⟨0, _⟩ => show r.val = 0 + 1 * r.val; omega
    | ⟨1, _⟩ => show i.val = 128 * b + 1 * y.val; omega
  rw [e]; exact View.canon_cons_emb _ _ _ _

/-- and the other stores do not reach them. -/
theorem tile_miss (r : Fin 256) (b : Nat) (inb : ∀ a, (![0, 128 * b] : Fin 2 → Nat) a + (![256, 128] : Fin 2 → Nat) a ≤ S256x1536.size a)
    (w : Vec Ideal S256x128 .f32) (L : List (View.Piece (Elt Ideal) S256x1536 .f32)) (i : Fin 1536) (h : i.val < 128 * b) :
    View.canon ((⟨Rect.unit ![0, 128 * b] ![256, 128] inb, w⟩ : View.Piece (Elt Ideal) S256x1536 .f32) :: L) (ix2 r i) = View.canon L (ix2 r i) := by
  refine View.canon_cons_of_not_mem _ L fun hm => ?_
  obtain ⟨k, hk, he⟩ := (LoadRect.mem_set _).mp hm (1 : Fin 2)
  have he' : i.val = 128 * b + 1 * k := he
  omega

/-- The twelve stores side by side, at an index. -/
theorem tiles (w0 w1 w2 w3 w4 w5 w6 w7 w8 w9 w10 w11 : Vec Ideal S256x128 .f32) (r : Fin 256) (b : Fin 12) (d : Fin 128) :
    View.canon ([⟨r0_33, w11⟩, ⟨r0_32, w10⟩, ⟨r0_31, w9⟩, ⟨r0_30, w8⟩, ⟨r0_23, w7⟩, ⟨r0_22, w6⟩, ⟨r0_21, w5⟩, ⟨r0_20, w4⟩, ⟨r0_13, w3⟩, ⟨r0_12, w2⟩, ⟨r0_11, w1⟩, ⟨r0_10, w0⟩] : List (View.Piece (Elt Ideal) S256x1536 .f32)) (ix2 r ⟨128 * b + d, by omega⟩)
      = (![w0, w1, w2, w3, w4, w5, w6, w7, w8, w9, w10, w11] : Fin 12 → Vec Ideal S256x128 .f32) b (ix2 r d) := by
  have hd := d.isLt
  match b with
  | 0 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans ((tile_miss r 7 (by decide) _ _ _ (by dsimp only; omega)).trans ((tile_miss r 6 (by decide) _ _ _ (by dsimp only; omega)).trans ((tile_miss r 5 (by decide) _ _ _ (by dsimp only; omega)).trans ((tile_miss r 4 (by decide) _ _ _ (by dsimp only; omega)).trans ((tile_miss r 3 (by decide) _ _ _ (by dsimp only; omega)).trans ((tile_miss r 2 (by decide) _ _ _ (by dsimp only; omega)).trans ((tile_miss r 1 (by decide) _ _ _ (by dsimp only; omega)).trans (tile_hit r 0 (by decide) _ _ d _ rfl)))))))))))
  | 1 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans ((tile_miss r 7 (by decide) _ _ _ (by dsimp only; omega)).trans ((tile_miss r 6 (by decide) _ _ _ (by dsimp only; omega)).trans ((tile_miss r 5 (by decide) _ _ _ (by dsimp only; omega)).trans ((tile_miss r 4 (by decide) _ _ _ (by dsimp only; omega)).trans ((tile_miss r 3 (by decide) _ _ _ (by dsimp only; omega)).trans ((tile_miss r 2 (by decide) _ _ _ (by dsimp only; omega)).trans (tile_hit r 1 (by decide) _ _ d _ rfl))))))))))
  | 2 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans ((tile_miss r 7 (by decide) _ _ _ (by dsimp only; omega)).trans ((tile_miss r 6 (by decide) _ _ _ (by dsimp only; omega)).trans ((tile_miss r 5 (by decide) _ _ _ (by dsimp only; omega)).trans ((tile_miss r 4 (by decide) _ _ _ (by dsimp only; omega)).trans ((tile_miss r 3 (by decide) _ _ _ (by dsimp only; omega)).trans (tile_hit r 2 (by decide) _ _ d _ rfl)))))))))
  | 3 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans ((tile_miss r 7 (by decide) _ _ _ (by dsimp only; omega)).trans ((tile_miss r 6 (by decide) _ _ _ (by dsimp only; omega)).trans ((tile_miss r 5 (by decide) _ _ _ (by dsimp only; omega)).trans ((tile_miss r 4 (by decide) _ _ _ (by dsimp only; omega)).trans (tile_hit r 3 (by decide) _ _ d _ rfl))))))))
  | 4 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans ((tile_miss r 7 (by decide) _ _ _ (by dsimp only; omega)).trans ((tile_miss r 6 (by decide) _ _ _ (by dsimp only; omega)).trans ((tile_miss r 5 (by decide) _ _ _ (by dsimp only; omega)).trans (tile_hit r 4 (by decide) _ _ d _ rfl)))))))
  | 5 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans ((tile_miss r 7 (by decide) _ _ _ (by dsimp only; omega)).trans ((tile_miss r 6 (by decide) _ _ _ (by dsimp only; omega)).trans (tile_hit r 5 (by decide) _ _ d _ rfl))))))
  | 6 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans ((tile_miss r 7 (by decide) _ _ _ (by dsimp only; omega)).trans (tile_hit r 6 (by decide) _ _ d _ rfl)))))
  | 7 => exact (tile_miss r 11 (by decide) _ _ _ (by dsimp only; omega)).trans ((tile_miss r 10 (by decide) _ _ _ (by dsimp only; omega)).trans ((tile_miss r 9 (by decide) _ _ _ (by dsimp only; omega)).trans ((tile_miss r 8 (by decide) _ _ _ (by dsimp only; omega)).trans (tile_hit r 7 (by decide) _ _ d _ rfl))))
  | 8 => exact (tile_miss r 11 (by decide) _ _ _ (by dsimp only; omega)).trans ((tile_miss r 10 (by decide) _ _ _ (by dsimp only; omega)).trans ((tile_miss r 9 (by decide) _ _ _ (by dsimp only; omega)).trans (tile_hit r 8 (by decide) _ _ d _ rfl)))
  | 9 => exact (tile_miss r 11 (by decide) _ _ _ (by dsimp only; omega)).trans ((tile_miss r 10 (by decide) _ _ _ (by dsimp only; omega)).trans (tile_hit r 9 (by decide) _ _ d _ rfl))
  | 10 => exact (tile_miss r 11 (by decide) _ _ _ (by dsimp only; omega)).trans (tile_hit r 10 (by decide) _ _ d _ rfl)
  | 11 => exact tile_hit r 11 (by decide) _ _ d _ rfl

/-- The block index within a sequence of one block is zero. -/
theorem v9_zero (i : grid0.Coords) : (Scalar.select (Scalar.andi (Scalar.xori (Scalar.cmpi .slt (Scalar.remsi (BitVec.ofNat 32 (i 0).val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 (i 0).val) (Scalar.select (Scalar.cmpi .eq 1#32 0#32) 1#32 1#32)) 0#32)) (Scalar.addi (Scalar.remsi (BitVec.ofNat 32 (i 0).val) (Scalar.select (Scalar.cmpi .eq 1#32 0#32) 1#32 1#32)) (Scalar.select (Scalar.cmpi .eq 1#32 0#32) 1#32 1#32)) (Scalar.remsi (BitVec.ofNat 32 (i 0).val) (Scalar.select (Scalar.cmpi .eq 1#32 0#32) 1#32 1#32))) = 0#32 := by
  have h : ∀ n : Fin 32, (Scalar.select (Scalar.andi (Scalar.xori (Scalar.cmpi .slt (Scalar.remsi (BitVec.ofNat 32 n.val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 n.val) (Scalar.select (Scalar.cmpi .eq 1#32 0#32) 1#32 1#32)) 0#32)) (Scalar.addi (Scalar.remsi (BitVec.ofNat 32 n.val) (Scalar.select (Scalar.cmpi .eq 1#32 0#32) 1#32 1#32)) (Scalar.select (Scalar.cmpi .eq 1#32 0#32) 1#32 1#32)) (Scalar.remsi (BitVec.ofNat 32 n.val) (Scalar.select (Scalar.cmpi .eq 1#32 0#32) 1#32 1#32))) = 0#32 := by decide
  exact h (i 0)

theorem zero3 : (![0, 0, 0] : Fin 3 → Nat) = fun _ => 0 := funext fun a => by fin_cases a <;> rfl

/-- A band of columns of the weights, and of a tap's row, read at an index. -/
theorem ldw (x6 : Vec Ideal S1024x2432 .bf16) (n k : Nat) (inb : ∀ a, (![0, n] : Fin 2 → Nat) a + (![1024, k] : Fin 2 → Nat) a ≤ S1024x2432.size a)
    (d : Fin 1024) (c : Fin k) (h : n + c.val < 2432) : View.ld x6 (Rect.unit ![0, n] ![1024, k] inb) (ix2 d c) = x6 (ix2 d ⟨n + c.val, h⟩) :=
  congrArg x6 (col_ext (i := (Rect.unit (s := S1024x2432) ![0, n] ![1024, k] inb).emb (ix2 d c)) (by show 0 + 1 * d.val = d.val; omega)
    (by show n + 1 * c.val = n + c.val; omega))

theorem ldc (x9 : Vec Ideal S5x1536 .f32) (j n : Nat) (inb : ∀ a, (![j, n] : Fin 2 → Nat) a + (![1, 512] : Fin 2 → Nat) a ≤ S5x1536.size a)
    (c : Fin 512) (hj : j < 5) (h : n + c.val < 1536) : View.ld x9 (Rect.unit ![j, n] ![1, 512] inb) (ix2 0 c) = x9 (ix2 ⟨j, hj⟩ ⟨n + c.val, h⟩) :=
  congrArg x9 (col_ext (i := (Rect.unit (s := S5x1536) ![j, n] ![1, 512] inb).emb (ix2 0 c)) (by show j + 1 * 0 = j; omega)
    (by show n + 1 * c.val = n + c.val; omega))

section out
variable (v10 : Vec Ideal S8x1024 .f32) (v11 : Vec Ideal S256x1024 .f32) (v12 : Vec Ideal S8x1024 .f32) (v14 : Vec Ideal S1x1024 .f32)
    (v15 v32 : Vec Ideal S1x1x1x1024 .f32) (x6 : Vec Ideal S1024x2432 .bf16) (x9 : Vec Ideal S5x1536 .f32)

/-- The block's rows, normalised and modulated. -/
def hrow (v11 : Vec Ideal S256x1024 .f32) (v14 : Vec Ideal S1x1024 .f32) (v15 v32 : Vec Ideal S1x1x1x1024 .f32) (t : Fin 256) : Fin 1024 → EReal :=
  hmod (fun d => v11 (ix2 t d)) (fun d => v14 (ix2 0 d)) (fun d => v15 (ix4 0 0 0 d)) (fun d => v32 (ix4 0 0 0 d))

theorem pay3_dot (n : Nat) (inb : ∀ a, (![0, n] : Fin 2 → Nat) a + (![1024, 512] : Fin 2 → Nat) a ≤ S1024x2432.size a) (hn : n + 512 ≤ 2432) (m : Fin 256) (c : Fin 512) :
    dotw (fun d => k0_pay3 (F := Ideal) (k0_pay2 v10 v11 v12 v14 v15) v32 (ix2 ⟨m + 8, by omega⟩ d)) (View.ld x6 (Rect.unit ![0, n] ![1024, 512] inb)) c
      = dotw (hrow v11 v14 v15 v32 m) x6 ⟨n + c, by omega⟩ :=
  Finset.sum_congr rfl fun d _ => by
    have hm := m.isLt
    beta_reduce
    rw [pay3_apply _ _ _ _ _ _ _ (by constructor <;> (dsimp only; omega)), ldw x6 n 512 inb d c (by omega)]
    rfl

theorem taps_eq (n : Nat) (hn : n + 512 ≤ 1536) (c : Fin 512)
    (i0 : ∀ a, (![0, n] : Fin 2 → Nat) a + (![1, 512] : Fin 2 → Nat) a ≤ S5x1536.size a) (i1 : ∀ a, (![1, n] : Fin 2 → Nat) a + (![1, 512] : Fin 2 → Nat) a ≤ S5x1536.size a)
    (i2 : ∀ a, (![2, n] : Fin 2 → Nat) a + (![1, 512] : Fin 2 → Nat) a ≤ S5x1536.size a) (i3 : ∀ a, (![3, n] : Fin 2 → Nat) a + (![1, 512] : Fin 2 → Nat) a ≤ S5x1536.size a)
    (i4 : ∀ a, (![4, n] : Fin 2 → Nat) a + (![1, 512] : Fin 2 → Nat) a ≤ S5x1536.size a) :
    taps (View.ld x9 (Rect.unit ![0, n] ![1, 512] i0)) (View.ld x9 (Rect.unit ![1, n] ![1, 512] i1)) (View.ld x9 (Rect.unit ![2, n] ![1, 512] i2))
      (View.ld x9 (Rect.unit ![3, n] ![1, 512] i3)) (View.ld x9 (Rect.unit ![4, n] ![1, 512] i4)) c = fun j => x9 (ix2 j ⟨n + c, by omega⟩) := by
  funext j
  have hc := c.isLt
  match j with
  | 0 => exact ldc x9 0 n i0 c (by omega) (by omega)
  | 1 => exact ldc x9 1 n i1 c (by omega) (by omega)
  | 2 => exact ldc x9 2 n i2 c (by omega) (by omega)
  | 3 => exact ldc x9 3 n i3 c (by omega) (by omega)
  | 4 => exact ldc x9 4 n i4 c (by omega) (by omega)

theorem yq (r : Fin 256) (c : Fin 512) :
    k0_pay7 (F := Ideal) (k0_pay5 0#32 (k0_pay2 v10 v11 v12 v14 v15) v32 (View.ld x6 r0_4)) (iota .tc S1x8x512 32 [1] iota_S1x8x512_d1_w32)
        (k0_pay6 0#32 (k0_pay2 v10 v11 v12 v14 v15) v32 (View.ld x6 r0_4) (View.ld x9 r0_5) (View.ld x9 r0_6)) (View.ld x9 r0_7) (View.ld x9 r0_8) (View.ld x9 r0_9) (ix2 r c)
      = cs silT (hrow v11 v14 v15 v32) x6 x9 r ⟨0 + c, by omega⟩ := by
  rw [conv_q _ _ _ _ _ _ _ _ (fun c t => dotw (hrow v11 v14 v15 v32 t) x6 ⟨0 + c, by omega⟩)
    (blocks _ (fun n c => dotw (fun d => k0_pay3 (F := Ideal) (k0_pay2 v10 v11 v12 v14 v15) v32 (ix2 n d)) (View.ld x6 r0_4) c) (pay5_apply _ _ _) _ fun m c => pay3_dot v10 v11 v12 v14 v15 v32 x6 0 _ (by omega) m c)]
  exact congrArg (fun w => silT (conv5 _ w _)) (taps_eq x9 0 (by omega) c _ _ _ _ _)

theorem yk (r : Fin 256) (c : Fin 512) :
    k0_pay18 (F := Ideal) (k0_pay14 0#32 (k0_pay3 (k0_pay2 v10 v11 v12 v14 v15) v32) (View.ld x6 r0_14)) (iota .tc S1x8x512 32 [1] iota_S1x8x512_d1_w32)
        (k0_pay15 0#32 (k0_pay3 (k0_pay2 v10 v11 v12 v14 v15) v32) (View.ld x6 r0_14) (View.ld x9 r0_15) (View.ld x9 r0_16))
        (k0_pay16 0#32 (k0_pay3 (k0_pay2 v10 v11 v12 v14 v15) v32) (View.ld x6 r0_14)) (k0_pay17 (View.ld x9 r0_17)) (View.ld x9 r0_18) (View.ld x9 r0_19) (ix2 r c)
      = cs silT (hrow v11 v14 v15 v32) x6 x9 r ⟨512 + c, by omega⟩ := by
  rw [conv_k _ _ _ _ _ _ _ (fun c t => dotw (hrow v11 v14 v15 v32 t) x6 ⟨512 + c, by omega⟩)
    (blocks _ (fun n c => dotw (fun d => k0_pay3 (F := Ideal) (k0_pay2 v10 v11 v12 v14 v15) v32 (ix2 n d)) (View.ld x6 r0_14) c) (pay14_apply _ _) _ fun m c => pay3_dot v10 v11 v12 v14 v15 v32 x6 512 _ (by omega) m c)]
  exact congrArg (fun w => silT (conv5 _ w _)) (taps_eq x9 512 (by omega) c _ _ _ _ _)

theorem yv (r : Fin 256) (c : Fin 512) :
    k0_pay26 (F := Ideal) (k0_pay24 0#32 (k0_pay23 (k0_pay3 (k0_pay2 v10 v11 v12 v14 v15) v32) (View.ld x6 r0_24))) (iota .tc S1x8x512 32 [1] iota_S1x8x512_d1_w32)
        (k0_pay25 0#32 (k0_pay23 (k0_pay3 (k0_pay2 v10 v11 v12 v14 v15) v32) (View.ld x6 r0_24)) (View.ld x9 r0_25) (View.ld x9 r0_26) (View.ld x9 r0_27))
        (View.ld x9 r0_28) (View.ld x9 r0_29) (ix2 r c)
      = cs silT (hrow v11 v14 v15 v32) x6 x9 r ⟨1024 + c, by omega⟩ := by
  rw [conv_v _ _ _ _ _ _ (fun c t => dotw (hrow v11 v14 v15 v32 t) x6 ⟨1024 + c, by omega⟩)
    (blocks _ (fun n c => dotw (fun d => k0_pay3 (F := Ideal) (k0_pay2 v10 v11 v12 v14 v15) v32 (ix2 n d)) (View.ld x6 r0_24) c) (pay24_apply _ _) _ fun m c => pay3_dot v10 v11 v12 v14 v15 v32 x6 1024 _ (by omega) m c)]
  exact congrArg (fun w => silT (conv5 _ w _)) (taps_eq x9 1024 (by omega) c _ _ _ _ _)

end out

section of
variable (sil : EReal → EReal) (h : Fin 256 → Fin 1024 → EReal) (w : (⟨2, ![1024, 2432]⟩ : Shape).Idx → EReal) (cv : (⟨2, ![5, 1536]⟩ : Shape).Idx → EReal)
    (t : Fin 256) (y : Fin 512 → EReal) (b : Nat) (hb : b < 4) (d : Fin 128)

theorem q_of (hy : ∀ c, y c = cs sil h w cv t ⟨0 + c, by omega⟩) :
    headN (Ideal.ofBits FTy.f32 0x3DB504F3#32) y b hb d = qkv sil h w cv t ⟨b, by omega⟩ d := by
  rw [qkv, if_pos hb]
  simp only [headN, hy, Nat.zero_add]

theorem k_of (hy : ∀ c, y c = cs sil h w cv t ⟨512 + c, by omega⟩) : headN 1 y b hb d = qkv sil h w cv t ⟨4 + b, by omega⟩ d := by
  rw [qkv, if_neg (by dsimp only; omega), if_pos (by dsimp only; omega)]
  have e : ∀ d : Fin 128, 512 + (128 * b + d.val) = 128 * (4 + b) + d.val := fun d => by omega
  simp only [headN, hy, mul_one, e]

theorem v_of (hy : ∀ c, y c = cs sil h w cv t ⟨1024 + c, by omega⟩) : y ⟨128 * b + d, by omega⟩ = qkv sil h w cv t ⟨8 + b, by omega⟩ d := by
  rw [qkv, if_neg (by dsimp only; omega), if_neg (by dsimp only; omega)]
  have e : ∀ d : Fin 128, 1024 + (128 * b + d.val) = 128 * (8 + b) + d.val := fun d => by omega
  simp only [hy, e]

end of

section blk
variable (i : grid0.Coords) (x0 : Vec Ideal S256x1024 .f32) (x1 x2 : Vec Ideal S8x1024 .f32) (x3 x4 : Vec Ideal S1x1x1x1024 .f32) (x5 : Vec Ideal S1x1024 .f32)
    (x6 : Vec Ideal S1024x2432 .bf16) (x7 x8 : Vec Ideal S256x128 .f32) (x9 : Vec Ideal S5x1536 .f32) (x10 x11 : Vec Ideal S1x128 .f32)

theorem out12_apply (r : Fin 256) (b : Fin 12) (d : Fin 128) :
    out0_12 i x0 x1 x2 x3 x4 x5 x6 x7 x8 x9 x10 x11 (ix2 r ⟨128 * b + d, by omega⟩) = qkv silT (hrow x0 x5 x4 x3) x6 x9 r b d := by
  unfold_out out0_12
  rw [tiles]
  have e0 : View.ld x1 r0_0 = x1 := View.ld_unit_zero zero2 ..
  have e1 : View.ld x0 r0_1 = x0 := View.ld_unit_zero zero2 ..
  have e2 : View.ld x2 r0_0 = x2 := View.ld_unit_zero zero2 ..
  have e3 : View.ld x5 r0_2 = x5 := View.ld_unit_zero zero2 ..
  have e4 : View.ld x4 r0_3 = x4 := View.ld_unit_zero zero4 ..
  have e5 : View.ld x3 r0_3 = x3 := View.ld_unit_zero zero4 ..
  rw [v9_zero, e0, e1, e2, e3, e4, e5]
  have hq := yq x1 x0 x2 x5 x4 x3 x6 x9 r
  have hk := yk x1 x0 x2 x5 x4 x3 x6 x9 r
  have hv := yv x1 x0 x2 x5 x4 x3 x6 x9 r
  match b with
  | 0 => exact (pay10_apply _ _ _ _ _ _ r d).trans (q_of _ _ _ _ _ _ 0 _ _ hq)
  | 1 => exact (pay11_apply _ r d).trans (q_of _ _ _ _ _ _ 1 _ _ hq)
  | 2 => exact (pay12_apply _ r d).trans (q_of _ _ _ _ _ _ 2 _ _ hq)
  | 3 => exact (pay13_apply _ r d).trans (q_of _ _ _ _ _ _ 3 _ _ hq)
  | 4 => exact (pay19_apply _ _ _ _ _ _ _ r d).trans (k_of _ _ _ _ _ _ 0 _ _ hk)
  | 5 => exact (pay20_apply _ r d).trans (k_of _ _ _ _ _ _ 1 _ _ hk)
  | 6 => exact (pay21_apply _ r d).trans (k_of _ _ _ _ _ _ 2 _ _ hk)
  | 7 => exact (pay22_apply _ r d).trans (k_of _ _ _ _ _ _ 3 _ _ hk)
  | 8 => exact (pay27_apply _ _ _ _ _ r d).trans (v_of _ _ _ _ _ (fun c => k0_pay26 (F := Ideal) _ _ _ _ _ (ix2 r c)) 0 (by omega) _ hv)
  | 9 => exact (pay28_apply _ _ _ _ _ r d).trans (v_of _ _ _ _ _ (fun c => k0_pay26 (F := Ideal) _ _ _ _ _ (ix2 r c)) 1 (by omega) _ hv)
  | 10 => exact (pay29_apply _ _ _ _ _ r d).trans (v_of _ _ _ _ _ (fun c => k0_pay26 (F := Ideal) _ _ _ _ _ (ix2 r c)) 2 (by omega) _ hv)
  | 11 => exact (pay30_apply _ _ _ _ _ r d).trans (v_of _ _ _ _ _ (fun c => k0_pay26 (F := Ideal) _ _ _ _ _ (ix2 r c)) 3 (by omega) _ hv)

/-- The rows the remaining products are of. -/
theorem v37_dot (n k : Nat) (inb : ∀ a, (![0, n] : Fin 2 → Nat) a + (![1024, k] : Fin 2 → Nat) a ≤ S1024x2432.size a) (hn : n + k ≤ 2432) (r : Fin 256) (c : Fin k) :
    dotw (fun d => k0_pay42 i x0 x1 x2 x3 x4 x5 x6 x7 x8 x9 x10 x11 (ix2 r d)) (View.ld x6 (Rect.unit ![0, n] ![1024, k] inb)) c
      = dotw (hrow x0 x5 x4 x3 r) x6 ⟨n + c, by omega⟩ := by
  have e1 : View.ld x0 r0_1 = x0 := View.ld_unit_zero zero2 ..
  have e3 : View.ld x5 r0_2 = x5 := View.ld_unit_zero zero2 ..
  have e4 : View.ld x4 r0_3 = x4 := View.ld_unit_zero zero4 ..
  have e5 : View.ld x3 r0_3 = x3 := View.ld_unit_zero zero4 ..
  refine Finset.sum_congr rfl fun d _ => ?_
  unfold k0_pay42 k0_pay39
  beta_reduce
  rw [pay4_apply, e1, e3, e4, e5, ldw x6 n k inb d c (by omega)]
  rfl

theorem out13_apply (r : Fin 256) (c : Fin 512) :
    out0_13 i x0 x1 x2 x3 x4 x5 x6 x7 x8 x9 x10 x11 (ix2 r c) = dotw (hrow x0 x5 x4 x3 r) x6 ⟨1536 + c, by omega⟩ := by
  unfold out0_13
  rw [View.canon_unit_zero zero2, pay31_apply]
  exact v37_dot i x0 x1 x2 x3 x4 x5 x6 x7 x8 x9 x10 x11 1536 512 _ (by omega) r c

theorem out14_apply (r : Fin 256) (c : Fin 128) :
    out0_14 i x0 x1 x2 x3 x4 x5 x6 x7 x8 x9 x10 x11 (ix2 r c) = dotw (hrow x0 x5 x4 x3 r) x6 ⟨2048 + c, by omega⟩ := by
  unfold out0_14
  rw [View.canon_unit_zero zero2, (pay33_apply _ _ _ _).1]
  exact v37_dot i x0 x1 x2 x3 x4 x5 x6 x7 x8 x9 x10 x11 2048 256 _ (by omega) r ⟨c, by omega⟩

theorem out15_apply (r : Fin 256) (c : Fin 128) :
    out0_15 i x0 x1 x2 x3 x4 x5 x6 x7 x8 x9 x10 x11 (ix2 r c) = dotw (hrow x0 x5 x4 x3 r) x6 ⟨2048 + (128 + c), by omega⟩ := by
  unfold out0_15
  rw [View.canon_unit_zero zero2, (pay33_apply _ _ _ _).2.1]
  exact v37_dot i x0 x1 x2 x3 x4 x5 x6 x7 x8 x9 x10 x11 2048 256 _ (by omega) r ⟨128 + c, by omega⟩

theorem out17_apply (c : Fin 128) (r : Fin 256) :
    out0_17 i x0 x1 x2 x3 x4 x5 x6 x7 x8 x9 x10 x11 (ix3 0 c r) = dotw (hrow x0 x5 x4 x3 r) x6 ⟨2048 + c, by omega⟩ := by
  unfold out0_17
  rw [View.canon_unit_zero zero3, (pay33_apply _ _ _ _).2.2.1]
  exact v37_dot i x0 x1 x2 x3 x4 x5 x6 x7 x8 x9 x10 x11 2048 256 _ (by omega) r ⟨c, by omega⟩

theorem out18_apply (c : Fin 128) (r : Fin 256) :
    out0_18 i x0 x1 x2 x3 x4 x5 x6 x7 x8 x9 x10 x11 (ix3 0 c r) = dotw (hrow x0 x5 x4 x3 r) x6 ⟨2048 + (128 + c), by omega⟩ := by
  unfold out0_18
  rw [View.canon_unit_zero zero3, (pay33_apply _ _ _ _).2.2.2]
  exact v37_dot i x0 x1 x2 x3 x4 x5 x6 x7 x8 x9 x10 x11 2048 256 _ (by omega) r ⟨128 + c, by omega⟩

theorem out16_apply (r : Fin 256) (c : Fin 128) :
    out0_16 i x0 x1 x2 x3 x4 x5 x6 x7 x8 x9 x10 x11 (ix2 r c)
      = gb sigT spK (fun c => dotw (hrow x0 x5 x4 x3 r) x6 ⟨2304 + c, by omega⟩) (fun c => x10 (ix2 0 c)) (fun c => x11 (ix2 0 c)) c := by
  have e10 : View.ld x10 r0_40 = x10 := View.ld_unit_zero zero2 ..
  have e11 : View.ld x11 r0_40 = x11 := View.ld_unit_zero zero2 ..
  unfold out0_16
  rw [View.canon_unit_zero zero2, pay1_apply, e10, e11]
  exact congrArg (fun f => gb sigT spK f (fun c => x10 (ix2 0 c)) (fun c => x11 (ix2 0 c)) c)
    (funext fun c => v37_dot i x0 x1 x2 x3 x4 x5 x6 x7 x8 x9 x10 x11 2304 128 _ (by omega) r c)

end blk

end Cert.Proof.Inproj
-- ==== Proof.InprojRef.lean ====
/-
  The input projection's reference read at an index: its seven results are the projection's row mathematics of the rows of
  its arguments, sequence by sequence.
-/
module

public import proofs.«01_k».proof.Proof.Gen.Reference5Ideal.Read
public import proofs.«01_k».proof.Proof.InprojBlock

@[expose] public section

set_option maxRecDepth 16384

noncomputable section

namespace Cert.Proof.InprojRef

open Cert.Reference5Ideal Cert.Reference5Ideal.Gen Cert.Reference5Ideal.Read Idealize.ShloMosaic Cert.Proof.Ffn
open Cert.Proof.Merge (sigL)
open Cert.Proof.Inproj (hal conv5 cs len qkv gb)

/-- Token `t` of sequence `b` as a row. -/
def tok (b : Fin 32) (t : Fin 256) : Fin 8192 := ⟨b * 256 + t, by omega⟩

/-- The softplus as the reference writes it. -/
def spL (x : EReal) : EReal := max x 0 + Ideal.log1p (Ideal.exp (-(max x (-x))))

variable (x0 : (⟨S8192x1024, .f32⟩ : BufTy).Contents (Elt Ideal)) (x1 : (⟨S16x9x1x1024, .f32⟩ : BufTy).Contents (Elt Ideal))
  (x2 : (⟨S1x1024, .f32⟩ : BufTy).Contents (Elt Ideal)) (x3 : (⟨S1024x2432, .bf16⟩ : BufTy).Contents (Elt Ideal))
  (x6 : (⟨S5x1536, .f32⟩ : BufTy).Contents (Elt Ideal)) (x7 x8 : (⟨S1x128, .f32⟩ : BufTy).Contents (Elt Ideal))

/-- The rows of a sequence, normalised and modulated. -/
def hR (x0 : (⟨S8192x1024, .f32⟩ : BufTy).Contents (Elt Ideal)) (x1 : (⟨S16x9x1x1024, .f32⟩ : BufTy).Contents (Elt Ideal))
    (x2 : (⟨S1x1024, .f32⟩ : BufTy).Contents (Elt Ideal)) (b : Fin 32) (t : Fin 256) : Fin 1024 → EReal :=
  hmod (fun d => x0 (ix2 (tok b t) d)) (fun d => x2 (ix2 0 d)) (fun d => x1 (ix4 0 4 0 d)) (fun d => x1 (ix4 0 3 0 d))

theorem v0_at (b : Fin 32) (t : Fin 256) (d : Fin 1024) : val_main_v0 (F := Ideal) x0 (ix3 b t d) = x0 (ix2 (tok b t) d) := by
  rw [val_main_v0_apply]
  refine congrArg x0 (funext fun a => Fin.ext ?_)
  match a with
  | ⟨0, _⟩ => show ((b.val * 256 + t.val) * 1024 + d.val) / 1024 = b.val * 256 + t.val; omega
  | ⟨1, _⟩ => show ((b.val * 256 + t.val) * 1024 + d.val) % 1024 = d.val; omega

theorem v2_at (d : Fin 1024) : val_main_v2 (F := Ideal) x1 (ix2 0 d) = x1 (ix4 0 3 0 d) := by
  rw [val_main_v2_apply, val_main_v1_apply]
  refine congrArg x1 (funext fun a => ?_)
  fin_cases a <;> first | rfl | exact Fin.ext (by show (0 * 1024 + d.val) % 1024 = d.val; omega)

theorem v4_at (d : Fin 1024) : val_main_v4 (F := Ideal) x1 (ix2 0 d) = x1 (ix4 0 4 0 d) := by
  rw [val_main_v4_apply, val_main_v3_apply]
  refine congrArg x1 (funext fun a => ?_)
  fin_cases a <;> first | rfl | exact Fin.ext (by show (0 * 1024 + d.val) % 1024 = d.val; omega)

/-- The modulated, normalised row. -/
theorem v25_at (b : Fin 32) (t : Fin 256) (d : Fin 1024) : val_main_v25 (F := Ideal) x0 x1 x2 (ix3 b t d) = hR x0 x1 x2 b t d := by
  simp only [val_main_v25_apply, val_main_v24_apply, val_main_v23_apply, val_main_v22_apply, val_main_v21_apply, val_main_v20_apply,
    val_main_v19_apply, val_main_v18_apply, val_main_cst_2_apply, val_main_v17_apply, val_main_v16_apply, val_main_v15_apply,
    val_main_v14_apply, val_main_v13_apply, val_main_v12_apply, val_main_v11_apply, val_main_v10_apply, val_main_cst_1_apply,
    val_main_v9_apply, val_main_v8_apply, val_main_cst_0_apply, val_main_v7_apply, val_main_v6_apply, val_main_cst_apply, val_main_v5_apply]
  have e1 : ∀ k, idx_main_v6 (idx_main_v7 (idx_main_v13 (ix3 b t d))) k = ix3 b t k := fun k => funext fun a => by fin_cases a <;> rfl
  have e2 : idx_main_v15 (idx_main_v16 (ix3 b t d)) = ix2 0 d := funext fun a => by fin_cases a <;> rfl
  have e3 : idx_main_v20 (idx_main_v21 (ix3 b t d)) = ix2 0 d := funext fun a => by fin_cases a <;> rfl
  have e4 : idx_main_v23 (idx_main_v24 (ix3 b t d)) = ix2 0 d := funext fun a => by fin_cases a <;> rfl
  simp only [e1, e2, e3, e4, v0_at, v2_at, v4_at]
  simp only [hR, hmod, rms, Ideal.ofBits_def, Ideal.ofBits_zero_f32, zero_add, Ideal.ofBits_one_f32, ← mul_assoc]
  rfl

/-- One entry of the projection. -/
theorem v27_at (b : Fin 32) (t : Fin 256) (f : Fin 2432) : val_main_v27 (F := Ideal) x0 x1 x2 x3 (ix3 b t f) = dotw (hR x0 x1 x2 b t) x3 f := by
  rw [val_main_v27_apply, dotw]
  refine Finset.sum_congr rfl fun k _ => ?_
  have e1 : lidx_main_v27 (ix3 b t f) k = ix3 b t k := funext fun a => by fin_cases a <;> rfl
  have e2 : ridx_main_v27 (ix3 b t f) k = ix2 k f := funext fun a => by fin_cases a <;> rfl
  rw [e1, e2, v25_at]
  rfl

theorem v28_at (b : Fin 32) (t : Fin 256) (c : Fin 1536) : val_main_v28 (F := Ideal) x0 x1 x2 x3 (ix3 b t c) = dotw (hR x0 x1 x2 b t) x3 ⟨c, by omega⟩ := by
  rw [val_main_v28_apply, ← v27_at]
  exact congrArg _ (funext fun a => by fin_cases a <;> rfl)

/-- The projection with two rows of zeros before and after the sequence. -/
theorem v33_at (b : Fin 32) (s : Fin 260) (c : Fin 1536) : val_main_v33 (F := Ideal) x0 x1 x2 x3 (ix3 b s c)
    = hal (fun t => dotw (hR x0 x1 x2 b t) x3 ⟨c, by omega⟩) (s + 6) := by
  have hs := s.isLt
  have hz : val_main_call0_v0 (F := Ideal) (Shape.Idx.first h_S_) = 0 := by
    rw [val_main_call0_v0_apply, val_main_c_apply]
    show (((0#32 : BitVec 32).toInt : ℝ) : EReal) = 0
    simp
  unfold val_main_v33 pad
  rw [hz, hal]
  by_cases h : 8 ≤ s.val + 6 ∧ s.val + 6 < 264
  · rw [dif_pos h]
    have hin : ∀ a : Fin 3, (![0, 2, 0] : Fin 3 → Nat) a ≤ ((ix3 b s c : S32x260x1536.Idx) a).val ∧ (((ix3 b s c : S32x260x1536.Idx) a).val - (![0, 2, 0] : Fin 3 → Nat) a) % ((![0, 0, 0] : Fin 3 → Nat) a + 1) = 0
        ∧ (((ix3 b s c : S32x260x1536.Idx) a).val - (![0, 2, 0] : Fin 3 → Nat) a) / ((![0, 0, 0] : Fin 3 → Nat) a + 1) < S32x256x1536.size a := by
      intro a
      have hb := b.isLt; have hc := c.isLt
      match a with
      | ⟨0, _⟩ => show 0 ≤ b.val ∧ (b.val - 0) % 1 = 0 ∧ (b.val - 0) / 1 < 32; omega
      | ⟨1, _⟩ => show 2 ≤ s.val ∧ (s.val - 2) % 1 = 0 ∧ (s.val - 2) / 1 < 256; omega
      | ⟨2, _⟩ => show 0 ≤ c.val ∧ (c.val - 0) % 1 = 0 ∧ (c.val - 0) / 1 < 1536; omega
    refine (dif_pos hin).trans ?_
    rw [← v28_at]
    refine congrArg _ (funext fun a => Fin.ext ?_)
    match a with
    | ⟨0, _⟩ => show (b.val - 0) / 1 = b.val; omega
    | ⟨1, _⟩ => show (s.val - 2) / 1 = s.val + 6 - 8; omega
    | ⟨2, _⟩ => show (c.val - 0) / 1 = c.val; omega
  · rw [dif_neg h]
    refine dif_neg fun hin => h ?_
    have h1 : 2 ≤ s.val ∧ (s.val - 2) % 1 = 0 ∧ (s.val - 2) / 1 < 256 := hin (1 : Fin 3)
    omega

/-- The convolved projection through the silu. -/
theorem v68_at (b : Fin 32) (t : Fin 256) (c : Fin 1536) : val_main_v68 (F := Ideal) x0 x1 x2 x3 x6 (ix3 b t c) = cs silL (hR x0 x1 x2 b) x3 x6 t c := by
  have y : val_main_v67 (F := Ideal) x0 x1 x2 x3 x6 (ix3 b t c) = conv5 (fun t => dotw (hR x0 x1 x2 b t) x3 ⟨c, by omega⟩) (fun j => x6 (ix2 j c)) t := by
    simp only [val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply]
    have a0 : idx_main_v34 (ix3 b t c) = ix3 b ⟨t + 0, by omega⟩ c := funext fun a => by fin_cases a <;> first | rfl | exact Fin.ext (Nat.add_comm _ _)
    have t0 : idx_main_v35 (idx_main_v36 (idx_main_v37 (idx_main_v38 (ix3 b t c)))) = ix2 0 c := funext fun a => by fin_cases a <;> first | rfl | exact Fin.ext (by show c.val % 1536 = c.val; omega)
    have a1 : idx_main_v40 (ix3 b t c) = ix3 b ⟨t + 1, by omega⟩ c := funext fun a => by fin_cases a <;> first | rfl | exact Fin.ext (Nat.add_comm _ _)
    have t1 : idx_main_v41 (idx_main_v42 (idx_main_v43 (idx_main_v44 (ix3 b t c)))) = ix2 1 c := funext fun a => by fin_cases a <;> first | rfl | exact Fin.ext (by show c.val % 1536 = c.val; omega)
    have a2 : idx_main_v47 (ix3 b t c) = ix3 b ⟨t + 2, by omega⟩ c := funext fun a => by fin_cases a <;> first | rfl | exact Fin.ext (Nat.add_comm _ _)
    have t2 : idx_main_v48 (idx_main_v49 (idx_main_v50 (idx_main_v51 (ix3 b t c)))) = ix2 2 c := funext fun a => by fin_cases a <;> first | rfl | exact Fin.ext (by show c.val % 1536 = c.val; omega)
    have a3 : idx_main_v54 (ix3 b t c) = ix3 b ⟨t + 3, by omega⟩ c := funext fun a => by fin_cases a <;> first | rfl | exact Fin.ext (Nat.add_comm _ _)
    have t3 : idx_main_v55 (idx_main_v56 (idx_main_v57 (idx_main_v58 (ix3 b t c)))) = ix2 3 c := funext fun a => by fin_cases a <;> first | rfl | exact Fin.ext (by show c.val % 1536 = c.val; omega)
    have a4 : idx_main_v61 (ix3 b t c) = ix3 b ⟨t + 4, by omega⟩ c := funext fun a => by fin_cases a <;> first | rfl | exact Fin.ext (Nat.add_comm _ _)
    have t4 : idx_main_v62 (idx_main_v63 (idx_main_v64 (idx_main_v65 (ix3 b t c)))) = ix2 4 c := funext fun a => by fin_cases a <;> first | rfl | exact Fin.ext (by show c.val % 1536 = c.val; omega)
    simp only [a0, a1, a2, a3, a4, t0, t1, t2, t3, t4, v33_at]
    rfl
  simp only [val_main_v68_apply, val_main_call1_v5_apply, val_main_call1_v4_apply, val_main_call1_cst_0_apply, val_main_call1_v3_apply,
    val_main_call1_v2_apply, val_main_call1_cst_apply, val_main_call1_v1_apply, val_main_call1_v0_apply, y]
  simp only [cs, silL, Ideal.ofBits_def, Ideal.ofBits_one_f32]
  rfl

/-- The heads of the queries and of the keys. -/
theorem v70_at (b : Fin 32) (t : Fin 256) (h : Fin 4) (d : Fin 128) : val_main_v70 (F := Ideal) x0 x1 x2 x3 x6 (ix4 b t h d)
    = cs silL (hR x0 x1 x2 b) x3 x6 t ⟨128 * (0 + h) + d, by omega⟩ := by
  rw [val_main_v70_apply, val_main_v69_apply, ← v68_at]
  refine congrArg _ (funext fun a => Fin.ext ?_)
  match a with
  | ⟨0, _⟩ => show (((b.val * 256 + t.val) * 4 + h.val) * 128 + d.val) / 131072 = b.val; omega
  | ⟨1, _⟩ => show (((b.val * 256 + t.val) * 4 + h.val) * 128 + d.val) / 512 % 256 = t.val; omega
  | ⟨2, _⟩ => show (((b.val * 256 + t.val) * 4 + h.val) * 128 + d.val) % 512 = 128 * (0 + h.val) + d.val; omega

theorem v82_at (b : Fin 32) (t : Fin 256) (h : Fin 4) (d : Fin 128) : val_main_v82 (F := Ideal) x0 x1 x2 x3 x6 (ix4 b t h d)
    = cs silL (hR x0 x1 x2 b) x3 x6 t ⟨128 * (4 + h) + d, by omega⟩ := by
  rw [val_main_v82_apply, val_main_v81_apply, ← v68_at]
  refine congrArg _ (funext fun a => Fin.ext ?_)
  match a with
  | ⟨0, _⟩ => show (((b.val * 256 + t.val) * 4 + h.val) * 128 + d.val) / 131072 = b.val; omega
  | ⟨1, _⟩ => show (((b.val * 256 + t.val) * 4 + h.val) * 128 + d.val) / 512 % 256 = t.val; omega
  | ⟨2, _⟩ => show 512 + (((b.val * 256 + t.val) * 4 + h.val) * 128 + d.val) % 512 = 128 * (4 + h.val) + d.val; omega

/-- A head brought to unit length. -/
theorem v80_at (b : Fin 32) (t : Fin 256) (h : Fin 4) (d : Fin 128) : val_main_v80 (F := Ideal) x0 x1 x2 x3 x6 (ix4 b t h d)
    = cs silL (hR x0 x1 x2 b) x3 x6 t ⟨128 * (0 + h) + d, by omega⟩ * (len (fun d => cs silL (hR x0 x1 x2 b) x3 x6 t ⟨128 * (0 + h) + d, by omega⟩) * Ideal.ofBits FTy.f32 0x3DB504F3#32) := by
  simp only [val_main_v80_apply, val_main_v79_apply, val_main_cst_5_apply, val_main_v78_apply, val_main_v77_apply, val_main_v76_apply, val_main_v75_apply, val_main_v74_apply, val_main_cst_4_apply, val_main_v73_apply, val_main_v72_apply, val_main_cst_3_apply, val_main_v71_apply]
  have e : ∀ k, idx_main_v72 (idx_main_v73 (idx_main_v77 (ix4 b t h d))) k = ix4 b t h k := fun k => funext fun a => by fin_cases a <;> rfl
  simp only [e, v70_at, len, Ideal.ofBits_def, Ideal.ofBits_zero_f32, zero_add, ← mul_assoc]
  rfl

/-- A head brought to unit length. -/
theorem v90_at (b : Fin 32) (t : Fin 256) (h : Fin 4) (d : Fin 128) : val_main_v90 (F := Ideal) x0 x1 x2 x3 x6 (ix4 b t h d)
    = cs silL (hR x0 x1 x2 b) x3 x6 t ⟨128 * (4 + h) + d, by omega⟩ * len (fun d => cs silL (hR x0 x1 x2 b) x3 x6 t ⟨128 * (4 + h) + d, by omega⟩) := by
  simp only [val_main_v90_apply, val_main_v89_apply, val_main_v88_apply, val_main_v87_apply, val_main_v86_apply, val_main_cst_7_apply, val_main_v85_apply, val_main_v84_apply, val_main_cst_6_apply, val_main_v83_apply]
  have e : ∀ k, idx_main_v84 (idx_main_v85 (idx_main_v89 (ix4 b t h d))) k = ix4 b t h k := fun k => funext fun a => by fin_cases a <;> rfl
  simp only [e, v82_at, len, Ideal.ofBits_def, Ideal.ofBits_zero_f32, zero_add, ← mul_assoc]
  rfl

/-- Queries, keys and values side by side. -/
theorem v94_at (b : Fin 32) (t : Fin 256) (g : Fin 12) (d : Fin 128) : val_main_v94 (F := Ideal) x0 x1 x2 x3 x6 (ix3 b t ⟨128 * g + d, by omega⟩)
    = qkv silL (hR x0 x1 x2 b) x3 x6 t g d := by
  have hb := b.isLt; have ht := t.isLt; have hg := g.isLt; have hd := d.isLt
  unfold val_main_v94
  pointwise
  rw [qkv]
  by_cases h1 : g.val < 4
  · rw [dif_pos (by omega), if_pos h1, val_main_v92_apply]
    have e : idx_main_v92 (ix3 b t ⟨128 * g + d, by omega⟩) = ix4 b t ⟨g, h1⟩ d := by
      refine funext fun a => Fin.ext ?_
      match a with
      | ⟨0, _⟩ => show ((b.val * 256 + t.val) * 512 + (128 * g.val + d.val)) / 131072 = b.val; omega
      | ⟨1, _⟩ => show ((b.val * 256 + t.val) * 512 + (128 * g.val + d.val)) / 512 % 256 = t.val; omega
      | ⟨2, _⟩ => show ((b.val * 256 + t.val) * 512 + (128 * g.val + d.val)) / 128 % 4 = g.val; omega
      | ⟨3, _⟩ => show ((b.val * 256 + t.val) * 512 + (128 * g.val + d.val)) % 128 = d.val; omega
    rw [e, v80_at]
    simp only [Nat.zero_add]
  by_cases h2 : g.val < 8
  · rw [dif_neg (by omega), dif_pos (by omega), if_neg h1, if_pos h2, val_main_v93_apply]
    have e : idx_main_v93 (ix3 b t ⟨128 * g + d - 512, by omega⟩) = ix4 b t ⟨g - 4, by omega⟩ d := by
      refine funext fun a => Fin.ext ?_
      match a with
      | ⟨0, _⟩ => show ((b.val * 256 + t.val) * 512 + (128 * g.val + d.val - 512)) / 131072 = b.val; omega
      | ⟨1, _⟩ => show ((b.val * 256 + t.val) * 512 + (128 * g.val + d.val - 512)) / 512 % 256 = t.val; omega
      | ⟨2, _⟩ => show ((b.val * 256 + t.val) * 512 + (128 * g.val + d.val - 512)) / 128 % 4 = g.val - 4; omega
      | ⟨3, _⟩ => show ((b.val * 256 + t.val) * 512 + (128 * g.val + d.val - 512)) % 128 = d.val; omega
    rw [e, v90_at]
    have e4 : 4 + (g.val - 4) = g := by omega
    simp only [e4]
  · rw [dif_neg (by omega), dif_neg (by omega), if_neg h1, if_neg h2, val_main_v91_apply, ← v68_at]
    refine congrArg _ (funext fun a => Fin.ext ?_)
    match a with
    | ⟨0, _⟩ => rfl
    | ⟨1, _⟩ => rfl
    | ⟨2, _⟩ => show 1024 + (128 * g.val + d.val - 512 - 512) = 128 * g.val + d.val; omega

/-- The softplus of the reference: its guard compares a number with itself. -/
theorem sp_at (b : Fin 32) (t : Fin 256) (c : Fin 8) : val_main_v103 (F := Ideal) x0 x1 x2 x3 x8 (ix3 b t c)
    = spL (dotw (hR x0 x1 x2 b t) x3 ⟨2304 + c, by omega⟩ + x8 (ix2 0 ⟨c, by omega⟩)) := by
  have y : val_main_v102 (F := Ideal) x0 x1 x2 x3 x8 (ix3 b t c) = dotw (hR x0 x1 x2 b t) x3 ⟨2304 + c, by omega⟩ + x8 (ix2 0 ⟨c, by omega⟩) := by
    simp only [val_main_v102_apply, val_main_v101_apply, val_main_v100_apply, val_main_v99_apply, val_main_v98_apply, val_main_v32_apply]
    have e1 : idx_main_v32 (idx_main_v98 (ix3 b t c)) = ix3 b t ⟨2304 + c, by omega⟩ := funext fun a => by fin_cases a <;> rfl
    have e2 : idx_main_v99 (idx_main_v100 (idx_main_v101 (ix3 b t c))) = ix2 0 ⟨c, by omega⟩ := funext fun a => by fin_cases a <;> rfl
    rw [e1, e2, v27_at]
    rfl
  simp only [val_main_v103_apply, val_main_call2_v11_apply, val_main_call2_v10_apply, val_main_call2_v9_apply, val_main_call2_v8_apply,
    val_main_call2_v7_apply, val_main_call2_v6_apply, val_main_call2_v5_apply, val_main_call2_v4_apply, val_main_call2_v3_apply,
    val_main_call2_v2_apply, val_main_call2_v1_apply, val_main_call2_v0_apply, val_main_call2_cst_apply, y, Ideal.ofBits_def, Ideal.ofBits_zero_f32]
  generalize dotw (hR x0 x1 x2 b t) x3 ⟨2304 + c, by omega⟩ + x8 (ix2 0 ⟨c, by omega⟩) = x
  have hc : Ideal.cmp .une (x - 0) (x - 0) = 0#1 := by simp [Ideal.cmp]
  have e : FloatOps.subf (F := Ideal) (φ := .f32) x 0 = x := sub_zero x
  have hc' : FloatOps.cmpf (F := Ideal) (φ := .f32) .une x x = 0#1 := by rw [← hc, sub_zero]; rfl
  rw [e, hc']
  rfl

theorem v115_at (b : Fin 32) (t : Fin 256) (c : Fin 128) : val_main_v115 (F := Ideal) x0 x1 x2 x3 x7 x8 (ix3 b t c)
    = gb sigL spL (fun c => dotw (hR x0 x1 x2 b t) x3 ⟨2304 + c, by omega⟩) (fun c => x7 (ix2 0 c)) (fun c => x8 (ix2 0 c)) c := by
  unfold val_main_v115
  pointwise
  rw [gb]
  by_cases h1 : c.val < 8
  · rw [dif_pos h1, if_pos h1]
    simp only [val_main_v106_apply, val_main_v105_apply, val_main_v104_apply, val_main_v97_apply, val_main_v96_apply, val_main_v95_apply, sp_at]
    have e : idx_main_v95 (idx_main_v104 (idx_main_v105 (ix3 b t ⟨c, h1⟩))) = ix2 0 c := funext fun a => by fin_cases a <;> rfl
    rw [e, zero_sub]
    rfl
  by_cases h2 : c.val < 16
  · rw [dif_neg h1, dif_pos (by omega), if_neg h1, if_pos h2]
    simp only [val_main_v113_apply, val_main_v112_apply, val_main_cst_9_apply, val_main_v111_apply, val_main_v110_apply, val_main_cst_8_apply,
      val_main_v109_apply, val_main_v108_apply, val_main_v107_apply, val_main_v32_apply]
    have e : idx_main_v32 (idx_main_v107 (ix3 b t ⟨c - 8, by omega⟩)) = ix3 b t ⟨2304 + c, by omega⟩ := by
      refine funext fun a => Fin.ext ?_
      match a with
      | ⟨0, _⟩ => rfl
      | ⟨1, _⟩ => rfl
      | ⟨2, _⟩ => show 2304 + (8 + (c.val - 8)) = 2304 + c.val; omega
    rw [e, v27_at]
    simp only [sigL, Ideal.ofBits_def, Ideal.ofBits_one_f32]
    rfl
  · rw [dif_neg h1, dif_neg (by omega), if_neg h1, if_neg h2, val_main_v114_apply, val_main_cst_10_apply, Ideal.ofBits_def, Ideal.ofBits_zero_f32]

/-- The seven results, sequence by sequence. -/
theorem v116_at (b : Fin 32) (t : Fin 256) (g : Fin 12) (d : Fin 128) : val_main_v116 (F := Ideal) x0 x1 x2 x3 x6 (ix2 (tok b t) ⟨128 * g + d, by omega⟩)
    = qkv silL (hR x0 x1 x2 b) x3 x6 t g d := by
  rw [val_main_v116_apply, ← v94_at]
  refine congrArg _ (funext fun a => Fin.ext ?_)
  match a with
  | ⟨0, _⟩ => show ((b.val * 256 + t.val) * 1536 + (128 * g.val + d.val)) / 393216 = b.val; omega
  | ⟨1, _⟩ => show ((b.val * 256 + t.val) * 1536 + (128 * g.val + d.val)) / 1536 % 256 = t.val; omega
  | ⟨2, _⟩ => show ((b.val * 256 + t.val) * 1536 + (128 * g.val + d.val)) % 1536 = 128 * g.val + d.val; omega

theorem v117_at (b : Fin 32) (t : Fin 256) (c : Fin 512) : val_main_v117 (F := Ideal) x0 x1 x2 x3 (ix2 (tok b t) c)
    = dotw (hR x0 x1 x2 b t) x3 ⟨1536 + c, by omega⟩ := by
  rw [val_main_v117_apply, val_main_v29_apply, ← v27_at]
  refine congrArg _ (funext fun a => Fin.ext ?_)
  match a with
  | ⟨0, _⟩ => show ((b.val * 256 + t.val) * 512 + c.val) / 131072 = b.val; omega
  | ⟨1, _⟩ => show ((b.val * 256 + t.val) * 512 + c.val) / 512 % 256 = t.val; omega
  | ⟨2, _⟩ => show 1536 + ((b.val * 256 + t.val) * 512 + c.val) % 512 = 1536 + c.val; omega

theorem v118_at (b : Fin 32) (t : Fin 256) (c : Fin 128) : val_main_v118 (F := Ideal) x0 x1 x2 x3 (ix2 (tok b t) c)
    = dotw (hR x0 x1 x2 b t) x3 ⟨2048 + c, by omega⟩ := by
  rw [val_main_v118_apply, val_main_v30_apply, ← v27_at]
  refine congrArg _ (funext fun a => Fin.ext ?_)
  match a with
  | ⟨0, _⟩ => show ((b.val * 256 + t.val) * 128 + c.val) / 32768 = b.val; omega
  | ⟨1, _⟩ => show ((b.val * 256 + t.val) * 128 + c.val) / 128 % 256 = t.val; omega
  | ⟨2, _⟩ => show 2048 + ((b.val * 256 + t.val) * 128 + c.val) % 128 = 2048 + c.val; omega

theorem v119_at (b : Fin 32) (t : Fin 256) (c : Fin 128) : val_main_v119 (F := Ideal) x0 x1 x2 x3 (ix2 (tok b t) c)
    = dotw (hR x0 x1 x2 b t) x3 ⟨2048 + (128 + c), by omega⟩ := by
  rw [val_main_v119_apply, val_main_v31_apply, ← v27_at]
  refine congrArg _ (funext fun a => Fin.ext ?_)
  match a with
  | ⟨0, _⟩ => show ((b.val * 256 + t.val) * 128 + c.val) / 32768 = b.val; omega
  | ⟨1, _⟩ => show ((b.val * 256 + t.val) * 128 + c.val) / 128 % 256 = t.val; omega
  | ⟨2, _⟩ => show 2176 + ((b.val * 256 + t.val) * 128 + c.val) % 128 = 2048 + (128 + c.val); omega

theorem v120_at (b : Fin 32) (t : Fin 256) (c : Fin 128) : val_main_v120 (F := Ideal) x0 x1 x2 x3 x7 x8 (ix2 (tok b t) c)
    = gb sigL spL (fun c => dotw (hR x0 x1 x2 b t) x3 ⟨2304 + c, by omega⟩) (fun c => x7 (ix2 0 c)) (fun c => x8 (ix2 0 c)) c := by
  rw [val_main_v120_apply, ← v115_at]
  refine congrArg _ (funext fun a => Fin.ext ?_)
  match a with
  | ⟨0, _⟩ => show ((b.val * 256 + t.val) * 128 + c.val) / 32768 = b.val; omega
  | ⟨1, _⟩ => show ((b.val * 256 + t.val) * 128 + c.val) / 128 % 256 = t.val; omega
  | ⟨2, _⟩ => show ((b.val * 256 + t.val) * 128 + c.val) % 128 = c.val; omega

theorem v121_at (b : Fin 32) (c : Fin 128) (t : Fin 256) : val_main_v121 (F := Ideal) x0 x1 x2 x3 (ix3 b c t)
    = dotw (hR x0 x1 x2 b t) x3 ⟨2048 + c, by omega⟩ := by
  rw [val_main_v121_apply, val_main_v30_apply, ← v27_at]
  refine congrArg _ (funext fun a => Fin.ext ?_)
  match a with
  | ⟨0, _⟩ => rfl
  | ⟨1, _⟩ => rfl
  | ⟨2, _⟩ => show 2048 + c.val = 2048 + c.val; omega

theorem v122_at (b : Fin 32) (c : Fin 128) (t : Fin 256) : val_main_v122 (F := Ideal) x0 x1 x2 x3 (ix3 b c t)
    = dotw (hR x0 x1 x2 b t) x3 ⟨2048 + (128 + c), by omega⟩ := by
  rw [val_main_v122_apply, val_main_v31_apply, ← v27_at]
  refine congrArg _ (funext fun a => Fin.ext ?_)
  match a with
  | ⟨0, _⟩ => rfl
  | ⟨1, _⟩ => rfl
  | ⟨2, _⟩ => show 2176 + c.val = 2048 + (128 + c.val); omega

end Cert.Proof.InprojRef
-- ==== Proof.InprojFinal.lean ====
/-
  The input projection's result arrays: sequence by sequence the projection's row mathematics of its arguments.
-/
module

public import proofs.«01_k».proof.Defs
public import proofs.«01_k».proof.Proof.InprojBlock
public import proofs.«01_k».proof.Proof.InprojRef

@[expose] public section

set_option maxRecDepth 16384

noncomputable section

namespace Cert.Proof.Inproj

open Cert.Kernel5Ideal Cert.Kernel5Ideal.Gen Idealize.ShloMosaic Idealize.ShloMosaic.TcCoe Idealize.SL.Sem
open Cert.Proof.Ffn Cert.Proof.Merge
open Cert.Proof.InprojRef (tok hR)

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx3 : ∀ t : Fin cfg0.N, win0_3.index t = ![0, 3, 0, 0] := (by decide +kernel : ∀ t : Fin grid0.N, win0_3.index t = ![0, 3, 0, 0])
theorem idx4 : ∀ t : Fin cfg0.N, win0_4.index t = ![0, 4, 0, 0] := (by decide +kernel : ∀ t : Fin grid0.N, win0_4.index t = ![0, 4, 0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0] := (by decide +kernel : ∀ t : Fin grid0.N, win0_15.index t = ![t.val, 0])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0, 0] := (by decide +kernel : ∀ t : Fin grid0.N, win0_17.index t = ![t.val, 0, 0])
theorem idx18 : ∀ t : Fin cfg0.N, win0_18.index t = ![t.val, 0, 0] := (by decide +kernel : ∀ t : Fin grid0.N, win0_18.index t = ![t.val, 0, 0])
theorem flush12 : ∀ t : Fin cfg0.N, (cfg0.win 12).flush t = true := (by decide +kernel : ∀ t : Fin grid0.N, win0_12.flush t = true)
theorem flush13 : ∀ t : Fin cfg0.N, (cfg0.win 13).flush t = true := (by decide +kernel : ∀ t : Fin grid0.N, win0_13.flush t = true)
theorem flush14 : ∀ t : Fin cfg0.N, (cfg0.win 14).flush t = true := (by decide +kernel : ∀ t : Fin grid0.N, win0_14.flush t = true)
theorem flush15 : ∀ t : Fin cfg0.N, (cfg0.win 15).flush t = true := (by decide +kernel : ∀ t : Fin grid0.N, win0_15.flush t = true)
theorem flush16 : ∀ t : Fin cfg0.N, (cfg0.win 16).flush t = true := (by decide +kernel : ∀ t : Fin grid0.N, win0_16.flush t = true)
theorem flush17 : ∀ t : Fin cfg0.N, (cfg0.win 17).flush t = true := (by decide +kernel : ∀ t : Fin grid0.N, win0_17.flush t = true)
theorem flush18 : ∀ t : Fin cfg0.N, (cfg0.win 18).flush t = true := (by decide +kernel : ∀ t : Fin grid0.N, win0_18.flush t = true)

/-- Grid point of a sequence. -/
def pt (b : Fin 32) : Fin cfg0.N := ⟨b, by have : cfg0.N = 32 := rfl; omega⟩

variable (b : Fin 32)

theorem blk0 (r : Fin 256) (d : Fin 1024) : iblk m c 0 (pt b) (ix2 r d) = m ((c : Thread nD τ).loc main_arg0) (ix2 (tok b r) d) := by
  unfold iblk
  rw [View.read_apply]
  show V m c main_arg0 _ = _
  rw [V_main_arg0]
  have hi := idx0 (pt b)
  refine congrArg _ (funext fun a => Fin.ext ?_)
  match a with
  | ⟨0, _⟩ => show win0_0.index (pt b) 0 * 256 + 1 * r.val = b.val * 256 + r.val
              rw [hi]; show b.val * 256 + 1 * r.val = _; omega
  | ⟨1, _⟩ => show win0_0.index (pt b) 1 * 1024 + 1 * d.val = d.val
              rw [hi]; show 0 * 1024 + 1 * d.val = _; omega

theorem blk3 (d : Fin 1024) : iblk m c 3 (pt b) (ix4 0 0 0 d) = m ((c : Thread nD τ).loc main_arg1) (ix4 0 3 0 d) := by
  unfold iblk
  rw [View.read_apply]
  show V m c main_arg1 _ = _
  rw [V_main_arg1]
  have hi := idx3 (pt b)
  refine congrArg _ (funext fun a => Fin.ext ?_)
  match a with
  | ⟨0, _⟩ => show win0_3.index (pt b) 0 * 1 + 1 * 0 = 0
              rw [hi]; rfl
  | ⟨1, _⟩ => show win0_3.index (pt b) 1 * 1 + 1 * 0 = 3
              rw [hi]; rfl
  | ⟨2, _⟩ => show win0_3.index (pt b) 2 * 1 + 1 * 0 = 0
              rw [hi]; rfl
  | ⟨3, _⟩ => show win0_3.index (pt b) 3 * 1024 + 1 * d.val = d.val
              rw [hi]; show 0 * 1024 + 1 * d.val = _; omega

theorem blk4 (d : Fin 1024) : iblk m c 4 (pt b) (ix4 0 0 0 d) = m ((c : Thread nD τ).loc main_arg1) (ix4 0 4 0 d) := by
  unfold iblk
  rw [View.read_apply]
  show V m c main_arg1 _ = _
  rw [V_main_arg1]
  have hi := idx4 (pt b)
  refine congrArg _ (funext fun a => Fin.ext ?_)
  match a with
  | ⟨0, _⟩ => show win0_4.index (pt b) 0 * 1 + 1 * 0 = 0
              rw [hi]; rfl
  | ⟨1, _⟩ => show win0_4.index (pt b) 1 * 1 + 1 * 0 = 4
              rw [hi]; rfl
  | ⟨2, _⟩ => show win0_4.index (pt b) 2 * 1 + 1 * 0 = 0
              rw [hi]; rfl
  | ⟨3, _⟩ => show win0_4.index (pt b) 3 * 1024 + 1 * d.val = d.val
              rw [hi]; show 0 * 1024 + 1 * d.val = _; omega

/-- The whole-array windows' blocks are the arrays. -/
theorem blk5 (t : Fin cfg0.N) : iblk m c 5 t = m ((c : Thread nD τ).loc main_arg2) := by
  have hz : (fun a => win0_5.index t a * main_arg2.ty.shape.size a) = fun _ => 0 := by
    rw [idx5 t]; funext a; fin_cases a <;> rfl
  exact (Memref.read_access_unit_zero (Elt Ideal) main_arg2 hz (fun a => by rw [congrFun hz a]; simp) _).trans (V_main_arg2 m c)
theorem blk6 (t : Fin cfg0.N) : iblk m c 6 t = m ((c : Thread nD τ).loc main_arg3) := by
  have hz : (fun a => win0_6.index t a * main_arg3.ty.shape.size a) = fun _ => 0 := by
    rw [idx6 t]; funext a; fin_cases a <;> rfl
  exact (Memref.read_access_unit_zero (Elt Ideal) main_arg3 hz (fun a => by rw [congrFun hz a]; simp) _).trans (V_main_arg3 m c)
theorem blk9 (t : Fin cfg0.N) : iblk m c 9 t = m ((c : Thread nD τ).loc main_arg6) := by
  have hz : (fun a => win0_9.index t a * main_arg6.ty.shape.size a) = fun _ => 0 := by
    rw [idx9 t]; funext a; fin_cases a <;> rfl
  exact (Memref.read_access_unit_zero (Elt Ideal) main_arg6 hz (fun a => by rw [congrFun hz a]; simp) _).trans (V_main_arg6 m c)
theorem blk10 (t : Fin cfg0.N) : iblk m c 10 t = m ((c : Thread nD τ).loc main_arg7) := by
  have hz : (fun a => win0_10.index t a * main_arg7.ty.shape.size a) = fun _ => 0 := by
    rw [idx10 t]; funext a; fin_cases a <;> rfl
  exact (Memref.read_access_unit_zero (Elt Ideal) main_arg7 hz (fun a => by rw [congrFun hz a]; simp) _).trans (V_main_arg7 m c)
theorem blk11 (t : Fin cfg0.N) : iblk m c 11 t = m ((c : Thread nD τ).loc main_arg8) := by
  have hz : (fun a => win0_11.index t a * main_arg8.ty.shape.size a) = fun _ => 0 := by
    rw [idx11 t]; funext a; fin_cases a <;> rfl
  exact (Memref.read_access_unit_zero (Elt Ideal) main_arg8 hz (fun a => by rw [congrFun hz a]; simp) _).trans (V_main_arg8 m c)

/-- The block's modulated rows are the sequence's. -/
theorem hrow_eq : hrow (iblk m c 0 (pt b)) (iblk m c 5 (pt b)) (iblk m c 4 (pt b)) (iblk m c 3 (pt b)) = (hR (m ((c : Thread nD τ).loc main_arg0)) (m ((c : Thread nD τ).loc main_arg1)) (m ((c : Thread nD τ).loc main_arg2)) b) := by
  funext t
  simp only [hrow, blk0, blk3, blk4, blk5]
  rfl

/-- The seven result arrays after the run, at an index. -/
theorem final12 (r : Fin 256) (g : Fin 12) (d : Fin 128) :
    (dats m 0 c).arrAt 12 cfg0.N (ix2 (tok b r) ⟨128 * g + d, by omega⟩) = qkv silT (hR (m ((c : Thread nD τ).loc main_arg0)) (m ((c : Thread nD τ).loc main_arg1)) (m ((c : Thread nD τ).loc main_arg2)) b) (m ((c : Thread nD τ).loc main_arg3)) (m ((c : Thread nD τ).loc main_arg6)) r g d := by
  have h := congrFun (Value.blocks12 m c (pt b) (flush12 _)) (ix2 r ⟨128 * g + d, by omega⟩)
  rw [Value.flushed12, View.read_apply] at h
  have hi := idx12 (pt b)
  have e : ((cfg0.win 12).blk (pt b)).view.emb (ix2 r ⟨128 * g + d, by omega⟩) = ix2 (tok b r) ⟨128 * g + d, by omega⟩ := by
    generalize (⟨128 * g + d, by omega⟩ : Fin 1536) = q
    refine funext fun a => Fin.ext ?_
    match a with
    | ⟨0, _⟩ => show win0_12.index (pt b) 0 * 256 + 1 * r.val = b.val * 256 + r.val
                rw [hi]; show b.val * 256 + 1 * r.val = _; omega
    | ⟨1, _⟩ => show win0_12.index (pt b) 1 * 1536 + 1 * q.val = q.val
                rw [hi]; show 0 * 1536 + 1 * q.val = _; omega
  refine (congrArg ((dats m 0 c).arrAt 12 cfg0.N) e).symm.trans (h.trans ?_)
  refine (out12_apply _ _ _ _ _ _ _ _ _ _ _ _ _ r g d).trans ?_
  simp only [hrow_eq, blk6, blk9, blk10, blk11]

theorem final13 (r : Fin 256) (q : Fin 512) :
    (dats m 0 c).arrAt 13 cfg0.N (ix2 (tok b r) q) = dotw ((hR (m ((c : Thread nD τ).loc main_arg0)) (m ((c : Thread nD τ).loc main_arg1)) (m ((c : Thread nD τ).loc main_arg2)) b) r) (m ((c : Thread nD τ).loc main_arg3)) ⟨1536 + q, by omega⟩ := by
  have h := congrFun (Value.blocks13 m c (pt b) (flush13 _)) (ix2 r q)
  rw [Value.flushed13, View.read_apply] at h
  have hi := idx13 (pt b)
  have e : ((cfg0.win 13).blk (pt b)).view.emb (ix2 r q) = ix2 (tok b r) q := by
    refine funext fun a => Fin.ext ?_
    match a with
    | ⟨0, _⟩ => show win0_13.index (pt b) 0 * 256 + 1 * r.val = b.val * 256 + r.val
                rw [hi]; show b.val * 256 + 1 * r.val = _; omega
    | ⟨1, _⟩ => show win0_13.index (pt b) 1 * 512 + 1 * q.val = q.val
                rw [hi]; show 0 * 512 + 1 * q.val = _; omega
  refine (congrArg ((dats m 0 c).arrAt 13 cfg0.N) e).symm.trans (h.trans ?_)
  refine (out13_apply _ _ _ _ _ _ _ _ _ _ _ _ _ r q).trans ?_
  simp only [hrow_eq, blk6, blk9, blk10, blk11]

theorem final14 (r : Fin 256) (q : Fin 128) :
    (dats m 0 c).arrAt 14 cfg0.N (ix2 (tok b r) q) = dotw ((hR (m ((c : Thread nD τ).loc main_arg0)) (m ((c : Thread nD τ).loc main_arg1)) (m ((c : Thread nD τ).loc main_arg2)) b) r) (m ((c : Thread nD τ).loc main_arg3)) ⟨2048 + q, by omega⟩ := by
  have h := congrFun (Value.blocks14 m c (pt b) (flush14 _)) (ix2 r q)
  rw [Value.flushed14, View.read_apply] at h
  have hi := idx14 (pt b)
  have e : ((cfg0.win 14).blk (pt b)).view.emb (ix2 r q) = ix2 (tok b r) q := by
    refine funext fun a => Fin.ext ?_
    match a with
    | ⟨0, _⟩ => show win0_14.index (pt b) 0 * 256 + 1 * r.val = b.val * 256 + r.val
                rw [hi]; show b.val * 256 + 1 * r.val = _; omega
    | ⟨1, _⟩ => show win0_14.index (pt b) 1 * 128 + 1 * q.val = q.val
                rw [hi]; show 0 * 128 + 1 * q.val = _; omega
  refine (congrArg ((dats m 0 c).arrAt 14 cfg0.N) e).symm.trans (h.trans ?_)
  refine (out14_apply _ _ _ _ _ _ _ _ _ _ _ _ _ r q).trans ?_
  simp only [hrow_eq, blk6, blk9, blk10, blk11]

theorem final15 (r : Fin 256) (q : Fin 128) :
    (dats m 0 c).arrAt 15 cfg0.N (ix2 (tok b r) q) = dotw ((hR (m ((c : Thread nD τ).loc main_arg0)) (m ((c : Thread nD τ).loc main_arg1)) (m ((c : Thread nD τ).loc main_arg2)) b) r) (m ((c : Thread nD τ).loc main_arg3)) ⟨2048 + (128 + q), by omega⟩ := by
  have h := congrFun (Value.blocks15 m c (pt b) (flush15 _)) (ix2 r q)
  rw [Value.flushed15, View.read_apply] at h
  have hi := idx15 (pt b)
  have e : ((cfg0.win 15).blk (pt b)).view.emb (ix2 r q) = ix2 (tok b r) q := by
    refine funext fun a => Fin.ext ?_
    match a with
    | ⟨0, _⟩ => show win0_15.index (pt b) 0 * 256 + 1 * r.val = b.val * 256 + r.val
                rw [hi]; show b.val * 256 + 1 * r.val = _; omega
    | ⟨1, _⟩ => show win0_15.index (pt b) 1 * 128 + 1 * q.val = q.val
                rw [hi]; show 0 * 128 + 1 * q.val = _; omega
  refine (congrArg ((dats m 0 c).arrAt 15 cfg0.N) e).symm.trans (h.trans ?_)
  refine (out15_apply _ _ _ _ _ _ _ _ _ _ _ _ _ r q).trans ?_
  simp only [hrow_eq, blk6, blk9, blk10, blk11]

theorem final16 (r : Fin 256) (q : Fin 128) :
    (dats m 0 c).arrAt 16 cfg0.N (ix2 (tok b r) q) = gb sigT spK (fun q => dotw ((hR (m ((c : Thread nD τ).loc main_arg0)) (m ((c : Thread nD τ).loc main_arg1)) (m ((c : Thread nD τ).loc main_arg2)) b) r) (m ((c : Thread nD τ).loc main_arg3)) ⟨2304 + q, by omega⟩) (fun q => m ((c : Thread nD τ).loc main_arg7) (ix2 0 q)) (fun q => m ((c : Thread nD τ).loc main_arg8) (ix2 0 q)) q := by
  have h := congrFun (Value.blocks16 m c (pt b) (flush16 _)) (ix2 r q)
  rw [Value.flushed16, View.read_apply] at h
  have hi := idx16 (pt b)
  have e : ((cfg0.win 16).blk (pt b)).view.emb (ix2 r q) = ix2 (tok b r) q := by
    refine funext fun a => Fin.ext ?_
    match a with
    | ⟨0, _⟩ => show win0_16.index (pt b) 0 * 256 + 1 * r.val = b.val * 256 + r.val
                rw [hi]; show b.val * 256 + 1 * r.val = _; omega
    | ⟨1, _⟩ => show win0_16.index (pt b) 1 * 128 + 1 * q.val = q.val
                rw [hi]; show 0 * 128 + 1 * q.val = _; omega
  refine (congrArg ((dats m 0 c).arrAt 16 cfg0.N) e).symm.trans (h.trans ?_)
  refine (out16_apply _ _ _ _ _ _ _ _ _ _ _ _ _ r q).trans ?_
  simp only [hrow_eq, blk6, blk9, blk10, blk11]

theorem final17 (d : Fin 128) (r : Fin 256) :
    (dats m 0 c).arrAt 17 cfg0.N (ix3 b d r) = dotw ((hR (m ((c : Thread nD τ).loc main_arg0)) (m ((c : Thread nD τ).loc main_arg1)) (m ((c : Thread nD τ).loc main_arg2)) b) r) (m ((c : Thread nD τ).loc main_arg3)) ⟨2048 + d, by omega⟩ := by
  have h := congrFun (Value.blocks17 m c (pt b) (flush17 _)) (ix3 0 d r)
  rw [Value.flushed17, View.read_apply] at h
  have hi := idx17 (pt b)
  have e : ((cfg0.win 17).blk (pt b)).view.emb (ix3 0 d r) = ix3 b d r := by
    refine funext fun a => Fin.ext ?_
    match a with
    | ⟨0, _⟩ => show win0_17.index (pt b) 0 * 1 + 1 * 0 = b.val
                rw [hi]; show b.val * 1 + 1 * 0 = _; omega
    | ⟨1, _⟩ => show win0_17.index (pt b) 1 * 128 + 1 * d.val = d.val
                rw [hi]; show 0 * 128 + 1 * d.val = _; omega
    | ⟨2, _⟩ => show win0_17.index (pt b) 2 * 256 + 1 * r.val = r.val
                rw [hi]; show 0 * 256 + 1 * r.val = _; omega
  refine (congrArg ((dats m 0 c).arrAt 17 cfg0.N) e).symm.trans (h.trans ?_)
  refine (out17_apply _ _ _ _ _ _ _ _ _ _ _ _ _ d r).trans ?_
  simp only [hrow_eq, blk6]

theorem final18 (d : Fin 128) (r : Fin 256) :
    (dats m 0 c).arrAt 18 cfg0.N (ix3 b d r) = dotw ((hR (m ((c : Thread nD τ).loc main_arg0)) (m ((c : Thread nD τ).loc main_arg1)) (m ((c : Thread nD τ).loc main_arg2)) b) r) (m ((c : Thread nD τ).loc main_arg3)) ⟨2048 + (128 + d), by omega⟩ := by
  have h := congrFun (Value.blocks18 m c (pt b) (flush18 _)) (ix3 0 d r)
  rw [Value.flushed18, View.read_apply] at h
  have hi := idx18 (pt b)
  have e : ((cfg0.win 18).blk (pt b)).view.emb (ix3 0 d r) = ix3 b d r := by
    refine funext fun a => Fin.ext ?_
    match a with
    | ⟨0, _⟩ => show win0_18.index (pt b) 0 * 1 + 1 * 0 = b.val
                rw [hi]; show b.val * 1 + 1 * 0 = _; omega
    | ⟨1, _⟩ => show win0_18.index (pt b) 1 * 128 + 1 * d.val = d.val
                rw [hi]; show 0 * 128 + 1 * d.val = _; omega
    | ⟨2, _⟩ => show win0_18.index (pt b) 2 * 256 + 1 * r.val = r.val
                rw [hi]; show 0 * 256 + 1 * r.val = _; omega
  refine (congrArg ((dats m 0 c).arrAt 18 cfg0.N) e).symm.trans (h.trans ?_)
  refine (out18_apply _ _ _ _ _ _ _ _ _ _ _ _ _ d r).trans ?_
  simp only [hrow_eq, blk6]

end Cert.Proof.Inproj
-- ==== Proof.InprojClaims.lean ====
/-
  The claims about the input projection's call: frames, the ideal pass, and the kernel's results equal to the reference's.
-/
module

public import proofs.«01_k».proof.Proof.InprojFinal
public import proofs.«01_k».proof.Proof.InprojRef
public import proofs.«01_k».proof.Proof.FfnClaims
public import proofs.«01_k».proof.Proof.Gen.Kernel5.Frame
public import Idealize.ShloMosaic.Lib.Quiescent

@[expose] public section

set_option maxRecDepth 16384

noncomputable section

namespace Cert.Proof.Inproj

open Idealize.ShloMosaic Idealize.ShloMosaic.TcCoe Idealize.SL.Sem
open Cert.Proof.Ffn
open Cert.Proof.Merge (sigT sigL sigT_eq)
open Cert.Proof.InprojRef (tok hR spL)

/-- The precondition's stated facts. -/
theorem preFacts : Cert.Pre_finite5.Facts where
  bcast_S_S16x9x1x1024 := by decide
  bcast_S_S1x1024 := by decide
  bitsLt_bf16_f32 := by decide
  bcast_S_S1024x2432 := by decide
  bcast_S_S5x1536 := by decide

instance : Cert.Pre_finite5.Facts := preFacts

/-- Every run of the kernel ends, without a fault, arguments kept, counters at zero. -/
theorem frame_k : Cert.quiescent_Kernel5 := fun m ρ _ => Cert.Kernel5.Gen.frame m ρ
theorem frame_ki : Cert.quiescent_Kernel5Ideal := fun m ρ _ => Cert.Kernel5Ideal.Gen.frame m ρ
theorem frame_kip : Cert.quiescent_Kernel5Ideal_pre_finite5 := fun m ρ _ => Cert.Kernel5Ideal.Gen.frame m ρ
/-- The reference's run: it declares no semaphore. -/
theorem frame_ri : Cert.quiescent_Reference5Ideal := fun m ρ _ =>
  (θ_run Cert.Reference5Ideal.defs _ _).mono (fun r h => ⟨fun c => (h c).2.2.2.2.2.2.2,
      Idealize.ShloMosaic.sem_eq_zero_of_no_sems (by decide) r.2⟩)
    (Cert.Reference5Ideal.Value.run (F := Ideal) m ρ)
theorem frame_rip : Cert.quiescent_Reference5Ideal_pre_finite5 := fun m ρ _ => frame_ri m ρ trivial

/-- The ideal pass rewrote nothing. -/
theorem preserves : Cert.preserves_Kernel5_Kernel5Ideal := trivial

/-- The precondition, entry by entry: modulation, norm weight, projection and taps are real. -/
theorem pre_isR (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) :
    (∀ i, IsR (m ((c : Thread Cert.Kernel5Ideal.nD Cert.Kernel5Ideal.τ).loc Cert.Kernel5Ideal.main_arg1) i))
    ∧ (∀ i, IsR (m ((c : Thread Cert.Kernel5Ideal.nD Cert.Kernel5Ideal.τ).loc Cert.Kernel5Ideal.main_arg2) i))
    ∧ (∀ i, IsR (m ((c : Thread Cert.Kernel5Ideal.nD Cert.Kernel5Ideal.τ).loc Cert.Kernel5Ideal.main_arg3) i))
    ∧ (∀ i, IsR (m ((c : Thread Cert.Kernel5Ideal.nD Cert.Kernel5Ideal.τ).loc Cert.Kernel5Ideal.main_arg6) i)) :=
  ⟨fun i => isR_of_abs_lt _ (congrFun (h c).1 i), fun i => isR_of_abs_lt _ (congrFun (h c).2.1 i),
    fun i => isR_of_abs_lt _ (congrFun (h c).2.2.1 i), fun i => isR_of_abs_lt _ (congrFun (h c).2.2.2 i)⟩

/-- A column with zeros around it is real when the column is. -/
theorem hal_isR (g : Fin 256 → EReal) (hg : ∀ t, IsR (g t)) (n : Nat) : IsR (hal g n) := by
  unfold hal
  split
  · exact hg _
  · exact ⟨0, rfl⟩

/-- On real rows and weights the kernel's silu is the reference's, -/
theorem qkv_eq (h : Fin 256 → Fin 1024 → EReal) (w : (⟨2, ![1024, 2432]⟩ : Shape).Idx → EReal) (cv : (⟨2, ![5, 1536]⟩ : Shape).Idx → EReal)
    (hh : ∀ t d, IsR (h t d)) (hw : ∀ i, IsR (w i)) (hc : ∀ i, IsR (cv i)) : qkv silT h w cv = qkv silL h w cv := by
  have e : cs silT h w cv = cs silL h w cv := by
    funext t c
    have hp : ∀ n, IsR (hal (fun t => dotw (h t) w ⟨c, by omega⟩) n) := hal_isR _ fun t => IsR.sum fun d => (hh t d).mul (hw _)
    exact silT_eq _ (((((hp _).mul (hc _)).add ((hp _).mul (hc _))).add ((hp _).mul (hc _))).add ((hp _).mul (hc _)) |>.add ((hp _).mul (hc _)))
  funext t b d
  simp only [qkv, e]

/-- and its sigmoid; the two softpluses are one. -/
theorem gb_eq (db al dt : Fin 128 → EReal) (hd : ∀ c, IsR (db c)) : gb sigT spK db al dt = gb sigL spL db al dt := by
  funext c
  simp only [gb, spK, spL, zero_sub, sigT_eq _ (hd _)]

/-- The rows are real, whatever the tokens are. -/
theorem hR_isR (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) (b : Fin 32) (t : Fin 256) (d : Fin 1024) :
    IsR (hR (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) b t d) := by
  obtain ⟨hm, hn, _, _⟩ := pre_isR m h c
  exact hmod_isR _ _ _ _ (fun _ => hn _) (fun _ => hm _) (fun _ => hm _) d

/-- An index of a flat result is a token and a column, -/
theorem flat_idx {n : Nat} (i : (⟨2, ![8192, n]⟩ : Shape).Idx) : ∃ (b : Fin 32) (t : Fin 256) (q : Fin n), i = ix2 (tok b t) q := by
  have h0 : (i 0 : Nat) < 8192 := (i 0).isLt
  refine ⟨⟨(i 0 : Nat) / 256, by omega⟩, ⟨(i 0 : Nat) % 256, by omega⟩, i 1, ?_⟩
  funext a
  match a with
  | ⟨0, _⟩ => exact Fin.ext (by show (i 0 : Nat) = (i 0 : Nat) / 256 * 256 + (i 0 : Nat) % 256; omega)
  | ⟨1, _⟩ => rfl

/-- and of a transposed one a sequence, a lane and a token. -/
theorem tr_idx (i : (⟨3, ![32, 128, 256]⟩ : Shape).Idx) : ∃ (b : Fin 32) (q : Fin 128) (t : Fin 256), i = ix3 b q t :=
  ⟨i 0, i 1, i 2, funext fun a => by fin_cases a <;> rfl⟩

section final
variable (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD)
include h

/-- The kernel's seven result arrays are the reference's functions of the arguments. -/
theorem fin12 : (Cert.Kernel5Ideal.Gen.dats m 0 c).arrAt 12 Cert.Kernel5Ideal.cfg0.N
    = Cert.Reference5Ideal.Read.val_main_v116 (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) (m ((c : Thread Cert.Kernel5Ideal.nD Cert.Kernel5Ideal.τ).loc Cert.Kernel5Ideal.main_arg6)) := by
  obtain ⟨hm, hn, hw, hc⟩ := pre_isR m h c
  funext i
  obtain ⟨b, t, q, rfl⟩ := flat_idx i
  have eq : q = ⟨128 * (⟨q / 128, by omega⟩ : Fin 12).val + (⟨q % 128, by omega⟩ : Fin 128).val, by dsimp only; omega⟩ := Fin.ext (by dsimp only; omega)
  rw [eq]
  refine (final12 m c b t _ _).trans (Eq.trans ?_ (Cert.Proof.InprojRef.v116_at _ _ _ _ _ b t _ _).symm)
  rw [qkv_eq _ _ _ (hR_isR m h c b) hw hc]

theorem fin13 : (Cert.Kernel5Ideal.Gen.dats m 0 c).arrAt 13 Cert.Kernel5Ideal.cfg0.N = Cert.Reference5Ideal.Read.val_main_v117 (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) := by
  clear h
  funext i
  obtain ⟨b, t, q, rfl⟩ := flat_idx i
  exact (final13 m c b t q).trans (Cert.Proof.InprojRef.v117_at _ _ _ _ b t q).symm

theorem fin14 : (Cert.Kernel5Ideal.Gen.dats m 0 c).arrAt 14 Cert.Kernel5Ideal.cfg0.N = Cert.Reference5Ideal.Read.val_main_v118 (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) := by
  clear h
  funext i
  obtain ⟨b, t, q, rfl⟩ := flat_idx i
  exact (final14 m c b t q).trans (Cert.Proof.InprojRef.v118_at _ _ _ _ b t q).symm

theorem fin15 : (Cert.Kernel5Ideal.Gen.dats m 0 c).arrAt 15 Cert.Kernel5Ideal.cfg0.N = Cert.Reference5Ideal.Read.val_main_v119 (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) := by
  clear h
  funext i
  obtain ⟨b, t, q, rfl⟩ := flat_idx i
  exact (final15 m c b t q).trans (Cert.Proof.InprojRef.v119_at _ _ _ _ b t q).symm

theorem fin16 : (Cert.Kernel5Ideal.Gen.dats m 0 c).arrAt 16 Cert.Kernel5Ideal.cfg0.N = Cert.Reference5Ideal.Read.val_main_v120 (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) (m ((c : Thread Cert.Kernel5Ideal.nD Cert.Kernel5Ideal.τ).loc Cert.Kernel5Ideal.main_arg7)) (m ((c : Thread Cert.Kernel5Ideal.nD Cert.Kernel5Ideal.τ).loc Cert.Kernel5Ideal.main_arg8)) := by
  obtain ⟨hm, hn, hw, hc⟩ := pre_isR m h c
  funext i
  obtain ⟨b, t, q, rfl⟩ := flat_idx i
  refine (final16 m c b t q).trans (Eq.trans ?_ (Cert.Proof.InprojRef.v120_at _ _ _ _ _ _ b t q).symm)
  refine congrFun (gb_eq _ _ _ fun q => ?_) q
  exact IsR.sum fun d => (hR_isR m h c b t d).mul (hw _)

theorem fin17 : (Cert.Kernel5Ideal.Gen.dats m 0 c).arrAt 17 Cert.Kernel5Ideal.cfg0.N = Cert.Reference5Ideal.Read.val_main_v121 (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) := by
  clear h
  funext i
  obtain ⟨b, q, t, rfl⟩ := tr_idx i
  exact (final17 m c b q t).trans (Cert.Proof.InprojRef.v121_at _ _ _ _ b q t).symm

theorem fin18 : (Cert.Kernel5Ideal.Gen.dats m 0 c).arrAt 18 Cert.Kernel5Ideal.cfg0.N = Cert.Reference5Ideal.Read.val_main_v122 (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) := by
  clear h
  funext i
  obtain ⟨b, q, t, rfl⟩ := tr_idx i
  exact (final18 m c b q t).trans (Cert.Proof.InprojRef.v122_at _ _ _ _ b q t).symm

end final

/-- `Cert.algebraic_Kernel5Ideal_Reference5Ideal_pre_finite5`: equal results in the extended reals. -/
theorem algebraic : Cert.algebraic_Kernel5Ideal_Reference5Ideal_pre_finite5 := by
  intro m ρ m' ρ' hp hag
  refine ⟨fun c => (Cert.Kernel5Ideal.Gen.dats m 0 c).arrAt 12 Cert.Kernel5Ideal.cfg0.N,
    fun c => (Cert.Kernel5Ideal.Gen.dats m 0 c).arrAt 13 Cert.Kernel5Ideal.cfg0.N,
    fun c => (Cert.Kernel5Ideal.Gen.dats m 0 c).arrAt 14 Cert.Kernel5Ideal.cfg0.N,
    fun c => (Cert.Kernel5Ideal.Gen.dats m 0 c).arrAt 15 Cert.Kernel5Ideal.cfg0.N,
    fun c => (Cert.Kernel5Ideal.Gen.dats m 0 c).arrAt 16 Cert.Kernel5Ideal.cfg0.N,
    fun c => (Cert.Kernel5Ideal.Gen.dats m 0 c).arrAt 17 Cert.Kernel5Ideal.cfg0.N,
    fun c => (Cert.Kernel5Ideal.Gen.dats m 0 c).arrAt 18 Cert.Kernel5Ideal.cfg0.N,
    Cert.Kernel5Ideal.Value.run_blocks m ρ, ?_⟩
  refine (θ_run Cert.Reference5Ideal.defs _ _).mono (fun _ hr c => ?_) (Cert.Reference5Ideal.Value.run (F := Ideal) m' ρ')
  obtain ⟨h1, h2, h3, h4, h5, h6, h7, hk⟩ := hr c
  obtain ⟨e0, e1, e2, e3, e4, e5, e6, e7, e8⟩ := hag c
  exact ⟨h1.trans ((Cert.Reference5Ideal.Read.val_main_v116_eq _).trans (by
      show Cert.Reference5Ideal.Read.val_main_v116 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg6)) = _
      rw [e0, e1, e2, e3, e6]
      exact (fin12 m hp c).symm)),
    h2.trans ((Cert.Reference5Ideal.Read.val_main_v117_eq _).trans (by
      show Cert.Reference5Ideal.Read.val_main_v117 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
      rw [e0, e1, e2, e3]
      exact (fin13 m hp c).symm)),
    h3.trans ((Cert.Reference5Ideal.Read.val_main_v118_eq _).trans (by
      show Cert.Reference5Ideal.Read.val_main_v118 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
      rw [e0, e1, e2, e3]
      exact (fin14 m hp c).symm)),
    h4.trans ((Cert.Reference5Ideal.Read.val_main_v119_eq _).trans (by
      show Cert.Reference5Ideal.Read.val_main_v119 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
      rw [e0, e1, e2, e3]
      exact (fin15 m hp c).symm)),
    h5.trans ((Cert.Reference5Ideal.Read.val_main_v120_eq _).trans (by
      show Cert.Reference5Ideal.Read.val_main_v120 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = _
      rw [e0, e1, e2, e3, e7, e8]
      exact (fin16 m hp c).symm)),
    h6.trans ((Cert.Reference5Ideal.Read.val_main_v121_eq _).trans (by
      show Cert.Reference5Ideal.Read.val_main_v121 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
      rw [e0, e1, e2, e3]
      exact (fin17 m hp c).symm)),
    h7.trans ((Cert.Reference5Ideal.Read.val_main_v122_eq _).trans (by
      show Cert.Reference5Ideal.Read.val_main_v122 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
      rw [e0, e1, e2, e3]
      exact (fin18 m hp c).symm)), hk⟩

end Cert.Proof.Inproj
-- ==== Proof.MergeFinal.lean ====
/-
  The merge kernel's result array: row by row the merge's row mathematics of its arguments.
-/
module

public import proofs.«01_k».proof.Defs
public import proofs.«01_k».proof.Proof.MergeBlock
public import proofs.«01_k».proof.Proof.FfnRef

@[expose] public section

set_option maxRecDepth 16384

noncomputable section

namespace Cert.Proof.Merge

open Cert.Kernel6Ideal Cert.Kernel6Ideal.Gen Idealize.ShloMosaic Idealize.ShloMosaic.TcCoe Idealize.SL.Sem
open Cert.Proof.Ffn
open Cert.Proof.FfnRef (rowOf modOf)

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx13 : ∀ t : Fin cfg0.N, win0_13.index t = ![t.val, 0] := (by decide +kernel : ∀ t : Fin grid0.N, win0_13.index t = ![t.val, 0])
theorem idx4 : ∀ t : Fin cfg0.N, win0_4.index t = ![1 + t.val / 8, 3, 0, 0] := (by decide +kernel : ∀ t : Fin grid0.N, win0_4.index t = ![1 + t.val / 8, 3, 0, 0])
theorem idx5 : ∀ t : Fin cfg0.N, win0_5.index t = ![1 + t.val / 8, 4, 0, 0] := (by decide +kernel : ∀ t : Fin grid0.N, win0_5.index t = ![1 + t.val / 8, 4, 0, 0])
theorem idx6 : ∀ t : Fin cfg0.N, win0_6.index t = ![1 + t.val / 8, 5, 0, 0] := (by decide +kernel : ∀ t : Fin grid0.N, win0_6.index t = ![1 + t.val / 8, 5, 0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem flush13 : ∀ t : Fin cfg0.N, (cfg0.win 13).flush t = true := (by decide +kernel : ∀ t : Fin grid0.N, win0_13.flush t = true)

/-- Grid point of a batch's token block. -/
def pt (b : Fin 8) (k : Fin 8) : Fin cfg0.N := ⟨8 * b + k, by have : cfg0.N = 64 := rfl; omega⟩

variable (b : Fin 8) (k : Fin 8)

theorem blk0 (r : Fin 512) (d : Fin 1024) : iblk m c 0 (pt b k) (ix2 r d)
    = m ((c : Thread nD τ).loc main_arg0) (ix2 (rowOf b ⟨512 * k + r, by omega⟩) d) := by
  unfold iblk
  rw [View.read_apply]
  show V m c main_arg0 _ = _
  rw [V_main_arg0]
  have hi := idx0 (pt b k)
  refine congrArg _ (funext fun a => Fin.ext ?_)
  match a with
  | ⟨0, _⟩ => show win0_0.index (pt b k) 0 * 512 + 1 * r.val = b.val * 4096 + (512 * k.val + r.val)
              rw [hi]; show (8 * b.val + k.val) * 512 + 1 * r.val = _; omega
  | ⟨1, _⟩ => show win0_0.index (pt b k) 1 * 1024 + 1 * d.val = d.val
              rw [hi]; show 0 * 1024 + 1 * d.val = _; omega

theorem blk1 (r : Fin 512) (d : Fin 512) : iblk m c 1 (pt b k) (ix2 r d)
    = m ((c : Thread nD τ).loc main_arg1) (ix2 (rowOf b ⟨512 * k + r, by omega⟩) d) := by
  unfold iblk
  rw [View.read_apply]
  show V m c main_arg1 _ = _
  rw [V_main_arg1]
  have hi := idx1 (pt b k)
  refine congrArg _ (funext fun a => Fin.ext ?_)
  match a with
  | ⟨0, _⟩ => show win0_1.index (pt b k) 0 * 512 + 1 * r.val = b.val * 4096 + (512 * k.val + r.val)
              rw [hi]; show (8 * b.val + k.val) * 512 + 1 * r.val = _; omega
  | ⟨1, _⟩ => show win0_1.index (pt b k) 1 * 512 + 1 * d.val = d.val
              rw [hi]; show 0 * 512 + 1 * d.val = _; omega

theorem blk2 (r : Fin 512) (d : Fin 512) : iblk m c 2 (pt b k) (ix2 r d)
    = m ((c : Thread nD τ).loc main_arg2) (ix2 (rowOf b ⟨512 * k + r, by omega⟩) d) := by
  unfold iblk
  rw [View.read_apply]
  show V m c main_arg2 _ = _
  rw [V_main_arg2]
  have hi := idx2 (pt b k)
  refine congrArg _ (funext fun a => Fin.ext ?_)
  match a with
  | ⟨0, _⟩ => show win0_2.index (pt b k) 0 * 512 + 1 * r.val = b.val * 4096 + (512 * k.val + r.val)
              rw [hi]; show (8 * b.val + k.val) * 512 + 1 * r.val = _; omega
  | ⟨1, _⟩ => show win0_2.index (pt b k) 1 * 512 + 1 * d.val = d.val
              rw [hi]; show 0 * 512 + 1 * d.val = _; omega

theorem blk3 (r : Fin 512) (d : Fin 512) : iblk m c 3 (pt b k) (ix2 r d)
    = m ((c : Thread nD τ).loc main_arg3) (ix2 (rowOf b ⟨512 * k + r, by omega⟩) d) := by
  unfold iblk
  rw [View.read_apply]
  show V m c main_arg3 _ = _
  rw [V_main_arg3]
  have hi := idx3 (pt b k)
  refine congrArg _ (funext fun a => Fin.ext ?_)
  match a with
  | ⟨0, _⟩ => show win0_3.index (pt b k) 0 * 512 + 1 * r.val = b.val * 4096 + (512 * k.val + r.val)
              rw [hi]; show (8 * b.val + k.val) * 512 + 1 * r.val = _; omega
  | ⟨1, _⟩ => show win0_3.index (pt b k) 1 * 512 + 1 * d.val = d.val
              rw [hi]; show 0 * 512 + 1 * d.val = _; omega

theorem blk4 (d : Fin 1024) : iblk m c 4 (pt b k) (ix4 0 0 0 d) = m ((c : Thread nD τ).loc main_arg4) (ix4 (modOf b) 3 0 d) := by
  unfold iblk
  rw [View.read_apply]
  show V m c main_arg4 _ = _
  rw [V_main_arg4]
  have hi := idx4 (pt b k)
  refine congrArg _ (funext fun a => Fin.ext ?_)
  match a with
  | ⟨0, _⟩ => show win0_4.index (pt b k) 0 * 1 + 1 * 0 = 1 + b.val
              rw [hi]; show (1 + (8 * b.val + k.val) / 8) * 1 + 1 * 0 = _; omega
  | ⟨1, _⟩ => show win0_4.index (pt b k) 1 * 1 + 1 * 0 = 3
              rw [hi]; rfl
  | ⟨2, _⟩ => show win0_4.index (pt b k) 2 * 1 + 1 * 0 = 0
              rw [hi]; rfl
  | ⟨3, _⟩ => show win0_4.index (pt b k) 3 * 1024 + 1 * d.val = d.val
              rw [hi]; show 0 * 1024 + 1 * d.val = _; omega

theorem blk5 (d : Fin 1024) : iblk m c 5 (pt b k) (ix4 0 0 0 d) = m ((c : Thread nD τ).loc main_arg4) (ix4 (modOf b) 4 0 d) := by
  unfold iblk
  rw [View.read_apply]
  show V m c main_arg4 _ = _
  rw [V_main_arg4]
  have hi := idx5 (pt b k)
  refine congrArg _ (funext fun a => Fin.ext ?_)
  match a with
  | ⟨0, _⟩ => show win0_5.index (pt b k) 0 * 1 + 1 * 0 = 1 + b.val
              rw [hi]; show (1 + (8 * b.val + k.val) / 8) * 1 + 1 * 0 = _; omega
  | ⟨1, _⟩ => show win0_5.index (pt b k) 1 * 1 + 1 * 0 = 4
              rw [hi]; rfl
  | ⟨2, _⟩ => show win0_5.index (pt b k) 2 * 1 + 1 * 0 = 0
              rw [hi]; rfl
  | ⟨3, _⟩ => show win0_5.index (pt b k) 3 * 1024 + 1 * d.val = d.val
              rw [hi]; show 0 * 1024 + 1 * d.val = _; omega

theorem blk6 (d : Fin 1024) : iblk m c 6 (pt b k) (ix4 0 0 0 d) = m ((c : Thread nD τ).loc main_arg4) (ix4 (modOf b) 5 0 d) := by
  unfold iblk
  rw [View.read_apply]
  show V m c main_arg4 _ = _
  rw [V_main_arg4]
  have hi := idx6 (pt b k)
  refine congrArg _ (funext fun a => Fin.ext ?_)
  match a with
  | ⟨0, _⟩ => show win0_6.index (pt b k) 0 * 1 + 1 * 0 = 1 + b.val
              rw [hi]; show (1 + (8 * b.val + k.val) / 8) * 1 + 1 * 0 = _; omega
  | ⟨1, _⟩ => show win0_6.index (pt b k) 1 * 1 + 1 * 0 = 5
              rw [hi]; rfl
  | ⟨2, _⟩ => show win0_6.index (pt b k) 2 * 1 + 1 * 0 = 0
              rw [hi]; rfl
  | ⟨3, _⟩ => show win0_6.index (pt b k) 3 * 1024 + 1 * d.val = d.val
              rw [hi]; show 0 * 1024 + 1 * d.val = _; omega

/-- The whole-array windows' blocks are the arrays. -/
theorem blk7 (t : Fin cfg0.N) : iblk m c 7 t = m ((c : Thread nD τ).loc main_arg5) := by
  have hz : (fun a => win0_7.index t a * main_arg5.ty.shape.size a) = fun _ => 0 := by
    rw [idx7 t]; funext a; fin_cases a <;> rfl
  exact (Memref.read_access_unit_zero (Elt Ideal) main_arg5 hz (fun a => by rw [congrFun hz a]; simp) _).trans (V_main_arg5 m c)
theorem blk8 (t : Fin cfg0.N) : iblk m c 8 t = m ((c : Thread nD τ).loc main_arg6) := by
  have hz : (fun a => win0_8.index t a * main_arg6.ty.shape.size a) = fun _ => 0 := by
    rw [idx8 t]; funext a; fin_cases a <;> rfl
  exact (Memref.read_access_unit_zero (Elt Ideal) main_arg6 hz (fun a => by rw [congrFun hz a]; simp) _).trans (V_main_arg6 m c)
theorem blk9 (t : Fin cfg0.N) : iblk m c 9 t = m ((c : Thread nD τ).loc main_arg7) := by
  have hz : (fun a => win0_9.index t a * main_arg7.ty.shape.size a) = fun _ => 0 := by
    rw [idx9 t]; funext a; fin_cases a <;> rfl
  exact (Memref.read_access_unit_zero (Elt Ideal) main_arg7 hz (fun a => by rw [congrFun hz a]; simp) _).trans (V_main_arg7 m c)
theorem blk10 (t : Fin cfg0.N) : iblk m c 10 t = m ((c : Thread nD τ).loc main_arg8) := by
  have hz : (fun a => win0_10.index t a * main_arg8.ty.shape.size a) = fun _ => 0 := by
    rw [idx10 t]; funext a; fin_cases a <;> rfl
  exact (Memref.read_access_unit_zero (Elt Ideal) main_arg8 hz (fun a => by rw [congrFun hz a]; simp) _).trans (V_main_arg8 m c)
theorem blk11 (t : Fin cfg0.N) : iblk m c 11 t = m ((c : Thread nD τ).loc main_arg9) := by
  have hz : (fun a => win0_11.index t a * main_arg9.ty.shape.size a) = fun _ => 0 := by
    rw [idx11 t]; funext a; fin_cases a <;> rfl
  exact (Memref.read_access_unit_zero (Elt Ideal) main_arg9 hz (fun a => by rw [congrFun hz a]; simp) _).trans (V_main_arg9 m c)
theorem blk12 (t : Fin cfg0.N) : iblk m c 12 t = m ((c : Thread nD τ).loc main_arg10) := by
  have hz : (fun a => win0_12.index t a * main_arg10.ty.shape.size a) = fun _ => 0 := by
    rw [idx12 t]; funext a; fin_cases a <;> rfl
  exact (Memref.read_access_unit_zero (Elt Ideal) main_arg10 hz (fun a => by rw [congrFun hz a]; simp) _).trans (V_main_arg10 m c)

/-- The kernel's result array after the run, at a token: the row mathematics of the token's row. -/
theorem final_at (r : Fin 512) (d : Fin 1024) :
    (dats m 0 c).arrAt 13 cfg0.N (ix2 (rowOf b ⟨512 * k + r, by omega⟩) d)
      = merged (fun d => m ((c : Thread nD τ).loc main_arg0) (ix2 (rowOf b ⟨512 * k + r, by omega⟩) d))
          (fun d => m ((c : Thread nD τ).loc main_arg4) (ix4 (modOf b) 5 0 d))
          (mixed silT sigT (hmod (fun d => m ((c : Thread nD τ).loc main_arg0) (ix2 (rowOf b ⟨512 * k + r, by omega⟩) d))
            (fun d => m ((c : Thread nD τ).loc main_arg5) (ix2 0 d)) (fun d => m ((c : Thread nD τ).loc main_arg4) (ix4 (modOf b) 4 0 d))
            (fun d => m ((c : Thread nD τ).loc main_arg4) (ix4 (modOf b) 3 0 d)))
            (addRow (fun j => m ((c : Thread nD τ).loc main_arg1) (ix2 (rowOf b ⟨512 * k + r, by omega⟩) j)) (fun j => m ((c : Thread nD τ).loc main_arg2) (ix2 (rowOf b ⟨512 * k + r, by omega⟩) j)))
            (fun j => m ((c : Thread nD τ).loc main_arg3) (ix2 (rowOf b ⟨512 * k + r, by omega⟩) j)) (fun j => m ((c : Thread nD τ).loc main_arg6) (ix2 0 j))
            (m ((c : Thread nD τ).loc main_arg7)) (m ((c : Thread nD τ).loc main_arg8)) (m ((c : Thread nD τ).loc main_arg9))) (m ((c : Thread nD τ).loc main_arg10)) d := by
  have h := congrFun (Value.blocks13 m c (pt b k) (flush13 _)) (ix2 r d)
  rw [Value.flushed13, View.read_apply] at h
  have hi := idx13 (pt b k)
  have e : ((cfg0.win 13).blk (pt b k)).view.emb (ix2 r d) = ix2 (rowOf b ⟨512 * k + r, by omega⟩) d := by
    refine funext fun a => Fin.ext ?_
    match a with
    | ⟨0, _⟩ => show win0_13.index (pt b k) 0 * 512 + 1 * r.val = b.val * 4096 + (512 * k.val + r.val)
                rw [hi]; show (8 * b.val + k.val) * 512 + 1 * r.val = _; omega
    | ⟨1, _⟩ => show win0_13.index (pt b k) 1 * 1024 + 1 * d.val = d.val
                rw [hi]; show 0 * 1024 + 1 * d.val = _; omega
  refine (congrArg ((dats m 0 c).arrAt 13 cfg0.N) e).symm.trans (h.trans ?_)
  refine (out_apply _ _ _ _ _ _ _ _ _ _ _ _ _ r d).trans ?_
  simp only [blk0, blk1, blk2, blk3, blk4, blk5, blk6, blk7, blk8, blk9, blk10, blk11, blk12]
  rfl

end Cert.Proof.Merge
-- ==== Proof.MergeRef.lean ====
/-
  The merge's reference read at an index: row `r` of its result is the merge's row mathematics of row `r` of its arguments,
  with the modulation of the row's batch.
-/
module

public import proofs.«01_k».proof.Proof.Gen.Reference6Ideal.Read
public import proofs.«01_k».proof.Proof.MergeBlock
public import proofs.«01_k».proof.Proof.FfnRef

@[expose] public section

set_option maxRecDepth 16384

noncomputable section

namespace Cert.Proof.MergeRef

open Cert.Proof.FfnRef (rowOf modOf)
open Cert.Reference6Ideal Cert.Reference6Ideal.Gen Cert.Reference6Ideal.Read Idealize.ShloMosaic Cert.Proof.Ffn Cert.Proof.Merge

variable (x0 : (⟨S32768x1024, .f32⟩ : BufTy).Contents (Elt Ideal)) (x1 x2 x3 : (⟨S32768x512, .f32⟩ : BufTy).Contents (Elt Ideal))
  (x4 : (⟨S16x9x1x1024, .f32⟩ : BufTy).Contents (Elt Ideal)) (x5 : (⟨S1x1024, .f32⟩ : BufTy).Contents (Elt Ideal))
  (x6 : (⟨S1x128, .f32⟩ : BufTy).Contents (Elt Ideal)) (x7 : (⟨S1024x2560, .bf16⟩ : BufTy).Contents (Elt Ideal))
  (x8 x9 : (⟨S512x1024, .bf16⟩ : BufTy).Contents (Elt Ideal)) (x10 : (⟨S1024x1024, .bf16⟩ : BufTy).Contents (Elt Ideal))

theorem v0_at (b : Fin 8) (t : Fin 4096) (d : Fin 1024) : val_main_v0 (F := Ideal) x0 (ix3 b t d) = x0 (ix2 (rowOf b t) d) := by
  rw [val_main_v0_apply]
  refine congrArg x0 (funext fun a => Fin.ext ?_)
  match a with
  | ⟨0, _⟩ => show ((b.val * 4096 + t.val) * 1024 + d.val) / 1024 = b.val * 4096 + t.val; omega
  | ⟨1, _⟩ => show ((b.val * 4096 + t.val) * 1024 + d.val) % 1024 = d.val; omega

theorem v2_at (b : Fin 8) (k : Fin 9) (d : Fin 1024) : val_main_v2 (F := Ideal) x4 (ix3 b k d) = x4 (ix4 (modOf b) k 0 d) := by
  rw [val_main_v2_apply, val_main_v1_apply]
  refine congrArg x4 (funext fun a => Fin.ext ?_)
  match a with
  | ⟨0, _⟩ => show 1 + ((b.val * 9 + k.val) * 1024 + d.val) / 9216 = 1 + b.val; omega
  | ⟨1, _⟩ => show ((b.val * 9 + k.val) * 1024 + d.val) / 1024 % 9 = k.val; omega
  | ⟨2, _⟩ => rfl
  | ⟨3, _⟩ => show ((b.val * 9 + k.val) * 1024 + d.val) % 1024 = d.val; omega

/-- The modulated, normalised row. -/
theorem v24_at (b : Fin 8) (t : Fin 4096) (d : Fin 1024) : val_main_v24 (F := Ideal) x0 x4 x5 (ix3 b t d)
    = hmod (fun d => x0 (ix2 (rowOf b t) d)) (fun d => x5 (ix2 0 d)) (fun d => x4 (ix4 (modOf b) 4 0 d)) (fun d => x4 (ix4 (modOf b) 3 0 d)) d := by
  simp only [val_main_v24_apply, val_main_v22_apply, val_main_v18_apply, val_main_v15_apply, val_main_v14_apply,
    val_main_v13_apply, val_main_v12_apply, val_main_v10_apply, val_main_v8_apply, val_main_v7_apply, val_main_v6_apply,
    val_main_cst_apply, val_main_v9_apply, val_main_cst_0_apply, val_main_v11_apply, val_main_cst_1_apply,
    val_main_v17_apply, val_main_v16_apply, val_main_v21_apply, val_main_v20_apply, val_main_v19_apply, val_main_cst_2_apply,
    val_main_v4_apply, val_main_v23_apply, val_main_v3_apply]
  have e1 : ∀ k, idx_main_v7 (idx_main_v8 (idx_main_v14 (ix3 b t d))) k = ix3 b t k := fun k => funext fun a => by fin_cases a <;> rfl
  have e2 : idx_main_v16 (idx_main_v17 (ix3 b t d)) = ix2 0 d := funext fun a => by fin_cases a <;> rfl
  have e3 : idx_main_v4 (idx_main_v21 (ix3 b t d)) = ix3 b 4 d := funext fun a => by fin_cases a <;> rfl
  have e4 : idx_main_v3 (idx_main_v23 (ix3 b t d)) = ix3 b 3 d := funext fun a => by fin_cases a <;> rfl
  simp only [e1, e2, e3, e4, v0_at, v2_at]
  simp only [hmod, rms, Ideal.ofBits_def, Ideal.ofBits_zero_f32, zero_add, Ideal.ofBits_one_f32, ← mul_assoc]
  rfl

/-- One entry of the input projection. -/
theorem v26_at (b : Fin 8) (t : Fin 4096) (f : Fin 2560) : val_main_v26 (F := Ideal) x0 x4 x5 x7 (ix3 b t f)
    = dotw (hmod (fun d => x0 (ix2 (rowOf b t) d)) (fun d => x5 (ix2 0 d)) (fun d => x4 (ix4 (modOf b) 4 0 d)) (fun d => x4 (ix4 (modOf b) 3 0 d))) x7 f := by
  rw [val_main_v26_apply, dotw]
  refine Finset.sum_congr rfl fun k _ => ?_
  have e1 : lidx_main_v26 (ix3 b t f) k = ix3 b t k := funext fun a => by fin_cases a <;> rfl
  have e2 : ridx_main_v26 (ix3 b t f) k = ix2 k f := funext fun a => by fin_cases a <;> rfl
  rw [e1, e2, v24_at]
  rfl

/-- The first mixer's outputs, summed over the two directions, by head. -/
theorem v30_at (b : Fin 8) (t : Fin 4096) (h : Fin 4) (j : Fin 128) : val_main_v30 (F := Ideal) x1 x2 (ix4 b t h j)
    = x1 (ix2 (rowOf b t) ⟨128 * h + j, by omega⟩) + x2 (ix2 (rowOf b t) ⟨128 * h + j, by omega⟩) := by
  rw [val_main_v30_apply, val_main_v29_apply]
  have e : idx_main_v30 (ix4 b t h j) = ix2 (rowOf b t) ⟨128 * h + j, by omega⟩ := by
    refine funext fun a => Fin.ext ?_
    match a with
    | ⟨0, _⟩ => show (((b.val * 4096 + t.val) * 4 + h.val) * 128 + j.val) / 512 = b.val * 4096 + t.val; omega
    | ⟨1, _⟩ => show (((b.val * 4096 + t.val) * 4 + h.val) * 128 + j.val) % 512 = 128 * h.val + j.val; omega
  rw [e]
  rfl

/-- The gate's input, by head. -/
theorem v44_at (b : Fin 8) (t : Fin 4096) (h : Fin 4) (j : Fin 128) : val_main_v44 (F := Ideal) x0 x4 x5 x7 (ix4 b t h j)
    = dotw (hmod (fun d => x0 (ix2 (rowOf b t) d)) (fun d => x5 (ix2 0 d)) (fun d => x4 (ix4 (modOf b) 4 0 d)) (fun d => x4 (ix4 (modOf b) 3 0 d))) x7 ⟨128 * h + j, by omega⟩ := by
  rw [val_main_v44_apply, val_main_v27_apply, ← v26_at]
  refine congrArg _ (funext fun a => Fin.ext ?_)
  match a with
  | ⟨0, _⟩ => show (((b.val * 4096 + t.val) * 4 + h.val) * 128 + j.val) / 2097152 = b.val; omega
  | ⟨1, _⟩ => show (((b.val * 4096 + t.val) * 4 + h.val) * 128 + j.val) / 512 % 4096 = t.val; omega
  | ⟨2, _⟩ => show (((b.val * 4096 + t.val) * 4 + h.val) * 128 + j.val) % 512 = 128 * h.val + j.val; omega

/-- The gated, normalised heads. -/
theorem v47_at (b : Fin 8) (t : Fin 4096) (c : Fin 512) : val_main_v47 (F := Ideal) x0 x1 x2 x4 x5 x6 x7 (ix3 b t c)
    = ya silL (fun c => x1 (ix2 (rowOf b t) c) + x2 (ix2 (rowOf b t) c))
        (fun c => dotw (hmod (fun d => x0 (ix2 (rowOf b t) d)) (fun d => x5 (ix2 0 d)) (fun d => x4 (ix4 (modOf b) 4 0 d)) (fun d => x4 (ix4 (modOf b) 3 0 d))) x7 ⟨c, by omega⟩) (fun j => x6 (ix2 0 j)) c := by
  rw [val_main_v47_apply]
  have e : idx_main_v47 (ix3 b t c) = ix4 b t ⟨c / 128, by omega⟩ ⟨c % 128, by omega⟩ := by
    refine funext fun a => Fin.ext ?_
    match a with
    | ⟨0, _⟩ => show ((b.val * 4096 + t.val) * 512 + c.val) / 2097152 = b.val; omega
    | ⟨1, _⟩ => show ((b.val * 4096 + t.val) * 512 + c.val) / 512 % 4096 = t.val; omega
    | ⟨2, _⟩ => show ((b.val * 4096 + t.val) * 512 + c.val) / 128 % 4 = c.val / 128; omega
    | ⟨3, _⟩ => show ((b.val * 4096 + t.val) * 512 + c.val) % 128 = c.val % 128; omega
  rw [e]
  generalize hh : (⟨c / 128, by omega⟩ : Fin 4) = h
  generalize hj : (⟨c % 128, by omega⟩ : Fin 128) = j
  simp only [val_main_v46_apply, val_main_v45_apply, val_main_call0_v5_apply, val_main_call0_v4_apply, val_main_call0_cst_0_apply,
    val_main_call0_v3_apply, val_main_call0_v2_apply, val_main_call0_cst_apply, val_main_call0_v1_apply, val_main_call0_v0_apply,
    val_main_v43_apply, val_main_v42_apply, val_main_v41_apply, val_main_v40_apply, val_main_v39_apply, val_main_v38_apply,
    val_main_v37_apply, val_main_v36_apply, val_main_cst_5_apply, val_main_v35_apply, val_main_v34_apply, val_main_cst_4_apply,
    val_main_v33_apply, val_main_v32_apply, val_main_cst_3_apply, val_main_v31_apply]
  have e1 : ∀ k, idx_main_v32 (idx_main_v33 (idx_main_v39 (ix4 b t h j))) k = ix4 b t h k := fun k => funext fun a => by fin_cases a <;> rfl
  have e2 : idx_main_v41 (idx_main_v42 (ix4 b t h j)) = ix2 0 j := funext fun a => by fin_cases a <;> rfl
  have e3 : (⟨128 * h + j, by omega⟩ : Fin 512) = c := by subst hh hj; exact Fin.ext (by show 128 * (c.val / 128) + c.val % 128 = c.val; omega)
  have e4 : (⟨128 * h + j, by omega⟩ : Fin 2560) = ⟨c, by omega⟩ := by subst hh hj; exact Fin.ext (by show 128 * (c.val / 128) + c.val % 128 = c.val; omega)
  simp only [e1, e2, v30_at, v44_at, e3, e4]
  subst hh hj
  simp only [ya, rmsH, silL, Ideal.ofBits_def, Ideal.ofBits_zero_f32, zero_add, Ideal.ofBits_one_f32]
  rfl

/-- The two gates. -/
theorem v53_at (b : Fin 8) (t : Fin 4096) (f : Fin 2048) : val_main_v53 (F := Ideal) x0 x4 x5 x7 (ix3 b t f)
    = sigL (dotw (hmod (fun d => x0 (ix2 (rowOf b t) d)) (fun d => x5 (ix2 0 d)) (fun d => x4 (ix4 (modOf b) 4 0 d)) (fun d => x4 (ix4 (modOf b) 3 0 d))) x7 ⟨512 + f, by omega⟩) := by
  simp only [val_main_v53_apply, val_main_v52_apply, val_main_cst_7_apply, val_main_v51_apply, val_main_v50_apply, val_main_cst_6_apply,
    val_main_v49_apply, val_main_v48_apply, val_main_v28_apply]
  have e : idx_main_v28 (ix3 b t f) = ix3 b t ⟨512 + f, by omega⟩ := funext fun a => by fin_cases a <;> rfl
  rw [e, v26_at]
  simp only [sigL, Ideal.ofBits_def, Ideal.ofBits_one_f32]
  rfl

/-- The second mixer's output. -/
theorem v59_at (b : Fin 8) (t : Fin 4096) (c : Fin 512) : val_main_v59 (F := Ideal) x3 (ix3 b t c) = x3 (ix2 (rowOf b t) c) := by
  rw [val_main_v59_apply]
  refine congrArg x3 (funext fun a => Fin.ext ?_)
  match a with
  | ⟨0, _⟩ => show ((b.val * 4096 + t.val) * 512 + c.val) / 512 = b.val * 4096 + t.val; omega
  | ⟨1, _⟩ => show ((b.val * 4096 + t.val) * 512 + c.val) % 512 = c.val; omega

/-- The mixed row. -/
theorem v63_at (b : Fin 8) (t : Fin 4096) (e : Fin 1024) : val_main_v63 (F := Ideal) x0 x1 x2 x3 x4 x5 x6 x7 x8 x9 (ix3 b t e)
    = mixed silL sigL (hmod (fun d => x0 (ix2 (rowOf b t) d)) (fun d => x5 (ix2 0 d)) (fun d => x4 (ix4 (modOf b) 4 0 d)) (fun d => x4 (ix4 (modOf b) 3 0 d)))
        (fun c => x1 (ix2 (rowOf b t) c) + x2 (ix2 (rowOf b t) c)) (fun c => x3 (ix2 (rowOf b t) c)) (fun j => x6 (ix2 0 j)) x7 x8 x9 e := by
  simp only [val_main_v63_apply, val_main_v62_apply, val_main_v58_apply, val_main_v54_apply, val_main_v55_apply, val_main_v57_apply, val_main_v61_apply]
  have e1 : idx_main_v54 (ix3 b t e) = ix3 b t ⟨e, by omega⟩ := funext fun a => by fin_cases a <;> rfl
  have e2 : idx_main_v55 (ix3 b t e) = ix3 b t ⟨1024 + e, by omega⟩ := funext fun a => by fin_cases a <;> rfl
  have e3 : ∀ k, lidx_main_v57 (ix3 b t e) k = ix3 b t k := fun k => funext fun a => by fin_cases a <;> rfl
  have e4 : ∀ k, ridx_main_v57 (ix3 b t e) k = ix2 k e := fun k => funext fun a => by fin_cases a <;> rfl
  have e5 : ∀ k, lidx_main_v61 (ix3 b t e) k = ix3 b t k := fun k => funext fun a => by fin_cases a <;> rfl
  have e6 : ∀ k, ridx_main_v61 (ix3 b t e) k = ix2 k e := fun k => funext fun a => by fin_cases a <;> rfl
  simp only [e1, e2, e3, e4, e5, e6, v53_at, v47_at, v59_at, mixed]
  have e7 : (⟨512 + (1024 + e), by omega⟩ : Fin 2560) = ⟨1536 + e, by omega⟩ := Fin.ext (by show 512 + (1024 + e.val) = 1536 + e.val; omega)
  rw [e7]
  rfl

/-- The reference's result at a token. -/
theorem v68_at (b : Fin 8) (t : Fin 4096) (d : Fin 1024) : val_main_v68 (F := Ideal) x0 x1 x2 x3 x4 x5 x6 x7 x8 x9 x10 (ix3 b t d)
    = merged (fun d => x0 (ix2 (rowOf b t) d)) (fun d => x4 (ix4 (modOf b) 5 0 d))
        (mixed silL sigL (hmod (fun d => x0 (ix2 (rowOf b t) d)) (fun d => x5 (ix2 0 d)) (fun d => x4 (ix4 (modOf b) 4 0 d)) (fun d => x4 (ix4 (modOf b) 3 0 d)))
        (fun c => x1 (ix2 (rowOf b t) c) + x2 (ix2 (rowOf b t) c)) (fun c => x3 (ix2 (rowOf b t) c)) (fun j => x6 (ix2 0 j)) x7 x8 x9) x10 d := by
  simp only [val_main_v68_apply, val_main_v67_apply, val_main_v66_apply, val_main_v65_apply, val_main_v5_apply]
  have e3 : idx_main_v5 (idx_main_v66 (ix3 b t d)) = ix3 b 5 d := funext fun a => by fin_cases a <;> rfl
  have e1 : ∀ k, lidx_main_v65 (ix3 b t d) k = ix3 b t k := fun k => funext fun a => by fin_cases a <;> rfl
  have e2 : ∀ k, ridx_main_v65 (ix3 b t d) k = ix2 k d := fun k => funext fun a => by fin_cases a <;> rfl
  simp only [e1, e2, e3, v63_at, v0_at, v2_at]
  rfl

/-- The reference's result, row by row. -/
theorem v69_at (b : Fin 8) (t : Fin 4096) (d : Fin 1024) : val_main_v69 (F := Ideal) x0 x1 x2 x3 x4 x5 x6 x7 x8 x9 x10 (ix2 (rowOf b t) d)
    = merged (fun d => x0 (ix2 (rowOf b t) d)) (fun d => x4 (ix4 (modOf b) 5 0 d))
        (mixed silL sigL (hmod (fun d => x0 (ix2 (rowOf b t) d)) (fun d => x5 (ix2 0 d)) (fun d => x4 (ix4 (modOf b) 4 0 d)) (fun d => x4 (ix4 (modOf b) 3 0 d)))
        (fun c => x1 (ix2 (rowOf b t) c) + x2 (ix2 (rowOf b t) c)) (fun c => x3 (ix2 (rowOf b t) c)) (fun j => x6 (ix2 0 j)) x7 x8 x9) x10 d := by
  rw [val_main_v69_apply, ← v68_at]
  refine congrArg _ (funext fun a => Fin.ext ?_)
  match a with
  | ⟨0, _⟩ => show ((b.val * 4096 + t.val) * 1024 + d.val) / 4194304 = b.val; omega
  | ⟨1, _⟩ => show ((b.val * 4096 + t.val) * 1024 + d.val) / 1024 % 4096 = t.val; omega
  | ⟨2, _⟩ => show ((b.val * 4096 + t.val) * 1024 + d.val) % 1024 = d.val; omega

end Cert.Proof.MergeRef
-- ==== Proof.MergeClaims.lean ====
/-
  The claims about the merge call: frames, the ideal pass, and the kernel's result equal to the reference's.
-/
module

public import proofs.«01_k».proof.Proof.MergeFinal
public import proofs.«01_k».proof.Proof.MergeRef
public import proofs.«01_k».proof.Proof.FfnClaims
public import proofs.«01_k».proof.Proof.Gen.Kernel6.Frame
public import Idealize.ShloMosaic.Lib.Quiescent

@[expose] public section

set_option maxRecDepth 16384

noncomputable section

namespace Cert.Proof.Merge

open Idealize.ShloMosaic Idealize.ShloMosaic.TcCoe Idealize.SL.Sem
open Cert.Proof.Ffn
open Cert.Proof.FfnRef (rowOf modOf)

/-- The precondition's stated facts. -/
theorem preFacts : Cert.Pre_finite6.Facts where
  bcast_S_S16x9x1x1024 := by decide
  bcast_S_S1x1024 := by decide
  bitsLt_bf16_f32 := by decide
  bcast_S_S1024x2560 := by decide

instance : Cert.Pre_finite6.Facts := preFacts

/-- Every run of the kernel ends, without a fault, arguments kept, counters at zero. -/
theorem frame_k : Cert.quiescent_Kernel6 := fun m ρ _ => Cert.Kernel6.Gen.frame m ρ
theorem frame_ki : Cert.quiescent_Kernel6Ideal := fun m ρ _ => Cert.Kernel6Ideal.Gen.frame m ρ
theorem frame_kip : Cert.quiescent_Kernel6Ideal_pre_finite6 := fun m ρ _ => Cert.Kernel6Ideal.Gen.frame m ρ
/-- The reference's run: it declares no semaphore. -/
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)
theorem frame_rip : Cert.quiescent_Reference6Ideal_pre_finite6 := fun m ρ _ => frame_ri m ρ trivial

/-- The ideal pass rewrote nothing. -/
theorem preserves : Cert.preserves_Kernel6_Kernel6Ideal := trivial

/-- The precondition, entry by entry: modulation, norm weight and input projection are real. -/
theorem pre_isR (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) :
    (∀ i, IsR (m ((c : Thread Cert.Kernel6Ideal.nD Cert.Kernel6Ideal.τ).loc Cert.Kernel6Ideal.main_arg4) i))
    ∧ (∀ i, IsR (m ((c : Thread Cert.Kernel6Ideal.nD Cert.Kernel6Ideal.τ).loc Cert.Kernel6Ideal.main_arg5) i))
    ∧ (∀ i, IsR (m ((c : Thread Cert.Kernel6Ideal.nD Cert.Kernel6Ideal.τ).loc Cert.Kernel6Ideal.main_arg7) i)) :=
  ⟨fun i => isR_of_abs_lt _ (congrFun (h c).1 i), fun i => isR_of_abs_lt _ (congrFun (h c).2.1 i),
    fun i => isR_of_abs_lt _ (congrFun (h c).2.2 i)⟩

/-- With a real projection the kernel's silu and sigmoid are the reference's. -/
theorem mixed_eq (h : Fin 1024 → EReal) (o yb : Fin 512 → EReal) (w : Fin 128 → EReal)
    (wzg : (⟨2, ![1024, 2560]⟩ : Shape).Idx → EReal) (woa wob : (⟨2, ![512, 1024]⟩ : Shape).Idx → EReal)
    (hh : ∀ d, IsR (h d)) (hw : ∀ i, IsR (wzg i)) : mixed silT sigT h o yb w wzg woa wob = mixed silL sigL h o yb w wzg woa wob := by
  have hd : ∀ f, IsR (dotw h wzg f) := fun f => IsR.sum fun d => (hh d).mul (hw _)
  funext e
  simp only [mixed, ya, sigT_eq _ (hd _), silT_eq _ (hd _)]

/-- The kernel's result array is the reference's function of the arguments. -/
theorem final (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) :
    (Cert.Kernel6Ideal.Gen.dats m 0 c).arrAt 13 Cert.Kernel6Ideal.cfg0.N
      = Cert.Reference6Ideal.Read.val_main_v69
        (m ((c : Thread Cert.Kernel6Ideal.nD Cert.Kernel6Ideal.τ).loc Cert.Kernel6Ideal.main_arg0))
        (m ((c : Thread Cert.Kernel6Ideal.nD Cert.Kernel6Ideal.τ).loc Cert.Kernel6Ideal.main_arg1))
        (m ((c : Thread Cert.Kernel6Ideal.nD Cert.Kernel6Ideal.τ).loc Cert.Kernel6Ideal.main_arg2))
        (m ((c : Thread Cert.Kernel6Ideal.nD Cert.Kernel6Ideal.τ).loc Cert.Kernel6Ideal.main_arg3))
        (m ((c : Thread Cert.Kernel6Ideal.nD Cert.Kernel6Ideal.τ).loc Cert.Kernel6Ideal.main_arg4))
        (m ((c : Thread Cert.Kernel6Ideal.nD Cert.Kernel6Ideal.τ).loc Cert.Kernel6Ideal.main_arg5))
        (m ((c : Thread Cert.Kernel6Ideal.nD Cert.Kernel6Ideal.τ).loc Cert.Kernel6Ideal.main_arg6))
        (m ((c : Thread Cert.Kernel6Ideal.nD Cert.Kernel6Ideal.τ).loc Cert.Kernel6Ideal.main_arg7))
        (m ((c : Thread Cert.Kernel6Ideal.nD Cert.Kernel6Ideal.τ).loc Cert.Kernel6Ideal.main_arg8))
        (m ((c : Thread Cert.Kernel6Ideal.nD Cert.Kernel6Ideal.τ).loc Cert.Kernel6Ideal.main_arg9))
        (m ((c : Thread Cert.Kernel6Ideal.nD Cert.Kernel6Ideal.τ).loc Cert.Kernel6Ideal.main_arg10)) := by
  obtain ⟨hm, hn, hw⟩ := pre_isR m h c
  funext i
  have h0 : (i 0 : Nat) < 32768 := (i 0).isLt
  let b : Fin 8 := ⟨(i 0 : Nat) / 4096, by omega⟩
  let k : Fin 8 := ⟨(i 0 : Nat) % 4096 / 512, by omega⟩
  let r : Fin 512 := ⟨(i 0 : Nat) % 512, by omega⟩
  let d : Fin 1024 := i 1
  have ei : i = ix2 (rowOf b ⟨512 * k + r, by omega⟩) d := by
    funext a
    match a with
    | ⟨0, _⟩ => exact Fin.ext (by show (i 0 : Nat) = (i 0 : Nat) / 4096 * 4096 + (512 * ((i 0 : Nat) % 4096 / 512) + (i 0 : Nat) % 512); omega)
    | ⟨1, _⟩ => rfl
  rw [ei]
  refine (final_at m c b k r d).trans (Eq.trans ?_ (Cert.Proof.MergeRef.v69_at _ _ _ _ _ _ _ _ _ _ _ b _ d).symm)
  exact congrArg (fun a => merged _ _ a _ d)
    (mixed_eq _ _ _ _ _ _ _ (fun d => hmod_isR _ _ _ _ (fun _ => hn _) (fun _ => hm _) (fun _ => hm _) d) hw)

/-- `Cert.algebraic_Kernel6Ideal_Reference6Ideal_pre_finite6`: equal results in the extended reals. -/
theorem algebraic : Cert.algebraic_Kernel6Ideal_Reference6Ideal_pre_finite6 := by
  intro m ρ m' ρ' hp hag
  refine ⟨fun c => (Cert.Kernel6Ideal.Gen.dats m 0 c).arrAt 13 Cert.Kernel6Ideal.cfg0.N,
    Cert.Kernel6Ideal.Value.run_blocks m ρ, ?_⟩
  refine (θ_run Cert.Reference6Ideal.defs _ _).mono (fun _ hr c => ⟨(hr c).1.trans ?_, (hr c).2⟩)
    (Cert.Reference6Ideal.Value.run (F := Ideal) m' ρ')
  rw [Cert.Reference6Ideal.Read.val_main_v69_eq]
  obtain ⟨e0, e1, e2, e3, e4, e5, e6, e7, e8, e9, e10⟩ := hag c
  exact (by rw [e0, e1, e2, e3, e4, e5, e6, e7, e8, e9, e10]; exact (final m hp c).symm)

end Cert.Proof.Merge
-- ==== Proof.WinIOff.lean ====
/-
  Where the blocks of keys and values a query block reads start.
-/
module

public import proofs.«01_k».proof.Proof.Gen.Kernel7Ideal.Frame
public import proofs.«01_k».proof.Proof.Gen.Kernel7Ideal.Skeleton

@[expose] public section

set_option maxRecDepth 16384

noncomputable section

namespace Cert.Kernel7Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

/-- The first key of the three blocks that query block `r` of step `i` reads: one block before its own, inside the sequence. -/
abbrev start (i : grid0.Coords) (r : ℕ) : ℕ := min 3712 (1024 * (i 1).val + 128 * r - 128)

theorem off1_eq : ∀ (i : grid0.Coords) (r : Fin 8), k0_off1 i (BitVec.ofNat 32 r.val) = ![0, start i r.val, 0] := by decide +kernel
instance (i : grid0.Coords) : ClosedOff (k0_off1 i (BitVec.ofNat 32 0)) := ⟨![0, start i 0, 0], off1_eq i ⟨0, by decide⟩⟩
instance (i : grid0.Coords) : ClosedOff (k0_off1 i (BitVec.ofNat 32 1)) := ⟨![0, start i 1, 0], off1_eq i ⟨1, by decide⟩⟩
instance (i : grid0.Coords) : ClosedOff (k0_off1 i (BitVec.ofNat 32 2)) := ⟨![0, start i 2, 0], off1_eq i ⟨2, by decide⟩⟩
instance (i : grid0.Coords) : ClosedOff (k0_off1 i (BitVec.ofNat 32 3)) := ⟨![0, start i 3, 0], off1_eq i ⟨3, by decide⟩⟩
instance (i : grid0.Coords) : ClosedOff (k0_off1 i (BitVec.ofNat 32 4)) := ⟨![0, start i 4, 0], off1_eq i ⟨4, by decide⟩⟩
instance (i : grid0.Coords) : ClosedOff (k0_off1 i (BitVec.ofNat 32 5)) := ⟨![0, start i 5, 0], off1_eq i ⟨5, by decide⟩⟩
instance (i : grid0.Coords) : ClosedOff (k0_off1 i (BitVec.ofNat 32 6)) := ⟨![0, start i 6, 0], off1_eq i ⟨6, by decide⟩⟩
instance (i : grid0.Coords) : ClosedOff (k0_off1 i (BitVec.ofNat 32 7)) := ⟨![0, start i 7, 0], off1_eq i ⟨7, by decide⟩⟩
theorem off2_eq : ∀ (i : grid0.Coords) (r : Fin 8), k0_off2 i (BitVec.ofNat 32 r.val) = ![1, start i r.val, 0] := by decide +kernel
instance (i : grid0.Coords) : ClosedOff (k0_off2 i (BitVec.ofNat 32 0)) := ⟨![1, start i 0, 0], off2_eq i ⟨0, by decide⟩⟩
instance (i : grid0.Coords) : ClosedOff (k0_off2 i (BitVec.ofNat 32 1)) := ⟨![1, start i 1, 0], off2_eq i ⟨1, by decide⟩⟩
instance (i : grid0.Coords) : ClosedOff (k0_off2 i (BitVec.ofNat 32 2)) := ⟨![1, start i 2, 0], off2_eq i ⟨2, by decide⟩⟩
instance (i : grid0.Coords) : ClosedOff (k0_off2 i (BitVec.ofNat 32 3)) := ⟨![1, start i 3, 0], off2_eq i ⟨3, by decide⟩⟩
instance (i : grid0.Coords) : ClosedOff (k0_off2 i (BitVec.ofNat 32 4)) := ⟨![1, start i 4, 0], off2_eq i ⟨4, by decide⟩⟩
instance (i : grid0.Coords) : ClosedOff (k0_off2 i (BitVec.ofNat 32 5)) := ⟨![1, start i 5, 0], off2_eq i ⟨5, by decide⟩⟩
instance (i : grid0.Coords) : ClosedOff (k0_off2 i (BitVec.ofNat 32 6)) := ⟨![1, start i 6, 0], off2_eq i ⟨6, by decide⟩⟩
instance (i : grid0.Coords) : ClosedOff (k0_off2 i (BitVec.ofNat 32 7)) := ⟨![1, start i 7, 0], off2_eq i ⟨7, by decide⟩⟩
theorem off3_eq : ∀ (i : grid0.Coords) (r : Fin 8), k0_off3 i (BitVec.ofNat 32 r.val) = ![start i r.val, 0] := by decide +kernel
instance (i : grid0.Coords) : ClosedOff (k0_off3 i (BitVec.ofNat 32 0)) := ⟨![start i 0, 0], off3_eq i ⟨0, by decide⟩⟩
instance (i : grid0.Coords) : ClosedOff (k0_off3 i (BitVec.ofNat 32 1)) := ⟨![start i 1, 0], off3_eq i ⟨1, by decide⟩⟩
instance (i : grid0.Coords) : ClosedOff (k0_off3 i (BitVec.ofNat 32 2)) := ⟨![start i 2, 0], off3_eq i ⟨2, by decide⟩⟩
instance (i : grid0.Coords) : ClosedOff (k0_off3 i (BitVec.ofNat 32 3)) := ⟨![start i 3, 0], off3_eq i ⟨3, by decide⟩⟩
instance (i : grid0.Coords) : ClosedOff (k0_off3 i (BitVec.ofNat 32 4)) := ⟨![start i 4, 0], off3_eq i ⟨4, by decide⟩⟩
instance (i : grid0.Coords) : ClosedOff (k0_off3 i (BitVec.ofNat 32 5)) := ⟨![start i 5, 0], off3_eq i ⟨5, by decide⟩⟩
instance (i : grid0.Coords) : ClosedOff (k0_off3 i (BitVec.ofNat 32 6)) := ⟨![start i 6, 0], off3_eq i ⟨6, by decide⟩⟩
instance (i : grid0.Coords) : ClosedOff (k0_off3 i (BitVec.ofNat 32 7)) := ⟨![start i 7, 0], off3_eq i ⟨7, by decide⟩⟩

end Cert.Kernel7Ideal.Win

end
-- ==== Proof.WinIRunB.lean ====
/-
  The body at a later step, which finds the scratch as the first step left it.
-/
module

public import proofs.«01_k».proof.Proof.WinIOff

@[expose] public section

set_option maxRecDepth 16384

noncomputable section

namespace Cert.Kernel7Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F] [Named F]

set_option maxHeartbeats 40000000 in
/-- The body at a later step, which finds the scratch as the first step left it. The pieces each written buffer ends with are what the run finds. -/
noncomputable def runB (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : ¬ ((Scalar.cmpi .ne (Scalar.extui (Scalar.cmpi .eq (BitVec.ofNat 32 (i 1).val) 0#32)) 0#32) = 1#1))
    (x0 : Vec F S8 .f32) (x1 : Vec F S1024x512 .f32) (x2 : Vec F S4096x128 .f32) (x3 : Vec F S4096x128 .f32) (x4 : Vec F S1x256x128 .f32) (x5 : Vec F S1x256x128 .f32) (s0 : Vec F S2x4096x128 .bf16) (s1 : Vec F S4096x128 .bf16) (s2 : Vec F S2x256x128 .bf16) (s3 : Vec F S256x128 .bf16) :
    { L6 : List (View.Piece (Elt F) S1024x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare s0 ∗ owns (c : Thread nD τ) arg10 fullShare s1 ∗ owns (c : Thread nD τ) arg11 fullShare s2 ∗ owns (c : Thread nD τ) arg12 fullShare s3) -∗ K ⟨⟩))
          ⊢ wp frame (wpE (defs₀ (F := F)) Variants.none c none) E (cc0_window_attention i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_window_attention_eq_skeleton]; unfold cc0_window_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, ⟨%g2, %hg2, HS2⟩, ⟨%g3, %hg3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hg0; obtain rfl := harg10.eq_unread hg1; obtain rfl := harg11.eq_unread hg2; obtain rfl := harg12.eq_unread hg3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    iexists _; isplitr; · ipureintro; exact harg12.read_unread _
    iexact HS3

end Cert.Kernel7Ideal.Win

end
-- ==== Proof.WinIRunA.lean ====
/-
  The body at a batch's first step, which fills the scratch.
-/
module

public import proofs.«01_k».proof.Proof.WinIRunB

@[expose] public section

set_option maxRecDepth 16384

noncomputable section

namespace Cert.Kernel7Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F] [Named F]

set_option maxHeartbeats 40000000 in
/-- The body at a batch's first step, which fills the scratch. The pieces each written buffer ends with are what the run finds. -/
noncomputable def runA (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : (Scalar.cmpi .ne (Scalar.extui (Scalar.cmpi .eq (BitVec.ofNat 32 (i 1).val) 0#32)) 0#32) = 1#1)
    (x0 : Vec F S8 .f32) (x1 : Vec F S1024x512 .f32) (x2 : Vec F S4096x128 .f32) (x3 : Vec F S4096x128 .f32) (x4 : Vec F S1x256x128 .f32) (x5 : Vec F S1x256x128 .f32) :
    Σ' (L6 : List (View.Piece (Elt F) S1024x512 .f32)) (LS0 : List (View.Piece (Elt F) S2x4096x128 .bf16)) (LS1 : List (View.Piece (Elt F) S4096x128 .bf16)) (LS2 : List (View.Piece (Elt F) S2x256x128 .bf16)), { LS3 : List (View.Piece (Elt F) S256x128 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_window_attention i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_window_attention_eq_skeleton]; unfold cc0_window_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.Kernel7Ideal.Win

end
-- ==== Proof.WinITiles.lean ====
/-
  A query block of the window attention as functions of what it loads: its keys and values (three blocks of the sequence, then
  the context), its mask, its scores, its numerators and its four tiles. Every query block's stores are these functions.
-/
module

public import proofs.«01_k».proof.Proof.WinIRunA
public import Idealize.ShloMosaic.Lib.Pipeline.FrameBody
public import Idealize.ShloMosaic.Lib.Pipeline.Value

@[expose] public section

set_option maxRecDepth 16384

noncomputable section

namespace Cert.Kernel7Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F] [Named F]

/-- Three blocks of the sequence from the first one on, of the keys' two copies and of the values. -/
theorem inb1 : ∀ (i : grid0.Coords) (r : Fin 8) (a : Fin 3), k0_off1 i (BitVec.ofNat 32 r.val) a + S1x384x128.size a ≤ S2x4096x128.size a := by decide +kernel
theorem inb2 : ∀ (i : grid0.Coords) (r : Fin 8) (a : Fin 3), k0_off2 i (BitVec.ofNat 32 r.val) a + S1x384x128.size a ≤ S2x4096x128.size a := by decide +kernel
theorem inb3 : ∀ (i : grid0.Coords) (r : Fin 8) (a : Fin 2), k0_off3 i (BitVec.ofNat 32 r.val) a + S384x128.size a ≤ S4096x128.size a := by decide +kernel
theorem inbq : ∀ (r : Fin 8) (a : Fin 2), (![128 * r.val, 0] : Fin 2 → ℕ) a + S128x512.size a ≤ S1024x512.size a := by decide +kernel
theorem inbz : ∀ (h : Fin 8) (a : Fin 1), (![h.val] : Fin 1 → ℕ) a + S1.size a ≤ S8.size a := by decide +kernel
abbrev r1 (i : grid0.Coords) (r : Fin 8) : Rect S2x4096x128 := Rect.unit (k0_off1 i (BitVec.ofNat 32 r.val)) S1x384x128.size (inb1 i r)
abbrev r2 (i : grid0.Coords) (r : Fin 8) : Rect S2x4096x128 := Rect.unit (k0_off2 i (BitVec.ofNat 32 r.val)) S1x384x128.size (inb2 i r)
abbrev r3 (i : grid0.Coords) (r : Fin 8) : Rect S4096x128 := Rect.unit (k0_off3 i (BitVec.ofNat 32 r.val)) S384x128.size (inb3 i r)
abbrev rx0 : Rect S2x256x128 := Rect.unit ![0, 0, 0] S1x256x128.size inb_S2x256x128_S1x256x128_0_0_0
abbrev rx1 : Rect S2x256x128 := Rect.unit ![1, 0, 0] S1x256x128.size inb_S2x256x128_S1x256x128_1_0_0
abbrev rx : Rect S256x128 := Rect.unit ![0, 0] S256x128.size inb_S256x128_S256x128_0_0
abbrev rq (r : Fin 8) : Rect S1024x512 := Rect.unit ![128 * r.val, 0] S128x512.size (inbq r)
abbrev rz (h : Fin 8) : Rect S8 := Rect.unit ![h.val] S1.size (inbz h)

/-- How far a query block starts after its first key. -/
def ahead (i : grid0.Coords) (r : Fin 8) : BitVec 32 :=
  Scalar.subi (Scalar.muli (Scalar.addi (Scalar.muli (BitVec.ofNat 32 (i 1).val) 8#32) (BitVec.ofNat 32 r.val)) 128#32)
    (Scalar.minsi 3712#32 (Scalar.maxsi 0#32 (Scalar.muli (Scalar.subi (Scalar.addi (Scalar.muli (BitVec.ofNat 32 (i 1).val) 8#32) (BitVec.ofNat 32 r.val)) 1#32) 128#32)))

/-- A query block's mask: nothing within the window and on the context, minus infinity elsewhere. -/
def valid (i : grid0.Coords) (r : Fin 8) : FVec F S128x640 .f32 :=
  Scalar.select (Scalar.cmpi .eq (ahead i r) 128#32) k0_pay11
    (Scalar.select (Scalar.cmpi .eq (ahead i r) 0#32) k0_pay10 (k0_pay13 k0_pay12 (Scalar.ofBits .f32 0x00000000#32)))

/-- A head's scores, masked. -/
def score (h : Fin 8) (k0 k1 : FVec F S640x128 .bf16) (q : Vec F S128x512 .f32) (b : FVec F S128x640 .f32) : FVec F S128x640 .f32 :=
  match h with
  | 0 => addf (k0_pay24 k0 q) b
  | 1 => addf (k0_pay25 k0 q) b
  | 2 => addf (k0_pay26 k0 q) b
  | 3 => addf (k0_pay27 k0 q) b
  | 4 => addf (k0_pay28 k1 q) b
  | 5 => addf (k0_pay29 k1 q) b
  | 6 => addf (k0_pay31 k1 (k0_pay30 q)) b
  | 7 => addf (k0_pay32 k1 (k0_pay22 q) k0_pay23) b

/-- A head's numerators and the inverse of its denominator, of its scores and its sink. -/
def num (s : FVec F S128x640 .f32) (z : Elt F .f32) : FVec F S128x640 .bf16 := truncf .bf16 (k0_pay78 s z) bitsLt_bf16_f32
def inv (s : FVec F S128x640 .f32) (z : Elt F .f32) : FVec F S128x1 .f32 := k0_pay79 s z

/-- The four tiles of 128 lanes, two heads each, of the eight heads' scores and sinks. -/
def tile (b : Fin 4) (v : FVec F S640x128 .bf16) (s : Fin 8 → FVec F S128x640 .f32) (z : Fin 8 → Elt F .f32) : FVec F S128x128 .f32 :=
  match b with
  | 0 => k0_pay82 v k0_pay23 (inv (s 0) (z 0)) (num (s 0) (z 0)) (inv (s 1) (z 1)) (num (s 1) (z 1)) (num (s 2) (z 2)) (num (s 3) (z 3))
  | 1 => k0_pay83 v k0_pay23 (num (s 0) (z 0)) (num (s 1) (z 1)) (inv (s 2) (z 2)) (num (s 2) (z 2)) (inv (s 3) (z 3)) (num (s 3) (z 3))
  | 2 => k0_pay86 k0_pay23 (k0_pay84 v (inv (s 4) (z 4)) (num (s 4) (z 4)) (num (s 5) (z 5)) (num (s 6) (z 6)) (s 7) (z 7))
      (k0_pay85 v (num (s 4) (z 4)) (inv (s 5) (z 5)) (num (s 5) (z 5)) (num (s 6) (z 6)) (s 7) (z 7))
  | 3 => k0_pay87 k0_pay23 (inv (s 6) (z 6)) (inv (s 7) (z 7)) (k0_pay81 v (num (s 4) (z 4)) (num (s 5) (z 5)) (num (s 6) (z 6)) (s 7) (z 7))

/-- A query block's tile from its loads. -/
def blockTile (i : grid0.Coords) (r : Fin 8) (b : Fin 4) (l1 l2 : Vec F S1x384x128 .bf16) (l3 : Vec F S384x128 .bf16) (lx0 lx1 : Vec F S1x256x128 .bf16) (lx : Vec F S256x128 .bf16)
    (q : Vec F S128x512 .f32) (z : Fin 8 → Elt F .f32) : FVec F S128x128 .f32 :=
  tile b (k0_pay19 l3 lx) (fun h => score h (k0_pay17 l1 lx0) (k0_pay18 l2 lx1) q (valid i r)) z

theorem inbt00 : ∀ a : Fin 2, (![0, 0] : Fin 2 → ℕ) a + (![128, 128] : Fin 2 → ℕ) a ≤ S1024x512.size a := by decide
theorem inbt01 : ∀ a : Fin 2, (![0, 128] : Fin 2 → ℕ) a + (![128, 128] : Fin 2 → ℕ) a ≤ S1024x512.size a := by decide
theorem inbt02 : ∀ a : Fin 2, (![0, 256] : Fin 2 → ℕ) a + (![128, 128] : Fin 2 → ℕ) a ≤ S1024x512.size a := by decide
theorem inbt03 : ∀ a : Fin 2, (![0, 384] : Fin 2 → ℕ) a + (![128, 128] : Fin 2 → ℕ) a ≤ S1024x512.size a := by decide
theorem inbt10 : ∀ a : Fin 2, (![128, 0] : Fin 2 → ℕ) a + (![128, 128] : Fin 2 → ℕ) a ≤ S1024x512.size a := by decide
theorem inbt11 : ∀ a : Fin 2, (![128, 128] : Fin 2 → ℕ) a + (![128, 128] : Fin 2 → ℕ) a ≤ S1024x512.size a := by decide
theorem inbt12 : ∀ a : Fin 2, (![128, 256] : Fin 2 → ℕ) a + (![128, 128] : Fin 2 → ℕ) a ≤ S1024x512.size a := by decide
theorem inbt13 : ∀ a : Fin 2, (![128, 384] : Fin 2 → ℕ) a + (![128, 128] : Fin 2 → ℕ) a ≤ S1024x512.size a := by decide
theorem inbt20 : ∀ a : Fin 2, (![256, 0] : Fin 2 → ℕ) a + (![128, 128] : Fin 2 → ℕ) a ≤ S1024x512.size a := by decide
theorem inbt21 : ∀ a : Fin 2, (![256, 128] : Fin 2 → ℕ) a + (![128, 128] : Fin 2 → ℕ) a ≤ S1024x512.size a := by decide
theorem inbt22 : ∀ a : Fin 2, (![256, 256] : Fin 2 → ℕ) a + (![128, 128] : Fin 2 → ℕ) a ≤ S1024x512.size a := by decide
theorem inbt23 : ∀ a : Fin 2, (![256, 384] : Fin 2 → ℕ) a + (![128, 128] : Fin 2 → ℕ) a ≤ S1024x512.size a := by decide
theorem inbt30 : ∀ a : Fin 2, (![384, 0] : Fin 2 → ℕ) a + (![128, 128] : Fin 2 → ℕ) a ≤ S1024x512.size a := by decide
theorem inbt31 : ∀ a : Fin 2, (![384, 128] : Fin 2 → ℕ) a + (![128, 128] : Fin 2 → ℕ) a ≤ S1024x512.size a := by decide
theorem inbt32 : ∀ a : Fin 2, (![384, 256] : Fin 2 → ℕ) a + (![128, 128] : Fin 2 → ℕ) a ≤ S1024x512.size a := by decide
theorem inbt33 : ∀ a : Fin 2, (![384, 384] : Fin 2 → ℕ) a + (![128, 128] : Fin 2 → ℕ) a ≤ S1024x512.size a := by decide
theorem inbt40 : ∀ a : Fin 2, (![512, 0] : Fin 2 → ℕ) a + (![128, 128] : Fin 2 → ℕ) a ≤ S1024x512.size a := by decide
theorem inbt41 : ∀ a : Fin 2, (![512, 128] : Fin 2 → ℕ) a + (![128, 128] : Fin 2 → ℕ) a ≤ S1024x512.size a := by decide
theorem inbt42 : ∀ a : Fin 2, (![512, 256] : Fin 2 → ℕ) a + (![128, 128] : Fin 2 → ℕ) a ≤ S1024x512.size a := by decide
theorem inbt43 : ∀ a : Fin 2, (![512, 384] : Fin 2 → ℕ) a + (![128, 128] : Fin 2 → ℕ) a ≤ S1024x512.size a := by decide
theorem inbt50 : ∀ a : Fin 2, (![640, 0] : Fin 2 → ℕ) a + (![128, 128] : Fin 2 → ℕ) a ≤ S1024x512.size a := by decide
theorem inbt51 : ∀ a : Fin 2, (![640, 128] : Fin 2 → ℕ) a + (![128, 128] : Fin 2 → ℕ) a ≤ S1024x512.size a := by decide
theorem inbt52 : ∀ a : Fin 2, (![640, 256] : Fin 2 → ℕ) a + (![128, 128] : Fin 2 → ℕ) a ≤ S1024x512.size a := by decide
theorem inbt53 : ∀ a : Fin 2, (![640, 384] : Fin 2 → ℕ) a + (![128, 128] : Fin 2 → ℕ) a ≤ S1024x512.size a := by decide
theorem inbt60 : ∀ a : Fin 2, (![768, 0] : Fin 2 → ℕ) a + (![128, 128] : Fin 2 → ℕ) a ≤ S1024x512.size a := by decide
theorem inbt61 : ∀ a : Fin 2, (![768, 128] : Fin 2 → ℕ) a + (![128, 128] : Fin 2 → ℕ) a ≤ S1024x512.size a := by decide
theorem inbt62 : ∀ a : Fin 2, (![768, 256] : Fin 2 → ℕ) a + (![128, 128] : Fin 2 → ℕ) a ≤ S1024x512.size a := by decide
theorem inbt63 : ∀ a : Fin 2, (![768, 384] : Fin 2 → ℕ) a + (![128, 128] : Fin 2 → ℕ) a ≤ S1024x512.size a := by decide
theorem inbt70 : ∀ a : Fin 2, (![896, 0] : Fin 2 → ℕ) a + (![128, 128] : Fin 2 → ℕ) a ≤ S1024x512.size a := by decide
theorem inbt71 : ∀ a : Fin 2, (![896, 128] : Fin 2 → ℕ) a + (![128, 128] : Fin 2 → ℕ) a ≤ S1024x512.size a := by decide
theorem inbt72 : ∀ a : Fin 2, (![896, 256] : Fin 2 → ℕ) a + (![128, 128] : Fin 2 → ℕ) a ≤ S1024x512.size a := by decide
theorem inbt73 : ∀ a : Fin 2, (![896, 384] : Fin 2 → ℕ) a + (![128, 128] : Fin 2 → ℕ) a ≤ S1024x512.size a := by decide

/-- The block's 32 stores, the last first. -/
def tiles (T : Fin 8 → Fin 4 → FVec F S128x128 .f32) : List (View.Piece (Elt F) S1024x512 .f32) :=
  [⟨Rect.unit ![896, 384] ![128, 128] inbt73, T 7 3⟩,
   ⟨Rect.unit ![896, 256] ![128, 128] inbt72, T 7 2⟩,
   ⟨Rect.unit ![896, 128] ![128, 128] inbt71, T 7 1⟩,
   ⟨Rect.unit ![896, 0] ![128, 128] inbt70, T 7 0⟩,
   ⟨Rect.unit ![768, 384] ![128, 128] inbt63, T 6 3⟩,
   ⟨Rect.unit ![768, 256] ![128, 128] inbt62, T 6 2⟩,
   ⟨Rect.unit ![768, 128] ![128, 128] inbt61, T 6 1⟩,
   ⟨Rect.unit ![768, 0] ![128, 128] inbt60, T 6 0⟩,
   ⟨Rect.unit ![640, 384] ![128, 128] inbt53, T 5 3⟩,
   ⟨Rect.unit ![640, 256] ![128, 128] inbt52, T 5 2⟩,
   ⟨Rect.unit ![640, 128] ![128, 128] inbt51, T 5 1⟩,
   ⟨Rect.unit ![640, 0] ![128, 128] inbt50, T 5 0⟩,
   ⟨Rect.unit ![512, 384] ![128, 128] inbt43, T 4 3⟩,
   ⟨Rect.unit ![512, 256] ![128, 128] inbt42, T 4 2⟩,
   ⟨Rect.unit ![512, 128] ![128, 128] inbt41, T 4 1⟩,
   ⟨Rect.unit ![512, 0] ![128, 128] inbt40, T 4 0⟩,
   ⟨Rect.unit ![384, 384] ![128, 128] inbt33, T 3 3⟩,
   ⟨Rect.unit ![384, 256] ![128, 128] inbt32, T 3 2⟩,
   ⟨Rect.unit ![384, 128] ![128, 128] inbt31, T 3 1⟩,
   ⟨Rect.unit ![384, 0] ![128, 128] inbt30, T 3 0⟩,
   ⟨Rect.unit ![256, 384] ![128, 128] inbt23, T 2 3⟩,
   ⟨Rect.unit ![256, 256] ![128, 128] inbt22, T 2 2⟩,
   ⟨Rect.unit ![256, 128] ![128, 128] inbt21, T 2 1⟩,
   ⟨Rect.unit ![256, 0] ![128, 128] inbt20, T 2 0⟩,
   ⟨Rect.unit ![128, 384] ![128, 128] inbt13, T 1 3⟩,
   ⟨Rect.unit ![128, 256] ![128, 128] inbt12, T 1 2⟩,
   ⟨Rect.unit ![128, 128] ![128, 128] inbt11, T 1 1⟩,
   ⟨Rect.unit ![128, 0] ![128, 128] inbt10, T 1 0⟩,
   ⟨Rect.unit ![0, 384] ![128, 128] inbt03, T 0 3⟩,
   ⟨Rect.unit ![0, 256] ![128, 128] inbt02, T 0 2⟩,
   ⟨Rect.unit ![0, 128] ![128, 128] inbt01, T 0 1⟩,
   ⟨Rect.unit ![0, 0] ![128, 128] inbt00, T 0 0⟩]

/-- The stores of a later step, from the scratch it finds. -/
theorem runB_raw (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : ¬ ((Scalar.cmpi .ne (Scalar.extui (Scalar.cmpi .eq (BitVec.ofNat 32 (i 1).val) 0#32)) 0#32) = 1#1))
    (x0 : Vec F S8 .f32) (x1 : Vec F S1024x512 .f32) (x2 : Vec F S4096x128 .f32) (x3 : Vec F S4096x128 .f32) (x4 : Vec F S1x256x128 .f32) (x5 : Vec F S1x256x128 .f32) (s0 : Vec F S2x4096x128 .bf16) (s1 : Vec F S4096x128 .bf16) (s2 : Vec F S2x256x128 .bf16) (s3 : Vec F S256x128 .bf16) :
    (runB c i arg2 harg2 arg3 harg3 arg4 harg4 arg5 harg5 arg6 harg6 arg7 harg7 arg8 harg8 arg9 harg9 arg10 harg10 arg11 harg11 arg12 harg12 hc0 x0 x1 x2 x3 x4 x5 s0 s1 s2 s3).1 = tiles fun r b => blockTile i r b (View.readAt (Elt F) arg9.view (r1 i r).toLoadRect (harg9.unread s0)) (View.readAt (Elt F) arg9.view (r2 i r).toLoadRect (harg9.unread s0)) (View.readAt (Elt F) arg10.view (r3 i r).toLoadRect (harg10.unread s1))
      (View.readAt (Elt F) arg11.view rx0.toLoadRect (harg11.unread s2)) (View.readAt (Elt F) arg11.view rx1.toLoadRect (harg11.unread s2)) (View.readAt (Elt F) arg12.view rx.toLoadRect (harg12.unread s3)) (View.readAt (Elt F) arg3.view (rq r).toLoadRect (harg3.unread x1)) (fun h => View.readAt (Elt F) arg2.view (rz h).toLoadRect (harg2.unread x0) (Shape.Idx.first (by show 0 < (rz h).shape.numel; exact smemLoad._proof_2 (rz h) numel1_S1))) := by
  rfl

theorem zero2 : (![0, 0] : Fin 2 → Nat) = fun _ => 0 := funext fun a => by fin_cases a <;> rfl
theorem zero3 : (![0, 0, 0] : Fin 3 → Nat) = fun _ => 0 := funext fun a => by fin_cases a <;> rfl

/-- What the first step stores in the scratch: the keys' two copies, the values, and the context's. -/
def st0 (x : Vec F S4096x128 .f32) : List (View.Piece (Elt F) S2x4096x128 .bf16) :=
  [⟨Rect.unit ![1, 0, 0] S1x4096x128.size inb_S2x4096x128_S1x4096x128_1_0_0, k0_pay5 x⟩, ⟨Rect.unit ![0, 0, 0] S1x4096x128.size inb_S2x4096x128_S1x4096x128_0_0_0, k0_pay4 x⟩]
def st1 (x : Vec F S4096x128 .f32) : List (View.Piece (Elt F) S4096x128 .bf16) :=
  [⟨Rect.unit ![0, 0] S4096x128.size inb_S4096x128_S4096x128_0_0, k0_pay15 x⟩]
def st2 (x : Vec F S1x256x128 .f32) : List (View.Piece (Elt F) S2x256x128 .bf16) :=
  [⟨Rect.unit ![1, 0, 0] S1x256x128.size inb_S2x256x128_S1x256x128_1_0_0, k0_pay14 (k0_pay8 x)⟩, ⟨Rect.unit ![0, 0, 0] S1x256x128.size inb_S2x256x128_S1x256x128_0_0_0, k0_pay9 x⟩]
def st3 (x : Vec F S1x256x128 .f32) : List (View.Piece (Elt F) S256x128 .bf16) :=
  [⟨Rect.unit ![0, 0] S256x128.size inb_S256x128_S256x128_0_0, k0_pay16 x⟩]

/-- The stores of a batch's first step, from the scratch it fills, -/
theorem runA_raw (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : (Scalar.cmpi .ne (Scalar.extui (Scalar.cmpi .eq (BitVec.ofNat 32 (i 1).val) 0#32)) 0#32) = 1#1)
    (x0 : Vec F S8 .f32) (x1 : Vec F S1024x512 .f32) (x2 : Vec F S4096x128 .f32) (x3 : Vec F S4096x128 .f32) (x4 : Vec F S1x256x128 .f32) (x5 : Vec F S1x256x128 .f32) :
    (runA c i arg2 harg2 arg3 harg3 arg4 harg4 arg5 harg5 arg6 harg6 arg7 harg7 arg8 harg8 arg9 harg9 arg10 harg10 arg11 harg11 arg12 harg12 hc0 x0 x1 x2 x3 x4 x5).1 = tiles fun r b => blockTile i r b (View.readAt (Elt F) arg9.view (r1 i r).toLoadRect (arg9.view.writes (Elt F) arg9.view.junk (st0 (View.readAt (Elt F) arg4.view (Rect.unit ![0, 0] S4096x128.size inb_S4096x128_S4096x128_0_0).toLoadRect (harg4.unread x2))))) (View.readAt (Elt F) arg9.view (r2 i r).toLoadRect (arg9.view.writes (Elt F) arg9.view.junk (st0 (View.readAt (Elt F) arg4.view (Rect.unit ![0, 0] S4096x128.size inb_S4096x128_S4096x128_0_0).toLoadRect (harg4.unread x2))))) (View.readAt (Elt F) arg10.view (r3 i r).toLoadRect (arg10.view.writes (Elt F) arg10.view.junk (st1 (View.readAt (Elt F) arg5.view (Rect.unit ![0, 0] S4096x128.size inb_S4096x128_S4096x128_0_0).toLoadRect (harg5.unread x3)))))
      (arg11.view.readCov (st2 (View.readAt (Elt F) arg6.view (Rect.unit ![0, 0, 0] S1x256x128.size inb_S1x256x128_S1x256x128_0_0_0).toLoadRect (harg6.unread x4))) rx0.toLoadRect) (arg11.view.readCov (st2 (View.readAt (Elt F) arg6.view (Rect.unit ![0, 0, 0] S1x256x128.size inb_S1x256x128_S1x256x128_0_0_0).toLoadRect (harg6.unread x4))) rx1.toLoadRect) (arg12.view.readCov (st3 (View.readAt (Elt F) arg7.view (Rect.unit ![0, 0, 0] S1x256x128.size inb_S1x256x128_S1x256x128_0_0_0).toLoadRect (harg7.unread x5))) rx.toLoadRect) (View.readAt (Elt F) arg3.view (rq r).toLoadRect (harg3.unread x1)) (fun h => View.readAt (Elt F) arg2.view (rz h).toLoadRect (harg2.unread x0) (Shape.Idx.first (by show 0 < (rz h).shape.numel; exact smemLoad._proof_2 (rz h) numel1_S1))) := by
  rfl

/-- and its stores in the scratch. -/
theorem runA_st0 (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : (Scalar.cmpi .ne (Scalar.extui (Scalar.cmpi .eq (BitVec.ofNat 32 (i 1).val) 0#32)) 0#32) = 1#1)
    (x0 : Vec F S8 .f32) (x1 : Vec F S1024x512 .f32) (x2 : Vec F S4096x128 .f32) (x3 : Vec F S4096x128 .f32) (x4 : Vec F S1x256x128 .f32) (x5 : Vec F S1x256x128 .f32) : (runA c i arg2 harg2 arg3 harg3 arg4 harg4 arg5 harg5 arg6 harg6 arg7 harg7 arg8 harg8 arg9 harg9 arg10 harg10 arg11 harg11 arg12 harg12 hc0 x0 x1 x2 x3 x4 x5).2.1 = st0 x2 := by
  show (st0 (View.readAt (Elt F) arg4.view (Rect.unit ![0, 0] S4096x128.size inb_S4096x128_S4096x128_0_0).toLoadRect (harg4.unread x2))) = _
  simp only [View.readAt_eq_ld, harg4.read_unread, View.ld_unit_zero (S := S4096x128) zero2]

theorem runA_st1 (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : (Scalar.cmpi .ne (Scalar.extui (Scalar.cmpi .eq (BitVec.ofNat 32 (i 1).val) 0#32)) 0#32) = 1#1)
    (x0 : Vec F S8 .f32) (x1 : Vec F S1024x512 .f32) (x2 : Vec F S4096x128 .f32) (x3 : Vec F S4096x128 .f32) (x4 : Vec F S1x256x128 .f32) (x5 : Vec F S1x256x128 .f32) : (runA c i arg2 harg2 arg3 harg3 arg4 harg4 arg5 harg5 arg6 harg6 arg7 harg7 arg8 harg8 arg9 harg9 arg10 harg10 arg11 harg11 arg12 harg12 hc0 x0 x1 x2 x3 x4 x5).2.2.1 = st1 x3 := by
  show (st1 (View.readAt (Elt F) arg5.view (Rect.unit ![0, 0] S4096x128.size inb_S4096x128_S4096x128_0_0).toLoadRect (harg5.unread x3))) = _
  simp only [View.readAt_eq_ld, harg5.read_unread, View.ld_unit_zero (S := S4096x128) zero2]

theorem runA_st2 (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : (Scalar.cmpi .ne (Scalar.extui (Scalar.cmpi .eq (BitVec.ofNat 32 (i 1).val) 0#32)) 0#32) = 1#1)
    (x0 : Vec F S8 .f32) (x1 : Vec F S1024x512 .f32) (x2 : Vec F S4096x128 .f32) (x3 : Vec F S4096x128 .f32) (x4 : Vec F S1x256x128 .f32) (x5 : Vec F S1x256x128 .f32) : (runA c i arg2 harg2 arg3 harg3 arg4 harg4 arg5 harg5 arg6 harg6 arg7 harg7 arg8 harg8 arg9 harg9 arg10 harg10 arg11 harg11 arg12 harg12 hc0 x0 x1 x2 x3 x4 x5).2.2.2.1 = st2 x4 := by
  show (st2 (View.readAt (Elt F) arg6.view (Rect.unit ![0, 0, 0] S1x256x128.size inb_S1x256x128_S1x256x128_0_0_0).toLoadRect (harg6.unread x4))) = _
  simp only [View.readAt_eq_ld, harg6.read_unread, View.ld_unit_zero (S := S1x256x128) zero3]

theorem runA_st3 (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : (Scalar.cmpi .ne (Scalar.extui (Scalar.cmpi .eq (BitVec.ofNat 32 (i 1).val) 0#32)) 0#32) = 1#1)
    (x0 : Vec F S8 .f32) (x1 : Vec F S1024x512 .f32) (x2 : Vec F S4096x128 .f32) (x3 : Vec F S4096x128 .f32) (x4 : Vec F S1x256x128 .f32) (x5 : Vec F S1x256x128 .f32) : (runA c i arg2 harg2 arg3 harg3 arg4 harg4 arg5 harg5 arg6 harg6 arg7 harg7 arg8 harg8 arg9 harg9 arg10 harg10 arg11 harg11 arg12 harg12 hc0 x0 x1 x2 x3 x4 x5).2.2.2.2.1 = st3 x5 := by
  show (st3 (View.readAt (Elt F) arg7.view (Rect.unit ![0, 0, 0] S1x256x128.size inb_S1x256x128_S1x256x128_0_0_0).toLoadRect (harg7.unread x5))) = _
  simp only [View.readAt_eq_ld, harg7.read_unread, View.ld_unit_zero (S := S1x256x128) zero3]

/-- A step's tile from its inputs' blocks and the scratch's contents. -/
def blockAt (i : grid0.Coords) (x0 : Vec F S8 .f32) (x1 : Vec F S1024x512 .f32) (s0 : Vec F S2x4096x128 .bf16) (s1 : Vec F S4096x128 .bf16) (s2 : Vec F S2x256x128 .bf16) (s3 : Vec F S256x128 .bf16) (r : Fin 8) (b : Fin 4) : FVec F S128x128 .f32 :=
  blockTile i r b (View.ld s0 (r1 i r)) (View.ld s0 (r2 i r)) (View.ld s1 (r3 i r)) (View.ld s2 rx0) (View.ld s2 rx1) (View.ld s3 rx) (View.ld x1 (rq r))
    (fun h => View.ld x0 (rz h) (Shape.Idx.first (by show 0 < (rz h).shape.numel; exact smemLoad._proof_2 (rz h) numel1_S1)))

/-- The scratch as the batch's keys and values fill it. -/
def fill0 (x : Vec F S4096x128 .f32) : Vec F S2x4096x128 .bf16 := View.canon (st0 x)
def fill1 (x : Vec F S4096x128 .f32) : Vec F S4096x128 .bf16 := View.canon (st1 x)
def fill2 (x : Vec F S1x256x128 .f32) : Vec F S2x256x128 .bf16 := View.canon (st2 x)
def fill3 (x : Vec F S1x256x128 .f32) : Vec F S256x128 .bf16 := View.canon (st3 x)

/-- Either step stores the same tiles: a later one of the scratch it finds, -/
theorem runB_tiles (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : ¬ ((Scalar.cmpi .ne (Scalar.extui (Scalar.cmpi .eq (BitVec.ofNat 32 (i 1).val) 0#32)) 0#32) = 1#1))
    (x0 : Vec F S8 .f32) (x1 : Vec F S1024x512 .f32) (x2 : Vec F S4096x128 .f32) (x3 : Vec F S4096x128 .f32) (x4 : Vec F S1x256x128 .f32) (x5 : Vec F S1x256x128 .f32) (s0 : Vec F S2x4096x128 .bf16) (s1 : Vec F S4096x128 .bf16) (s2 : Vec F S2x256x128 .bf16) (s3 : Vec F S256x128 .bf16) :
    (runB c i arg2 harg2 arg3 harg3 arg4 harg4 arg5 harg5 arg6 harg6 arg7 harg7 arg8 harg8 arg9 harg9 arg10 harg10 arg11 harg11 arg12 harg12 hc0 x0 x1 x2 x3 x4 x5 s0 s1 s2 s3).1 = tiles (blockAt i x0 x1 s0 s1 s2 s3) := by
  rw [runB_raw]
  simp only [View.readAt_eq_ld, harg2.read_unread, harg3.read_unread, harg9.read_unread, harg10.read_unread, harg11.read_unread, harg12.read_unread]
  rfl

/-- the first one of the scratch it fills. -/
theorem runA_tiles (c : Dev nD) (i : grid0.Coords) (arg2 : Memref sig .tc .smem S8 .f32) (harg2 : arg2.IsWhole) (arg3 : Memref sig .tc .vmem S1024x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1024x512 .f32) (harg8 : arg8.IsWhole) (arg9 : Memref sig .tc .vmem S2x4096x128 .bf16) (harg9 : arg9.IsWhole) (arg10 : Memref sig .tc .vmem S4096x128 .bf16) (harg10 : arg10.IsWhole) (arg11 : Memref sig .tc .vmem S2x256x128 .bf16) (harg11 : arg11.IsWhole) (arg12 : Memref sig .tc .vmem S256x128 .bf16) (harg12 : arg12.IsWhole) (hc0 : (Scalar.cmpi .ne (Scalar.extui (Scalar.cmpi .eq (BitVec.ofNat 32 (i 1).val) 0#32)) 0#32) = 1#1)
    (x0 : Vec F S8 .f32) (x1 : Vec F S1024x512 .f32) (x2 : Vec F S4096x128 .f32) (x3 : Vec F S4096x128 .f32) (x4 : Vec F S1x256x128 .f32) (x5 : Vec F S1x256x128 .f32) :
    (runA c i arg2 harg2 arg3 harg3 arg4 harg4 arg5 harg5 arg6 harg6 arg7 harg7 arg8 harg8 arg9 harg9 arg10 harg10 arg11 harg11 arg12 harg12 hc0 x0 x1 x2 x3 x4 x5).1 = tiles (blockAt i x0 x1 (fill0 x2) (fill1 x3) (fill2 x4) (fill3 x5)) := by
  rw [runA_raw]
  simp only [View.readAt_writes_junk_eq_canon, View.readCov_eq_canon']
  simp only [View.readAt_eq_ld, harg2.read_unread, harg3.read_unread, harg4.read_unread, harg5.read_unread, harg6.read_unread, harg7.read_unread,
    View.ld_unit_zero (S := S4096x128) zero2, View.ld_unit_zero (S := S1x256x128) zero3]
  rfl

/-- The tiles cover the block. -/
theorem tiles_cover (T : Fin 8 → Fin 4 → FVec F S128x128 .f32) : ∀ y, ∃ p ∈ tiles T, y ∈ p.1.set :=
  fun y => View.cover_of_tiledL (tiles T) S128x128.size (by sl_kernel_rfl) y

theorem st0_cover (x : Vec F S4096x128 .f32) : ∀ y, ∃ p ∈ st0 x, y ∈ p.1.set := fun y => View.cover_of_tiledL (st0 x) S1x4096x128.size (by sl_kernel_rfl) y
theorem st1_cover (x : Vec F S4096x128 .f32) : ∀ y, ∃ p ∈ st1 x, y ∈ p.1.set := fun y => View.cover_of_tiledL (st1 x) S4096x128.size (by sl_kernel_rfl) y
theorem st2_cover (x : Vec F S1x256x128 .f32) : ∀ y, ∃ p ∈ st2 x, y ∈ p.1.set := fun y => View.cover_of_tiledL (st2 x) S1x256x128.size (by sl_kernel_rfl) y
theorem st3_cover (x : Vec F S1x256x128 .f32) : ∀ y, ∃ p ∈ st3 x, y ∈ p.1.set := fun y => View.cover_of_tiledL (st3 x) S256x128.size (by sl_kernel_rfl) y

end Cert.Kernel7Ideal.Win

end
-- ==== Proof.WinBlock.lean ====
/-
  The window attention's block values: what the body writes for a block of 128 queries, head by head. A head's scores are the
  dot products of its 64 lanes plus the mask, its numerators powers of two, and its value the numerators' mean of the values.
-/
module

public import proofs.«01_k».proof.Proof.WinITiles
public import proofs.«01_k».proof.Proof.CtxBlock

@[expose] public section

set_option maxRecDepth 16384

noncomputable section

namespace Cert.Proof.Win

open Cert.Kernel7Ideal Cert.Kernel7Ideal.Gen Cert.Kernel7Ideal.Win Idealize.ShloMosaic Cert.Proof.Ffn
open Cert.Proof.Ctx (lo hi low sel_lo sel_hi sum_low sum_high ql kl ninf rot_lo rot_hi)

/-- The scale of the scores and the base-two logarithm of e, as the program names them. -/
abbrev scl : EReal := (Named.named (F := Ideal) κ "scale" (φ := .f32) 0x3E38AA3B#32 : EReal)
abbrev lg : EReal := (Named.named (F := Ideal) κ "log2e" (φ := .f32) 0x3FB8AA3B#32 : EReal)
abbrev msk : EReal := (Named.named (F := Ideal) κ "mask" (φ := .f32) 0xF149F2CA#32 : EReal)

/-- A head's value from its scores, its sink and its values: numerators' sum over their denominator. -/
def mean (s : Fin 640 → EReal) (z : EReal) (v : Fin 640 → EReal) : EReal :=
  (∑ j, FloatOps.exp2 (F := Ideal) (φ := .f32) (s j - max (Finset.univ.fold max ⊥ s) (z * lg)) * v j)
    * Ideal.div 1 (∑ j, FloatOps.exp2 (F := Ideal) (φ := .f32) (s j - max (Finset.univ.fold max ⊥ s) (z * lg))
        + FloatOps.exp2 (F := Ideal) (φ := .f32) (z * lg - max (Finset.univ.fold max ⊥ s) (z * lg)))

variable (q : Vec Ideal S128x512 .f32) (k0 k1 v : FVec Ideal S640x128 .bf16) (K : Fin 640 → Fin 128 → EReal)
  (w : FVec Ideal S128x640 .f32) (y : Fin 128) (j : Fin 640) (d : Fin 64)

theorem prod_eq {a a' : Fin 512} {b b' : EReal} (ha : a.val = a'.val) (hb : b = b') :
    q (ix2 y a) * scl * b = q (ix2 y a') * scl * b' := by
  rw [Fin.ext ha, hb]

/-- A head's scores: each key copy holds one key head in both halves of its lanes. -/
theorem score_at (h0 : ∀ d, k0 (ix2 j (lo d)) = K j (lo d)) (h0' : ∀ d, k0 (ix2 j (hi d)) = K j (lo d))
    (h1 : ∀ d, k1 (ix2 j (lo d)) = K j (hi d)) (h1' : ∀ d, k1 (ix2 j (hi d)) = K j (hi d)) (h : Fin 8) :
    score h k0 k1 q w (ix2 y j) = (∑ d, q (ix2 y (ql h d)) * scl * K j (kl h d)) + w (ix2 y j) := by
  match h with
  | 0 =>
    unfold score k0_pay24 k0_pay23 k0_pay22
    pointwise [dot_S128x128_S640x128_S128x640_1_1_0_0_n_n]
    refine congrArg (· + _) ((sum_low _).trans (Finset.sum_congr rfl fun d _ => prod_eq q y ?_ ((h0 d).trans (congrArg (K j) (Fin.ext ?_))))) <;> simp [lo, ql, kl]
  | 1 =>
    unfold score k0_pay25 k0_pay23 k0_pay22
    pointwise [dot_S128x128_S640x128_S128x640_1_1_0_0_n_n]
    refine congrArg (· + _) ((sum_high _).trans (Finset.sum_congr rfl fun d _ => prod_eq q y ?_ ((h0' d).trans (congrArg (K j) (Fin.ext ?_))))) <;> simp [lo, hi, ql, kl]
  | 2 =>
    unfold score k0_pay26 k0_pay23 k0_pay22
    pointwise [dot_S128x128_S640x128_S128x640_1_1_0_0_n_n]
    refine congrArg (· + _) ((sum_low _).trans (Finset.sum_congr rfl fun d _ => prod_eq q y ?_ ((h0 d).trans (congrArg (K j) (Fin.ext ?_))))) <;> simp [lo, ql, kl]
  | 3 =>
    unfold score k0_pay27 k0_pay23 k0_pay22
    pointwise [dot_S128x128_S640x128_S128x640_1_1_0_0_n_n]
    refine congrArg (· + _) ((sum_high _).trans (Finset.sum_congr rfl fun d _ => prod_eq q y ?_ ((h0' d).trans (congrArg (K j) (Fin.ext ?_))))) <;> simp [lo, hi, ql, kl] <;> omega
  | 4 =>
    unfold score k0_pay28 k0_pay23 k0_pay22
    pointwise [dot_S128x128_S640x128_S128x640_1_1_0_0_n_n]
    refine congrArg (· + _) ((sum_low _).trans (Finset.sum_congr rfl fun d _ => prod_eq q y ?_ ((h1 d).trans (congrArg (K j) (Fin.ext ?_))))) <;> simp [lo, hi, ql, kl]
  | 5 =>
    unfold score k0_pay29 k0_pay23 k0_pay22
    pointwise [dot_S128x128_S640x128_S128x640_1_1_0_0_n_n]
    refine congrArg (· + _) ((sum_high _).trans (Finset.sum_congr rfl fun d _ => prod_eq q y ?_ ((h1' d).trans (congrArg (K j) (Fin.ext ?_))))) <;> simp [hi, ql, kl] <;> omega
  | 6 =>
    unfold score k0_pay31 k0_pay30 k0_pay23 k0_pay22
    pointwise [dot_S128x128_S640x128_S128x640_1_1_0_0_n_n]
    refine congrArg (· + _) ((sum_low _).trans (Finset.sum_congr rfl fun d _ => prod_eq q y ?_ ((h1 d).trans (congrArg (K j) (Fin.ext ?_))))) <;> simp [lo, hi, ql, kl]
  | 7 =>
    unfold score k0_pay32 k0_pay23 k0_pay22
    pointwise [dot_S128x128_S640x128_S128x640_1_1_0_0_n_n]
    refine congrArg (· + _) ((sum_high _).trans (Finset.sum_congr rfl fun d _ => prod_eq q y ?_ ((h1' d).trans (congrArg (K j) (Fin.ext ?_))))) <;> simp [hi, ql, kl] <;> omega

variable (s : FVec Ideal S128x640 .f32) (z : EReal)

theorem inv_at : Win.inv s z (ix2 y 0) = Ideal.div 1 (∑ j, FloatOps.exp2 (F := Ideal) (φ := .f32) (s (ix2 y j) - max (Finset.univ.fold max ⊥ fun j => s (ix2 y j)) (z * lg))
        + FloatOps.exp2 (F := Ideal) (φ := .f32) (z * lg - max (Finset.univ.fold max ⊥ fun j => s (ix2 y j)) (z * lg))) := by
  unfold Win.inv k0_pay79 k0_pay78 k0_pay77 k0_pay76
  pointwise
  simp only [Ideal.ofBits_def, ninf]

theorem num_at : num s z (ix2 y j) = FloatOps.exp2 (F := Ideal) (φ := .f32) (s (ix2 y j) - max (Finset.univ.fold max ⊥ fun j => s (ix2 y j)) (z * lg)) := by
  unfold num k0_pay78 k0_pay77 k0_pay76
  pointwise
  simp only [Ideal.ofBits_def, ninf]

/-- A weighted sum times an inverse is the mean, once both are read at the row. -/
theorem mean_eq (i : Fin 128) : (∑ j, num s z (ix2 y j) * v (ix2 j i)) * Win.inv s z (ix2 y 0) = mean (fun j => s (ix2 y j)) z (fun j => v (ix2 j i)) := by
  simp only [inv_at, num_at]; rfl

theorem mean_lane {i i' : Fin 128} (h : i.val = i'.val) : mean (fun j => s (ix2 y j)) z (fun j => v (ix2 j i)) = mean (fun j => s (ix2 y j)) z (fun j => v (ix2 j i')) := by
  rw [Fin.ext h]

/-- The last head's numerators are formed with the product. -/
theorem prod81 (a b c : FVec Ideal S128x640 .bf16) : k0_pay81 v a b c s z = k0_pay80 v a b c (num s z) := rfl

variable (S : Fin 8 → FVec Ideal S128x640 .f32) (Z : Fin 8 → EReal)

/-- The tile and the lane of a head's lane. -/
def tl (h : Fin 8) : Fin 4 := ⟨h / 2, by omega⟩
def ll (h : Fin 8) (d : Fin 64) : Fin 128 := ⟨64 * (h % 2) + d, by omega⟩

theorem tile_at (h : Fin 8) : tile (tl h) v S Z (ix2 y (ll h d)) = mean (fun j => S h (ix2 y j)) (Z h) (fun j => v (ix2 j (kl h d))) := by
  have e1 : ¬ 256 + y.val < 128 := by omega
  have e2 : ¬ 256 + y.val - 128 < 128 := by omega
  have e3 : 256 + y.val - 128 - 128 = y.val := by omega
  have f1 : ¬ 384 + y.val < 128 := by omega
  have f2 : ¬ 384 + y.val - 128 < 128 := by omega
  have f3 : ¬ 384 + y.val - 128 - 128 < 128 := by omega
  have f4 : 384 + y.val - 128 - 128 - 128 = y.val := by omega
  have hL : ∀ h : Fin 8, h.val % 2 = 0 → ll h d = lo d := fun h hh => Fin.ext (by simp [ll, lo, hh])
  have hH : ∀ h : Fin 8, h.val % 2 = 1 → ll h d = hi d := fun h hh => Fin.ext (by simp [ll, hi, hh])
  match h with
  | 0 =>
    rw [hL 0 rfl]
    show k0_pay82 v k0_pay23 (Win.inv (S 0) (Z 0)) (num (S 0) (Z 0)) (Win.inv (S 1) (Z 1)) (num (S 1) (Z 1)) (num (S 2) (Z 2)) (num (S 3) (Z 3)) (ix2 y (lo d)) = _
    unfold k0_pay82 k0_pay80 k0_pay23
    pointwise [dot_S512x640_S640x128_S512x128_1_0_0_1_n_n]
    refine (sel_lo d _ _).trans ((mean_eq v y (S 0) (Z 0) _).trans (mean_lane v y _ _ ?_))
    simp [lo, kl]
  | 1 =>
    rw [hH 1 rfl]
    show k0_pay82 v k0_pay23 (Win.inv (S 0) (Z 0)) (num (S 0) (Z 0)) (Win.inv (S 1) (Z 1)) (num (S 1) (Z 1)) (num (S 2) (Z 2)) (num (S 3) (Z 3)) (ix2 y (hi d)) = _
    unfold k0_pay82 k0_pay80 k0_pay23
    pointwise [dot_S512x640_S640x128_S512x128_1_0_0_1_n_n]
    refine (sel_hi d _ _).trans ?_
    simp only [rot_hi]
    refine (mean_eq v y (S 1) (Z 1) _).trans (mean_lane v y _ _ ?_)
    simp [lo, kl]
  | 2 =>
    rw [hL 2 rfl]
    show k0_pay83 v k0_pay23 (num (S 0) (Z 0)) (num (S 1) (Z 1)) (Win.inv (S 2) (Z 2)) (num (S 2) (Z 2)) (Win.inv (S 3) (Z 3)) (num (S 3) (Z 3)) (ix2 y (lo d)) = _
    unfold k0_pay83 k0_pay80 k0_pay23
    pointwise [dot_S512x640_S640x128_S512x128_1_0_0_1_n_n]
    simp only [dif_neg e1, dif_neg e2, e3, dif_pos y.isLt]
    refine (sel_lo d _ _).trans ((mean_eq v y (S 2) (Z 2) _).trans (mean_lane v y _ _ ?_))
    simp [lo, kl]
  | 3 =>
    rw [hH 3 rfl]
    show k0_pay83 v k0_pay23 (num (S 0) (Z 0)) (num (S 1) (Z 1)) (Win.inv (S 2) (Z 2)) (num (S 2) (Z 2)) (Win.inv (S 3) (Z 3)) (num (S 3) (Z 3)) (ix2 y (hi d)) = _
    unfold k0_pay83 k0_pay80 k0_pay23
    pointwise [dot_S512x640_S640x128_S512x128_1_0_0_1_n_n]
    simp only [dif_neg f1, dif_neg f2, dif_neg f3, f4]
    refine (sel_hi d _ _).trans ?_
    simp only [rot_hi]
    refine (mean_eq v y (S 3) (Z 3) _).trans (mean_lane v y _ _ ?_)
    simp [lo, kl]
  | 4 =>
    rw [hL 4 rfl]
    show k0_pay86 k0_pay23 (k0_pay84 v (Win.inv (S 4) (Z 4)) (num (S 4) (Z 4)) (num (S 5) (Z 5)) (num (S 6) (Z 6)) (S 7) (Z 7))
      (k0_pay85 v (num (S 4) (Z 4)) (Win.inv (S 5) (Z 5)) (num (S 5) (Z 5)) (num (S 6) (Z 6)) (S 7) (Z 7)) (ix2 y (lo d)) = _
    unfold k0_pay86 k0_pay85 k0_pay84 k0_pay23
    rw [prod81]; unfold k0_pay80
    pointwise [dot_S512x640_S640x128_S512x128_1_0_0_1_n_n]
    refine (sel_lo d _ _).trans ?_
    simp only [rot_lo]
    refine (mean_eq v y (S 4) (Z 4) _).trans (mean_lane v y _ _ ?_)
    simp [hi, kl]
  | 5 =>
    rw [hH 5 rfl]
    show k0_pay86 k0_pay23 (k0_pay84 v (Win.inv (S 4) (Z 4)) (num (S 4) (Z 4)) (num (S 5) (Z 5)) (num (S 6) (Z 6)) (S 7) (Z 7))
      (k0_pay85 v (num (S 4) (Z 4)) (Win.inv (S 5) (Z 5)) (num (S 5) (Z 5)) (num (S 6) (Z 6)) (S 7) (Z 7)) (ix2 y (hi d)) = _
    unfold k0_pay86 k0_pay85 k0_pay84 k0_pay23
    rw [prod81]; unfold k0_pay80
    pointwise [dot_S512x640_S640x128_S512x128_1_0_0_1_n_n]
    refine (sel_hi d _ _).trans ((mean_eq v y (S 5) (Z 5) _).trans (mean_lane v y _ _ ?_))
    simp [hi, kl]
  | 6 =>
    rw [hL 6 rfl]
    show k0_pay87 k0_pay23 (Win.inv (S 6) (Z 6)) (Win.inv (S 7) (Z 7)) (k0_pay81 v (num (S 4) (Z 4)) (num (S 5) (Z 5)) (num (S 6) (Z 6)) (S 7) (Z 7)) (ix2 y (lo d)) = _
    unfold k0_pay87 k0_pay23
    rw [prod81]; unfold k0_pay80
    pointwise [dot_S512x640_S640x128_S512x128_1_0_0_1_n_n]
    simp only [dif_neg e1, dif_neg e2, e3, dif_pos y.isLt]
    refine (sel_lo d _ _).trans ?_
    simp only [rot_lo]
    refine (mean_eq v y (S 6) (Z 6) _).trans (mean_lane v y _ _ ?_)
    simp [hi, kl]
  | 7 =>
    rw [hH 7 rfl]
    show k0_pay87 k0_pay23 (Win.inv (S 6) (Z 6)) (Win.inv (S 7) (Z 7)) (k0_pay81 v (num (S 4) (Z 4)) (num (S 5) (Z 5)) (num (S 6) (Z 6)) (S 7) (Z 7)) (ix2 y (hi d)) = _
    unfold k0_pay87 k0_pay23
    rw [prod81]; unfold k0_pay80
    pointwise [dot_S512x640_S640x128_S512x128_1_0_0_1_n_n]
    simp only [dif_neg f1, dif_neg f2, dif_neg f3, f4]
    refine (sel_hi d _ _).trans ((mean_eq v y (S 7) (Z 7) _).trans (mean_lane v y _ _ ?_))
    simp [hi, kl]

end Cert.Proof.Win
-- ==== Proof.WinOut.lean ====
/-
  The window attention's block of 1024 tokens after a step: at every token and lane of a head the mean over the three blocks of
  the sequence's keys around the token's, masked outside the window, and the context's keys.
-/
module

public import proofs.«01_k».proof.Proof.WinBlock
public import Idealize.ShloMosaic.Lib.WordCmp

@[expose] public section

set_option maxRecDepth 16384

noncomputable section

namespace Cert.Proof.Win

open Cert.Kernel7Ideal Cert.Kernel7Ideal.Gen Cert.Kernel7Ideal.Win Idealize.ShloMosaic Cert.Proof.Ffn
open Cert.Proof.Ctx (lo hi low sel_lo sel_hi sum_low sum_high ql kl ninf rot_lo rot_hi)

variable (i : grid0.Coords) (r : Fin 8) (j : Fin 640) (y : Fin 128) (d : Fin 64) (l : Fin 128)

/-! ## The mask -/

/-- Two places no further apart than the window. -/
abbrev Near (i j : ℕ) : Prop := i ≤ j + 128 ∧ j ≤ i + 128

/-- A query block starts none, one or two blocks after its first key. -/
theorem ahead_cases : ∀ (i : grid0.Coords) (r : Fin 8),
    (ahead i r = 0#32 ∧ 1024 * (i 1).val + 128 * r.val = start i r.val) ∨ (ahead i r = 128#32 ∧ 1024 * (i 1).val + 128 * r.val = start i r.val + 128)
      ∨ (ahead i r = 256#32 ∧ 1024 * (i 1).val + 128 * r.val = start i r.val + 256) := by decide +kernel

theorem msk_bot : msk = ⊥ := rfl
theorem fzero : FloatOps.ofBits (F := Ideal) .f32 0x00000000#32 = (0 : EReal) := by rw [Ideal.ofBits_def, Ideal.ofBits_zero_f32]

/-- A mask's bit: within the window or on the context. -/
abbrev bit (o : BitVec 32) (y : Fin 128) (j : Fin 640) : BitVec 1 :=
  IntOp.ori (IntOp.andi (IntOp.cmpi .sle (o + BitVec.ofNat 32 y.val - BitVec.ofNat 32 j.val) 128#32)
    (IntOp.cmpi .sge (o + BitVec.ofNat 32 y.val - BitVec.ofNat 32 j.val) 4294967168#32)) (IntOp.cmpi .sge (BitVec.ofNat 32 j.val) 384#32)

/-- The bit of the window, of a distance ahead or behind, and of the context. -/
theorem ahead_bit : ∀ n : Fin 640, IntOp.andi (IntOp.cmpi .sle (BitVec.ofNat 32 n.val) 128#32) (IntOp.cmpi .sge (BitVec.ofNat 32 n.val) 4294967168#32) = if n.val ≤ 128 then 1#1 else 0#1 := by decide +kernel
theorem behind_bit : ∀ n : Fin 640, IntOp.andi (IntOp.cmpi .sle (-(BitVec.ofNat 32 n.val)) 128#32) (IntOp.cmpi .sge (-(BitVec.ofNat 32 n.val)) 4294967168#32) = if n.val ≤ 128 then 1#1 else 0#1 := by decide +kernel
theorem ctx_bit : ∀ j : Fin 640, IntOp.cmpi .sge (BitVec.ofNat 32 j.val) 384#32 = if j.val < 384 then 0#1 else 1#1 := by decide +kernel

theorem bit_eq (o : ℕ) (ho : o ≤ 256) : bit (BitVec.ofNat 32 o) y j = if j.val < 384 ∧ ¬ Near (o + y.val) j.val then 0#1 else 1#1 := by
  have hor : ∀ {p p' : Prop} [Decidable p] [Decidable p'], IntOp.ori (if p then 1#1 else 0#1) (if p' then 0#1 else 1#1) = if p' ∧ ¬ p then 0#1 else 1#1 := by
    intro p p' _ _
    by_cases h : p <;> by_cases h' : p' <;> simp [h, h', IntOp.ori]
  unfold bit
  rw [ctx_bit j]
  rcases le_total j.val (o + y.val) with h | h
  · rw [show BitVec.ofNat 32 o + BitVec.ofNat 32 y.val - BitVec.ofNat 32 j.val = BitVec.ofNat 32 (o + y.val - j.val) from by
      refine BitVec.eq_of_toNat_eq ?_; simp only [BitVec.toNat_sub, BitVec.toNat_add, BitVec.toNat_ofNat]; omega]
    rw [ahead_bit ⟨o + y.val - j.val, by omega⟩, hor]
    refine if_congr (and_congr_right fun _ => not_congr ?_) rfl rfl
    show o + y.val - j.val ≤ 128 ↔ _
    unfold Near; omega
  · rw [show BitVec.ofNat 32 o + BitVec.ofNat 32 y.val - BitVec.ofNat 32 j.val = -(BitVec.ofNat 32 (j.val - (o + y.val))) from by
      refine BitVec.eq_of_toNat_eq ?_; simp only [BitVec.toNat_sub, BitVec.toNat_add, BitVec.toNat_neg, BitVec.toNat_ofNat]; omega]
    rw [behind_bit ⟨j.val - (o + y.val), by omega⟩, hor]
    refine if_congr (and_congr_right fun _ => not_congr ?_) rfl rfl
    show j.val - (o + y.val) ≤ 128 ↔ _
    unfold Near; omega

theorem sel_bit {p : Prop} [Decidable p] {b : BitVec 1} (h : b = if p then 0#1 else 1#1) : Scalar.select b (0 : EReal) ⊥ = if p then ⊥ else 0 := by
  subst h
  by_cases hp : p
  · rw [if_pos hp, if_pos hp]; rfl
  · rw [if_neg hp, if_neg hp]; rfl

theorem band0 : k0_pay10 (F := Ideal) (ix2 y j) = if j.val < 384 ∧ ¬ Near (0 + y.val) j.val then (⊥ : EReal) else 0 := by
  refine Eq.trans ?_ (sel_bit (bit_eq j y 0 (by omega)))
  unfold k0_pay10
  pointwise
  rfl
theorem band128 : k0_pay11 (F := Ideal) (ix2 y j) = if j.val < 384 ∧ ¬ Near (128 + y.val) j.val then (⊥ : EReal) else 0 := by
  refine Eq.trans ?_ (sel_bit (bit_eq j y 128 (by omega)))
  unfold k0_pay11
  pointwise
  rfl
theorem band256 : k0_pay13 (F := Ideal) k0_pay12 (Scalar.ofBits .f32 0x00000000#32) (ix2 y j) = if j.val < 384 ∧ ¬ Near (256 + y.val) j.val then (⊥ : EReal) else 0 := by
  refine Eq.trans ?_ (sel_bit (bit_eq j y 256 (by omega)))
  unfold k0_pay13 k0_pay12
  pointwise
  rfl

/-- The mask of a query block at a query and a key. -/
def bias : EReal := if j.val < 384 ∧ ¬ Near (1024 * (i 1).val + 128 * r.val + y.val) (start i r.val + j.val) then ⊥ else 0

theorem valid_at : valid (F := Ideal) i r (ix2 y j) = bias i r j y := by
  unfold valid bias
  rcases ahead_cases i r with ⟨h, h'⟩ | ⟨h, h'⟩ | ⟨h, h'⟩ <;> rw [h, h']
  · refine (band0 j y).trans (if_congr ?_ rfl rfl); unfold Near; omega
  · refine (band128 j y).trans (if_congr ?_ rfl rfl); unfold Near; omega
  · refine (band256 j y).trans (if_congr ?_ rfl rfl); unfold Near; omega

/-! ## The loads -/

variable (x0 : Vec Ideal S8 .f32) (x1 : Vec Ideal S1024x512 .f32) (x2 x3 : Vec Ideal S4096x128 .f32) (x4 x5 : Vec Ideal S1x256x128 .f32)

/-- The keys, or values, a query block sees: 384 of the sequence from its first on, then the context's. -/
def seen (x : S4096x128.Idx → EReal) (x' : S1x256x128.Idx → EReal) (j : Fin 640) (l : Fin 128) : EReal :=
  if h : j.val < 384 then x (ix2 ⟨start i r.val + j, by have : start i r.val ≤ 3712 := min_le_left _ _; omega⟩ l)
  else x' (ix3 0 ⟨j - 384, by omega⟩ l)

theorem cat17 (a : Vec Ideal S1x384x128 .bf16) (c : Vec Ideal S1x256x128 .bf16) :
    k0_pay17 a c (ix2 j l) = if h : j.val < 384 then a (ix3 0 ⟨j, h⟩ l) else c (ix3 0 ⟨j - 384, by omega⟩ l) := by
  unfold k0_pay17
  pointwise
theorem cat18 (a : Vec Ideal S1x384x128 .bf16) (c : Vec Ideal S1x256x128 .bf16) :
    k0_pay18 a c (ix2 j l) = if h : j.val < 384 then a (ix3 0 ⟨j, h⟩ l) else c (ix3 0 ⟨j - 384, by omega⟩ l) := cat17 j l a c
theorem cat19 (a : Vec Ideal S384x128 .bf16) (c : Vec Ideal S256x128 .bf16) :
    k0_pay19 a c (ix2 j l) = if h : j.val < 384 then a (ix2 ⟨j, h⟩ l) else c (ix2 ⟨j - 384, by omega⟩ l) := by
  unfold k0_pay19
  pointwise

variable (k : Fin 384) (u : Fin 256) (t : Fin 4096)

theorem start_le : start i r.val ≤ 3712 := min_le_left _ _
/-- The place of a query block's local key in the sequence. -/
def pl : Fin 4096 := ⟨start i r.val + k, by have := start_le i r; omega⟩

theorem ld1 (s : Vec Ideal S2x4096x128 .bf16) : View.ld s (r1 i r) (ix3 0 k l) = s (ix3 0 (pl i r k) l) := by
  refine congrArg s (funext fun a => Fin.ext ?_)
  match a with
  | ⟨0, _⟩ => show k0_off1 i (BitVec.ofNat 32 r.val) 0 + 1 * 0 = 0; rw [off1_eq]; rfl
  | ⟨1, _⟩ => show k0_off1 i (BitVec.ofNat 32 r.val) 1 + 1 * k.val = start i r.val + k.val; rw [off1_eq, one_mul]; rfl
  | ⟨2, _⟩ => show k0_off1 i (BitVec.ofNat 32 r.val) 2 + 1 * l.val = l.val; rw [off1_eq, one_mul]; exact Nat.zero_add _
theorem ld2 (s : Vec Ideal S2x4096x128 .bf16) : View.ld s (r2 i r) (ix3 0 k l) = s (ix3 1 (pl i r k) l) := by
  refine congrArg s (funext fun a => Fin.ext ?_)
  match a with
  | ⟨0, _⟩ => show k0_off2 i (BitVec.ofNat 32 r.val) 0 + 1 * 0 = 1; rw [off2_eq]; rfl
  | ⟨1, _⟩ => show k0_off2 i (BitVec.ofNat 32 r.val) 1 + 1 * k.val = start i r.val + k.val; rw [off2_eq, one_mul]; rfl
  | ⟨2, _⟩ => show k0_off2 i (BitVec.ofNat 32 r.val) 2 + 1 * l.val = l.val; rw [off2_eq, one_mul]; exact Nat.zero_add _
theorem ld3 (s : Vec Ideal S4096x128 .bf16) : View.ld s (r3 i r) (ix2 k l) = s (ix2 (pl i r k) l) := by
  refine congrArg s (funext fun a => Fin.ext ?_)
  match a with
  | ⟨0, _⟩ => show k0_off3 i (BitVec.ofNat 32 r.val) 0 + 1 * k.val = start i r.val + k.val; rw [off3_eq, one_mul]; rfl
  | ⟨1, _⟩ => show k0_off3 i (BitVec.ofNat 32 r.val) 1 + 1 * l.val = l.val; rw [off3_eq, one_mul]; exact Nat.zero_add _
theorem ldx0 (s : Vec Ideal S2x256x128 .bf16) : View.ld s rx0 (ix3 0 u l) = s (ix3 0 u l) := by
  refine congrArg s (funext fun a => Fin.ext ?_)
  match a with
  | ⟨0, _⟩ => rfl
  | ⟨1, _⟩ => show 0 + 1 * u.val = u.val; omega
  | ⟨2, _⟩ => show 0 + 1 * l.val = l.val; omega
theorem ldx1 (s : Vec Ideal S2x256x128 .bf16) : View.ld s rx1 (ix3 0 u l) = s (ix3 1 u l) := by
  refine congrArg s (funext fun a => Fin.ext ?_)
  match a with
  | ⟨0, _⟩ => rfl
  | ⟨1, _⟩ => show 0 + 1 * u.val = u.val; omega
  | ⟨2, _⟩ => show 0 + 1 * l.val = l.val; omega
theorem ldq (o : Fin 512) : View.ld x1 (rq r) (ix2 y o) = x1 (ix2 ⟨128 * r + y, by omega⟩ o) := by
  refine congrArg x1 (funext fun a => Fin.ext ?_)
  match a with
  | ⟨0, _⟩ => show 128 * r.val + 1 * y.val = 128 * r.val + y.val; omega
  | ⟨1, _⟩ => show 0 + 1 * o.val = o.val; omega
theorem ldz (h : Fin 8) (hp : 0 < (rz h).shape.numel) : View.ld x0 (rz h) (Shape.Idx.first hp) = x0 (ix1 h) := by
  refine congrArg x0 (funext fun a => Fin.ext ?_)
  match a with
  | ⟨0, _⟩ =>
    show h.val + 1 * (Shape.Idx.first hp (0 : Fin 1)).val = h.val
    have : (Shape.Idx.first hp (0 : Fin 1)).val < 1 := (Shape.Idx.first hp (0 : Fin 1)).isLt
    omega

/-! ## The scratch: both halves of a key copy's lanes hold one key head -/

/-- One pane of a pair of panes, under the store that fills it, -/
theorem pane_hit {n : ℕ} (g : Fin 2) (inb : ∀ a, (![g.val, 0, 0] : Fin 3 → ℕ) a + (⟨3, ![1, n, 128]⟩ : Shape).size a ≤ (⟨3, ![2, n, 128]⟩ : Shape).size a)
    (w : Vec Ideal ⟨3, ![1, n, 128]⟩ .bf16) (L : List (View.Piece (Elt Ideal) ⟨3, ![2, n, 128]⟩ .bf16)) (t : Fin n) :
    View.canon ((⟨Rect.unit ![g.val, 0, 0] (⟨3, ![1, n, 128]⟩ : Shape).size inb, w⟩ : View.Piece (Elt Ideal) ⟨3, ![2, n, 128]⟩ .bf16) :: L) (ix3 g t l) = w (ix3 0 t l) := by
  have e : ix3 g t l = (Rect.unit (s := (⟨3, ![2, n, 128]⟩ : Shape)) ![g.val, 0, 0] (⟨3, ![1, n, 128]⟩ : Shape).size inb).emb (ix3 0 t l) := by
    refine funext fun a => Fin.ext ?_
    match a with
    | ⟨0, _⟩ => rfl
    | ⟨1, _⟩ => show t.val = 0 + 1 * t.val; omega
    | ⟨2, _⟩ => show l.val = 0 + 1 * l.val; omega
  rw [e]; exact View.canon_cons_emb _ _ _ _
/-- and under the other's. -/
theorem pane_miss {n : ℕ} (inb : ∀ a, (![1, 0, 0] : Fin 3 → ℕ) a + (⟨3, ![1, n, 128]⟩ : Shape).size a ≤ (⟨3, ![2, n, 128]⟩ : Shape).size a)
    (w : Vec Ideal ⟨3, ![1, n, 128]⟩ .bf16) (L : List (View.Piece (Elt Ideal) ⟨3, ![2, n, 128]⟩ .bf16)) (t : Fin n) :
    View.canon ((⟨Rect.unit ![1, 0, 0] (⟨3, ![1, n, 128]⟩ : Shape).size inb, w⟩ : View.Piece (Elt Ideal) ⟨3, ![2, n, 128]⟩ .bf16) :: L) (ix3 0 t l)
      = View.canon L (ix3 0 t l) := by
  refine View.canon_cons_of_not_mem _ _ fun hm => ?_
  obtain ⟨k, hk, he⟩ := (LoadRect.mem_set _).mp hm (0 : Fin 3)
  have he' : 0 = 1 + 1 * k := he
  omega

theorem fill0_0 : fill0 x2 (ix3 0 t l) = k0_pay4 x2 (ix3 0 t l) :=
  (pane_miss l _ (k0_pay5 x2) _ t).trans (pane_hit l 0 _ (k0_pay4 x2) _ t)
theorem fill0_1 : fill0 x2 (ix3 1 t l) = k0_pay5 x2 (ix3 0 t l) := pane_hit l 1 _ (k0_pay5 x2) _ t
theorem fill2_0 : fill2 x4 (ix3 0 u l) = k0_pay9 x4 (ix3 0 u l) :=
  (pane_miss l _ (k0_pay14 (k0_pay8 x4)) _ u).trans (pane_hit l 0 _ (k0_pay9 x4) _ u)
theorem fill2_1 : fill2 x4 (ix3 1 u l) = k0_pay14 (k0_pay8 x4) (ix3 0 u l) := pane_hit l 1 _ (k0_pay14 (k0_pay8 x4)) _ u
theorem fill1_at : fill1 x3 (ix2 t l) = x3 (ix2 t l) := by
  unfold fill1 st1
  refine Eq.trans (Eq.trans (congrArg _ ?_) (View.canon_cons_emb _ _ _ (ix2 t l))) ?_
  · refine funext fun a => Fin.ext ?_
    match a with
    | ⟨0, _⟩ => show t.val = 0 + 1 * t.val; omega
    | ⟨1, _⟩ => show l.val = 0 + 1 * l.val; omega
  · show k0_pay15 x3 (ix2 t l) = _
    unfold k0_pay15
    pointwise
theorem fill3_at : fill3 x5 (ix2 u l) = x5 (ix3 0 u l) := by
  unfold fill3 st3
  refine Eq.trans (Eq.trans (congrArg _ ?_) (View.canon_cons_emb _ _ _ (ix2 u l))) ?_
  · refine funext fun a => Fin.ext ?_
    match a with
    | ⟨0, _⟩ => show u.val = 0 + 1 * u.val; omega
    | ⟨1, _⟩ => show l.val = 0 + 1 * l.val; omega
  · show k0_pay16 x5 (ix2 u l) = _
    unfold k0_pay16
    pointwise

theorem dup0_lo : fill0 x2 (ix3 0 t (lo d)) = x2 (ix2 t (lo d)) := by
  rw [fill0_0]; unfold k0_pay4 k0_pay3; pointwise; exact sel_lo d _ _
theorem dup0_hi : fill0 x2 (ix3 0 t (hi d)) = x2 (ix2 t (lo d)) := by
  rw [fill0_0]; unfold k0_pay4 k0_pay3; pointwise; refine (sel_hi d _ _).trans ?_; simp only [rot_hi]
theorem dup1_lo : fill0 x2 (ix3 1 t (lo d)) = x2 (ix2 t (hi d)) := by
  rw [fill0_1]; unfold k0_pay5 k0_pay3; pointwise; refine (sel_lo d _ _).trans ?_; simp only [rot_lo]
theorem dup1_hi : fill0 x2 (ix3 1 t (hi d)) = x2 (ix2 t (hi d)) := by
  rw [fill0_1]; unfold k0_pay5 k0_pay3; pointwise; exact sel_hi d _ _
theorem cdup0_lo : fill2 x4 (ix3 0 u (lo d)) = x4 (ix3 0 u (lo d)) := by
  rw [fill2_0]; unfold k0_pay9 k0_pay7 k0_pay6; pointwise; exact sel_lo d _ _
theorem cdup0_hi : fill2 x4 (ix3 0 u (hi d)) = x4 (ix3 0 u (lo d)) := by
  rw [fill2_0]; unfold k0_pay9 k0_pay7 k0_pay6; pointwise; refine (sel_hi d _ _).trans ?_; simp only [rot_hi]
theorem cdup1_lo : fill2 x4 (ix3 1 u (lo d)) = x4 (ix3 0 u (hi d)) := by
  rw [fill2_1]; unfold k0_pay14 k0_pay8 k0_pay7 k0_pay6; pointwise; refine (sel_lo d _ _).trans ?_; simp only [rot_lo]
theorem cdup1_hi : fill2 x4 (ix3 1 u (hi d)) = x4 (ix3 0 u (hi d)) := by
  rw [fill2_1]; unfold k0_pay14 k0_pay8 k0_pay7 k0_pay6; pointwise; exact sel_hi d _ _

/-! ## A query block's tile -/

theorem keys0_lo : k0_pay17 (View.ld (fill0 x2) (r1 i r)) (View.ld (fill2 x4) rx0) (ix2 j (lo d)) = seen i r x2 x4 j (lo d) := by
  rw [cat17]; unfold seen
  by_cases h : j.val < 384
  · rw [dif_pos h, dif_pos h, ld1, dup0_lo]; rfl
  · rw [dif_neg h, dif_neg h, ldx0, cdup0_lo]
theorem keys0_hi : k0_pay17 (View.ld (fill0 x2) (r1 i r)) (View.ld (fill2 x4) rx0) (ix2 j (hi d)) = seen i r x2 x4 j (lo d) := by
  rw [cat17]; unfold seen
  by_cases h : j.val < 384
  · rw [dif_pos h, dif_pos h, ld1, dup0_hi]; rfl
  · rw [dif_neg h, dif_neg h, ldx0, cdup0_hi]
theorem keys1_lo : k0_pay18 (View.ld (fill0 x2) (r2 i r)) (View.ld (fill2 x4) rx1) (ix2 j (lo d)) = seen i r x2 x4 j (hi d) := by
  rw [cat18]; unfold seen
  by_cases h : j.val < 384
  · rw [dif_pos h, dif_pos h, ld2, dup1_lo]; rfl
  · rw [dif_neg h, dif_neg h, ldx1, cdup1_lo]
theorem keys1_hi : k0_pay18 (View.ld (fill0 x2) (r2 i r)) (View.ld (fill2 x4) rx1) (ix2 j (hi d)) = seen i r x2 x4 j (hi d) := by
  rw [cat18]; unfold seen
  by_cases h : j.val < 384
  · rw [dif_pos h, dif_pos h, ld2, dup1_hi]; rfl
  · rw [dif_neg h, dif_neg h, ldx1, cdup1_hi]
theorem vals_at : k0_pay19 (View.ld (fill1 x3) (r3 i r)) (View.ld (fill3 x5) rx) (ix2 j l) = seen i r x3 x5 j l := by
  rw [cat19, View.ld_unit_zero (S := S256x128) zero2]; unfold seen
  by_cases h : j.val < 384
  · rw [dif_pos h, dif_pos h, ld3, fill1_at]; rfl
  · rw [dif_neg h, dif_neg h, fill3_at]

/-- A masked score in base two. -/
def sc (h : Fin 8) : EReal :=
  (∑ d, x1 (ix2 ⟨128 * r + y, by omega⟩ (ql h d)) * scl * seen i r x2 x4 j (kl h d)) + bias i r j y

theorem block_at (h : Fin 8) :
    blockAt i x0 x1 (fill0 x2) (fill1 x3) (fill2 x4) (fill3 x5) r (tl h) (ix2 y (ll h d))
      = mean (fun j => sc i r j y x1 x2 x4 h) (x0 (ix1 h)) (fun j => seen i r x3 x5 j (kl h d)) := by
  unfold blockAt blockTile
  rw [tile_at]
  simp only [vals_at]
  congr 1
  swap
  · exact ldz x0 h _
  funext j
  rw [score_at _ _ _ (seen i r x2 x4) _ _ _ (fun d => keys0_lo i r j d x2 x4) (fun d => keys0_hi i r j d x2 x4) (fun d => keys1_lo i r j d x2 x4)
    (fun d => keys1_hi i r j d x2 x4), valid_at]
  exact congrArg (· + bias i r j y) (Finset.sum_congr rfl fun d _ => congrArg (fun q => q * scl * seen i r x2 x4 j (kl h d)) (ldq r y x1 (ql h d)))

/-! ## The block: its 32 tiles read back -/

/-- A list of stores that agree with one function reads back as that function where it covers. -/
theorem canon_eq (G : Vec Ideal S1024x512 .f32) (x : S1024x512.Idx) : ∀ (L : List (View.Piece (Elt Ideal) S1024x512 .f32)),
    (∀ p ∈ L, ∀ y, p.2 y = G (p.1.emb y)) → (∃ p ∈ L, x ∈ p.1.set) → View.canon L x = G x
  | [], _, ⟨_, h, _⟩ => absurd h (List.not_mem_nil)
  | p :: L, hG, hx => by
    by_cases hm : x ∈ p.1.set
    · choose k hk he using (LoadRect.mem_set _).mp hm
      have e : x = p.1.emb (fun a => ⟨k a, hk a⟩) := funext fun a => Fin.ext (he a)
      generalize (fun a => (⟨k a, hk a⟩ : Fin _) : p.1.shape.Idx) = y at e
      rw [e]
      exact (View.canon_cons_emb _ _ _ _).trans (hG p (List.mem_cons_self) y)
    · rw [View.canon_cons_of_not_mem _ _ hm]
      refine canon_eq G x L (fun p hp => hG p (List.mem_cons_of_mem _ hp)) ?_
      obtain ⟨p', hp', hx'⟩ := hx
      rcases List.mem_cons.mp hp' with rfl | hp'
      · exact absurd hx' hm
      · exact ⟨p', hp', hx'⟩

variable (T : Fin 8 → Fin 4 → FVec Ideal S128x128 .f32)

/-- The block the tiles make. -/
def glue : Vec Ideal S1024x512 .f32 := fun x =>
  T ⟨(x 0).val / 128, by have : (x 0).val < 1024 := (x 0).isLt; omega⟩ ⟨(x 1).val / 128, by have : (x 1).val < 512 := (x 1).isLt; omega⟩
    (ix2 ⟨(x 0).val % 128, by omega⟩ ⟨(x 1).val % 128, by omega⟩)

theorem glue_eq (x : S1024x512.Idx) (R : Fin 8) (B : Fin 4) (y l : Fin 128) (h0 : (x 0).val = 128 * R.val + y.val) (h1 : (x 1).val = 128 * B.val + l.val) :
    glue T x = T R B (ix2 y l) := by
  have e : ∀ (R' : Fin 8) (B' : Fin 4) (y' l' : Fin 128), R' = R → B' = B → y' = y → l' = l → T R' B' (ix2 y' l') = T R B (ix2 y l) := by
    rintro _ _ _ _ rfl rfl rfl rfl; rfl
  exact e _ _ _ _ (Fin.ext (by show (x 0).val / 128 = R.val; omega)) (Fin.ext (by show (x 1).val / 128 = B.val; omega))
    (Fin.ext (by show (x 0).val % 128 = y.val; omega)) (Fin.ext (by show (x 1).val % 128 = l.val; omega))

theorem piece (R : Fin 8) (B : Fin 4) (inb : ∀ a, (![128 * R.val, 128 * B.val] : Fin 2 → ℕ) a + (![128, 128] : Fin 2 → ℕ) a ≤ S1024x512.size a) (y : S128x128.Idx) :
    T R B y = glue T ((Rect.unit (s := S1024x512) ![128 * R.val, 128 * B.val] ![128, 128] inb).emb y) := by
  refine Eq.symm ((glue_eq T _ R B (y 0) (y 1) ?_ ?_).trans (congrArg _ (funext fun a => ?_)))
  · show 128 * R.val + 1 * (y 0).val = _; rw [one_mul]
  · show 128 * B.val + 1 * (y 1).val = _; rw [one_mul]
  · match a with
    | ⟨0, _⟩ => rfl
    | ⟨1, _⟩ => rfl

theorem canon_tiles (x : S1024x512.Idx) : View.canon (tiles T) x = glue T x := by
  refine canon_eq _ x _ ?_ (tiles_cover T x)
  unfold tiles
  simp only [List.forall_mem_cons]
  exact ⟨piece T 7 3 _, piece T 7 2 _, piece T 7 1 _, piece T 7 0 _, piece T 6 3 _, piece T 6 2 _, piece T 6 1 _, piece T 6 0 _, piece T 5 3 _, piece T 5 2 _, piece T 5 1 _, piece T 5 0 _, piece T 4 3 _, piece T 4 2 _, piece T 4 1 _, piece T 4 0 _, piece T 3 3 _, piece T 3 2 _, piece T 3 1 _, piece T 3 0 _, piece T 2 3 _, piece T 2 2 _, piece T 2 1 _, piece T 2 0 _, piece T 1 3 _, piece T 1 2 _, piece T 1 1 _, piece T 1 0 _, piece T 0 3 _, piece T 0 2 _, piece T 0 1 _, piece T 0 0 _, fun _ h => absurd h (List.not_mem_nil)⟩

/-- The block a step leaves, at a token and a lane of a head: that head's mean of the values. -/
theorem out_at (h : Fin 8) :
    View.canon (tiles (blockAt i x0 x1 (fill0 x2) (fill1 x3) (fill2 x4) (fill3 x5))) (ix2 ⟨128 * r + y, by omega⟩ (ql h d))
      = mean (fun j => sc i r j y x1 x2 x4 h) (x0 (ix1 h)) (fun j => seen i r x3 x5 j (kl h d)) := by
  rw [canon_tiles]
  refine (glue_eq _ _ r (tl h) y (ll h d) rfl ?_).trans (block_at i r y d x0 x1 x2 x3 x4 x5 h)
  show 64 * h.val + d.val = 128 * (h.val / 2) + (64 * (h.val % 2) + d.val)
  omega

end Cert.Proof.Win
-- ==== Proof.WinIFrame.lean ====
/-
  The window attention's run: what each step finds in the scratch and leaves in it, its obligation, and the frame.
-/
module

public import proofs.«01_k».proof.Proof.WinITiles
public import Idealize.ShloMosaic.Lib.WordCmp
public import Idealize.ShloMosaic.Lib.Claim

@[expose] public section

set_option maxRecDepth 16384

noncomputable section

namespace Cert.Kernel7Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F] [Named F]
variable (m : (ℓ : Loc nD τ sig) → Buf (Elt F) ℓ) (ρ : Dev nD → PrngReg)

/-- A step fills the scratch exactly where it is its batch's first. -/
theorem first_iff : ∀ t : Fin cfg0.N, (Scalar.cmpi .ne (Scalar.extui (Scalar.cmpi .eq (BitVec.ofNat 32 (grid0.coords t 1).val) 0#32)) 0#32) = 1#1 ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [e1]
    word_cmp
   : ∀ t : Fin grid0.N, (Scalar.cmpi .ne (Scalar.extui (Scalar.cmpi .eq (BitVec.ofNat 32 (grid0.coords t 1).val) 0#32)) 0#32) = 1#1 ↔ t.val % 4 = 0)

/-- The staging buffers of a step, and the scratch. -/
abbrev ms0 (t : Fin cfg0.N) : Memref sig .tc .smem S8 .f32 := win0_0.stage (cfg0.slots t 0)
abbrev ms1 (t : Fin cfg0.N) : Memref sig .tc .vmem S1024x512 .f32 := win0_1.stage (cfg0.slots t 1)
abbrev ms2 (t : Fin cfg0.N) : Memref sig .tc .vmem S4096x128 .f32 := win0_2.stage (cfg0.slots t 2)
abbrev ms3 (t : Fin cfg0.N) : Memref sig .tc .vmem S4096x128 .f32 := win0_3.stage (cfg0.slots t 3)
abbrev ms4 (t : Fin cfg0.N) : Memref sig .tc .vmem S1x256x128 .f32 := win0_4.stage (cfg0.slots t 4)
abbrev ms5 (t : Fin cfg0.N) : Memref sig .tc .vmem S1x256x128 .f32 := win0_5.stage (cfg0.slots t 5)
abbrev ms6 (t : Fin cfg0.N) : Memref sig .tc .vmem S1024x512 .f32 := win0_6.stage (cfg0.slots t 6)
abbrev sc0 : Memref sig .tc .vmem S2x4096x128 .bf16 := Memref.whole cc0_scratch0
abbrev sc1 : Memref sig .tc .vmem S4096x128 .bf16 := Memref.whole cc0_scratch1
abbrev sc2 : Memref sig .tc .vmem S2x256x128 .bf16 := Memref.whole cc0_scratch2
abbrev sc3 : Memref sig .tc .vmem S256x128 .bf16 := Memref.whole cc0_scratch3
theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)
theorem hs4 (t : Fin cfg0.N) : (ms4 t).IsWhole := hstage0_4 ((cfg0.slots t 4).cast nbuf0_4)
theorem hs5 (t : Fin cfg0.N) : (ms5 t).IsWhole := hstage0_5 ((cfg0.slots t 5).cast nbuf0_5)
theorem hs6 (t : Fin cfg0.N) : (ms6 t).IsWhole := hstage0_6 ((cfg0.slots t 6).cast nbuf0_6)

/-- The region's scratch and generator, the scratch buffer by buffer. -/
theorem scratch_eq (c : Dev nD) :
    (Pipeline.ΦA spec0 c : sProp (MT nD τ sig Unit (Elt F) ℕ (UR sig nD τ) ℕ))
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The step before a point. -/
def prev (t : Fin (cfg0.N + 1)) : Fin cfg0.N := ⟨t.val - 1, by have := t.isLt; have h : cfg0.N = 32 := N_0; omega⟩

/-- Within a batch the scratch holds what the batch's keys and values fill it with. -/
def Held (c : Dev nD) (t : Fin (cfg0.N + 1)) (d0 : Vec F S2x4096x128 .bf16) (d1 : Vec F S4096x128 .bf16) (d2 : Vec F S2x256x128 .bf16) (d3 : Vec F S256x128 .bf16) : Prop :=
  t.val % 4 ≠ 0 → d0 = fill0 (iblk m c 2 (prev t)) ∧ d1 = fill1 (iblk m c 3 (prev t)) ∧ d2 = fill2 (iblk m c 4 (prev t)) ∧ d3 = fill3 (iblk m c 5 (prev t))

/-- What a step leaves in its block of the result. -/
def outAt (c : Dev nD) (t : Fin cfg0.N) : Vec F S1024x512 .f32 :=
  View.canon (tiles (blockAt (grid0.coords t) (iblk m c 0 t) (iblk m c 1 t) (fill0 (iblk m c 2 t)) (fill1 (iblk m c 3 t)) (fill2 (iblk m c 4 t)) (fill3 (iblk m c 5 t))))

/-- What each step finds and leaves: the inputs' blocks stay, the result's block is the step's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := iprop((∃ d0, ∃ d1, ∃ d2, ∃ d3, ⌜Held m c t d0 d1 d2 d3⌝ ∗ owns (c : Thread nD τ) sc0 fullShare d0 ∗ owns (c : Thread nD τ) sc1 fullShare d1 ∗ owns (c : Thread nD τ) sc2 fullShare d2 ∗ owns (c : Thread nD τ) sc3 fullShare d3) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Within a batch the keys' and values' blocks do not move. -/
theorem same_2 (c : Dev nD) (t : Fin cfg0.N) (h : t.val % 4 ≠ 0) : iblk m c 2 (prev t.castSucc) = iblk m c 2 t := by
  have hf : (cfg0.win 2).fetch t = false := by
    cases e : (cfg0.win 2).fetch t
    · rfl
    · exact absurd ((fetch0_2 t).mp e) h
  have h1 := (dats m 0 c).before_unfetched_in 2 rfl t hf (fun _ => rfl) (iblk m c 2 t)
  rw [before_2] at h1
  refine Eq.symm (h1.trans ?_)
  unfold Dat.kept
  rw [after_2]
  rfl
theorem same_3 (c : Dev nD) (t : Fin cfg0.N) (h : t.val % 4 ≠ 0) : iblk m c 3 (prev t.castSucc) = iblk m c 3 t := by
  have hf : (cfg0.win 3).fetch t = false := by
    cases e : (cfg0.win 3).fetch t
    · rfl
    · exact absurd ((fetch0_3 t).mp e) h
  have h1 := (dats m 0 c).before_unfetched_in 3 rfl t hf (fun _ => rfl) (iblk m c 3 t)
  rw [before_3] at h1
  refine Eq.symm (h1.trans ?_)
  unfold Dat.kept
  rw [after_3]
  rfl
theorem same_4 (c : Dev nD) (t : Fin cfg0.N) (h : t.val % 4 ≠ 0) : iblk m c 4 (prev t.castSucc) = iblk m c 4 t := by
  have hf : (cfg0.win 4).fetch t = false := by
    cases e : (cfg0.win 4).fetch t
    · rfl
    · exact absurd ((fetch0_4 t).mp e) h
  have h1 := (dats m 0 c).before_unfetched_in 4 rfl t hf (fun _ => rfl) (iblk m c 4 t)
  rw [before_4] at h1
  refine Eq.symm (h1.trans ?_)
  unfold Dat.kept
  rw [after_4]
  rfl
theorem same_5 (c : Dev nD) (t : Fin cfg0.N) (h : t.val % 4 ≠ 0) : iblk m c 5 (prev t.castSucc) = iblk m c 5 t := by
  have hf : (cfg0.win 5).fetch t = false := by
    cases e : (cfg0.win 5).fetch t
    · rfl
    · exact absurd ((fetch0_5 t).mp e) h
  have h1 := (dats m 0 c).before_unfetched_in 5 rfl t hf (fun _ => rfl) (iblk m c 5 t)
  rw [before_5] at h1
  refine Eq.symm (h1.trans ?_)
  unfold Dat.kept
  rw [after_5]
  rfl

/-- What a step is called with, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- A step does what is stated of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = iprop((∃ d0, ∃ d1, ∃ d2, ∃ d3, ⌜Held m c t.succ d0 d1 d2 d3⌝ ∗ owns (c : Thread nD τ) sc0 fullShare d0 ∗ owns (c : Thread nD τ) sc1 fullShare d1 ∗ owns (c : Thread nD τ) sc2 fullShare d2 ∗ owns (c : Thread nD τ) sc3 fullShare d3) ∗ (∃ r, prngReg c r)) from rfl,
    show (dats m 0 c).Φ t.castSucc = iprop((∃ d0, ∃ d1, ∃ d2, ∃ d3, ⌜Held m c t.castSucc d0 d1 d2 d3⌝ ∗ owns (c : Thread nD τ) sc0 fullShare d0 ∗ owns (c : Thread nD τ) sc1 fullShare d1 ∗ owns (c : Thread nD τ) sc2 fullShare d2 ∗ owns (c : Thread nD τ) sc3 fullShare d3) ∗ (∃ r, prngReg c r)) from rfl]
  have hp : prev t.succ = t := Fin.ext (by show t.val + 1 - 1 = t.val; omega)
  by_cases h0 : t.val % 4 = 0
  · iintro ⟨⟨⟨%d0, %d1, %d2, %d3, %hd, HS0, HS1, HS2, HS3⟩, Hg⟩, Ho, ⟨%d0w, H0⟩, ⟨%d1w, H1⟩, ⟨%d2w, H2⟩, ⟨%d3w, H3⟩, ⟨%d4w, H4⟩, ⟨%d5w, H5⟩, ⟨%d6w, H6⟩⟩
    iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((first_iff t).mpr h0) (iblk m c 0 t) (iblk m c 1 t) (iblk m c 2 t) (iblk m c 3 t) (iblk m c 4 t) (iblk m c 5 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iintro ⟨H0, H1, H2, H3, H4, H5, ⟨%e6, H6⟩, ⟨%e0, HS0⟩, ⟨%e1, HS1⟩, ⟨%e2, HS2⟩, ⟨%e3, HS3⟩⟩
    isplitl [HS0 HS1 HS2 HS3 Hg]
    · isplitl [HS0 HS1 HS2 HS3]
      · iexists (fill0 (iblk m c 2 t)); iexists (fill1 (iblk m c 3 t)); iexists (fill2 (iblk m c 4 t)); iexists (fill3 (iblk m c 5 t))
        isplitr
        · ipureintro; intro _; rw [hp]; exact ⟨rfl, rfl, rfl, rfl⟩
        isplitl [HS0]
        · unfold owns; iexists _; isplitr
          swap; · iexact HS0
          ipureintro; rw [runA_st0, View.read_writes_eq_canon _ _ _ (st0_cover _)]; rfl
        isplitl [HS1]
        · unfold owns; iexists _; isplitr
          swap; · iexact HS1
          ipureintro; rw [runA_st1, View.read_writes_eq_canon _ _ _ (st1_cover _)]; rfl
        isplitl [HS2]
        · unfold owns; iexists _; isplitr
          swap; · iexact HS2
          ipureintro; rw [runA_st2, View.read_writes_eq_canon _ _ _ (st2_cover _)]; rfl
        · unfold owns; iexists _; isplitr
          swap; · iexact HS3
          ipureintro; rw [runA_st3, View.read_writes_eq_canon _ _ _ (st3_cover _)]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; rw [runA_tiles, View.read_writes_eq_canon _ _ _ (tiles_cover _)]; rfl
  · iintro ⟨⟨⟨%d0, %d1, %d2, %d3, %hd, HS0, HS1, HS2, HS3⟩, Hg⟩, Ho, ⟨%d0w, H0⟩, ⟨%d1w, H1⟩, ⟨%d2w, H2⟩, ⟨%d3w, H3⟩, ⟨%d4w, H4⟩, ⟨%d5w, H5⟩, ⟨%d6w, H6⟩⟩
    obtain ⟨rfl, rfl, rfl, rfl⟩ := hd h0
    rw [same_2 m c t h0, same_3 m c t h0, same_4 m c t h0, same_5 m c t h0]
    iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((first_iff t).mp h)) (iblk m c 0 t) (iblk m c 1 t) (iblk m c 2 t) (iblk m c 3 t) (iblk m c 4 t) (iblk m c 5 t) (fill0 (iblk m c 2 t)) (fill1 (iblk m c 3 t)) (fill2 (iblk m c 4 t)) (fill3 (iblk m c 5 t))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%e6, H6⟩, HS0, HS1, HS2, HS3⟩
    isplitl [HS0 HS1 HS2 HS3 Hg]
    · isplitl [HS0 HS1 HS2 HS3]
      · iexists (fill0 (iblk m c 2 t)); iexists (fill1 (iblk m c 3 t)); iexists (fill2 (iblk m c 4 t)); iexists (fill3 (iblk m c 5 t))
        isplitr
        · ipureintro; intro _; rw [hp]; exact ⟨rfl, rfl, rfl, rfl⟩
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; rw [runB_tiles, View.read_writes_eq_canon _ _ _ (tiles_cover _)]; rfl

theorem body_row (t : Fin cfg0.N) :
    defs₀ (F := F) .tc cfg0.body (cfg0.bodyArgs t (cfg0.slots t)) = bodyAt0 t := by
  unfold defs₀; rw [Defs.onTc_tc]

/-- The steps' obligation. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The scratch on entry holds anything; on exit what it holds is let go. -/
theorem enter (c : Dev nD) : (Pipeline.ΦA spec0 c : sProp (MT nD τ sig Unit (Elt F) ℕ (UR sig nD τ) ℕ)) ⊢ (dats m 0 c).Φ 0 := by
  rw [show (dats m 0 c).Φ 0 = iprop((∃ d0, ∃ d1, ∃ d2, ∃ d3, ⌜Held m c 0 d0 d1 d2 d3⌝ ∗ owns (c : Thread nD τ) sc0 fullShare d0 ∗ owns (c : Thread nD τ) sc1 fullShare d1 ∗ owns (c : Thread nD τ) sc2 fullShare d2 ∗ owns (c : Thread nD τ) sc3 fullShare d3) ∗ (∃ r, prngReg c r)) from rfl, scratch_eq]
  iintro ⟨⟨⟨%d0, HS0⟩, ⟨%d1, HS1⟩, ⟨%d2, HS2⟩, ⟨%d3, HS3⟩⟩, Hg⟩
  isplitl [HS0 HS1 HS2 HS3]
  · iexists d0; iexists d1; iexists d2; iexists d3
    isplitr
    · ipureintro; intro h; exact absurd rfl h
    isplitl [HS0]; · iexact HS0
    isplitl [HS1]; · iexact HS1
    isplitl [HS2]; · iexact HS2
    iexact HS3
  iexact Hg
theorem leave (c : Dev nD) : (dats m 0 c).Φ (Fin.last cfg0.N) ⊢ (Pipeline.ΦA spec0 c : sProp (MT nD τ sig Unit (Elt F) ℕ (UR sig nD τ) ℕ)) := by
  rw [show (dats m 0 c).Φ (Fin.last cfg0.N) = iprop((∃ d0, ∃ d1, ∃ d2, ∃ d3, ⌜Held m c (Fin.last cfg0.N) d0 d1 d2 d3⌝ ∗ owns (c : Thread nD τ) sc0 fullShare d0 ∗ owns (c : Thread nD τ) sc1 fullShare d1 ∗ owns (c : Thread nD τ) sc2 fullShare d2 ∗ owns (c : Thread nD τ) sc3 fullShare d3) ∗ (∃ r, prngReg c r)) from rfl, scratch_eq]
  iintro ⟨⟨%d0, %d1, %d2, %d3, %hd, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch: every run ends, with every counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- and with them every counter ends at zero: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel7Ideal.Win

end
-- ==== Proof.WinRef.lean ====
/-
  The window attention's reference read at an index: a head's value for a token is the softmax mean of the head's values over the
  sequence's 4096 keys, those further than the window left out, the context's 256 keys, and the sink.
-/
module

public import proofs.«01_k».proof.Proof.Gen.Reference7Ideal.Read
public import Idealize.ShloMosaic.Lib.Pointwise
public import proofs.«01_k».proof.Proof.CtxRef

@[expose] public section

set_option maxRecDepth 16384

noncomputable section

namespace Cert.Proof.WinRef

open Cert.Reference7Ideal Cert.Reference7Ideal.Gen Cert.Reference7Ideal.Read Idealize.ShloMosaic Cert.Proof.Ffn Cert.Proof.Attn
open Cert.Proof.CtxRef (qlane klane hd)

variable (x0 : (⟨S8, .f32⟩ : BufTy).Contents (Elt Ideal)) (x1 : (⟨S32768x512, .f32⟩ : BufTy).Contents (Elt Ideal))
  (x2 x3 : (⟨S32768x128, .f32⟩ : BufTy).Contents (Elt Ideal)) (x4 x5 : (⟨S8x256x128, .f32⟩ : BufTy).Contents (Elt Ideal))
  (b : Fin 8) (g : Fin 2) (e : Fin 4) (i j : Fin 4096) (u : Fin 256) (k : Fin 4352) (d : Fin 64)

/-- A token's row in the flat arrays. -/
def row (b : Fin 8) (i : Fin 4096) : Fin 32768 := ⟨4096 * b + i, by omega⟩

/-- Two places no further apart than the window. -/
abbrev Near (i j : ℕ) : Prop := i ≤ j + 128 ∧ j ≤ i + 128

theorem v0_at : val_main_v0 (F := Ideal) x1 (ix5 b i g e d) = x1 (ix2 (row b i) (qlane g e d)) := by
  rw [val_main_v0_apply]
  refine congrArg x1 (funext fun a => Fin.ext ?_)
  match a with
  | ⟨0, _⟩ => show ((((b.val * 4096 + i.val) * 2 + g.val) * 4 + e.val) * 64 + d.val) / 512 = 4096 * b.val + i.val; omega
  | ⟨1, _⟩ => show ((((b.val * 4096 + i.val) * 2 + g.val) * 4 + e.val) * 64 + d.val) % 512 = 256 * g.val + 64 * e.val + d.val; omega

theorem v1_at : val_main_v1 (F := Ideal) x2 (ix4 b j g d) = x2 (ix2 (row b j) (klane g d)) := by
  rw [val_main_v1_apply]
  refine congrArg x2 (funext fun a => Fin.ext ?_)
  match a with
  | ⟨0, _⟩ => show (((b.val * 4096 + j.val) * 2 + g.val) * 64 + d.val) / 128 = 4096 * b.val + j.val; omega
  | ⟨1, _⟩ => show (((b.val * 4096 + j.val) * 2 + g.val) * 64 + d.val) % 128 = 64 * g.val + d.val; omega

theorem v2_at : val_main_v2 (F := Ideal) x3 (ix4 b j g d) = x3 (ix2 (row b j) (klane g d)) := v1_at x3 b g j d

theorem v3_at : val_main_v3 (F := Ideal) x4 (ix4 b u g d) = x4 (ix3 b u (klane g d)) := by
  rw [val_main_v3_apply]
  refine congrArg x4 (funext fun a => Fin.ext ?_)
  match a with
  | ⟨0, _⟩ => show (((b.val * 256 + u.val) * 2 + g.val) * 64 + d.val) / 32768 = b.val; omega
  | ⟨1, _⟩ => show (((b.val * 256 + u.val) * 2 + g.val) * 64 + d.val) / 128 % 256 = u.val; omega
  | ⟨2, _⟩ => show (((b.val * 256 + u.val) * 2 + g.val) * 64 + d.val) % 128 = 64 * g.val + d.val; omega

theorem v4_at : val_main_v4 (F := Ideal) x5 (ix4 b u g d) = x5 (ix3 b u (klane g d)) := v3_at x5 b g u d

/-- The mask's bit says whether the places are near. -/
theorem ahead_near : ∀ n : Fin 4096, IntOp.cmpi .sle (IntOp.absi (BitVec.ofNat 32 n.val)) 128#32 = if n.val ≤ 128 then 1#1 else 0#1 := by decide +kernel
theorem behind_near : ∀ n : Fin 4096, IntOp.cmpi .sle (IntOp.absi (-(BitVec.ofNat 32 n.val))) 128#32 = if n.val ≤ 128 then 1#1 else 0#1 := by decide +kernel

theorem bit_near : IntOp.cmpi .sle (IntOp.absi (BitVec.ofNat 32 i.val - BitVec.ofNat 32 j.val)) 128#32 = if Near i j then 1#1 else 0#1 := by
  rcases le_total j.val i.val with h | h
  · rw [show BitVec.ofNat 32 i.val - BitVec.ofNat 32 j.val = BitVec.ofNat 32 (i.val - j.val) from by
      refine BitVec.eq_of_toNat_eq ?_; simp only [BitVec.toNat_sub, BitVec.toNat_ofNat]; omega]
    rw [ahead_near ⟨i.val - j.val, by omega⟩]
    exact if_congr (by show i.val - j.val ≤ 128 ↔ _; unfold Near; omega) rfl rfl
  · rw [show BitVec.ofNat 32 i.val - BitVec.ofNat 32 j.val = -(BitVec.ofNat 32 (j.val - i.val)) from by
      refine BitVec.eq_of_toNat_eq ?_; simp only [BitVec.toNat_sub, BitVec.toNat_neg, BitVec.toNat_ofNat]; omega]
    rw [behind_near ⟨j.val - i.val, by omega⟩]
    exact if_congr (by show j.val - i.val ≤ 128 ↔ _; unfold Near; omega) rfl rfl

/-- A score of a key of the sequence, and of the context. -/
def loc : EReal := if Near i j then (∑ d, x2 (ix2 (row b j) (klane g d)) * x1 (ix2 (row b i) (qlane g e d))) * ((1 / 8 : ℝ) : EReal) else ⊥
def ctx : EReal := (∑ d, x4 (ix3 b u (klane g d)) * x1 (ix2 (row b i) (qlane g e d))) * ((1 / 8 : ℝ) : EReal)

theorem eighth : FloatOps.ofBits (F := Ideal) .f32 0x3E000000#32 = ((1 / 8 : ℝ) : EReal) := by
  rw [Ideal.ofBits_def]
  simp [Ideal.ofBits, Ideal.ieee, -EReal.coe_mul]; norm_num
theorem minf : FloatOps.ofBits (F := Ideal) .f32 0xFF800000#32 = (⊥ : EReal) := by
  simp [Ideal.ofBits_def, Ideal.ofBits, Ideal.ieee]

theorem mask_at : val_main_call0_v1 (F := Ideal) (ix5 b g e i j) = if Near i j then 1#1 else 0#1 := by
  rw [val_main_call0_v1_apply, val_main_v18_apply, val_main_v13_apply, val_main_v11_apply, val_main_v10_apply,
    val_main_v8_apply, val_main_v9_apply, val_main_v6_apply, val_main_v7_apply, val_main_v12_apply, val_main_c_apply]
  exact bit_near i j

theorem v19_at : val_main_v19 (F := Ideal) x1 x2 (ix5 b g e i j) = loc x1 x2 b g e i j := by
  simp only [val_main_v19_apply, mask_at, val_main_v17_apply, val_main_v15_apply, val_main_v14_apply, val_main_v16_apply, val_main_cst_apply,
    val_main_call0_v2_apply, val_main_call0_v0_apply, val_main_cst_0_apply]
  have e1 : ∀ k, lidx_main_v14 (idx_main_v15 (ix5 b g e i j)) k = ix4 b j g k := fun k => funext fun a => by fin_cases a <;> rfl
  have e2 : ∀ k, ridx_main_v14 (idx_main_v15 (ix5 b g e i j)) k = ix5 b i g e k := fun k => funext fun a => by fin_cases a <;> rfl
  simp only [e1, e2, v0_at, v1_at, eighth, minf]
  unfold loc
  by_cases h : Near i j
  · rw [if_pos h, if_pos h]; rfl
  · rw [if_neg h, if_neg h]; rfl

theorem v23_at : val_main_v23 (F := Ideal) x1 x4 (ix5 b g e i u) = ctx x1 x4 b g e i u := by
  simp only [val_main_v23_apply, val_main_v21_apply, val_main_v20_apply, val_main_v22_apply, val_main_cst_1_apply]
  have e1 : ∀ k, lidx_main_v20 (idx_main_v21 (ix5 b g e i u)) k = ix4 b u g k := fun k => funext fun a => by fin_cases a <;> rfl
  have e2 : ∀ k, ridx_main_v20 (idx_main_v21 (ix5 b g e i u)) k = ix5 b i g e k := fun k => funext fun a => by fin_cases a <;> rfl
  simp only [e1, e2, v0_at, v3_at, eighth]
  rfl

theorem v25_at (z : Fin 1) : val_main_v25 (F := Ideal) x0 (ix5 b g e i z) = x0 (ix1 (hd g e)) := by
  rw [val_main_v25_apply, val_main_v24_apply]
  refine congrArg x0 (funext fun a => Fin.ext ?_)
  match a with
  | ⟨0, _⟩ => simp [idx_main_v24, idx_main_v25, hd]; try omega

/-- All the scores, and all the values, of a token's head. -/
def score : EReal := if h : k.val < 4096 then loc x1 x2 b g e i ⟨k, h⟩ else ctx x1 x4 b g e i ⟨k - 4096, by omega⟩
def value : EReal := if h : k.val < 4096 then x3 (ix2 (row b ⟨k, h⟩) (klane g d)) else x5 (ix3 b ⟨k - 4096, by omega⟩ (klane g d))

theorem v26_any (x : Fin 4353) : val_main_v26 (F := Ideal) x0 x1 x2 x4 (ix5 b g e i x)
    = if h : x.val < 4096 then val_main_v19 (F := Ideal) x1 x2 (ix5 b g e i ⟨x, h⟩)
      else if h' : x.val - 4096 < 256 then val_main_v23 (F := Ideal) x1 x4 (ix5 b g e i ⟨x - 4096, h'⟩)
      else val_main_v25 (F := Ideal) x0 (ix5 b g e i ⟨x - 4096 - 256, by omega⟩) := by
  unfold val_main_v26
  pointwise

theorem v26_key : val_main_v26 (F := Ideal) x0 x1 x2 x4 (ix5 b g e i k.castSucc) = score x1 x2 x4 b g e i k := by
  rw [v26_any]
  unfold score
  by_cases h : k.val < 4096
  · rw [dif_pos (show k.castSucc.val < 4096 from h), dif_pos h]; exact v19_at ..
  · have hk := k.isLt
    rw [dif_neg (show ¬ k.castSucc.val < 4096 from h), dif_neg h,
      dif_pos (show k.castSucc.val - 4096 < 256 by show k.val - 4096 < 256; omega)]
    exact v23_at ..
theorem v26_sink : val_main_v26 (F := Ideal) x0 x1 x2 x4 (ix5 b g e i (Fin.last 4352)) = x0 (ix1 (hd g e)) := by
  rw [v26_any, dif_neg (by simp), dif_neg (by simp)]
  exact v25_at ..

/-- The largest of a token's scores and sink. -/
def top : EReal := val_main_v29 (F := Ideal) x0 x1 x2 x4 (ix4 b g e i)

theorem score_isRB (h1 : ∀ i, IsR (x1 i)) (h2 : ∀ i, IsR (x2 i)) (h4 : ∀ i, IsR (x4 i)) : IsRB (score x1 x2 x4 b g e i k) := by
  unfold score loc ctx
  split
  · split
    · exact .inr ((IsR.sum fun d => (h2 _).mul (h1 _)).mul ⟨_, rfl⟩)
    · exact .inl rfl
  · exact .inr ((IsR.sum fun d => (h4 _).mul (h1 _)).mul ⟨_, rfl⟩)

theorem top_isR (h0 : ∀ i, IsR (x0 i)) (h1 : ∀ i, IsR (x1 i)) (h2 : ∀ i, IsR (x2 i)) (h4 : ∀ i, IsR (x4 i)) : IsR (top x0 x1 x2 x4 b g e i) := by
  have hm : val_main_v27 (F := Ideal) x0 x1 x2 x4 (ix4 b g e i) = Finset.univ.fold max ⊥ (fun x => val_main_v26 (F := Ideal) x0 x1 x2 x4 (ix5 b g e i x)) := by
    unfold val_main_v27
    pointwise
    rw [val_main_cst_2_apply, minf]
  have h9 : ∀ x, IsRB (val_main_v26 (F := Ideal) x0 x1 x2 x4 (ix5 b g e i x)) := fun x => by
    refine Fin.lastCases ?_ (fun k => ?_) x
    · rw [v26_sink]; exact .inr (h0 _)
    · rw [v26_key]; exact score_isRB x1 x2 x4 b g e i k h1 h2 h4
  unfold top
  rw [val_main_v29_apply, hm, val_main_v28_apply, val_main_cst_3_apply, minf]
  show IsR (max ⊥ _)
  rw [max_eq_right bot_le]
  exact isR_fold _ h9 (Fin.last 4352) (Finset.mem_univ _) (by rw [v26_sink]; exact h0 _)

/-- A numerator. -/
theorem v33_at (x : Fin 4353) : val_main_v33 (F := Ideal) x0 x1 x2 x4 (ix5 b g e i x)
    = Ideal.exp (val_main_v26 (F := Ideal) x0 x1 x2 x4 (ix5 b g e i x) - top x0 x1 x2 x4 b g e i) := by
  rw [val_main_v33_apply, val_main_v32_apply, val_main_v31_apply, val_main_v30_apply]
  have e1 : idx_main_v30 (idx_main_v31 (ix5 b g e i x)) = ix4 b g e i := funext fun a => by fin_cases a <;> rfl
  rw [e1]; rfl

/-- A weight. -/
theorem v37_at : val_main_v37 (F := Ideal) x0 x1 x2 x4 (ix5 b g e i k.castSucc)
    = Ideal.div (Ideal.exp (score x1 x2 x4 b g e i k - top x0 x1 x2 x4 b g e i))
      ((∑ k, Ideal.exp (score x1 x2 x4 b g e i k - top x0 x1 x2 x4 b g e i)) + Ideal.exp (x0 (ix1 (hd g e)) - top x0 x1 x2 x4 b g e i)) := by
  rw [val_main_v37_apply, val_main_v36_apply, val_main_v35_apply, val_main_v34_apply, val_main_cst_4_apply]
  have e1 : ∀ x, idx_main_v34 (idx_main_v35 (idx_main_v36 (ix5 b g e i k.castSucc))) x = ix5 b g e i x := fun x => funext fun a => by fin_cases a <;> rfl
  simp only [e1, v33_at, Ideal.ofBits_def, Ideal.ofBits_zero_f32, zero_add]
  rw [Fin.sum_univ_castSucc]
  simp only [v26_key, v26_sink]
  rfl

/-- The reference's result at a token and a lane: the softmax mean. -/
theorem v45_at (h0 : ∀ i, IsR (x0 i)) (h1 : ∀ i, IsR (x1 i)) (h2 : ∀ i, IsR (x2 i)) (h4 : ∀ i, IsR (x4 i)) :
    val_main_v45 (F := Ideal) x0 x1 x2 x3 x4 x5 (ix2 (row b i) (qlane g e d))
      = attn (score x1 x2 x4 b g e i) (x0 (ix1 (hd g e))) (fun k => value x3 x5 b g k d) := by
  rw [val_main_v45_apply]
  have e0 : idx_main_v45 (ix2 (row b i) (qlane g e d)) = ix5 b i g e d := by
    refine funext fun a => Fin.ext ?_
    match a with
    | ⟨0, _⟩ => show ((4096 * b.val + i.val) * 512 + (256 * g.val + 64 * e.val + d.val)) / 2097152 = b.val; omega
    | ⟨1, _⟩ => show ((4096 * b.val + i.val) * 512 + (256 * g.val + 64 * e.val + d.val)) / 512 % 4096 = i.val; omega
    | ⟨2, _⟩ => show ((4096 * b.val + i.val) * 512 + (256 * g.val + 64 * e.val + d.val)) / 256 % 2 = g.val; omega
    | ⟨3, _⟩ => show ((4096 * b.val + i.val) * 512 + (256 * g.val + 64 * e.val + d.val)) / 64 % 4 = e.val; omega
    | ⟨4, _⟩ => show ((4096 * b.val + i.val) * 512 + (256 * g.val + 64 * e.val + d.val)) % 64 = d.val; omega
  rw [e0, val_main_v44_apply, val_main_v40_apply, val_main_v39_apply, val_main_v43_apply, val_main_v42_apply]
  have e1 : ∀ k, lidx_main_v39 (idx_main_v40 (ix5 b i g e d)) k = ix4 b k g d := fun k => funext fun a => by fin_cases a <;> rfl
  have e2 : ∀ k, idx_main_v38 (ridx_main_v39 (idx_main_v40 (ix5 b i g e d)) k) = ix5 b g e i (Fin.castAdd 256 k).castSucc := fun k => funext fun a => by fin_cases a <;> rfl
  have e3 : ∀ k, lidx_main_v42 (idx_main_v43 (ix5 b i g e d)) k = ix4 b k g d := fun k => funext fun a => by fin_cases a <;> rfl
  have e4 : ∀ k, idx_main_v41 (ridx_main_v42 (idx_main_v43 (ix5 b i g e d)) k) = ix5 b g e i (Fin.natAdd 4096 k).castSucc := fun k => funext fun a => by fin_cases a <;> rfl
  simp only [val_main_v38_apply, val_main_v41_apply, e1, e2, e3, e4, v2_at, v4_at, v37_at]
  rw [← ref_eq (fun k => score_isRB x1 x2 x4 b g e i k h1 h2 h4) (h0 _) (top_isR x0 x1 x2 x4 b g e i h0 h1 h2 h4)]
  refine Eq.trans ?_ (Fin.sum_univ_add (M := EReal) (a := 4096) (b := 256) _).symm
  refine congrArg₂ (· + ·) (Finset.sum_congr rfl fun j _ => ?_) (Finset.sum_congr rfl fun j _ => ?_)
  · rw [mul_comm]
    exact congrArg _ (by unfold value; rw [dif_pos (show (Fin.castAdd 256 j).val < 4096 from j.isLt)]; rfl)
  · rw [mul_comm]
    refine congrArg _ ?_
    unfold value
    rw [dif_neg (show ¬ (Fin.natAdd 4096 j).val < 4096 by simp)]
    refine congrArg x5 (congrArg (fun u => ix3 b u (klane g d)) (Fin.ext ?_))
    show j.val = 4096 + j.val - 4096
    omega

end Cert.Proof.WinRef
-- ==== Proof.WinFinal.lean ====
/-
  The window attention's result array: at every token and lane of a head the softmax mean of the head's values over the keys
  within the window, the context's keys and the sink, which is the reference's result.
-/
module

public import proofs.«01_k».proof.Defs
public import proofs.«01_k».proof.Proof.WinOut
public import proofs.«01_k».proof.Proof.WinIFrame
public import proofs.«01_k».proof.Proof.WinRef
public import Idealize.ShloMosaic.Lib.Pipeline.Value

@[expose] public section

set_option maxRecDepth 16384

noncomputable section

namespace Cert.Proof.Win

open Cert.Kernel7Ideal Cert.Kernel7Ideal.Gen Cert.Kernel7Ideal.Win Idealize.ShloMosaic Idealize.ShloMosaic.TcCoe Idealize.SL.Sem
open Cert.Proof.Ffn Cert.Proof.Attn
open Cert.Proof.Ctx (ql kl)
open Cert.Proof.CtxRef (qlane klane hd)
open Cert.Proof.WinRef (row score value)

/-- The two named constants. -/
theorem scl_eq : scl = (((1 / 8) * (Real.log 2)⁻¹ : ℝ) : EReal) := rfl
theorem lg_eq : lg = L2 := rfl

/-- The kernel's mean, of scores in base two, is the softmax mean. -/
theorem mean_attn (a : Fin 640 → EReal) (ha : ∀ j, IsRB (a j)) (z : EReal) (hz : IsR z) (v : Fin 640 → EReal) :
    mean (fun j => a j * L2) z v = attn a z v :=
  kernel_eq ha hz (isR_max_fold _ (fun j => isRB_mul (ha j)) (hz.mul ⟨_, rfl⟩)) v

/-- A real score in base two is the reference's, changed of base. -/
theorem score_scaled (q k : Fin 64 → EReal) (hq : ∀ d, IsR (q d)) (hk : ∀ d, IsR (k d)) :
    ∑ d, q d * scl * k d = (∑ d, k d * q d) * ((1 / 8 : ℝ) : EReal) * L2 := by
  choose q' hq using hq
  choose k' hk using hk
  simp only [hq, hk, scl_eq, L2, ← EReal.coe_mul, ← coe_sum']
  refine congrArg _ ?_
  rw [Finset.sum_mul, Finset.sum_mul]
  exact Finset.sum_congr rfl fun d _ => by ring

theorem bot_scaled : (⊥ : EReal) * L2 = ⊥ := EReal.bot_mul_coe_of_pos (inv_pos.mpr (Real.log_pos (by norm_num)))

/-- Keys of weight zero may be left out of a softmax mean. -/
theorem attn_embed {ι κ : Type} [Fintype ι] [Fintype κ] (f : ι → κ) (hf : Function.Injective f) (a : κ → EReal)
    (ha : ∀ k, k ∉ Set.range f → a k = ⊥) (z : EReal) (v : κ → EReal) :
    attn (fun i => a (f i)) z (fun i => v (f i)) = attn a z v := by
  have hw : ∑ i, wt (a (f i)) = ∑ k, wt (a k) :=
    Fintype.sum_of_injective f hf _ _ (fun k hk => by rw [ha k hk, wt_bot]) fun _ => rfl
  unfold attn
  rw [hw]
  exact Fintype.sum_of_injective f hf _ _ (fun k hk => by rw [ha k hk, wt_bot, zero_div, EReal.coe_zero, zero_mul]) fun _ => rfl

/-! ## The windows' blocks -/

variable (m : (ℓ : Loc nD τ sig) → Buf (Elt Ideal) ℓ) (ρ : Dev nD → PrngReg) (c : Dev nD)

theorem idx0 : ∀ t : Fin cfg0.N, win0_0.index t = ![0] := (by decide +kernel : ∀ t : Fin grid0.N, win0_0.index t = ![0])
theorem idx1 : ∀ t : Fin cfg0.N, win0_1.index t = ![t.val, 0] := (by decide +kernel : ∀ t : Fin grid0.N, win0_1.index t = ![t.val, 0])
theorem idx2 : ∀ t : Fin cfg0.N, win0_2.index t = ![t.val / 4, 0] := (by decide +kernel : ∀ t : Fin grid0.N, win0_2.index t = ![t.val / 4, 0])
theorem idx3 : ∀ t : Fin cfg0.N, win0_3.index t = ![t.val / 4, 0] := (by decide +kernel : ∀ t : Fin grid0.N, win0_3.index t = ![t.val / 4, 0])
theorem idx4 : ∀ t : Fin cfg0.N, win0_4.index t = ![t.val / 4, 0, 0] := (by decide +kernel : ∀ t : Fin grid0.N, win0_4.index t = ![t.val / 4, 0, 0])
theorem idx5 : ∀ t : Fin cfg0.N, win0_5.index t = ![t.val / 4, 0, 0] := (by decide +kernel : ∀ t : Fin grid0.N, win0_5.index t = ![t.val / 4, 0, 0])
theorem idx6 : ∀ t : Fin cfg0.N, win0_6.index t = ![t.val, 0] := (by decide +kernel : ∀ t : Fin grid0.N, win0_6.index t = ![t.val, 0])
theorem flush6 : ∀ t : Fin cfg0.N, (cfg0.win 6).flush t = true := (by decide +kernel : ∀ t : Fin grid0.N, win0_6.flush t = true)
theorem part_of : ∀ t : Fin grid0.N, (grid0.coords t 1).val = t.val % 4 := by decide +kernel

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext (by
    have h' : win0_6.index t = win0_6.index t' := h
    rw [idx6, idx6] at h'
    exact congrFun h' 0))

/-- A block of the final array is what its step left. -/
theorem blocks6 (t : Fin cfg0.N) :
    ((cfg0.win 6).blk t).view.read (Elt Ideal) ((dats m 0 c).arrAt 6 cfg0.N) = (cfg0.win 6).cut (grid0.coords t) (outAt m c t) := by
  refine ((dats m 0 c).read_blk_arrAt_eq_flushed 6 disjoint6 cfg0.N t t.isLt (flush6 t)).trans ?_
  show (cfg0.win 6).cut (grid0.coords t) ((dats m 0 c).after 6 t) = _
  rw [after_6]

/-- Grid point of a sequence's quarter. -/
def pt (b : Fin 8) (s : Fin 4) : Fin cfg0.N := ⟨4 * b + s, by have : cfg0.N = 32 := rfl; omega⟩

variable (b : Fin 8) (s : Fin 4)

theorem pt_part : (grid0.coords (pt b s) 1).val = s.val := (part_of _).trans (by show (4 * b.val + s.val) % 4 = s.val; omega)

theorem blk0 (t : Fin cfg0.N) : iblk m c 0 t = m ((c : Thread nD τ).loc main_arg0) := by
  have hz : (fun a => win0_0.index t a * main_arg0.ty.shape.size a) = fun _ => 0 := by
    rw [idx0 t]; funext a; fin_cases a; rfl
  exact (Memref.read_access_unit_zero (Elt Ideal) main_arg0 hz (fun a => by rw [congrFun hz a]; simp) _).trans (V_main_arg0 m c)

theorem blk1 (o : Fin 1024) (l : Fin 512) : iblk m c 1 (pt b s) (ix2 o l)
    = m ((c : Thread nD τ).loc main_arg1) (ix2 (row b ⟨1024 * s + o, by omega⟩) l) := by
  unfold iblk
  rw [View.read_apply]
  show V m c main_arg1 _ = _
  rw [V_main_arg1]
  have hi := idx1 (pt b s)
  refine congrArg _ (funext fun a => Fin.ext ?_)
  match a with
  | ⟨0, _⟩ => show win0_1.index (pt b s) 0 * 1024 + 1 * o.val = 4096 * b.val + (1024 * s.val + o.val)
              rw [hi]; show (4 * b.val + s.val) * 1024 + 1 * o.val = _; omega
  | ⟨1, _⟩ => show win0_1.index (pt b s) 1 * 512 + 1 * l.val = l.val
              rw [hi]; show 0 * 512 + 1 * l.val = _; omega

theorem blk2 (t : Fin 4096) (l : Fin 128) : iblk m c 2 (pt b s) (ix2 t l) = m ((c : Thread nD τ).loc main_arg2) (ix2 (row b t) l) := by
  unfold iblk
  rw [View.read_apply]
  show V m c main_arg2 _ = _
  rw [V_main_arg2]
  have hi := idx2 (pt b s)
  refine congrArg _ (funext fun a => Fin.ext ?_)
  match a with
  | ⟨0, _⟩ => show win0_2.index (pt b s) 0 * 4096 + 1 * t.val = 4096 * b.val + t.val
              rw [hi]; show (4 * b.val + s.val) / 4 * 4096 + 1 * t.val = _; omega
  | ⟨1, _⟩ => show win0_2.index (pt b s) 1 * 128 + 1 * l.val = l.val
              rw [hi]; show 0 * 128 + 1 * l.val = _; omega

theorem blk3 (t : Fin 4096) (l : Fin 128) : iblk m c 3 (pt b s) (ix2 t l) = m ((c : Thread nD τ).loc main_arg3) (ix2 (row b t) l) := by
  unfold iblk
  rw [View.read_apply]
  show V m c main_arg3 _ = _
  rw [V_main_arg3]
  have hi := idx3 (pt b s)
  refine congrArg _ (funext fun a => Fin.ext ?_)
  match a with
  | ⟨0, _⟩ => show win0_3.index (pt b s) 0 * 4096 + 1 * t.val = 4096 * b.val + t.val
              rw [hi]; show (4 * b.val + s.val) / 4 * 4096 + 1 * t.val = _; omega
  | ⟨1, _⟩ => show win0_3.index (pt b s) 1 * 128 + 1 * l.val = l.val
              rw [hi]; show 0 * 128 + 1 * l.val = _; omega

theorem blk4 (u : Fin 256) (l : Fin 128) : iblk m c 4 (pt b s) (ix3 0 u l) = m ((c : Thread nD τ).loc main_arg4) (ix3 b u l) := by
  unfold iblk
  rw [View.read_apply]
  show V m c main_arg4 _ = _
  rw [V_main_arg4]
  have hi := idx4 (pt b s)
  refine congrArg _ (funext fun a => Fin.ext ?_)
  match a with
  | ⟨0, _⟩ => show win0_4.index (pt b s) 0 * 1 + 1 * 0 = b.val
              rw [hi]; show (4 * b.val + s.val) / 4 * 1 + 1 * 0 = _; omega
  | ⟨1, _⟩ => show win0_4.index (pt b s) 1 * 256 + 1 * u.val = u.val
              rw [hi]; show 0 * 256 + 1 * u.val = _; omega
  | ⟨2, _⟩ => show win0_4.index (pt b s) 2 * 128 + 1 * l.val = l.val
              rw [hi]; show 0 * 128 + 1 * l.val = _; omega

theorem blk5 (u : Fin 256) (l : Fin 128) : iblk m c 5 (pt b s) (ix3 0 u l) = m ((c : Thread nD τ).loc main_arg5) (ix3 b u l) := by
  unfold iblk
  rw [View.read_apply]
  show V m c main_arg5 _ = _
  rw [V_main_arg5]
  have hi := idx5 (pt b s)
  refine congrArg _ (funext fun a => Fin.ext ?_)
  match a with
  | ⟨0, _⟩ => show win0_5.index (pt b s) 0 * 1 + 1 * 0 = b.val
              rw [hi]; show (4 * b.val + s.val) / 4 * 1 + 1 * 0 = _; omega
  | ⟨1, _⟩ => show win0_5.index (pt b s) 1 * 256 + 1 * u.val = u.val
              rw [hi]; show 0 * 256 + 1 * u.val = _; omega
  | ⟨2, _⟩ => show win0_5.index (pt b s) 2 * 128 + 1 * l.val = l.val
              rw [hi]; show 0 * 128 + 1 * l.val = _; omega

/-! ## The keys a query block reads, among all the keys -/

variable (g : Fin 2) (e : Fin 4) (r : Fin 8) (y : Fin 128) (d : Fin 64) (j : Fin 640)

theorem ql_eq (d : Fin 64) : ql (hd g e) d = qlane g e d := Fin.ext (by simp only [ql, qlane, hd]; omega)
theorem kl_eq (d : Fin 64) : kl (hd g e) d = klane g d := Fin.ext (by simp only [kl, klane, hd]; omega)

/-- A query's place in its sequence. -/
def place : Fin 4096 := ⟨1024 * s + (128 * r + y), by omega⟩

/-- The key a query block reads at a place of its 640: 384 of the sequence, then the context. -/
def key (i : grid0.Coords) (r : Fin 8) (j : Fin 640) : Fin 4352 :=
  if j.val < 384 then ⟨start i r.val + j, by have := start_le i r; omega⟩ else ⟨j + 3712, by omega⟩

theorem key_lt (i : grid0.Coords) (h : j.val < 384) : (key i r j).val = start i r.val + j.val := by unfold key; rw [if_pos h]
theorem key_ge (i : grid0.Coords) (h : ¬ j.val < 384) : (key i r j).val = j.val + 3712 := by unfold key; rw [if_neg h]

theorem key_inj (i : grid0.Coords) : Function.Injective (key i r) := by
  intro j j' h
  have h := congrArg Fin.val h
  have := start_le i r
  by_cases hj : j.val < 384 <;> by_cases hj' : j'.val < 384
  · rw [key_lt r j i hj, key_lt r j' i hj'] at h; exact Fin.ext (by omega)
  · rw [key_lt r j i hj, key_ge r j' i hj'] at h; exact Fin.ext (by omega)
  · rw [key_ge r j i hj, key_lt r j' i hj'] at h; exact Fin.ext (by omega)
  · rw [key_ge r j i hj, key_ge r j' i hj'] at h; exact Fin.ext (by omega)

/-- A key no query of the block reads is outside every query's window. -/
theorem unread (x1 : (⟨S32768x512, .f32⟩ : BufTy).Contents (Elt Ideal)) (x2 : (⟨S32768x128, .f32⟩ : BufTy).Contents (Elt Ideal))
    (x4 : (⟨S8x256x128, .f32⟩ : BufTy).Contents (Elt Ideal)) (k : Fin 4352) (hk : k ∉ Set.range (key (grid0.coords (pt b s)) r)) :
    score x1 x2 x4 b g e (place s r y) k = ⊥ := by
  have hs : start (grid0.coords (pt b s)) r.val = min 3712 (1024 * s.val + 128 * r.val - 128) := by
    unfold start; rw [pt_part]
  have h1 : k.val < 4096 := by
    by_contra h
    refine hk ⟨⟨k.val - 3712, by omega⟩, Fin.ext ((key_ge r _ _ ?_).trans ?_)⟩
    · show ¬ k.val - 3712 < 384; omega
    · show k.val - 3712 + 3712 = k.val; omega
  have h2 : k.val < start (grid0.coords (pt b s)) r.val ∨ start (grid0.coords (pt b s)) r.val + 384 ≤ k.val := by
    by_contra h
    refine hk ⟨⟨k.val - start (grid0.coords (pt b s)) r.val, by omega⟩, Fin.ext ((key_lt r _ _ ?_).trans ?_)⟩
    · show k.val - _ < 384; omega
    · show _ + (k.val - _) = k.val; omega
  unfold WinRef.score WinRef.loc
  rw [dif_pos h1, if_neg]
  rintro ⟨h3, h4⟩
  have h3 : 1024 * s.val + (128 * r.val + y.val) ≤ k.val + 128 := h3
  have h4 : k.val ≤ 1024 * s.val + (128 * r.val + y.val) + 128 := h4
  omega

theorem seen_k (l : Fin 128) : seen (grid0.coords (pt b s)) r (iblk m c 2 (pt b s)) (iblk m c 4 (pt b s)) j l
    = if h : j.val < 384 then m ((c : Thread nD τ).loc main_arg2) (ix2 (row b (pl (grid0.coords (pt b s)) r ⟨j, h⟩)) l)
      else m ((c : Thread nD τ).loc main_arg4) (ix3 b ⟨j - 384, by omega⟩ l) := by
  unfold seen
  split
  · exact blk2 m c b s _ l
  · exact blk4 m c b s _ l

theorem seen_v : seen (grid0.coords (pt b s)) r (iblk m c 3 (pt b s)) (iblk m c 5 (pt b s)) j (klane g d)
    = value (m ((c : Thread nD τ).loc main_arg3)) (m ((c : Thread nD τ).loc main_arg5)) b g (key (grid0.coords (pt b s)) r j) d := by
  unfold seen value
  have := start_le (grid0.coords (pt b s)) r
  by_cases h : j.val < 384
  · have hk := key_lt r j (grid0.coords (pt b s)) h
    rw [dif_pos h, dif_pos (by omega)]
    refine (blk3 m c b s _ _).trans (congrArg (fun t => m ((c : Thread nD τ).loc main_arg3) (ix2 (row b t) (klane g d))) (Fin.ext hk.symm))
  · have hk := key_ge r j (grid0.coords (pt b s)) h
    rw [dif_neg h, dif_neg (by omega)]
    refine (blk5 m c b s _ _).trans (congrArg (fun t => m ((c : Thread nD τ).loc main_arg5) (ix3 b t (klane g d))) (Fin.ext ?_))
    show j.val - 384 = (key (grid0.coords (pt b s)) r j).val - 4096
    omega

/-- A masked score in base two is the reference's score of its key, changed of base. -/
theorem sc_eq (h1 : ∀ i, IsR (m ((c : Thread nD τ).loc main_arg1) i)) (h2 : ∀ i, IsR (m ((c : Thread nD τ).loc main_arg2) i))
    (h4 : ∀ i, IsR (m ((c : Thread nD τ).loc main_arg4) i)) :
    sc (grid0.coords (pt b s)) r j y (iblk m c 1 (pt b s)) (iblk m c 2 (pt b s)) (iblk m c 4 (pt b s)) (hd g e)
      = score (m ((c : Thread nD τ).loc main_arg1)) (m ((c : Thread nD τ).loc main_arg2)) (m ((c : Thread nD τ).loc main_arg4)) b g e
          (place s r y) (key (grid0.coords (pt b s)) r j) * L2 := by
  have hle := start_le (grid0.coords (pt b s)) r
  unfold sc bias
  simp only [blk1, ql_eq, kl_eq, seen_k, pt_part]
  by_cases h : j.val < 384
  · have hk := key_lt r j (grid0.coords (pt b s)) h
    have ek : (⟨(key (grid0.coords (pt b s)) r j).val, by omega⟩ : Fin 4096) = pl (grid0.coords (pt b s)) r ⟨j, h⟩ := Fin.ext hk
    unfold WinRef.score WinRef.loc
    rw [dif_pos (show (key (grid0.coords (pt b s)) r j).val < 4096 by omega), ek]
    simp only [dif_pos h]
    by_cases hn : Near (1024 * s.val + 128 * r.val + y.val) (start (grid0.coords (pt b s)) r.val + j.val)
    · rw [if_neg (fun h' => h'.2 hn), if_pos, add_zero]
      · exact score_scaled _ _ (fun _ => h1 _) (fun _ => h2 _)
      · show WinRef.Near (1024 * s.val + (128 * r.val + y.val)) (start (grid0.coords (pt b s)) r.val + j.val)
        rw [← Nat.add_assoc]; exact hn
    · rw [if_pos ⟨h, hn⟩, if_neg, EReal.add_bot, bot_scaled]
      show ¬ WinRef.Near (1024 * s.val + (128 * r.val + y.val)) (start (grid0.coords (pt b s)) r.val + j.val)
      rw [← Nat.add_assoc]; exact hn
  · have hk := key_ge r j (grid0.coords (pt b s)) h
    have ek : (⟨(key (grid0.coords (pt b s)) r j).val - 4096, by omega⟩ : Fin 256) = ⟨j.val - 384, by omega⟩ := Fin.ext (by show _ - 4096 = j.val - 384; omega)
    unfold WinRef.score WinRef.ctx
    rw [dif_neg (show ¬ (key (grid0.coords (pt b s)) r j).val < 4096 by omega), ek]
    simp only [dif_neg h]
    rw [if_neg (fun h' => h h'.1), add_zero]
    exact score_scaled _ _ (fun _ => h1 _) (fun _ => h4 _)

/-- The kernel's result array after the run, at a token and a lane. -/
theorem final_at (h0 : ∀ i, IsR (m ((c : Thread nD τ).loc main_arg0) i)) (h1 : ∀ i, IsR (m ((c : Thread nD τ).loc main_arg1) i))
    (h2 : ∀ i, IsR (m ((c : Thread nD τ).loc main_arg2) i)) (h4 : ∀ i, IsR (m ((c : Thread nD τ).loc main_arg4) i)) :
    (dats m 0 c).arrAt 6 cfg0.N (ix2 (row b (place s r y)) (qlane g e d))
      = attn (score (m ((c : Thread nD τ).loc main_arg1)) (m ((c : Thread nD τ).loc main_arg2)) (m ((c : Thread nD τ).loc main_arg4)) b g e (place s r y))
          (m ((c : Thread nD τ).loc main_arg0) (ix1 (hd g e)))
          (fun k => value (m ((c : Thread nD τ).loc main_arg3)) (m ((c : Thread nD τ).loc main_arg5)) b g k d) := by
  have h := congrFun (blocks6 m c (pt b s)) (ix2 ⟨128 * r + y, by omega⟩ (qlane g e d))
  rw [View.read_apply] at h
  have hi := idx6 (pt b s)
  have e0 : ((cfg0.win 6).blk (pt b s)).view.emb (ix2 ⟨128 * r + y, by omega⟩ (qlane g e d)) = ix2 (row b (place s r y)) (qlane g e d) := by
    refine funext fun a => Fin.ext ?_
    match a with
    | ⟨0, _⟩ => show win0_6.index (pt b s) 0 * 1024 + 1 * (128 * r.val + y.val) = 4096 * b.val + (1024 * s.val + (128 * r.val + y.val))
                rw [hi]; show (4 * b.val + s.val) * 1024 + 1 * (128 * r.val + y.val) = _; omega
    | ⟨1, _⟩ => show win0_6.index (pt b s) 1 * 512 + 1 * (qlane g e d).val = (qlane g e d).val
                rw [hi]; show 0 * 512 + 1 * (qlane g e d).val = _; omega
  refine (congrArg ((dats m 0 c).arrAt 6 cfg0.N) e0).symm.trans (h.trans ?_)
  rw [← ql_eq]
  refine (out_at (grid0.coords (pt b s)) r y d (iblk m c 0 (pt b s)) (iblk m c 1 (pt b s)) (iblk m c 2 (pt b s)) (iblk m c 3 (pt b s))
    (iblk m c 4 (pt b s)) (iblk m c 5 (pt b s)) (hd g e)).trans ?_
  simp only [sc_eq m c b s g e r y _ h1 h2 h4, kl_eq, seen_v]
  rw [blk0]
  refine (mean_attn _ (fun j => WinRef.score_isRB _ _ _ b g e _ _ h1 h2 h4) _ (h0 _) _).trans ?_
  exact attn_embed _ (key_inj r _) _ (unread b s g e r y _ _ _) _ (fun k => value (m ((c : Thread nD τ).loc main_arg3)) (m ((c : Thread nD τ).loc main_arg5)) b g k d)

/-! ## The run -/

/-- The run with the result array named, the arguments unchanged. -/
theorem run_blocks : θ_run defs (onTc (τ := τ) (main (F := Ideal))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Proof.Win
-- ==== Proof.WinKFrame.lean ====
/-
  The window attention's run: what each step finds in the scratch and leaves in it, its obligation, and the frame.
-/
module

public import proofs.«01_k».proof.Proof.WinKRunA
public import Idealize.ShloMosaic.Lib.WordCmp
public import Idealize.ShloMosaic.Lib.Claim

@[expose] public section

set_option maxRecDepth 16384

noncomputable section

namespace Cert.Kernel7.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7.Gen

variable {F : FTy → Type} [FloatOps F]
variable (m : (ℓ : Loc nD τ sig) → Buf (Elt F) ℓ) (ρ : Dev nD → PrngReg)

/-- A step fills the scratch exactly where it is its batch's first. -/
theorem first_iff : ∀ t : Fin cfg0.N, (Scalar.cmpi .ne (Scalar.extui (Scalar.cmpi .eq (BitVec.ofNat 32 (grid0.coords t 1).val) 0#32)) 0#32) = 1#1 ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [e1]
    word_cmp
   : ∀ t : Fin grid0.N, (Scalar.cmpi .ne (Scalar.extui (Scalar.cmpi .eq (BitVec.ofNat 32 (grid0.coords t 1).val) 0#32)) 0#32) = 1#1 ↔ t.val % 4 = 0)

/-- The staging buffers of a step, and the scratch. -/
abbrev ms0 (t : Fin cfg0.N) : Memref sig .tc .smem S8 .f32 := win0_0.stage (cfg0.slots t 0)
abbrev ms1 (t : Fin cfg0.N) : Memref sig .tc .vmem S1024x512 .f32 := win0_1.stage (cfg0.slots t 1)
abbrev ms2 (t : Fin cfg0.N) : Memref sig .tc .vmem S4096x128 .f32 := win0_2.stage (cfg0.slots t 2)
abbrev ms3 (t : Fin cfg0.N) : Memref sig .tc .vmem S4096x128 .f32 := win0_3.stage (cfg0.slots t 3)
abbrev ms4 (t : Fin cfg0.N) : Memref sig .tc .vmem S1x256x128 .f32 := win0_4.stage (cfg0.slots t 4)
abbrev ms5 (t : Fin cfg0.N) : Memref sig .tc .vmem S1x256x128 .f32 := win0_5.stage (cfg0.slots t 5)
abbrev ms6 (t : Fin cfg0.N) : Memref sig .tc .vmem S1024x512 .f32 := win0_6.stage (cfg0.slots t 6)
abbrev sc0 : Memref sig .tc .vmem S2x4096x128 .bf16 := Memref.whole cc0_scratch0
abbrev sc1 : Memref sig .tc .vmem S4096x128 .bf16 := Memref.whole cc0_scratch1
abbrev sc2 : Memref sig .tc .vmem S2x256x128 .bf16 := Memref.whole cc0_scratch2
abbrev sc3 : Memref sig .tc .vmem S256x128 .bf16 := Memref.whole cc0_scratch3
theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)
theorem hs4 (t : Fin cfg0.N) : (ms4 t).IsWhole := hstage0_4 ((cfg0.slots t 4).cast nbuf0_4)
theorem hs5 (t : Fin cfg0.N) : (ms5 t).IsWhole := hstage0_5 ((cfg0.slots t 5).cast nbuf0_5)
theorem hs6 (t : Fin cfg0.N) : (ms6 t).IsWhole := hstage0_6 ((cfg0.slots t 6).cast nbuf0_6)

/-- The region's scratch and generator, the scratch buffer by buffer. -/
theorem scratch_eq (c : Dev nD) :
    (Pipeline.ΦA spec0 c : sProp (MT nD τ sig Unit (Elt F) ℕ (UR sig nD τ) ℕ))
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The frame says nothing of the result. -/
def forgets : Fin 7 → Bool := fun w => w.val == 6

/-- What each step finds and leaves: the inputs' blocks stay, the result's block is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What a step is called with, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare d))

set_option maxHeartbeats 1600000 in
/-- A step does what is stated of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = Pipeline.ΦA spec0 c from rfl, show (dats m 0 c).Φ t.castSucc = Pipeline.ΦA spec0 c from rfl, scratch_eq]
  by_cases h0 : t.val % 4 = 0
  · iintro ⟨⟨⟨⟨%d0, HS0⟩, ⟨%d1, HS1⟩, ⟨%d2, HS2⟩, ⟨%d3, HS3⟩⟩, Hg⟩, Ho, ⟨%d0w, H0⟩, ⟨%d1w, H1⟩, ⟨%d2w, H2⟩, ⟨%d3w, H3⟩, ⟨%d4w, H4⟩, ⟨%d5w, H5⟩, ⟨%d6w, H6⟩⟩
    iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((first_iff t).mpr h0) (iblk m c 0 t) (iblk m c 1 t) (iblk m c 2 t) (iblk m c 3 t) (iblk m c 4 t) (iblk m c 5 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iintro ⟨H0, H1, H2, H3, H4, H5, ⟨%e6, H6⟩, ⟨%e0, HS0⟩, ⟨%e1, HS1⟩, ⟨%e2, HS2⟩, ⟨%e3, HS3⟩⟩
    isplitl [HS0 HS1 HS2 HS3 Hg]
    · isplitl [HS0 HS1 HS2 HS3]
      · isplitl [HS0]
        · unfold owns; iexists _; iexists _; isplitr
          swap; · iexact HS0
          ipureintro; rfl
        isplitl [HS1]
        · unfold owns; iexists _; iexists _; isplitr
          swap; · iexact HS1
          ipureintro; rfl
        isplitl [HS2]
        · unfold owns; iexists _; iexists _; isplitr
          swap; · iexact HS2
          ipureintro; rfl
        unfold owns; iexists _; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; iexists _; isplitr
    swap; · iexact H6
    ipureintro; rfl
  · iintro ⟨⟨⟨⟨%d0, HS0⟩, ⟨%d1, HS1⟩, ⟨%d2, HS2⟩, ⟨%d3, HS3⟩⟩, Hg⟩, Ho, ⟨%d0w, H0⟩, ⟨%d1w, H1⟩, ⟨%d2w, H2⟩, ⟨%d3w, H3⟩, ⟨%d4w, H4⟩, ⟨%d5w, H5⟩, ⟨%d6w, H6⟩⟩
    iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((first_iff t).mp h)) (iblk m c 0 t) (iblk m c 1 t) (iblk m c 2 t) (iblk m c 3 t) (iblk m c 4 t) (iblk m c 5 t) d0 d1 d2 d3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%e6, H6⟩, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; iexists _; isplitr
    swap; · iexact H6
    ipureintro; rfl

theorem body_row (t : Fin cfg0.N) :
    defs₀ (F := F) .tc cfg0.body (cfg0.bodyArgs t (cfg0.slots t)) = bodyAt0 t := by
  unfold defs₀; rw [Defs.onTc_tc]

/-- The steps' obligation. -/
theorem body_obligation (c : Dev nD) : BodyObligation (dats (F := F) m 0 c) (defs₀ (F := F)) Variants.none () Set.univ forgets := fun t => by
  rw [bigSep_W0, bigSep_W0, body_row]
  exact triple_restated (sound_body m c t) rfl .rfl fun _ => .rfl

set_option backward.isDefEq.respectTransparency.types false in
/-- The launch: every run ends, with every counter back at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets) (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c))⟩) (run_main m ρ)

/-- and with them every counter ends at zero: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel7.Win

end
-- ==== Proof.WinClaims.lean ====
/-
  The claims about the window attention: frames, the ideal pass, and the kernel's result equal to the reference's.
-/
module

public import proofs.«01_k».proof.Proof.WinFinal
public import proofs.«01_k».proof.Proof.WinKFrame
public import Idealize.ShloMosaic.Lib.Quiescent

@[expose] public section

set_option maxRecDepth 16384

noncomputable section

namespace Cert.Proof.Win

open Idealize.ShloMosaic Idealize.ShloMosaic.TcCoe Idealize.SL.Sem
open Cert.Proof.Ffn (IsR isR_of_abs_lt)
open Cert.Proof.CtxRef (qlane)
open Cert.Proof.WinRef (row)

/-- The precondition's stated facts. -/
theorem preFacts : Cert.Pre_finite7.Facts where
  bcast_S_S8 := by decide
  bcast_S_S32768x512 := by decide
  bcast_S_S32768x128 := by decide
  bcast_S_S8x256x128 := by decide

instance : Cert.Pre_finite7.Facts := preFacts

/-- Every run of the kernel ends, without a fault, arguments kept, counters at zero. -/
theorem frame_k : Cert.quiescent_Kernel7 := fun m ρ _ => Cert.Kernel7.Win.frame m ρ
theorem frame_ki : Cert.quiescent_Kernel7Ideal := fun m ρ _ => Cert.Kernel7Ideal.Win.frame m ρ
theorem frame_kip : Cert.quiescent_Kernel7Ideal_pre_finite7 := fun m ρ _ => Cert.Kernel7Ideal.Win.frame m ρ
/-- The reference's run: it declares no semaphore. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem frame_rip : Cert.quiescent_Reference7Ideal_pre_finite7 := fun m ρ _ => frame_ri m ρ trivial

/-- What the ideal pass names: the mask, the scale of the scores and the base-two logarithm of e. -/
theorem preserves : Cert.preserves_Kernel7_Kernel7Ideal :=
  ⟨IdealRules.named_const.statement Cert.Kernel7Ideal.κ "mask" .f32 0xF149F2CA#32 ⊥ rfl,
    IdealRules.named_const.statement Cert.Kernel7Ideal.κ "scale" .f32 0x3E38AA3B#32 (((1 / 8) * (Real.log 2)⁻¹ : ℝ) : EReal) rfl,
    IdealRules.named_const.statement Cert.Kernel7Ideal.κ "log2e" .f32 0x3FB8AA3B#32 (((Real.log 2)⁻¹ : ℝ) : EReal) rfl⟩

/-- The precondition, entry by entry: sinks, queries, keys and the context's keys are real. -/
theorem pre_isR (m : (ℓ : Loc Cert.Kernel7Ideal.nD Cert.Kernel7Ideal.τ Cert.Kernel7Ideal.sig) → Buf (Elt Ideal) ℓ)
    (h : Cert.Pre_Kernel7Ideal_finite7 m) (c : Dev Cert.Kernel7Ideal.nD) :
    (∀ i, IsR (m ((c : Thread Cert.Kernel7Ideal.nD Cert.Kernel7Ideal.τ).loc Cert.Kernel7Ideal.main_arg0) i))
    ∧ (∀ i, IsR (m ((c : Thread Cert.Kernel7Ideal.nD Cert.Kernel7Ideal.τ).loc Cert.Kernel7Ideal.main_arg1) i))
    ∧ (∀ i, IsR (m ((c : Thread Cert.Kernel7Ideal.nD Cert.Kernel7Ideal.τ).loc Cert.Kernel7Ideal.main_arg2) i))
    ∧ (∀ i, IsR (m ((c : Thread Cert.Kernel7Ideal.nD Cert.Kernel7Ideal.τ).loc Cert.Kernel7Ideal.main_arg4) i)) :=
  ⟨fun i => isR_of_abs_lt _ (congrFun (h c).1 i), fun i => isR_of_abs_lt _ (congrFun (h c).2.1 i),
    fun i => isR_of_abs_lt _ (congrFun (h c).2.2.1 i), fun i => isR_of_abs_lt _ (congrFun (h c).2.2.2 i)⟩

/-- The kernel's result array is the reference's function of the arguments. -/
theorem final (m : (ℓ : Loc Cert.Kernel7Ideal.nD Cert.Kernel7Ideal.τ Cert.Kernel7Ideal.sig) → Buf (Elt Ideal) ℓ)
    (h : Cert.Pre_Kernel7Ideal_finite7 m) (c : Dev Cert.Kernel7Ideal.nD) :
    (Cert.Kernel7Ideal.Win.dats m 0 c).arrAt 6 Cert.Kernel7Ideal.cfg0.N
      = Cert.Reference7Ideal.Read.val_main_v45
        (m ((c : Thread Cert.Kernel7Ideal.nD Cert.Kernel7Ideal.τ).loc Cert.Kernel7Ideal.main_arg0))
        (m ((c : Thread Cert.Kernel7Ideal.nD Cert.Kernel7Ideal.τ).loc Cert.Kernel7Ideal.main_arg1))
        (m ((c : Thread Cert.Kernel7Ideal.nD Cert.Kernel7Ideal.τ).loc Cert.Kernel7Ideal.main_arg2))
        (m ((c : Thread Cert.Kernel7Ideal.nD Cert.Kernel7Ideal.τ).loc Cert.Kernel7Ideal.main_arg3))
        (m ((c : Thread Cert.Kernel7Ideal.nD Cert.Kernel7Ideal.τ).loc Cert.Kernel7Ideal.main_arg4))
        (m ((c : Thread Cert.Kernel7Ideal.nD Cert.Kernel7Ideal.τ).loc Cert.Kernel7Ideal.main_arg5)) := by
  obtain ⟨h0, h1, h2, h4⟩ := pre_isR m h c
  funext i
  have hr : (i 0 : Nat) < 32768 := (i 0).isLt
  have hl : (i 1 : Nat) < 512 := (i 1).isLt
  let b : Fin 8 := ⟨(i 0 : Nat) / 4096, by omega⟩
  let s : Fin 4 := ⟨(i 0 : Nat) % 4096 / 1024, by omega⟩
  let r : Fin 8 := ⟨(i 0 : Nat) % 1024 / 128, by omega⟩
  let y : Fin 128 := ⟨(i 0 : Nat) % 128, by omega⟩
  let g : Fin 2 := ⟨(i 1 : Nat) / 256, by omega⟩
  let e : Fin 4 := ⟨(i 1 : Nat) % 256 / 64, by omega⟩
  let d : Fin 64 := ⟨(i 1 : Nat) % 64, by omega⟩
  have ei : i = ix2 (row b (place s r y)) (qlane g e d) := by
    funext a
    match a with
    | ⟨0, _⟩ => exact Fin.ext (by
        show (i 0 : Nat) = 4096 * ((i 0 : Nat) / 4096) + (1024 * ((i 0 : Nat) % 4096 / 1024) + (128 * ((i 0 : Nat) % 1024 / 128) + (i 0 : Nat) % 128)); omega)
    | ⟨1, _⟩ => exact Fin.ext (by show (i 1 : Nat) = 256 * ((i 1 : Nat) / 256) + 64 * ((i 1 : Nat) % 256 / 64) + (i 1 : Nat) % 64; omega)
  rw [ei]
  exact (final_at m c b s g e r y d h0 h1 h2 h4).trans (Cert.Proof.WinRef.v45_at _ _ _ _ _ _ b g e (place s r y) d h0 h1 h2 h4).symm

/-- `Cert.algebraic_Kernel7Ideal_Reference7Ideal_pre_finite7`: equal results in the extended reals. -/
theorem algebraic : Cert.algebraic_Kernel7Ideal_Reference7Ideal_pre_finite7 := by
  intro m ρ m' ρ' hp hag
  refine ⟨fun c => (Cert.Kernel7Ideal.Win.dats m 0 c).arrAt 6 Cert.Kernel7Ideal.cfg0.N,
    run_blocks m ρ, ?_⟩
  refine (θ_run Cert.Reference7Ideal.defs _ _).mono (fun _ hr c => ⟨(hr c).1.trans ?_, (hr c).2⟩)
    (Cert.Reference7Ideal.Value.run (F := Ideal) m' ρ')
  rw [Cert.Reference7Ideal.Read.val_main_v45_eq]
  obtain ⟨e0, e1, e2, e3, e4, e5⟩ := hag c
  exact (by rw [e0, e1, e2, e3, e4, e5]; exact (final m hp c).symm)

end Cert.Proof.Win
-- ==== Proof.FfnpRef.lean ====
/-
  The prompt's second feed-forward reference read at an index: row `r` of its result is the layer's row mathematics of row `r` of
  its argument, with the prompt's modulation.
-/
module

public import proofs.«01_k».proof.Proof.Gen.Reference8Ideal.Read
public import proofs.«01_k».proof.Proof.FfnSpec

@[expose] public section

set_option maxRecDepth 16384

noncomputable section

namespace Cert.Proof.FfnpRef

open Cert.Reference8Ideal Cert.Reference8Ideal.Gen Cert.Reference8Ideal.Read Idealize.ShloMosaic Cert.Proof.Ffn

variable (x0 : (⟨S8192x1024, .f32⟩ : BufTy).Contents (Elt Ideal)) (x1 : (⟨S16x9x1x1024, .f32⟩ : BufTy).Contents (Elt Ideal))
  (x2 : (⟨S1x1024, .f32⟩ : BufTy).Contents (Elt Ideal)) (x3 : (⟨S1024x5632, .bf16⟩ : BufTy).Contents (Elt Ideal))
  (x4 : (⟨S2816x1024, .bf16⟩ : BufTy).Contents (Elt Ideal)) (x5 : (⟨S1x1024, .f32⟩ : BufTy).Contents (Elt Ideal))
  (t : Fin 8192) (d : Fin 1024)

/-- The three modulation rows. -/
theorem v1_at : val_main_v1 (F := Ideal) x1 (ix2 0 d) = x1 (ix4 0 6 0 d) := by
  rw [val_main_v1_apply, val_main_v0_apply]
  refine congrArg x1 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)
theorem v3_at : val_main_v3 (F := Ideal) x1 (ix2 0 d) = x1 (ix4 0 7 0 d) := by
  rw [val_main_v3_apply, val_main_v2_apply]
  refine congrArg x1 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)
theorem v5_at : val_main_v5 (F := Ideal) x1 (ix2 0 d) = x1 (ix4 0 8 0 d) := by
  rw [val_main_v5_apply, val_main_v4_apply]
  refine congrArg x1 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)

/-- The modulated, normalised row of a token. -/
abbrev hrow : Fin 1024 → EReal :=
  hmod (fun d => x0 (ix2 t d)) (fun d => x2 (ix2 0 d)) (fun d => x1 (ix4 0 7 0 d)) (fun d => x1 (ix4 0 6 0 d))

theorem v23_at : val_main_v23 (F := Ideal) x0 x1 x2 (ix2 t d) = hrow x0 x1 x2 t d := by
  simp only [val_main_v23_apply, val_main_v21_apply, val_main_v17_apply, val_main_v15_apply, val_main_v14_apply,
    val_main_v13_apply, val_main_v12_apply, val_main_v10_apply, val_main_v8_apply, val_main_v7_apply, val_main_v6_apply,
    val_main_cst_apply, val_main_v9_apply, val_main_cst_0_apply, val_main_v11_apply, val_main_cst_1_apply,
    val_main_v16_apply, val_main_v20_apply, val_main_v19_apply, val_main_v18_apply, val_main_cst_2_apply, val_main_v22_apply]
  have e1 : ∀ k, idx_main_v7 (idx_main_v8 (idx_main_v14 (ix2 t d))) k = ix2 t k := fun k => funext fun a => by fin_cases a <;> rfl
  have e2 : idx_main_v16 (ix2 t d) = ix2 0 d := funext fun a => by fin_cases a <;> rfl
  have e3 : idx_main_v20 (ix2 t d) = ix2 0 d := funext fun a => by fin_cases a <;> rfl
  have e4 : idx_main_v22 (ix2 t d) = ix2 0 d := funext fun a => by fin_cases a <;> rfl
  simp only [e1, e2, e3, e4, v1_at, v3_at]
  simp only [hrow, hmod, rms, Ideal.ofBits_def, Ideal.ofBits_zero_f32, zero_add, Ideal.ofBits_one_f32, ← mul_assoc]
  rfl

/-- One hidden pre-activation. -/
theorem v25_at (f : Fin 5632) : val_main_v25 (F := Ideal) x0 x1 x2 x3 (ix2 t f) = dotw (hrow x0 x1 x2 t) x3 f := by
  rw [val_main_v25_apply, dotw]
  refine Finset.sum_congr rfl fun k _ => ?_
  have e1 : lidx_main_v25 (ix2 t f) k = ix2 t k := funext fun a => by fin_cases a <;> rfl
  have e2 : ridx_main_v25 (ix2 t f) k = ix2 k f := funext fun a => by fin_cases a <;> rfl
  rw [e1, e2, v23_at]
  rfl

/-- The feed-forward's output before the gate. -/
theorem v31_at : val_main_v31 (F := Ideal) x0 x1 x2 x3 x4 (ix2 t d) = acc silL (hrow x0 x1 x2 t) x3 x4 d := by
  rw [val_main_v31_apply, acc]
  refine Finset.sum_congr rfl fun k _ => ?_
  have e1 : lidx_main_v31 (ix2 t d) k = ix2 t k := funext fun a => by fin_cases a <;> rfl
  have e2 : ridx_main_v31 (ix2 t d) k = ix2 k d := funext fun a => by fin_cases a <;> rfl
  rw [e1, e2]
  simp only [val_main_v29_apply, val_main_v28_apply, val_main_call0_v5_apply, val_main_call0_v4_apply, val_main_call0_cst_0_apply,
    val_main_call0_v3_apply, val_main_call0_v2_apply, val_main_call0_cst_apply, val_main_call0_v1_apply, val_main_call0_v0_apply,
    val_main_v26_apply, val_main_v27_apply]
  have e3 : idx_main_v26 (ix2 t k) = ix2 t ⟨k, by omega⟩ := funext fun a => by fin_cases a <;> rfl
  have e4 : idx_main_v27 (ix2 t k) = ix2 t ⟨2816 + k, by omega⟩ := funext fun a => by fin_cases a <;> rfl
  rw [e3, e4, v25_at, v25_at]
  simp only [silL, Ideal.ofBits_def, Ideal.ofBits_one_f32]
  rfl

/-- The residual row. -/
theorem v36_at : val_main_v36 (F := Ideal) x0 x1 x2 x3 x4 (ix2 t d)
    = resid (fun d => x0 (ix2 t d)) (fun d => x1 (ix4 0 8 0 d)) (acc silL (hrow x0 x1 x2 t) x3 x4) d := by
  simp only [val_main_v36_apply, val_main_v35_apply, val_main_v34_apply, val_main_v33_apply, val_main_v32_apply, val_main_cst_3_apply]
  have e3 : idx_main_v34 (ix2 t d) = ix2 0 d := funext fun a => by fin_cases a <;> rfl
  rw [e3, v31_at, v5_at]
  rfl

/-- The reference's result, row by row. -/
theorem v48_at : val_main_v48 (F := Ideal) x0 x1 x2 x3 x4 x5 (ix2 t d)
    = normed (resid (fun d => x0 (ix2 t d)) (fun d => x1 (ix4 0 8 0 d)) (acc silL (hrow x0 x1 x2 t) x3 x4))
        (fun d => x5 (ix2 0 d)) d := by
  simp only [val_main_v48_apply, val_main_v47_apply, val_main_v46_apply, val_main_v45_apply, val_main_v44_apply, val_main_v43_apply,
    val_main_v42_apply, val_main_cst_6_apply, val_main_v41_apply, val_main_v40_apply, val_main_cst_5_apply, val_main_v39_apply,
    val_main_v38_apply, val_main_cst_4_apply, val_main_v37_apply]
  have e1 : ∀ k, idx_main_v38 (idx_main_v39 (idx_main_v45 (ix2 t d))) k = ix2 t k := fun k => funext fun a => by fin_cases a <;> rfl
  have e2 : idx_main_v47 (ix2 t d) = ix2 0 d := funext fun a => by fin_cases a <;> rfl
  simp only [e1, e2, v36_at]
  simp only [normed, rms, Ideal.ofBits_def, Ideal.ofBits_zero_f32, zero_add]
  rfl

end Cert.Proof.FfnpRef
-- ==== Proof.FfnpFinal.lean ====
/-
  The result array of the prompt's second feed-forward: each step writes the sample's kernel's block, from the tokens of its own
  rows and the prompt's modulation; put together, every row of the array is the layer's row mathematics.
-/
module

public import proofs.«01_k».proof.Defs
public import proofs.«01_k».proof.Proof.Gen.Kernel8Ideal.Value
public import proofs.«01_k».proof.Proof.FfnBlock
public import proofs.«01_k».proof.Proof.FfnpRef

@[expose] public section

set_option maxRecDepth 16384

noncomputable section

namespace Cert.Proof.Ffnp

open Cert.Kernel8Ideal Cert.Kernel8Ideal.Gen Idealize.ShloMosaic Idealize.ShloMosaic.TcCoe Idealize.SL.Sem
open Cert.Proof.Ffn Cert.Proof.FfnpRef

variable (m : (ℓ : Loc nD τ sig) → Buf (Elt Ideal) ℓ) (c : Dev nD)

/-- The token blocks' place. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 6, 0, 0] := (by decide +kernel : ∀ t : Fin grid0.N, win0_1.index t = ![0, 6, 0, 0])
theorem idx2 : ∀ t : Fin cfg0.N, win0_2.index t = ![0, 7, 0, 0] := (by decide +kernel : ∀ t : Fin grid0.N, win0_2.index t = ![0, 7, 0, 0])
theorem idx3 : ∀ t : Fin cfg0.N, win0_3.index t = ![0, 8, 0, 0] := (by decide +kernel : ∀ t : Fin grid0.N, win0_3.index t = ![0, 8, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])
theorem flush8 : ∀ t : Fin cfg0.N, (cfg0.win 8).flush t = true := (by decide +kernel : ∀ t : Fin grid0.N, win0_8.flush t = true)

variable (k : Fin cfg0.N)

/-- A block's row among the tokens. -/
def tok (k : Fin cfg0.N) (r : Fin 1024) : Fin 8192 := ⟨1024 * k.val + r, by have hN : cfg0.N = 8 := rfl; have := k.isLt; omega⟩

theorem blk0 (r d : Fin 1024) : iblk m c 0 k (ix2 r d) = m ((c : Thread nD τ).loc main_arg0) (ix2 (tok k r) d) := by
  unfold iblk
  rw [View.read_apply]
  show V m c main_arg0 _ = _
  rw [V_main_arg0]
  have hi := idx0 k
  refine congrArg _ (funext fun a => Fin.ext ?_)
  match a with
  | ⟨0, _⟩ => show win0_0.index k 0 * 1024 + 1 * r.val = 1024 * k.val + r.val
              rw [hi]; show k.val * 1024 + 1 * r.val = _; omega
  | ⟨1, _⟩ => show win0_0.index k 1 * 1024 + 1 * d.val = d.val
              rw [hi]; show 0 * 1024 + 1 * d.val = _; omega

theorem blkMod1 (d : Fin 1024) : iblk m c 1 k (ix4 0 0 0 d) = m ((c : Thread nD τ).loc main_arg1) (ix4 0 6 0 d) := by
  unfold iblk
  rw [View.read_apply]
  show V m c main_arg1 _ = _
  rw [V_main_arg1]
  have hi := idx1 k
  refine congrArg _ (funext fun a => Fin.ext ?_)
  match a with
  | ⟨0, _⟩ => show win0_1.index k 0 * 1 + 1 * 0 = 0; rw [hi]; rfl
  | ⟨1, _⟩ => show win0_1.index k 1 * 1 + 1 * 0 = 6; rw [hi]; rfl
  | ⟨2, _⟩ => show win0_1.index k 2 * 1 + 1 * 0 = 0; rw [hi]; rfl
  | ⟨3, _⟩ => show win0_1.index k 3 * 1024 + 1 * d.val = d.val
              rw [hi]; show 0 * 1024 + 1 * d.val = _; omega

theorem blkMod2 (d : Fin 1024) : iblk m c 2 k (ix4 0 0 0 d) = m ((c : Thread nD τ).loc main_arg1) (ix4 0 7 0 d) := by
  unfold iblk
  rw [View.read_apply]
  show V m c main_arg1 _ = _
  rw [V_main_arg1]
  have hi := idx2 k
  refine congrArg _ (funext fun a => Fin.ext ?_)
  match a with
  | ⟨0, _⟩ => show win0_2.index k 0 * 1 + 1 * 0 = 0; rw [hi]; rfl
  | ⟨1, _⟩ => show win0_2.index k 1 * 1 + 1 * 0 = 7; rw [hi]; rfl
  | ⟨2, _⟩ => show win0_2.index k 2 * 1 + 1 * 0 = 0; rw [hi]; rfl
  | ⟨3, _⟩ => show win0_2.index k 3 * 1024 + 1 * d.val = d.val
              rw [hi]; show 0 * 1024 + 1 * d.val = _; omega

theorem blkMod3 (d : Fin 1024) : iblk m c 3 k (ix4 0 0 0 d) = m ((c : Thread nD τ).loc main_arg1) (ix4 0 8 0 d) := by
  unfold iblk
  rw [View.read_apply]
  show V m c main_arg1 _ = _
  rw [V_main_arg1]
  have hi := idx3 k
  refine congrArg _ (funext fun a => Fin.ext ?_)
  match a with
  | ⟨0, _⟩ => show win0_3.index k 0 * 1 + 1 * 0 = 0; rw [hi]; rfl
  | ⟨1, _⟩ => show win0_3.index k 1 * 1 + 1 * 0 = 8; rw [hi]; rfl
  | ⟨2, _⟩ => show win0_3.index k 2 * 1 + 1 * 0 = 0; rw [hi]; rfl
  | ⟨3, _⟩ => show win0_3.index k 3 * 1024 + 1 * d.val = d.val
              rw [hi]; show 0 * 1024 + 1 * d.val = _; omega

/-- The whole-array windows' blocks are the arrays. -/
theorem blk4 (t : Fin cfg0.N) : iblk m c 4 t = m ((c : Thread nD τ).loc main_arg2) := by
  have hz : (fun a => win0_4.index t a * main_arg2.ty.shape.size a) = fun _ => 0 := by
    rw [idx4 t]; funext a; fin_cases a <;> rfl
  exact (Memref.read_access_unit_zero (Elt Ideal) main_arg2 hz (fun a => by rw [congrFun hz a]; simp) _).trans (V_main_arg2 m c)
theorem blk5 (t : Fin cfg0.N) : iblk m c 5 t = m ((c : Thread nD τ).loc main_arg3) := by
  have hz : (fun a => win0_5.index t a * main_arg3.ty.shape.size a) = fun _ => 0 := by
    rw [idx5 t]; funext a; fin_cases a <;> rfl
  exact (Memref.read_access_unit_zero (Elt Ideal) main_arg3 hz (fun a => by rw [congrFun hz a]; simp) _).trans (V_main_arg3 m c)
theorem blk6 (t : Fin cfg0.N) : iblk m c 6 t = m ((c : Thread nD τ).loc main_arg4) := by
  have hz : (fun a => win0_6.index t a * main_arg4.ty.shape.size a) = fun _ => 0 := by
    rw [idx6 t]; funext a; fin_cases a <;> rfl
  exact (Memref.read_access_unit_zero (Elt Ideal) main_arg4 hz (fun a => by rw [congrFun hz a]; simp) _).trans (V_main_arg4 m c)
theorem blk7 (t : Fin cfg0.N) : iblk m c 7 t = m ((c : Thread nD τ).loc main_arg5) := by
  have hz : (fun a => win0_7.index t a * main_arg5.ty.shape.size a) = fun _ => 0 := by
    rw [idx7 t]; funext a; fin_cases a <;> rfl
  exact (Memref.read_access_unit_zero (Elt Ideal) main_arg5 hz (fun a => by rw [congrFun hz a]; simp) _).trans (V_main_arg5 m c)

/-- The block the body writes is the sample's kernel's. -/
theorem out_eq (x0 : Vec Ideal S1024x1024 .f32) (x1 x2 x3 : Vec Ideal S1x1x1x1024 .f32) (x4 : Vec Ideal S1x1024 .f32)
    (x5 : Vec Ideal S1024x5632 .bf16) (x6 : Vec Ideal S2816x1024 .bf16) (x7 : Vec Ideal S1x1024 .f32) :
    out0_8 x0 x1 x2 x3 x4 x5 x6 x7 = Cert.Kernel3Ideal.Gen.out0_8 x0 x1 x2 x3 x4 x5 x6 x7 := rfl

/-- The kernel's result array after the run, at a token: the row mathematics of the token's row. -/
theorem final_at (r d : Fin 1024) :
    (dats m 0 c).arrAt 8 cfg0.N (ix2 (tok k r) d)
      = normed (resid (fun d => m ((c : Thread nD τ).loc main_arg0) (ix2 (tok k r) d))
          (fun d => m ((c : Thread nD τ).loc main_arg1) (ix4 0 8 0 d))
          (acc silT (hrow (m ((c : Thread nD τ).loc main_arg0)) (m ((c : Thread nD τ).loc main_arg1)) (m ((c : Thread nD τ).loc main_arg2)) (tok k r))
            (m ((c : Thread nD τ).loc main_arg3)) (m ((c : Thread nD τ).loc main_arg4))))
          (fun d => m ((c : Thread nD τ).loc main_arg5) (ix2 0 d)) d := by
  have h := congrFun (Value.blocks8 m c k (flush8 _)) (ix2 r d)
  rw [Value.flushed8, View.read_apply] at h
  have hi := idx8 k
  have e : ((cfg0.win 8).blk k).view.emb (ix2 r d) = ix2 (tok k r) d := by
    refine funext fun a => Fin.ext ?_
    match a with
    | ⟨0, _⟩ => show win0_8.index k 0 * 1024 + 1 * r.val = 1024 * k.val + r.val
                rw [hi]; show k.val * 1024 + 1 * r.val = _; omega
    | ⟨1, _⟩ => show win0_8.index k 1 * 1024 + 1 * d.val = d.val
                rw [hi]; show 0 * 1024 + 1 * d.val = _; omega
  refine (congrArg ((dats m 0 c).arrAt 8 cfg0.N) e).symm.trans (h.trans ?_)
  refine (congrFun (out_eq _ _ _ _ _ _ _ _) (ix2 r d)).trans ((out_apply _ _ _ _ _ _ _ _ r d).trans ?_)
  simp only [blk0, blkMod1, blkMod2, blkMod3, blk4, blk5, blk6, blk7]

end Cert.Proof.Ffnp
-- ==== Proof.FfnpClaims.lean ====
/-
  The claims about the prompt's second feed-forward: frames, the ideal pass, and the kernel's result equal to the reference's.
-/
module

public import proofs.«01_k».proof.Proof.FfnpFinal
public import proofs.«01_k».proof.Proof.Gen.Kernel8.Frame
public import Idealize.ShloMosaic.Lib.Quiescent

@[expose] public section

set_option maxRecDepth 16384

noncomputable section

namespace Cert.Proof.Ffnp

open Idealize.ShloMosaic Idealize.ShloMosaic.TcCoe Idealize.SL.Sem
open Cert.Proof.Ffn

/-- The precondition's stated facts. -/
theorem preFacts : Cert.Pre_finite8.Facts where
  bcast_S_S16x9x1x1024 := by decide
  bcast_S_S1x1024 := by decide
  bitsLt_bf16_f32 := by decide
  bcast_S_S1024x5632 := by decide

instance : Cert.Pre_finite8.Facts := preFacts

/-- Every run of the kernel ends, without a fault, arguments kept, counters at zero. -/
theorem frame_k : Cert.quiescent_Kernel8 := fun m ρ _ => Cert.Kernel8.Gen.frame m ρ
theorem frame_ki : Cert.quiescent_Kernel8Ideal := fun m ρ _ => Cert.Kernel8Ideal.Gen.frame m ρ
theorem frame_kip : Cert.quiescent_Kernel8Ideal_pre_finite8 := fun m ρ _ => Cert.Kernel8Ideal.Gen.frame m ρ
/-- The reference's run: it declares no semaphore. -/
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)
theorem frame_rip : Cert.quiescent_Reference8Ideal_pre_finite8 := fun m ρ _ => frame_ri m ρ trivial

/-- The ideal pass rewrote nothing. -/
theorem preserves : Cert.preserves_Kernel8_Kernel8Ideal := trivial

/-- The precondition, entry by entry: modulation, norm weight and first projection are real. -/
theorem pre_isR (m : (ℓ : Loc Cert.Kernel8Ideal.nD Cert.Kernel8Ideal.τ Cert.Kernel8Ideal.sig) → Buf (Elt Ideal) ℓ)
    (h : Cert.Pre_Kernel8Ideal_finite8 m) (c : Dev Cert.Kernel8Ideal.nD) :
    (∀ i, IsR (m ((c : Thread Cert.Kernel8Ideal.nD Cert.Kernel8Ideal.τ).loc Cert.Kernel8Ideal.main_arg1) i))
    ∧ (∀ i, IsR (m ((c : Thread Cert.Kernel8Ideal.nD Cert.Kernel8Ideal.τ).loc Cert.Kernel8Ideal.main_arg2) i))
    ∧ (∀ i, IsR (m ((c : Thread Cert.Kernel8Ideal.nD Cert.Kernel8Ideal.τ).loc Cert.Kernel8Ideal.main_arg3) i)) :=
  ⟨fun i => isR_of_abs_lt _ (congrFun (h c).1 i), fun i => isR_of_abs_lt _ (congrFun (h c).2.1 i),
    fun i => isR_of_abs_lt _ (congrFun (h c).2.2 i)⟩

/-- The kernel's result array is the reference's function of the arguments. -/
theorem final (m : (ℓ : Loc Cert.Kernel8Ideal.nD Cert.Kernel8Ideal.τ Cert.Kernel8Ideal.sig) → Buf (Elt Ideal) ℓ)
    (h : Cert.Pre_Kernel8Ideal_finite8 m) (c : Dev Cert.Kernel8Ideal.nD) :
    (Cert.Kernel8Ideal.Gen.dats m 0 c).arrAt 8 Cert.Kernel8Ideal.cfg0.N
      = Cert.Reference8Ideal.Read.val_main_v48
        (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1))
        (m ((c : Thread Cert.Kernel8Ideal.nD Cert.Kernel8Ideal.τ).loc Cert.Kernel8Ideal.main_arg2))
        (m ((c : Thread Cert.Kernel8Ideal.nD Cert.Kernel8Ideal.τ).loc Cert.Kernel8Ideal.main_arg3))
        (m ((c : Thread Cert.Kernel8Ideal.nD Cert.Kernel8Ideal.τ).loc Cert.Kernel8Ideal.main_arg4))
        (m ((c : Thread Cert.Kernel8Ideal.nD Cert.Kernel8Ideal.τ).loc Cert.Kernel8Ideal.main_arg5)) := by
  obtain ⟨hm, hn, hw⟩ := pre_isR m h c
  funext i
  have h0 : (i 0 : Nat) < 8192 := (i 0).isLt
  let k : Fin Cert.Kernel8Ideal.cfg0.N := ⟨(i 0 : Nat) / 1024, by have hN : Cert.Kernel8Ideal.cfg0.N = 8 := rfl; omega⟩
  let r : Fin 1024 := ⟨(i 0 : Nat) % 1024, by omega⟩
  let d : Fin 1024 := i 1
  have ei : i = ix2 (tok k r) d := by
    funext a
    match a with
    | ⟨0, _⟩ => exact Fin.ext (by show (i 0 : Nat) = 1024 * ((i 0 : Nat) / 1024) + (i 0 : Nat) % 1024; omega)
    | ⟨1, _⟩ => rfl
  rw [ei]
  refine (final_at m c k r d).trans (Eq.trans ?_ (Cert.Proof.FfnpRef.v48_at _ _ _ _ _ _ _ d).symm)
  exact congrArg (fun a => normed (resid _ _ a) _ d)
    (acc_eq _ _ _ (fun d => hmod_isR _ _ _ _ (fun _ => hn _) (fun _ => hm _) (fun _ => hm _) d) hw)

/-- `Cert.algebraic_Kernel8Ideal_Reference8Ideal_pre_finite8`: equal results in the extended reals. -/
theorem algebraic : Cert.algebraic_Kernel8Ideal_Reference8Ideal_pre_finite8 := by
  intro m ρ m' ρ' hp hag
  refine ⟨fun c => (Cert.Kernel8Ideal.Gen.dats m 0 c).arrAt 8 Cert.Kernel8Ideal.cfg0.N,
    Cert.Kernel8Ideal.Value.run_blocks m ρ, ?_⟩
  refine (θ_run Cert.Reference8Ideal.defs _ _).mono (fun _ hr c => ⟨(hr c).1.trans ?_, (hr c).2⟩)
    (Cert.Reference8Ideal.Value.run (F := Ideal) m' ρ')
  rw [Cert.Reference8Ideal.Read.val_main_v48_eq]
  obtain ⟨e0, e1, e2, e3, e4, e5⟩ := hag c
  exact (by rw [e0, e1, e2, e3, e4, e5]; exact (final m hp c).symm)

end Cert.Proof.Ffnp
-- ==== Proof.ScanClaims.lean ====
/-
  The claims about the scan of the gated delta rule: frames and the ideal pass.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Quiescent

@[expose] public section

set_option maxRecDepth 16384

noncomputable section

namespace Cert.Proof.Scan

open Idealize.ShloMosaic Idealize.ShloMosaic.TcCoe Idealize.SL.Sem

/-- Every run of the kernel ends, without a fault, arguments kept, counters at zero. -/
theorem frame_k : Cert.quiescent_Kernel9 := fun m ρ _ => Cert.Kernel9.Gen.frame m ρ
theorem frame_ki : Cert.quiescent_Kernel9Ideal := fun m ρ _ => Cert.Kernel9Ideal.Gen.frame m ρ
/-- The reference's run, 256 trips of its loop: it declares no semaphore. -/
theorem frame_ri : Cert.quiescent_Reference9Ideal := fun m ρ _ =>
  (θ_run Cert.Reference9Ideal.defs _ _).mono (fun r h => ⟨fun c => (h c).2.2.2.2,
      Idealize.ShloMosaic.sem_eq_zero_of_no_sems (by decide) r.2⟩)
    (Cert.Reference9Ideal.Value.run (F := Ideal) m ρ)

/-- What the ideal pass names: the mask of the decay's exponent. -/
theorem preserves : Cert.preserves_Kernel9_Kernel9Ideal :=
  IdealRules.named_const.statement Cert.Kernel9Ideal.κ "mask" .f32 0xF149F2CA#32 ⊥ rfl

end Cert.Proof.Scan
-- ==== Proof.Ffn1pRef.lean ====
/-
  The prompt's first feed-forward reference read at an index: row `r` of its result is the layer's row mathematics of row `r` of
  its argument, with the prompt's modulation.
-/
module

public import proofs.«01_k».proof.Proof.Gen.Reference10Ideal.Read
public import proofs.«01_k».proof.Proof.FfnSpec

@[expose] public section

set_option maxRecDepth 16384

noncomputable section

namespace Cert.Proof.Ffn1pRef

open Cert.Reference10Ideal Cert.Reference10Ideal.Gen Cert.Reference10Ideal.Read Idealize.ShloMosaic Cert.Proof.Ffn

variable (x0 : (⟨S8192x1024, .f32⟩ : BufTy).Contents (Elt Ideal)) (x1 : (⟨S16x9x1x1024, .f32⟩ : BufTy).Contents (Elt Ideal))
  (x2 : (⟨S1x1024, .f32⟩ : BufTy).Contents (Elt Ideal)) (x3 : (⟨S1024x5632, .bf16⟩ : BufTy).Contents (Elt Ideal))
  (x4 : (⟨S2816x1024, .bf16⟩ : BufTy).Contents (Elt Ideal))
  (t : Fin 8192) (d : Fin 1024)

/-- The three modulation rows. -/
theorem v1_at : val_main_v1 (F := Ideal) x1 (ix2 0 d) = x1 (ix4 0 0 0 d) := by
  rw [val_main_v1_apply, val_main_v0_apply]
  refine congrArg x1 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)
theorem v3_at : val_main_v3 (F := Ideal) x1 (ix2 0 d) = x1 (ix4 0 1 0 d) := by
  rw [val_main_v3_apply, val_main_v2_apply]
  refine congrArg x1 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)
theorem v5_at : val_main_v5 (F := Ideal) x1 (ix2 0 d) = x1 (ix4 0 2 0 d) := by
  rw [val_main_v5_apply, val_main_v4_apply]
  refine congrArg x1 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)

/-- The modulated, normalised row of a token. -/
abbrev hrow : Fin 1024 → EReal :=
  hmod (fun d => x0 (ix2 t d)) (fun d => x2 (ix2 0 d)) (fun d => x1 (ix4 0 1 0 d)) (fun d => x1 (ix4 0 0 0 d))

theorem v23_at : val_main_v23 (F := Ideal) x0 x1 x2 (ix2 t d) = hrow x0 x1 x2 t d := by
  simp only [val_main_v23_apply, val_main_v21_apply, val_main_v17_apply, val_main_v15_apply, val_main_v14_apply,
    val_main_v13_apply, val_main_v12_apply, val_main_v10_apply, val_main_v8_apply, val_main_v7_apply, val_main_v6_apply,
    val_main_cst_apply, val_main_v9_apply, val_main_cst_0_apply, val_main_v11_apply, val_main_cst_1_apply,
    val_main_v16_apply, val_main_v20_apply, val_main_v19_apply, val_main_v18_apply, val_main_cst_2_apply, val_main_v22_apply]
  have e1 : ∀ k, idx_main_v7 (idx_main_v8 (idx_main_v14 (ix2 t d))) k = ix2 t k := fun k => funext fun a => by fin_cases a <;> rfl
  have e2 : idx_main_v16 (ix2 t d) = ix2 0 d := funext fun a => by fin_cases a <;> rfl
  have e3 : idx_main_v20 (ix2 t d) = ix2 0 d := funext fun a => by fin_cases a <;> rfl
  have e4 : idx_main_v22 (ix2 t d) = ix2 0 d := funext fun a => by fin_cases a <;> rfl
  simp only [e1, e2, e3, e4, v1_at, v3_at]
  simp only [hrow, hmod, rms, Ideal.ofBits_def, Ideal.ofBits_zero_f32, zero_add, Ideal.ofBits_one_f32, ← mul_assoc]
  rfl

/-- One hidden pre-activation. -/
theorem v25_at (f : Fin 5632) : val_main_v25 (F := Ideal) x0 x1 x2 x3 (ix2 t f) = dotw (hrow x0 x1 x2 t) x3 f := by
  rw [val_main_v25_apply, dotw]
  refine Finset.sum_congr rfl fun k _ => ?_
  have e1 : lidx_main_v25 (ix2 t f) k = ix2 t k := funext fun a => by fin_cases a <;> rfl
  have e2 : ridx_main_v25 (ix2 t f) k = ix2 k f := funext fun a => by fin_cases a <;> rfl
  rw [e1, e2, v23_at]
  rfl

/-- The feed-forward's output before the gate. -/
theorem v31_at : val_main_v31 (F := Ideal) x0 x1 x2 x3 x4 (ix2 t d) = acc silL (hrow x0 x1 x2 t) x3 x4 d := by
  rw [val_main_v31_apply, acc]
  refine Finset.sum_congr rfl fun k _ => ?_
  have e1 : lidx_main_v31 (ix2 t d) k = ix2 t k := funext fun a => by fin_cases a <;> rfl
  have e2 : ridx_main_v31 (ix2 t d) k = ix2 k d := funext fun a => by fin_cases a <;> rfl
  rw [e1, e2]
  simp only [val_main_v29_apply, val_main_v28_apply, val_main_call0_v5_apply, val_main_call0_v4_apply, val_main_call0_cst_0_apply,
    val_main_call0_v3_apply, val_main_call0_v2_apply, val_main_call0_cst_apply, val_main_call0_v1_apply, val_main_call0_v0_apply,
    val_main_v26_apply, val_main_v27_apply]
  have e3 : idx_main_v26 (ix2 t k) = ix2 t ⟨k, by omega⟩ := funext fun a => by fin_cases a <;> rfl
  have e4 : idx_main_v27 (ix2 t k) = ix2 t ⟨2816 + k, by omega⟩ := funext fun a => by fin_cases a <;> rfl
  rw [e3, e4, v25_at, v25_at]
  simp only [silL, Ideal.ofBits_def, Ideal.ofBits_one_f32]
  rfl

/-- The reference's result, row by row. -/
theorem v36_at : val_main_v36 (F := Ideal) x0 x1 x2 x3 x4 (ix2 t d)
    = resid (fun d => x0 (ix2 t d)) (fun d => x1 (ix4 0 2 0 d)) (acc silL (hrow x0 x1 x2 t) x3 x4) d := by
  simp only [val_main_v36_apply, val_main_v35_apply, val_main_v34_apply, val_main_v33_apply, val_main_v32_apply, val_main_cst_3_apply]
  have e3 : idx_main_v34 (ix2 t d) = ix2 0 d := funext fun a => by fin_cases a <;> rfl
  rw [e3, v31_at, v5_at]
  rfl

end Cert.Proof.Ffn1pRef
-- ==== Proof.Ffn1pFinal.lean ====
/-
  The result array of the prompt's first feed-forward: each step writes the sample's kernel's block, from the tokens of its own
  rows and the prompt's modulation; put together, every row of the array is the layer's row mathematics.
-/
module

public import proofs.«01_k».proof.Defs
public import proofs.«01_k».proof.Proof.Gen.Kernel10Ideal.Value
public import proofs.«01_k».proof.Proof.Ffn1Block
public import proofs.«01_k».proof.Proof.Ffn1pRef

@[expose] public section

set_option maxRecDepth 16384

noncomputable section

namespace Cert.Proof.Ffn1p

open Cert.Kernel10Ideal Cert.Kernel10Ideal.Gen Idealize.ShloMosaic Idealize.ShloMosaic.TcCoe Idealize.SL.Sem
open Cert.Proof.Ffn Cert.Proof.Ffn1pRef

variable (m : (ℓ : Loc nD τ sig) → Buf (Elt Ideal) ℓ) (c : Dev nD)

/-- The token blocks' place. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0, 0] := (by decide +kernel : ∀ t : Fin grid0.N, win0_1.index t = ![0, 0, 0, 0])
theorem idx2 : ∀ t : Fin cfg0.N, win0_2.index t = ![0, 1, 0, 0] := (by decide +kernel : ∀ t : Fin grid0.N, win0_2.index t = ![0, 1, 0, 0])
theorem idx3 : ∀ t : Fin cfg0.N, win0_3.index t = ![0, 2, 0, 0] := (by decide +kernel : ∀ t : Fin grid0.N, win0_3.index t = ![0, 2, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx8 : ∀ t : Fin cfg0.N, win0_8.index t = ![t.val, 0] := (by decide +kernel : ∀ t : Fin grid0.N, win0_8.index t = ![t.val, 0])
theorem flush8 : ∀ t : Fin cfg0.N, (cfg0.win 8).flush t = true := (by decide +kernel : ∀ t : Fin grid0.N, win0_8.flush t = true)

variable (k : Fin cfg0.N)

/-- A block's row among the tokens. -/
def tok (k : Fin cfg0.N) (r : Fin 1024) : Fin 8192 := ⟨1024 * k.val + r, by have hN : cfg0.N = 8 := rfl; have := k.isLt; omega⟩

theorem blk0 (r d : Fin 1024) : iblk m c 0 k (ix2 r d) = m ((c : Thread nD τ).loc main_arg0) (ix2 (tok k r) d) := by
  unfold iblk
  rw [View.read_apply]
  show V m c main_arg0 _ = _
  rw [V_main_arg0]
  have hi := idx0 k
  refine congrArg _ (funext fun a => Fin.ext ?_)
  match a with
  | ⟨0, _⟩ => show win0_0.index k 0 * 1024 + 1 * r.val = 1024 * k.val + r.val
              rw [hi]; show k.val * 1024 + 1 * r.val = _; omega
  | ⟨1, _⟩ => show win0_0.index k 1 * 1024 + 1 * d.val = d.val
              rw [hi]; show 0 * 1024 + 1 * d.val = _; omega

theorem blkMod1 (d : Fin 1024) : iblk m c 1 k (ix4 0 0 0 d) = m ((c : Thread nD τ).loc main_arg1) (ix4 0 0 0 d) := by
  unfold iblk
  rw [View.read_apply]
  show V m c main_arg1 _ = _
  rw [V_main_arg1]
  have hi := idx1 k
  refine congrArg _ (funext fun a => Fin.ext ?_)
  match a with
  | ⟨0, _⟩ => show win0_1.index k 0 * 1 + 1 * 0 = 0; rw [hi]; rfl
  | ⟨1, _⟩ => show win0_1.index k 1 * 1 + 1 * 0 = 0; rw [hi]; rfl
  | ⟨2, _⟩ => show win0_1.index k 2 * 1 + 1 * 0 = 0; rw [hi]; rfl
  | ⟨3, _⟩ => show win0_1.index k 3 * 1024 + 1 * d.val = d.val
              rw [hi]; show 0 * 1024 + 1 * d.val = _; omega

theorem blkMod2 (d : Fin 1024) : iblk m c 2 k (ix4 0 0 0 d) = m ((c : Thread nD τ).loc main_arg1) (ix4 0 1 0 d) := by
  unfold iblk
  rw [View.read_apply]
  show V m c main_arg1 _ = _
  rw [V_main_arg1]
  have hi := idx2 k
  refine congrArg _ (funext fun a => Fin.ext ?_)
  match a with
  | ⟨0, _⟩ => show win0_2.index k 0 * 1 + 1 * 0 = 0; rw [hi]; rfl
  | ⟨1, _⟩ => show win0_2.index k 1 * 1 + 1 * 0 = 1; rw [hi]; rfl
  | ⟨2, _⟩ => show win0_2.index k 2 * 1 + 1 * 0 = 0; rw [hi]; rfl
  | ⟨3, _⟩ => show win0_2.index k 3 * 1024 + 1 * d.val = d.val
              rw [hi]; show 0 * 1024 + 1 * d.val = _; omega

theorem blkMod3 (d : Fin 1024) : iblk m c 3 k (ix4 0 0 0 d) = m ((c : Thread nD τ).loc main_arg1) (ix4 0 2 0 d) := by
  unfold iblk
  rw [View.read_apply]
  show V m c main_arg1 _ = _
  rw [V_main_arg1]
  have hi := idx3 k
  refine congrArg _ (funext fun a => Fin.ext ?_)
  match a with
  | ⟨0, _⟩ => show win0_3.index k 0 * 1 + 1 * 0 = 0; rw [hi]; rfl
  | ⟨1, _⟩ => show win0_3.index k 1 * 1 + 1 * 0 = 2; rw [hi]; rfl
  | ⟨2, _⟩ => show win0_3.index k 2 * 1 + 1 * 0 = 0; rw [hi]; rfl
  | ⟨3, _⟩ => show win0_3.index k 3 * 1024 + 1 * d.val = d.val
              rw [hi]; show 0 * 1024 + 1 * d.val = _; omega

/-- The whole-array windows' blocks are the arrays. -/
theorem blk4 (t : Fin cfg0.N) : iblk m c 4 t = m ((c : Thread nD τ).loc main_arg2) := by
  have hz : (fun a => win0_4.index t a * main_arg2.ty.shape.size a) = fun _ => 0 := by
    rw [idx4 t]; funext a; fin_cases a <;> rfl
  exact (Memref.read_access_unit_zero (Elt Ideal) main_arg2 hz (fun a => by rw [congrFun hz a]; simp) _).trans (V_main_arg2 m c)
theorem blk5 (t : Fin cfg0.N) : iblk m c 5 t = m ((c : Thread nD τ).loc main_arg3) := by
  have hz : (fun a => win0_5.index t a * main_arg3.ty.shape.size a) = fun _ => 0 := by
    rw [idx5 t]; funext a; fin_cases a <;> rfl
  exact (Memref.read_access_unit_zero (Elt Ideal) main_arg3 hz (fun a => by rw [congrFun hz a]; simp) _).trans (V_main_arg3 m c)
theorem blk6 (t : Fin cfg0.N) : iblk m c 6 t = m ((c : Thread nD τ).loc main_arg4) := by
  have hz : (fun a => win0_6.index t a * main_arg4.ty.shape.size a) = fun _ => 0 := by
    rw [idx6 t]; funext a; fin_cases a <;> rfl
  exact (Memref.read_access_unit_zero (Elt Ideal) main_arg4 hz (fun a => by rw [congrFun hz a]; simp) _).trans (V_main_arg4 m c)

/-- The block the body writes is the sample's kernel's. -/
theorem out_eq (x0 : Vec Ideal S1024x1024 .f32) (x1 x2 x3 : Vec Ideal S1x1x1x1024 .f32) (x4 : Vec Ideal S1x1024 .f32)
    (x5 : Vec Ideal S1024x5632 .bf16) (x6 : Vec Ideal S2816x1024 .bf16) (x7 : Vec Ideal S1x1024 .f32) :
    out0_8 x0 x1 x2 x3 x4 x5 x6 x7 = Cert.Kernel4Ideal.Gen.out0_8 x0 x1 x2 x3 x4 x5 x6 x7 := rfl

/-- The kernel's result array after the run, at a token: the row mathematics of the token's row. -/
theorem final_at (r d : Fin 1024) :
    (dats m 0 c).arrAt 8 cfg0.N (ix2 (tok k r) d)
      = resid (fun d => m ((c : Thread nD τ).loc main_arg0) (ix2 (tok k r) d))
          (fun d => m ((c : Thread nD τ).loc main_arg1) (ix4 0 2 0 d))
          (acc silT (hrow (m ((c : Thread nD τ).loc main_arg0)) (m ((c : Thread nD τ).loc main_arg1)) (m ((c : Thread nD τ).loc main_arg2)) (tok k r))
            (m ((c : Thread nD τ).loc main_arg3)) (m ((c : Thread nD τ).loc main_arg4))) d := by
  have h := congrFun (Value.blocks8 m c k (flush8 _)) (ix2 r d)
  rw [Value.flushed8, View.read_apply] at h
  have hi := idx8 k
  have e : ((cfg0.win 8).blk k).view.emb (ix2 r d) = ix2 (tok k r) d := by
    refine funext fun a => Fin.ext ?_
    match a with
    | ⟨0, _⟩ => show win0_8.index k 0 * 1024 + 1 * r.val = 1024 * k.val + r.val
                rw [hi]; show k.val * 1024 + 1 * r.val = _; omega
    | ⟨1, _⟩ => show win0_8.index k 1 * 1024 + 1 * d.val = d.val
                rw [hi]; show 0 * 1024 + 1 * d.val = _; omega
  refine (congrArg ((dats m 0 c).arrAt 8 cfg0.N) e).symm.trans (h.trans ?_)
  refine (congrFun (out_eq _ _ _ _ _ _ _ _) (ix2 r d)).trans ((Ffn1.out_apply _ _ _ _ _ _ _ _ r d).trans ?_)
  simp only [blk0, blkMod1, blkMod2, blkMod3, blk4, blk5, blk6]

end Cert.Proof.Ffn1p
-- ==== Proof.Ffn1pClaims.lean ====
/-
  The claims about the prompt's first feed-forward: frames, the ideal pass, and the kernel's result equal to the reference's.
-/
module

public import proofs.«01_k».proof.Proof.Ffn1pFinal
public import proofs.«01_k».proof.Proof.FfnpClaims
public import proofs.«01_k».proof.Proof.Gen.Kernel10.Frame
public import Idealize.ShloMosaic.Lib.Quiescent

@[expose] public section

set_option maxRecDepth 16384

noncomputable section

namespace Cert.Proof.Ffn1p

open Idealize.ShloMosaic Idealize.ShloMosaic.TcCoe Idealize.SL.Sem
open Cert.Proof.Ffn

/-- Every run of the kernel ends, without a fault, arguments kept, counters at zero. -/
theorem frame_k : Cert.quiescent_Kernel10 := fun m ρ _ => Cert.Kernel10.Gen.frame m ρ
theorem frame_ki : Cert.quiescent_Kernel10Ideal := fun m ρ _ => Cert.Kernel10Ideal.Gen.frame m ρ
theorem frame_kip : Cert.quiescent_Kernel10Ideal_pre_finite8 := fun m ρ _ => Cert.Kernel10Ideal.Gen.frame m ρ
/-- The reference's run: it declares no semaphore. -/
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)
theorem frame_rip : Cert.quiescent_Reference10Ideal_pre_finite8 := fun m ρ _ => frame_ri m ρ trivial

/-- The ideal pass rewrote nothing. -/
theorem preserves : Cert.preserves_Kernel10_Kernel10Ideal := trivial

/-- The precondition, entry by entry: modulation, norm weight and first projection are real. -/
theorem pre_isR (m : (ℓ : Loc Cert.Kernel10Ideal.nD Cert.Kernel10Ideal.τ Cert.Kernel10Ideal.sig) → Buf (Elt Ideal) ℓ)
    (h : Cert.Pre_Kernel10Ideal_finite8 m) (c : Dev Cert.Kernel10Ideal.nD) :
    (∀ i, IsR (m ((c : Thread Cert.Kernel10Ideal.nD Cert.Kernel10Ideal.τ).loc Cert.Kernel10Ideal.main_arg1) i))
    ∧ (∀ i, IsR (m ((c : Thread Cert.Kernel10Ideal.nD Cert.Kernel10Ideal.τ).loc Cert.Kernel10Ideal.main_arg2) i))
    ∧ (∀ i, IsR (m ((c : Thread Cert.Kernel10Ideal.nD Cert.Kernel10Ideal.τ).loc Cert.Kernel10Ideal.main_arg3) i)) :=
  ⟨fun i => isR_of_abs_lt _ (congrFun (h c).1 i), fun i => isR_of_abs_lt _ (congrFun (h c).2.1 i),
    fun i => isR_of_abs_lt _ (congrFun (h c).2.2 i)⟩

/-- The kernel's result array is the reference's function of the arguments. -/
theorem final (m : (ℓ : Loc Cert.Kernel10Ideal.nD Cert.Kernel10Ideal.τ Cert.Kernel10Ideal.sig) → Buf (Elt Ideal) ℓ)
    (h : Cert.Pre_Kernel10Ideal_finite8 m) (c : Dev Cert.Kernel10Ideal.nD) :
    (Cert.Kernel10Ideal.Gen.dats m 0 c).arrAt 8 Cert.Kernel10Ideal.cfg0.N
      = Cert.Reference10Ideal.Read.val_main_v36
        (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1))
        (m ((c : Thread Cert.Kernel10Ideal.nD Cert.Kernel10Ideal.τ).loc Cert.Kernel10Ideal.main_arg2))
        (m ((c : Thread Cert.Kernel10Ideal.nD Cert.Kernel10Ideal.τ).loc Cert.Kernel10Ideal.main_arg3))
        (m ((c : Thread Cert.Kernel10Ideal.nD Cert.Kernel10Ideal.τ).loc Cert.Kernel10Ideal.main_arg4)) := by
  obtain ⟨hm, hn, hw⟩ := pre_isR m h c
  funext i
  have h0 : (i 0 : Nat) < 8192 := (i 0).isLt
  let k : Fin Cert.Kernel10Ideal.cfg0.N := ⟨(i 0 : Nat) / 1024, by have hN : Cert.Kernel10Ideal.cfg0.N = 8 := rfl; omega⟩
  let r : Fin 1024 := ⟨(i 0 : Nat) % 1024, by omega⟩
  let d : Fin 1024 := i 1
  have ei : i = ix2 (tok k r) d := by
    funext a
    match a with
    | ⟨0, _⟩ => exact Fin.ext (by show (i 0 : Nat) = 1024 * ((i 0 : Nat) / 1024) + (i 0 : Nat) % 1024; omega)
    | ⟨1, _⟩ => rfl
  rw [ei]
  refine (final_at m c k r d).trans (Eq.trans ?_ (Cert.Proof.Ffn1pRef.v36_at _ _ _ _ _ _ d).symm)
  exact congrArg (fun a => resid _ _ a d)
    (acc_eq _ _ _ (fun d => hmod_isR _ _ _ _ (fun _ => hn _) (fun _ => hm _) (fun _ => hm _) d) hw)

/-- `Cert.algebraic_Kernel10Ideal_Reference10Ideal_pre_finite8`: equal results in the extended reals. -/
theorem algebraic : Cert.algebraic_Kernel10Ideal_Reference10Ideal_pre_finite8 := by
  intro m ρ m' ρ' hp hag
  refine ⟨fun c => (Cert.Kernel10Ideal.Gen.dats m 0 c).arrAt 8 Cert.Kernel10Ideal.cfg0.N,
    Cert.Kernel10Ideal.Value.run_blocks m ρ, ?_⟩
  refine (θ_run Cert.Reference10Ideal.defs _ _).mono (fun _ hr c => ⟨(hr c).1.trans ?_, (hr c).2⟩)
    (Cert.Reference10Ideal.Value.run (F := Ideal) m' ρ')
  rw [Cert.Reference10Ideal.Read.val_main_v36_eq]
  obtain ⟨e0, e1, e2, e3, e4, e5⟩ := hag c
  exact (by rw [e0, e1, e2, e3, e4]; exact (final m hp c).symm)

end Cert.Proof.Ffn1p
-- ==== Proof.MergepFinal.lean ====
/-
  The result array of the prompt's merge: each step writes the sample's kernel's block, from its own rows and the prompt's
  modulation; row by row the array is the merge's row mathematics.
-/
module

public import proofs.«01_k».proof.Defs
public import proofs.«01_k».proof.Proof.MergeBlock
public import proofs.«01_k».proof.Proof.Gen.Kernel11Ideal.Value

@[expose] public section

set_option maxRecDepth 16384

noncomputable section

namespace Cert.Proof.Mergep

open Cert.Kernel11Ideal Cert.Kernel11Ideal.Gen Idealize.ShloMosaic Idealize.ShloMosaic.TcCoe Idealize.SL.Sem
open Cert.Proof.Ffn Cert.Proof.Merge

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx13 : ∀ t : Fin cfg0.N, win0_13.index t = ![t.val, 0] := (by decide +kernel : ∀ t : Fin grid0.N, win0_13.index t = ![t.val, 0])
theorem idx4 : ∀ t : Fin cfg0.N, win0_4.index t = ![0, 3, 0, 0] := (by decide +kernel : ∀ t : Fin grid0.N, win0_4.index t = ![0, 3, 0, 0])
theorem idx5 : ∀ t : Fin cfg0.N, win0_5.index t = ![0, 4, 0, 0] := (by decide +kernel : ∀ t : Fin grid0.N, win0_5.index t = ![0, 4, 0, 0])
theorem idx6 : ∀ t : Fin cfg0.N, win0_6.index t = ![0, 5, 0, 0] := (by decide +kernel : ∀ t : Fin grid0.N, win0_6.index t = ![0, 5, 0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem flush13 : ∀ t : Fin cfg0.N, (cfg0.win 13).flush t = true := (by decide +kernel : ∀ t : Fin grid0.N, win0_13.flush t = true)

variable (k : Fin cfg0.N)

/-- A block's row among the tokens. -/
def tok (k : Fin cfg0.N) (r : Fin 512) : Fin 8192 := ⟨512 * k.val + r, by have hN : cfg0.N = 16 := rfl; have := k.isLt; omega⟩

theorem blk0 (r : Fin 512) (d : Fin 1024) : iblk m c 0 k (ix2 r d)
    = m ((c : Thread nD τ).loc main_arg0) (ix2 (tok k r) d) := by
  unfold iblk
  rw [View.read_apply]
  show V m c main_arg0 _ = _
  rw [V_main_arg0]
  have hi := idx0 k
  refine congrArg _ (funext fun a => Fin.ext ?_)
  match a with
  | ⟨0, _⟩ => show win0_0.index k 0 * 512 + 1 * r.val = 512 * k.val + r.val
              rw [hi]; show k.val * 512 + 1 * r.val = _; omega
  | ⟨1, _⟩ => show win0_0.index k 1 * 1024 + 1 * d.val = d.val
              rw [hi]; show 0 * 1024 + 1 * d.val = _; omega

theorem blk1 (r : Fin 512) (d : Fin 512) : iblk m c 1 k (ix2 r d)
    = m ((c : Thread nD τ).loc main_arg1) (ix2 (tok k r) d) := by
  unfold iblk
  rw [View.read_apply]
  show V m c main_arg1 _ = _
  rw [V_main_arg1]
  have hi := idx1 k
  refine congrArg _ (funext fun a => Fin.ext ?_)
  match a with
  | ⟨0, _⟩ => show win0_1.index k 0 * 512 + 1 * r.val = 512 * k.val + r.val
              rw [hi]; show k.val * 512 + 1 * r.val = _; omega
  | ⟨1, _⟩ => show win0_1.index k 1 * 512 + 1 * d.val = d.val
              rw [hi]; show 0 * 512 + 1 * d.val = _; omega

theorem blk2 (r : Fin 512) (d : Fin 512) : iblk m c 2 k (ix2 r d)
    = m ((c : Thread nD τ).loc main_arg2) (ix2 (tok k r) d) := by
  unfold iblk
  rw [View.read_apply]
  show V m c main_arg2 _ = _
  rw [V_main_arg2]
  have hi := idx2 k
  refine congrArg _ (funext fun a => Fin.ext ?_)
  match a with
  | ⟨0, _⟩ => show win0_2.index k 0 * 512 + 1 * r.val = 512 * k.val + r.val
              rw [hi]; show k.val * 512 + 1 * r.val = _; omega
  | ⟨1, _⟩ => show win0_2.index k 1 * 512 + 1 * d.val = d.val
              rw [hi]; show 0 * 512 + 1 * d.val = _; omega

theorem blk3 (r : Fin 512) (d : Fin 512) : iblk m c 3 k (ix2 r d)
    = m ((c : Thread nD τ).loc main_arg3) (ix2 (tok k r) d) := by
  unfold iblk
  rw [View.read_apply]
  show V m c main_arg3 _ = _
  rw [V_main_arg3]
  have hi := idx3 k
  refine congrArg _ (funext fun a => Fin.ext ?_)
  match a with
  | ⟨0, _⟩ => show win0_3.index k 0 * 512 + 1 * r.val = 512 * k.val + r.val
              rw [hi]; show k.val * 512 + 1 * r.val = _; omega
  | ⟨1, _⟩ => show win0_3.index k 1 * 512 + 1 * d.val = d.val
              rw [hi]; show 0 * 512 + 1 * d.val = _; omega

theorem blk4 (d : Fin 1024) : iblk m c 4 k (ix4 0 0 0 d) = m ((c : Thread nD τ).loc main_arg4) (ix4 0 3 0 d) := by
  unfold iblk
  rw [View.read_apply]
  show V m c main_arg4 _ = _
  rw [V_main_arg4]
  have hi := idx4 k
  refine congrArg _ (funext fun a => Fin.ext ?_)
  match a with
  | ⟨0, _⟩ => show win0_4.index k 0 * 1 + 1 * 0 = 0
              rw [hi]; rfl
  | ⟨1, _⟩ => show win0_4.index k 1 * 1 + 1 * 0 = 3
              rw [hi]; rfl
  | ⟨2, _⟩ => show win0_4.index k 2 * 1 + 1 * 0 = 0
              rw [hi]; rfl
  | ⟨3, _⟩ => show win0_4.index k 3 * 1024 + 1 * d.val = d.val
              rw [hi]; show 0 * 1024 + 1 * d.val = _; omega

theorem blk5 (d : Fin 1024) : iblk m c 5 k (ix4 0 0 0 d) = m ((c : Thread nD τ).loc main_arg4) (ix4 0 4 0 d) := by
  unfold iblk
  rw [View.read_apply]
  show V m c main_arg4 _ = _
  rw [V_main_arg4]
  have hi := idx5 k
  refine congrArg _ (funext fun a => Fin.ext ?_)
  match a with
  | ⟨0, _⟩ => show win0_5.index k 0 * 1 + 1 * 0 = 0
              rw [hi]; rfl
  | ⟨1, _⟩ => show win0_5.index k 1 * 1 + 1 * 0 = 4
              rw [hi]; rfl
  | ⟨2, _⟩ => show win0_5.index k 2 * 1 + 1 * 0 = 0
              rw [hi]; rfl
  | ⟨3, _⟩ => show win0_5.index k 3 * 1024 + 1 * d.val = d.val
              rw [hi]; show 0 * 1024 + 1 * d.val = _; omega

theorem blk6 (d : Fin 1024) : iblk m c 6 k (ix4 0 0 0 d) = m ((c : Thread nD τ).loc main_arg4) (ix4 0 5 0 d) := by
  unfold iblk
  rw [View.read_apply]
  show V m c main_arg4 _ = _
  rw [V_main_arg4]
  have hi := idx6 k
  refine congrArg _ (funext fun a => Fin.ext ?_)
  match a with
  | ⟨0, _⟩ => show win0_6.index k 0 * 1 + 1 * 0 = 0
              rw [hi]; rfl
  | ⟨1, _⟩ => show win0_6.index k 1 * 1 + 1 * 0 = 5
              rw [hi]; rfl
  | ⟨2, _⟩ => show win0_6.index k 2 * 1 + 1 * 0 = 0
              rw [hi]; rfl
  | ⟨3, _⟩ => show win0_6.index k 3 * 1024 + 1 * d.val = d.val
              rw [hi]; show 0 * 1024 + 1 * d.val = _; omega

/-- The whole-array windows' blocks are the arrays. -/
theorem blk7 (t : Fin cfg0.N) : iblk m c 7 t = m ((c : Thread nD τ).loc main_arg5) := by
  have hz : (fun a => win0_7.index t a * main_arg5.ty.shape.size a) = fun _ => 0 := by
    rw [idx7 t]; funext a; fin_cases a <;> rfl
  exact (Memref.read_access_unit_zero (Elt Ideal) main_arg5 hz (fun a => by rw [congrFun hz a]; simp) _).trans (V_main_arg5 m c)
theorem blk8 (t : Fin cfg0.N) : iblk m c 8 t = m ((c : Thread nD τ).loc main_arg6) := by
  have hz : (fun a => win0_8.index t a * main_arg6.ty.shape.size a) = fun _ => 0 := by
    rw [idx8 t]; funext a; fin_cases a <;> rfl
  exact (Memref.read_access_unit_zero (Elt Ideal) main_arg6 hz (fun a => by rw [congrFun hz a]; simp) _).trans (V_main_arg6 m c)
theorem blk9 (t : Fin cfg0.N) : iblk m c 9 t = m ((c : Thread nD τ).loc main_arg7) := by
  have hz : (fun a => win0_9.index t a * main_arg7.ty.shape.size a) = fun _ => 0 := by
    rw [idx9 t]; funext a; fin_cases a <;> rfl
  exact (Memref.read_access_unit_zero (Elt Ideal) main_arg7 hz (fun a => by rw [congrFun hz a]; simp) _).trans (V_main_arg7 m c)
theorem blk10 (t : Fin cfg0.N) : iblk m c 10 t = m ((c : Thread nD τ).loc main_arg8) := by
  have hz : (fun a => win0_10.index t a * main_arg8.ty.shape.size a) = fun _ => 0 := by
    rw [idx10 t]; funext a; fin_cases a <;> rfl
  exact (Memref.read_access_unit_zero (Elt Ideal) main_arg8 hz (fun a => by rw [congrFun hz a]; simp) _).trans (V_main_arg8 m c)
theorem blk11 (t : Fin cfg0.N) : iblk m c 11 t = m ((c : Thread nD τ).loc main_arg9) := by
  have hz : (fun a => win0_11.index t a * main_arg9.ty.shape.size a) = fun _ => 0 := by
    rw [idx11 t]; funext a; fin_cases a <;> rfl
  exact (Memref.read_access_unit_zero (Elt Ideal) main_arg9 hz (fun a => by rw [congrFun hz a]; simp) _).trans (V_main_arg9 m c)
theorem blk12 (t : Fin cfg0.N) : iblk m c 12 t = m ((c : Thread nD τ).loc main_arg10) := by
  have hz : (fun a => win0_12.index t a * main_arg10.ty.shape.size a) = fun _ => 0 := by
    rw [idx12 t]; funext a; fin_cases a <;> rfl
  exact (Memref.read_access_unit_zero (Elt Ideal) main_arg10 hz (fun a => by rw [congrFun hz a]; simp) _).trans (V_main_arg10 m c)

/-- The block the body writes is the sample's kernel's. -/
theorem out_eq (x0 : Vec Ideal S512x1024 .f32) (x1 x2 x3 : Vec Ideal S512x512 .f32) (x4 x5 x6 : Vec Ideal S1x1x1x1024 .f32)
    (x7 : Vec Ideal S1x1024 .f32) (x8 : Vec Ideal S1x128 .f32) (x9 : Vec Ideal S1024x2560 .bf16) (x10 x11 : Vec Ideal S512x1024 .bf16)
    (x12 : Vec Ideal S1024x1024 .bf16) :
    out0_13 x0 x1 x2 x3 x4 x5 x6 x7 x8 x9 x10 x11 x12 = Cert.Kernel6Ideal.Gen.out0_13 x0 x1 x2 x3 x4 x5 x6 x7 x8 x9 x10 x11 x12 := rfl

/-- The kernel's result array after the run, at a token: the row mathematics of the token's row. -/
theorem final_at (r : Fin 512) (d : Fin 1024) :
    (dats m 0 c).arrAt 13 cfg0.N (ix2 (tok k r) d)
      = merged (fun d => m ((c : Thread nD τ).loc main_arg0) (ix2 (tok k r) d))
          (fun d => m ((c : Thread nD τ).loc main_arg4) (ix4 0 5 0 d))
          (mixed silT sigT (hmod (fun d => m ((c : Thread nD τ).loc main_arg0) (ix2 (tok k r) d))
            (fun d => m ((c : Thread nD τ).loc main_arg5) (ix2 0 d)) (fun d => m ((c : Thread nD τ).loc main_arg4) (ix4 0 4 0 d))
            (fun d => m ((c : Thread nD τ).loc main_arg4) (ix4 0 3 0 d)))
            (addRow (fun j => m ((c : Thread nD τ).loc main_arg1) (ix2 (tok k r) j)) (fun j => m ((c : Thread nD τ).loc main_arg2) (ix2 (tok k r) j)))
            (fun j => m ((c : Thread nD τ).loc main_arg3) (ix2 (tok k r) j)) (fun j => m ((c : Thread nD τ).loc main_arg6) (ix2 0 j))
            (m ((c : Thread nD τ).loc main_arg7)) (m ((c : Thread nD τ).loc main_arg8)) (m ((c : Thread nD τ).loc main_arg9))) (m ((c : Thread nD τ).loc main_arg10)) d := by
  have h := congrFun (Value.blocks13 m c k (flush13 _)) (ix2 r d)
  rw [Value.flushed13, View.read_apply] at h
  have hi := idx13 k
  have e : ((cfg0.win 13).blk k).view.emb (ix2 r d) = ix2 (tok k r) d := by
    refine funext fun a => Fin.ext ?_
    match a with
    | ⟨0, _⟩ => show win0_13.index k 0 * 512 + 1 * r.val = 512 * k.val + r.val
                rw [hi]; show k.val * 512 + 1 * r.val = _; omega
    | ⟨1, _⟩ => show win0_13.index k 1 * 1024 + 1 * d.val = d.val
                rw [hi]; show 0 * 1024 + 1 * d.val = _; omega
  refine (congrArg ((dats m 0 c).arrAt 13 cfg0.N) e).symm.trans (h.trans ?_)
  refine (congrFun (out_eq _ _ _ _ _ _ _ _ _ _ _ _ _) (ix2 r d)).trans ((Merge.out_apply _ _ _ _ _ _ _ _ _ _ _ _ _ r d).trans ?_)
  simp only [blk0, blk1, blk2, blk3, blk4, blk5, blk6, blk7, blk8, blk9, blk10, blk11, blk12]
  rfl

end Cert.Proof.Mergep
-- ==== Proof.MergepRef.lean ====
/-
  The prompt's merge's reference read at an index: row `r` of its result is the merge's row mathematics of row `r` of its arguments,
  with the prompt's modulation.
-/
module

public import proofs.«01_k».proof.Proof.Gen.Reference11Ideal.Read
public import proofs.«01_k».proof.Proof.MergeBlock

@[expose] public section

set_option maxRecDepth 16384

noncomputable section

namespace Cert.Proof.MergepRef

open Cert.Reference11Ideal Cert.Reference11Ideal.Gen Cert.Reference11Ideal.Read Idealize.ShloMosaic Cert.Proof.Ffn Cert.Proof.Merge

variable (x0 : (⟨S8192x1024, .f32⟩ : BufTy).Contents (Elt Ideal)) (x1 x2 x3 : (⟨S8192x512, .f32⟩ : BufTy).Contents (Elt Ideal))
  (x4 : (⟨S16x9x1x1024, .f32⟩ : BufTy).Contents (Elt Ideal)) (x5 : (⟨S1x1024, .f32⟩ : BufTy).Contents (Elt Ideal))
  (x6 : (⟨S1x128, .f32⟩ : BufTy).Contents (Elt Ideal)) (x7 : (⟨S1024x2560, .bf16⟩ : BufTy).Contents (Elt Ideal))
  (x8 x9 : (⟨S512x1024, .bf16⟩ : BufTy).Contents (Elt Ideal)) (x10 : (⟨S1024x1024, .bf16⟩ : BufTy).Contents (Elt Ideal))
  (t : Fin 8192)

/-- The three modulation rows. -/
theorem v1_at (d : Fin 1024) : val_main_v1 (F := Ideal) x4 (ix2 0 d) = x4 (ix4 0 3 0 d) := by
  rw [val_main_v1_apply, val_main_v0_apply]
  refine congrArg x4 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)
theorem v3_at (d : Fin 1024) : val_main_v3 (F := Ideal) x4 (ix2 0 d) = x4 (ix4 0 4 0 d) := by
  rw [val_main_v3_apply, val_main_v2_apply]
  refine congrArg x4 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)
theorem v5_at (d : Fin 1024) : val_main_v5 (F := Ideal) x4 (ix2 0 d) = x4 (ix4 0 5 0 d) := by
  rw [val_main_v5_apply, val_main_v4_apply]
  refine congrArg x4 (funext fun a => Fin.ext ?_)
  match a with
  | ⟨0, _⟩ => rfl
  | ⟨1, _⟩ => rfl
  | ⟨2, _⟩ => rfl
  | ⟨3, _⟩ => first | rfl | (show (0 * 1024 + d.val) % 1024 = d.val; omega) | (show (d.val) % 1024 = d.val; omega)

/-- The modulated, normalised row of a token. -/
abbrev hrow : Fin 1024 → EReal :=
  hmod (fun d => x0 (ix2 t d)) (fun d => x5 (ix2 0 d)) (fun d => x4 (ix4 0 4 0 d)) (fun d => x4 (ix4 0 3 0 d))

theorem v23_at (d : Fin 1024) : val_main_v23 (F := Ideal) x0 x4 x5 (ix2 t d) = hrow x0 x4 x5 t d := by
  simp only [val_main_v23_apply, val_main_v21_apply, val_main_v17_apply, val_main_v15_apply, val_main_v14_apply,
    val_main_v13_apply, val_main_v12_apply, val_main_v10_apply, val_main_v8_apply, val_main_v7_apply, val_main_v6_apply,
    val_main_cst_apply, val_main_v9_apply, val_main_cst_0_apply, val_main_v11_apply, val_main_cst_1_apply,
    val_main_v16_apply, val_main_v20_apply, val_main_v19_apply, val_main_v18_apply, val_main_cst_2_apply, val_main_v22_apply]
  have e1 : ∀ k, idx_main_v7 (idx_main_v8 (idx_main_v14 (ix2 t d))) k = ix2 t k := fun k => funext fun a => by fin_cases a <;> rfl
  have e2 : idx_main_v16 (ix2 t d) = ix2 0 d := funext fun a => by fin_cases a <;> rfl
  have e3 : idx_main_v20 (ix2 t d) = ix2 0 d := funext fun a => by fin_cases a <;> rfl
  have e4 : idx_main_v22 (ix2 t d) = ix2 0 d := funext fun a => by fin_cases a <;> rfl
  simp only [e1, e2, e3, e4, v1_at, v3_at]
  simp only [hrow, hmod, rms, Ideal.ofBits_def, Ideal.ofBits_zero_f32, zero_add, Ideal.ofBits_one_f32, ← mul_assoc]
  rfl

/-- One entry of the input projection. -/
theorem v25_at (f : Fin 2560) : val_main_v25 (F := Ideal) x0 x4 x5 x7 (ix2 t f)
    = dotw (hrow x0 x4 x5 t) x7 f := by
  rw [val_main_v25_apply, dotw]
  refine Finset.sum_congr rfl fun k _ => ?_
  have e1 : lidx_main_v25 (ix2 t f) k = ix2 t k := funext fun a => by fin_cases a <;> rfl
  have e2 : ridx_main_v25 (ix2 t f) k = ix2 k f := funext fun a => by fin_cases a <;> rfl
  rw [e1, e2, v23_at]
  rfl

/-- The first mixer's outputs, summed over the two directions, by head. -/
theorem v29_at (h : Fin 4) (j : Fin 128) : val_main_v29 (F := Ideal) x1 x2 (ix3 t h j)
    = x1 (ix2 t ⟨128 * h + j, by omega⟩) + x2 (ix2 t ⟨128 * h + j, by omega⟩) := by
  rw [val_main_v29_apply, val_main_v28_apply]
  have e : idx_main_v29 (ix3 t h j) = ix2 t ⟨128 * h + j, by omega⟩ := by
    refine funext fun a => Fin.ext ?_
    match a with
    | ⟨0, _⟩ => show ((t.val * 4 + h.val) * 128 + j.val) / 512 = t.val; omega
    | ⟨1, _⟩ => show ((t.val * 4 + h.val) * 128 + j.val) % 512 = 128 * h.val + j.val; omega
  rw [e]
  rfl

/-- The gate's input, by head. -/
theorem v43_at (h : Fin 4) (j : Fin 128) : val_main_v43 (F := Ideal) x0 x4 x5 x7 (ix3 t h j)
    = dotw (hrow x0 x4 x5 t) x7 ⟨128 * h + j, by omega⟩ := by
  rw [val_main_v43_apply, val_main_v26_apply, ← v25_at]
  refine congrArg _ (funext fun a => Fin.ext ?_)
  match a with
  | ⟨0, _⟩ => show ((t.val * 4 + h.val) * 128 + j.val) / 512 = t.val; omega
  | ⟨1, _⟩ => show ((t.val * 4 + h.val) * 128 + j.val) % 512 = 128 * h.val + j.val; omega

/-- The gated, normalised heads. -/
theorem v46_at (c : Fin 512) : val_main_v46 (F := Ideal) x0 x1 x2 x4 x5 x6 x7 (ix2 t c)
    = ya silL (fun c => x1 (ix2 t c) + x2 (ix2 t c))
        (fun c => dotw (hrow x0 x4 x5 t) x7 ⟨c, by omega⟩) (fun j => x6 (ix2 0 j)) c := by
  rw [val_main_v46_apply]
  have e : idx_main_v46 (ix2 t c) = ix3 t ⟨c / 128, by omega⟩ ⟨c % 128, by omega⟩ := by
    refine funext fun a => Fin.ext ?_
    match a with
    | ⟨0, _⟩ => show (t.val * 512 + c.val) / 512 = t.val; omega
    | ⟨1, _⟩ => show (t.val * 512 + c.val) / 128 % 4 = c.val / 128; omega
    | ⟨2, _⟩ => show (t.val * 512 + c.val) % 128 = c.val % 128; omega
  rw [e]
  generalize hh : (⟨c / 128, by omega⟩ : Fin 4) = h
  generalize hj : (⟨c % 128, by omega⟩ : Fin 128) = j
  simp only [val_main_v45_apply, val_main_v44_apply, val_main_call0_v5_apply, val_main_call0_v4_apply, val_main_call0_cst_0_apply,
    val_main_call0_v3_apply, val_main_call0_v2_apply, val_main_call0_cst_apply, val_main_call0_v1_apply, val_main_call0_v0_apply,
    val_main_v42_apply, val_main_v41_apply, val_main_v40_apply, val_main_v39_apply, val_main_v38_apply, val_main_v37_apply,
    val_main_v36_apply, val_main_v35_apply, val_main_cst_5_apply, val_main_v34_apply, val_main_v33_apply, val_main_cst_4_apply,
    val_main_v32_apply, val_main_v31_apply, val_main_cst_3_apply, val_main_v30_apply]
  have e1 : ∀ k, idx_main_v31 (idx_main_v32 (idx_main_v38 (ix3 t h j))) k = ix3 t h k := fun k => funext fun a => by fin_cases a <;> rfl
  have e2 : idx_main_v40 (idx_main_v41 (ix3 t h j)) = ix2 0 j := funext fun a => by fin_cases a <;> rfl
  have e3 : (⟨128 * h + j, by omega⟩ : Fin 512) = c := by subst hh hj; exact Fin.ext (by show 128 * (c.val / 128) + c.val % 128 = c.val; omega)
  have e4 : (⟨128 * h + j, by omega⟩ : Fin 2560) = ⟨c, by omega⟩ := by subst hh hj; exact Fin.ext (by show 128 * (c.val / 128) + c.val % 128 = c.val; omega)
  simp only [e1, e2, v29_at, v43_at, e3, e4]
  subst hh hj
  simp only [ya, rmsH, silL, Ideal.ofBits_def, Ideal.ofBits_zero_f32, zero_add, Ideal.ofBits_one_f32]
  rfl

/-- The two gates. -/
theorem v52_at (f : Fin 2048) : val_main_v52 (F := Ideal) x0 x4 x5 x7 (ix2 t f)
    = sigL (dotw (hrow x0 x4 x5 t) x7 ⟨512 + f, by omega⟩) := by
  simp only [val_main_v52_apply, val_main_v51_apply, val_main_cst_7_apply, val_main_v50_apply, val_main_v49_apply, val_main_cst_6_apply,
    val_main_v48_apply, val_main_v47_apply, val_main_v27_apply]
  have e : idx_main_v27 (ix2 t f) = ix2 t ⟨512 + f, by omega⟩ := funext fun a => by fin_cases a <;> rfl
  rw [e, v25_at]
  simp only [sigL, Ideal.ofBits_def, Ideal.ofBits_one_f32]
  rfl

/-- The mixed row. -/
theorem v61_at (e : Fin 1024) : val_main_v61 (F := Ideal) x0 x1 x2 x3 x4 x5 x6 x7 x8 x9 (ix2 t e)
    = mixed silL sigL (hrow x0 x4 x5 t)
        (fun c => x1 (ix2 t c) + x2 (ix2 t c)) (fun c => x3 (ix2 t c)) (fun j => x6 (ix2 0 j)) x7 x8 x9 e := by
  simp only [val_main_v61_apply, val_main_v60_apply, val_main_v57_apply, val_main_v53_apply, val_main_v54_apply, val_main_v56_apply, val_main_v59_apply]
  have e1 : idx_main_v53 (ix2 t e) = ix2 t ⟨e, by omega⟩ := funext fun a => by fin_cases a <;> rfl
  have e2 : idx_main_v54 (ix2 t e) = ix2 t ⟨1024 + e, by omega⟩ := funext fun a => by fin_cases a <;> rfl
  have e3 : ∀ k, lidx_main_v56 (ix2 t e) k = ix2 t k := fun k => funext fun a => by fin_cases a <;> rfl
  have e4 : ∀ k, ridx_main_v56 (ix2 t e) k = ix2 k e := fun k => funext fun a => by fin_cases a <;> rfl
  have e5 : ∀ k, lidx_main_v59 (ix2 t e) k = ix2 t k := fun k => funext fun a => by fin_cases a <;> rfl
  have e6 : ∀ k, ridx_main_v59 (ix2 t e) k = ix2 k e := fun k => funext fun a => by fin_cases a <;> rfl
  simp only [e1, e2, e3, e4, e5, e6, v52_at, v46_at, mixed]
  have e7 : (⟨512 + (1024 + e), by omega⟩ : Fin 2560) = ⟨1536 + e, by omega⟩ := Fin.ext (by show 512 + (1024 + e.val) = 1536 + e.val; omega)
  rw [e7]
  rfl

/-- The reference's result at a token. -/
theorem v66_at (d : Fin 1024) : val_main_v66 (F := Ideal) x0 x1 x2 x3 x4 x5 x6 x7 x8 x9 x10 (ix2 t d)
    = merged (fun d => x0 (ix2 t d)) (fun d => x4 (ix4 0 5 0 d))
        (mixed silL sigL (hrow x0 x4 x5 t)
        (fun c => x1 (ix2 t c) + x2 (ix2 t c)) (fun c => x3 (ix2 t c)) (fun j => x6 (ix2 0 j)) x7 x8 x9) x10 d := by
  simp only [val_main_v66_apply, val_main_v65_apply, val_main_v64_apply, val_main_v63_apply]
  have e3 : idx_main_v64 (ix2 t d) = ix2 0 d := funext fun a => by fin_cases a <;> rfl
  have e1 : ∀ k, lidx_main_v63 (ix2 t d) k = ix2 t k := fun k => funext fun a => by fin_cases a <;> rfl
  have e2 : ∀ k, ridx_main_v63 (ix2 t d) k = ix2 k d := fun k => funext fun a => by fin_cases a <;> rfl
  simp only [e1, e2, e3, v61_at, v5_at]
  rfl

end Cert.Proof.MergepRef
-- ==== Proof.MergepClaims.lean ====
/-
  The claims about the prompt's merge: frames, the ideal pass, and the kernel's result equal to the reference's.
-/
module

public import proofs.«01_k».proof.Proof.MergepFinal
public import proofs.«01_k».proof.Proof.MergepRef
public import proofs.«01_k».proof.Proof.MergeClaims
public import proofs.«01_k».proof.Proof.Gen.Kernel11.Frame
public import Idealize.ShloMosaic.Lib.Quiescent

@[expose] public section

set_option maxRecDepth 16384

noncomputable section

namespace Cert.Proof.Mergep

open Idealize.ShloMosaic Idealize.ShloMosaic.TcCoe Idealize.SL.Sem
open Cert.Proof.Ffn
open Cert.Proof.Merge (merged mixed_eq)

/-- The precondition's stated facts. -/
theorem preFacts : Cert.Pre_finite11.Facts where
  bcast_S_S16x9x1x1024 := by decide
  bcast_S_S1x1024 := by decide
  bitsLt_bf16_f32 := by decide
  bcast_S_S1024x2560 := by decide

instance : Cert.Pre_finite11.Facts := preFacts

/-- Every run of the kernel ends, without a fault, arguments kept, counters at zero. -/
theorem frame_k : Cert.quiescent_Kernel11 := fun m ρ _ => Cert.Kernel11.Gen.frame m ρ
theorem frame_ki : Cert.quiescent_Kernel11Ideal := fun m ρ _ => Cert.Kernel11Ideal.Gen.frame m ρ
theorem frame_kip : Cert.quiescent_Kernel11Ideal_pre_finite11 := fun m ρ _ => Cert.Kernel11Ideal.Gen.frame m ρ
/-- The reference's run: it declares no semaphore. -/
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)
theorem frame_rip : Cert.quiescent_Reference11Ideal_pre_finite11 := fun m ρ _ => frame_ri m ρ trivial

/-- The ideal pass rewrote nothing. -/
theorem preserves : Cert.preserves_Kernel11_Kernel11Ideal := trivial

/-- The precondition, entry by entry: modulation, norm weight and input projection are real. -/
theorem pre_isR (m : (ℓ : Loc Cert.Kernel11Ideal.nD Cert.Kernel11Ideal.τ Cert.Kernel11Ideal.sig) → Buf (Elt Ideal) ℓ)
    (h : Cert.Pre_Kernel11Ideal_finite11 m) (c : Dev Cert.Kernel11Ideal.nD) :
    (∀ i, IsR (m ((c : Thread Cert.Kernel11Ideal.nD Cert.Kernel11Ideal.τ).loc Cert.Kernel11Ideal.main_arg4) i))
    ∧ (∀ i, IsR (m ((c : Thread Cert.Kernel11Ideal.nD Cert.Kernel11Ideal.τ).loc Cert.Kernel11Ideal.main_arg5) i))
    ∧ (∀ i, IsR (m ((c : Thread Cert.Kernel11Ideal.nD Cert.Kernel11Ideal.τ).loc Cert.Kernel11Ideal.main_arg7) i)) :=
  ⟨fun i => isR_of_abs_lt _ (congrFun (h c).1 i), fun i => isR_of_abs_lt _ (congrFun (h c).2.1 i),
    fun i => isR_of_abs_lt _ (congrFun (h c).2.2 i)⟩

/-- The kernel's result array is the reference's function of the arguments. -/
theorem final (m : (ℓ : Loc Cert.Kernel11Ideal.nD Cert.Kernel11Ideal.τ Cert.Kernel11Ideal.sig) → Buf (Elt Ideal) ℓ)
    (h : Cert.Pre_Kernel11Ideal_finite11 m) (c : Dev Cert.Kernel11Ideal.nD) :
    (Cert.Kernel11Ideal.Gen.dats m 0 c).arrAt 13 Cert.Kernel11Ideal.cfg0.N
      = Cert.Reference11Ideal.Read.val_main_v66
        (m ((c : Thread Cert.Kernel11Ideal.nD Cert.Kernel11Ideal.τ).loc Cert.Kernel11Ideal.main_arg0))
        (m ((c : Thread Cert.Kernel11Ideal.nD Cert.Kernel11Ideal.τ).loc Cert.Kernel11Ideal.main_arg1))
        (m ((c : Thread Cert.Kernel11Ideal.nD Cert.Kernel11Ideal.τ).loc Cert.Kernel11Ideal.main_arg2))
        (m ((c : Thread Cert.Kernel11Ideal.nD Cert.Kernel11Ideal.τ).loc Cert.Kernel11Ideal.main_arg3))
        (m ((c : Thread Cert.Kernel11Ideal.nD Cert.Kernel11Ideal.τ).loc Cert.Kernel11Ideal.main_arg4))
        (m ((c : Thread Cert.Kernel11Ideal.nD Cert.Kernel11Ideal.τ).loc Cert.Kernel11Ideal.main_arg5))
        (m ((c : Thread Cert.Kernel11Ideal.nD Cert.Kernel11Ideal.τ).loc Cert.Kernel11Ideal.main_arg6))
        (m ((c : Thread Cert.Kernel11Ideal.nD Cert.Kernel11Ideal.τ).loc Cert.Kernel11Ideal.main_arg7))
        (m ((c : Thread Cert.Kernel11Ideal.nD Cert.Kernel11Ideal.τ).loc Cert.Kernel11Ideal.main_arg8))
        (m ((c : Thread Cert.Kernel11Ideal.nD Cert.Kernel11Ideal.τ).loc Cert.Kernel11Ideal.main_arg9))
        (m ((c : Thread Cert.Kernel11Ideal.nD Cert.Kernel11Ideal.τ).loc Cert.Kernel11Ideal.main_arg10)) := by
  obtain ⟨hm, hn, hw⟩ := pre_isR m h c
  funext i
  have h0 : (i 0 : Nat) < 8192 := (i 0).isLt
  let k : Fin Cert.Kernel11Ideal.cfg0.N := ⟨(i 0 : Nat) / 512, by have hN : Cert.Kernel11Ideal.cfg0.N = 16 := rfl; omega⟩
  let r : Fin 512 := ⟨(i 0 : Nat) % 512, by omega⟩
  let d : Fin 1024 := i 1
  have ei : i = ix2 (tok k r) d := by
    funext a
    match a with
    | ⟨0, _⟩ => exact Fin.ext (by show (i 0 : Nat) = 512 * ((i 0 : Nat) / 512) + (i 0 : Nat) % 512; omega)
    | ⟨1, _⟩ => rfl
  rw [ei]
  refine (final_at m c k r d).trans (Eq.trans ?_ (Cert.Proof.MergepRef.v66_at _ _ _ _ _ _ _ _ _ _ _ _ d).symm)
  exact congrArg (fun a => merged _ _ a _ d)
    (mixed_eq _ _ _ _ _ _ _ (fun d => hmod_isR _ _ _ _ (fun _ => hn _) (fun _ => hm _) (fun _ => hm _) d) hw)

/-- `Cert.algebraic_Kernel11Ideal_Reference11Ideal_pre_finite11`: equal results in the extended reals. -/
theorem algebraic : Cert.algebraic_Kernel11Ideal_Reference11Ideal_pre_finite11 := by
  intro m ρ m' ρ' hp hag
  refine ⟨fun c => (Cert.Kernel11Ideal.Gen.dats m 0 c).arrAt 13 Cert.Kernel11Ideal.cfg0.N,
    Cert.Kernel11Ideal.Value.run_blocks m ρ, ?_⟩
  refine (θ_run Cert.Reference11Ideal.defs _ _).mono (fun _ hr c => ⟨(hr c).1.trans ?_, (hr c).2⟩)
    (Cert.Reference11Ideal.Value.run (F := Ideal) m' ρ')
  rw [Cert.Reference11Ideal.Read.val_main_v66_eq]
  obtain ⟨e0, e1, e2, e3, e4, e5, e6, e7, e8, e9, e10⟩ := hag c
  exact (by rw [e0, e1, e2, e3, e4, e5, e6, e7, e8, e9, e10]; exact (final m hp c).symm)

end Cert.Proof.Mergep
-- ==== Proof.lean ====
/-
  The certificate's claim, from the claims about each call.
-/
module

public import proofs.«01_k».proof.Defs
public import proofs.«01_k».proof.Proof.CtxClaims
public import proofs.«01_k».proof.Proof.FfnClaims
public import proofs.«01_k».proof.Proof.Ffn1Claims
public import proofs.«01_k».proof.Proof.InprojClaims
public import proofs.«01_k».proof.Proof.MergeClaims
public import proofs.«01_k».proof.Proof.WinClaims
public import proofs.«01_k».proof.Proof.FfnpClaims
public import proofs.«01_k».proof.Proof.ScanClaims
public import proofs.«01_k».proof.Proof.Ffn1pClaims
public import proofs.«01_k».proof.Proof.MergepClaims
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal

@[expose] public section

noncomputable section

namespace Cert.Proof

/-- The certificate's claim. -/
theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Ctx.preFacts,
    Ffn.preFacts,
    Inproj.preFacts,
    Merge.preFacts,
    Win.preFacts,
    Ffnp.preFacts,
    Mergep.preFacts,
    Ctx.frame_k,
    Ctx.frame_ki,
    Ctx.frame_kip,
    Ctx.frame_ri,
    Ctx.frame_rip,
    Ffn.frame_k,
    Ffn.frame_ki,
    Ffn.frame_kip,
    Ffn.frame_ri,
    Ffn.frame_rip,
    Ffn1.frame_k,
    Ffn1.frame_ki,
    Ffn1.frame_kip,
    Ffn1.frame_ri,
    Ffn1.frame_rip,
    Inproj.frame_k,
    Inproj.frame_ki,
    Inproj.frame_kip,
    Inproj.frame_ri,
    Inproj.frame_rip,
    Merge.frame_k,
    Merge.frame_ki,
    Merge.frame_kip,
    Merge.frame_ri,
    Merge.frame_rip,
    Win.frame_k,
    Win.frame_ki,
    Win.frame_kip,
    Win.frame_ri,
    Win.frame_rip,
    Ffnp.frame_k,
    Ffnp.frame_ki,
    Ffnp.frame_kip,
    Ffnp.frame_ri,
    Ffnp.frame_rip,
    Scan.frame_k,
    Scan.frame_ki,
    Scan.frame_ri,
    Ffn1p.frame_k,
    Ffn1p.frame_ki,
    Ffn1p.frame_kip,
    Ffn1p.frame_ri,
    Ffn1p.frame_rip,
    Mergep.frame_k,
    Mergep.frame_ki,
    Mergep.frame_kip,
    Mergep.frame_ri,
    Mergep.frame_rip,
    Ctx.preserves,
    Ctx.algebraic,
    Ffn.preserves,
    Ffn.algebraic,
    Ffn1.preserves,
    Ffn1.algebraic,
    Inproj.preserves,
    Inproj.algebraic,
    Merge.preserves,
    Merge.algebraic,
    Win.preserves,
    Win.algebraic,
    Ffnp.preserves,
    Ffnp.algebraic,
    Scan.preserves,
    Ffn1p.preserves,
    Ffn1p.algebraic,
    Mergep.preserves,
    Mergep.algebraic⟩

end Cert.Proof
